-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Up [hPre_tiles_named : Cert.Pre_tiles_named.Facts] (m : (ℓ : Loc Cert.Up.nD Cert.Up.τ Cert.Up.sig) → Buf (Elt Bits) ℓ) : Prop :=
  ∀ c : Dev Cert.Up.nD,
    (Cert.Pre_tiles_named.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_tiles_named : Cert.Pre_tiles_named.Facts] (m : (ℓ : Loc Cert.UpIdeal.nD Cert.UpIdeal.τ Cert.UpIdeal.sig) → Buf (Elt Ideal) ℓ) : Prop :=
  ∀ c : Dev Cert.UpIdeal.nD,
    (Cert.Pre_tiles_named.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal [hPre_tiles_named : Cert.Pre_tiles_named.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_tiles_named.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_tiles_named_down : Cert.Pre_tiles_named_down.Facts] (m : (ℓ : Loc Cert.Down.nD Cert.Down.τ Cert.Down.sig) → Buf (Elt Bits) ℓ) : Prop :=
  ∀ c : Dev Cert.Down.nD,
    (Cert.Pre_tiles_named_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2))) = (fun _ => 1#1)

def Pre_DownIdeal [hPre_tiles_named_down : Cert.Pre_tiles_named_down.Facts] (m : (ℓ : Loc Cert.DownIdeal.nD Cert.DownIdeal.τ Cert.DownIdeal.sig) → Buf (Elt Ideal) ℓ) : Prop :=
  ∀ c : Dev Cert.DownIdeal.nD,
    (Cert.Pre_tiles_named_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) = (fun _ => 1#1)

def Pre_DownReferenceIdeal [hPre_tiles_named_down : Cert.Pre_tiles_named_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_tiles_named_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2))) = (fun _ => 1#1)

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Up [hUp : Cert.Up.Facts] [hPre_tiles_named : Cert.Pre_tiles_named.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_tiles_named : Cert.Pre_tiles_named.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] [hPre_tiles_named : Cert.Pre_tiles_named.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_tiles_named_down : Cert.Pre_tiles_named_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] [hPre_tiles_named_down : Cert.Pre_tiles_named_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] [hPre_tiles_named_down : Cert.Pre_tiles_named_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v5) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Up_UpIdeal : Prop :=
  True

def algebraic_UpIdeal_UpReferenceIdeal_on_rows_used [hUpIdeal : Cert.UpIdeal.Facts] [hUpReferenceIdeal : Cert.UpReferenceIdeal.Facts] [hPre_tiles_named : Cert.Pre_tiles_named.Facts] [hOn_rows_used : Cert.On_rows_used.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          (∀ i : (⟨2, ![20480, 7168]⟩ : Shape).Idx, (Cert.On_rows_used.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 i = 1#1 → r.2.mem ((c.tc : Thread Cert.UpIdeal.nD Cert.UpIdeal.τ).loc Cert.UpIdeal.main_v0_0) i = v0 c i)
          ∧ (∀ i : (⟨2, ![57344, 2048]⟩ : Shape).Idx, (Cert.On_rows_used.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2 i = 1#1 → r.2.mem ((c.tc : Thread Cert.UpIdeal.nD Cert.UpIdeal.τ).loc Cert.UpIdeal.main_v0_1) i = v1 c i)
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          (∀ i : (⟨2, ![20480, 7168]⟩ : Shape).Idx, (Cert.On_rows_used.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 i = 1#1 → r.2.mem ((c.tc : Thread Cert.UpReferenceIdeal.nD Cert.UpReferenceIdeal.τ).loc Cert.UpReferenceIdeal.main_v119) i = v0 c i)
          ∧ (∀ i : (⟨2, ![57344, 2048]⟩ : Shape).Idx, (Cert.On_rows_used.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2 i = 1#1 → r.2.mem ((c.tc : Thread Cert.UpReferenceIdeal.nD Cert.UpReferenceIdeal.τ).loc Cert.UpReferenceIdeal.main_v120) i = v1 c i)
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal_on_rows_used_down [hDownIdeal : Cert.DownIdeal.Facts] [hDownReferenceIdeal : Cert.DownReferenceIdeal.Facts] [hPre_tiles_named_down : Cert.Pre_tiles_named_down.Facts] [hOn_rows_used_down : Cert.On_rows_used_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![20480, 2048]⟩ : Shape).Idx, (Cert.On_rows_used_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) i = 1#1 → r.2.mem ((c.tc : Thread Cert.DownIdeal.nD Cert.DownIdeal.τ).loc Cert.DownIdeal.main_v0) i = v0 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          (∀ i : (⟨2, ![20480, 2048]⟩ : Shape).Idx, (Cert.On_rows_used_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2))) i = 1#1 → r.2.mem ((c.tc : Thread Cert.DownReferenceIdeal.nD Cert.DownReferenceIdeal.τ).loc Cert.DownReferenceIdeal.main_v70) i = v0 c i)
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Rest_RestIdeal : Prop :=
  True

def algebraic_RestIdeal_RestReferenceIdeal [hRestIdeal : Cert.RestIdeal.Facts] [hRestReferenceIdeal : Cert.RestReferenceIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestIdeal m →
    (∀ c : Dev Cert.RestIdeal.nD,
      m' ((c.tc : Thread Cert.RestReferenceIdeal.nD Cert.RestReferenceIdeal.τ).loc Cert.RestReferenceIdeal.main_arg0) = m ((c.tc : Thread Cert.RestIdeal.nD Cert.RestIdeal.τ).loc Cert.RestIdeal.main_arg0)
      ∧ m' ((c.tc : Thread Cert.RestReferenceIdeal.nD Cert.RestReferenceIdeal.τ).loc Cert.RestReferenceIdeal.main_arg1) = m ((c.tc : Thread Cert.RestIdeal.nD Cert.RestIdeal.τ).loc Cert.RestIdeal.main_arg1)) →
    ∃ (v0 : (c : Dev Cert.RestIdeal.nD) → Buf (Elt Ideal) ((c.tc : Thread Cert.RestIdeal.nD Cert.RestIdeal.τ).loc Cert.RestIdeal.main_v0)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v0) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v4) = v0 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluReferenceIdeal : Cert.SwigluReferenceIdeal.Facts) (hFfnDown : Cert.FfnDown.Facts) (hFfnDownIdeal : Cert.FfnDownIdeal.Facts) (hFfnDownReferenceIdeal : Cert.FfnDownReferenceIdeal.Facts) (hOutProj : Cert.OutProj.Facts) (hOutProjIdeal : Cert.OutProjIdeal.Facts) (hOutProjReferenceIdeal : Cert.OutProjReferenceIdeal.Facts) (hMerge : Cert.Merge.Facts) (hMergeIdeal : Cert.MergeIdeal.Facts) (hMergeReferenceIdeal : Cert.MergeReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hRest : Cert.Rest.Facts) (hRestIdeal : Cert.RestIdeal.Facts) (hRestReferenceIdeal : Cert.RestReferenceIdeal.Facts) (hPre_tiles_named : Cert.Pre_tiles_named.Facts) (hPre_tiles_named_down : Cert.Pre_tiles_named_down.Facts) (hOn_rows_used : Cert.On_rows_used.Facts) (hOn_rows_used_down : Cert.On_rows_used_down.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Up (hUp := hUp) (hPre_tiles_named := hPre_tiles_named)
    ∧ quiescent_UpIdeal (hUpIdeal := hUpIdeal) (hPre_tiles_named := hPre_tiles_named)
    ∧ quiescent_UpReferenceIdeal (hUpReferenceIdeal := hUpReferenceIdeal) (hPre_tiles_named := hPre_tiles_named)
    ∧ quiescent_Down (hDown := hDown) (hPre_tiles_named_down := hPre_tiles_named_down)
    ∧ quiescent_DownIdeal (hDownIdeal := hDownIdeal) (hPre_tiles_named_down := hPre_tiles_named_down)
    ∧ quiescent_DownReferenceIdeal (hDownReferenceIdeal := hDownReferenceIdeal) (hPre_tiles_named_down := hPre_tiles_named_down)
    ∧ quiescent_Rest (hRest := hRest)
    ∧ quiescent_RestIdeal (hRestIdeal := hRestIdeal)
    ∧ quiescent_RestReferenceIdeal (hRestReferenceIdeal := hRestReferenceIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Merge_MergeIdeal
    ∧ algebraic_MergeIdeal_MergeReferenceIdeal (hMergeIdeal := hMergeIdeal) (hMergeReferenceIdeal := hMergeReferenceIdeal)
    ∧ preserves_Up_UpIdeal
    ∧ algebraic_UpIdeal_UpReferenceIdeal_on_rows_used (hUpIdeal := hUpIdeal) (hUpReferenceIdeal := hUpReferenceIdeal) (hPre_tiles_named := hPre_tiles_named) (hOn_rows_used := hOn_rows_used)
    ∧ preserves_Down_DownIdeal
    ∧ algebraic_DownIdeal_DownReferenceIdeal_on_rows_used_down (hDownIdeal := hDownIdeal) (hDownReferenceIdeal := hDownReferenceIdeal) (hPre_tiles_named_down := hPre_tiles_named_down) (hOn_rows_used_down := hOn_rows_used_down)
    ∧ preserves_Rest_RestIdeal
    ∧ algebraic_RestIdeal_RestReferenceIdeal (hRestIdeal := hRestIdeal) (hRestReferenceIdeal := hRestReferenceIdeal)
-- ==== On_rows_used.lean ====
abbrev S8x128 : Shape := ⟨2, ![8, 128]⟩
abbrev S20480x2048 : Shape := ⟨2, ![20480, 2048]⟩
abbrev S8x2048x7168 : Shape := ⟨3, ![8, 2048, 7168]⟩
abbrev S57344x2048 : Shape := ⟨2, ![57344, 2048]⟩
abbrev S512 : Shape := ⟨1, ![512]⟩
abbrev S1x512 : Shape := ⟨2, ![1, 512]⟩
abbrev S40 : Shape := ⟨1, ![40]⟩
abbrev S40x1 : Shape := ⟨2, ![40, 1]⟩
abbrev S1x1 : Shape := ⟨2, ![1, 1]⟩
abbrev S_ : Shape := ⟨0, ![]⟩
abbrev S1x40 : Shape := ⟨2, ![1, 40]⟩
abbrev S40x512 : Shape := ⟨2, ![40, 512]⟩
abbrev S20480 : Shape := ⟨1, ![20480]⟩
abbrev S20480x1 : Shape := ⟨2, ![20480, 1]⟩
abbrev S20480x7168 : Shape := ⟨2, ![20480, 7168]⟩

class Facts : Prop where
  bcast_S512_S1x512_1 : S512.BroadcastsInDim S1x512 (![1] : Fin 1 → Fin S1x512.rank)
  bcast_S40_S40x1_0 : S40.BroadcastsInDim S40x1 (![0] : Fin 1 → Fin S40x1.rank)
  slices_S8x128_S1x1_1_0 : S8x128.Slices ![1, 0] S1x1
  shapeCasts_S1x1_S_ : S1x1.ShapeCasts S_
  bcast_S_S40x1 : S_.BroadcastsInDim S40x1 (![] : Fin 0 → Fin S40x1.rank)
  slices_S8x128_S1x40_2_0 : S8x128.Slices ![2, 0] S1x40
  shapeCasts_S1x40_S40 : S1x40.ShapeCasts S40
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  shapeCasts_S40x512_S20480 : S40x512.ShapeCasts S20480
  bcast_S20480_S20480x1_0 : S20480.BroadcastsInDim S20480x1 (![0] : Fin 1 → Fin S20480x1.rank)
  bcast_S20480x1_S20480x7168_0_1 : S20480x1.BroadcastsInDim S20480x7168 (![0, 1] : Fin 2 → Fin S20480x7168.rank)
  bcast_S_S57344x2048 : S_.BroadcastsInDim S57344x2048 (![] : Fin 0 → Fin S57344x2048.rank)

variable [Facts]

def fn {F : FTy → Type} [FloatOps F] (main_arg0 : IVec S8x128 32) (main_arg1 : FVec F S20480x2048 .bf16) (main_arg2 : FVec F S8x2048x7168 .bf16) (main_arg3 : FVec F S8x2048x7168 .bf16) (main_arg4 : FVec F S57344x2048 .f32) : IVec S20480x7168 1 × IVec S57344x2048 1 :=
  let main_v0 : IVec S512 32 := iotaInDim S512 32 0
  let main_v1 : IVec S1x512 32 := broadcastInDim S1x512 ![1] bcast_S512_S1x512_1 main_v0
  let main_v2 : IVec S40 32 := iotaInDim S40 32 0
  let main_v3 : IVec S40x1 32 := broadcastInDim S40x1 ![0] bcast_S40_S40x1_0 main_v2
  let main_v4 : IVec S1x1 32 := (extractStridedSlice S1x1 ![1, 0] · slices_S8x128_S1x1_1_0) main_arg0
  let main_v5 : IVec S_ 32 := shapeCast S_ main_v4 shapeCasts_S1x1_S_
  let main_v6 : IVec S40x1 32 := broadcastInDim S40x1 ![] bcast_S_S40x1 main_v5
  let main_v7 : IVec S40x1 1 := cmpi .slt main_v3 main_v6
  let main_v8 : IVec S1x40 32 := (extractStridedSlice S1x40 ![2, 0] · slices_S8x128_S1x40_2_0) main_arg0
  let main_v9 : IVec S40 32 := shapeCast S40 main_v8 shapeCasts_S1x40_S40
  let main_v10 : IVec S40x1 32 := broadcastInDim S40x1 ![0] bcast_S40_S40x1_0 main_v9
  let main_v11 : IVec S40x512 32 := broadcastInDim S40x512 ![0, 1] bcast_S1x512_S40x512_0_1 main_v1
  let main_v12 : IVec S40x512 32 := broadcastInDim S40x512 ![0, 1] bcast_S40x1_S40x512_0_1 main_v10
  let main_v13 : IVec S40x512 1 := cmpi .slt main_v11 main_v12
  let main_v14 : IVec S40x512 1 := broadcastInDim S40x512 ![0, 1] bcast_S40x1_S40x512_0_1 main_v7
  let main_v15 : IVec S40x512 1 := andi main_v14 main_v13
  let main_v16 : IVec S20480 1 := shapeCast S20480 main_v15 shapeCasts_S40x512_S20480
  let main_v17 : IVec S20480x1 1 := broadcastInDim S20480x1 ![0] bcast_S20480_S20480x1_0 main_v16
  let main_v18 : IVec S20480x7168 1 := broadcastInDim S20480x7168 ![0, 1] bcast_S20480x1_S20480x7168_0_1 main_v17
  let main_c : IVec S_ 1 := constantI S_ 1 1#1
  let main_v19 : IVec S57344x2048 1 := broadcastInDim S57344x2048 ![] bcast_S_S57344x2048 main_c
  (main_v18, main_v19)
-- ==== On_rows_used_down.lean ====
abbrev S8x128 : Shape := ⟨2, ![8, 128]⟩
abbrev S20480x7168 : Shape := ⟨2, ![20480, 7168]⟩
abbrev S8x7168x2048 : Shape := ⟨3, ![8, 7168, 2048]⟩
abbrev S512 : Shape := ⟨1, ![512]⟩
abbrev S1x512 : Shape := ⟨2, ![1, 512]⟩
abbrev S40 : Shape := ⟨1, ![40]⟩
abbrev S40x1 : Shape := ⟨2, ![40, 1]⟩
abbrev S1x1 : Shape := ⟨2, ![1, 1]⟩
abbrev S_ : Shape := ⟨0, ![]⟩
abbrev S1x40 : Shape := ⟨2, ![1, 40]⟩
abbrev S40x512 : Shape := ⟨2, ![40, 512]⟩
abbrev S20480 : Shape := ⟨1, ![20480]⟩
abbrev S20480x1 : Shape := ⟨2, ![20480, 1]⟩
abbrev S20480x2048 : Shape := ⟨2, ![20480, 2048]⟩

class Facts : Prop where
  bcast_S512_S1x512_1 : S512.BroadcastsInDim S1x512 (![1] : Fin 1 → Fin S1x512.rank)
  bcast_S40_S40x1_0 : S40.BroadcastsInDim S40x1 (![0] : Fin 1 → Fin S40x1.rank)
  slices_S8x128_S1x1_1_0 : S8x128.Slices ![1, 0] S1x1
  shapeCasts_S1x1_S_ : S1x1.ShapeCasts S_
  bcast_S_S40x1 : S_.BroadcastsInDim S40x1 (![] : Fin 0 → Fin S40x1.rank)
  slices_S8x128_S1x40_2_0 : S8x128.Slices ![2, 0] S1x40
  shapeCasts_S1x40_S40 : S1x40.ShapeCasts S40
  bcast_S1x512_S40x512_0_1 : S1x512.BroadcastsInDim S40x512 (![0, 1] : Fin 2 → Fin S40x512.rank)
  bcast_S40x1_S40x512_0_1 : S40x1.BroadcastsInDim S40x512 (![0, 1] : Fin 2 → Fin S40x512.rank)
  shapeCasts_S40x512_S20480 : S40x512.ShapeCasts S20480
  bcast_S20480_S20480x1_0 : S20480.BroadcastsInDim S20480x1 (![0] : Fin 1 → Fin S20480x1.rank)
  bcast_S20480x1_S20480x2048_0_1 : S20480x1.BroadcastsInDim S20480x2048 (![0, 1] : Fin 2 → Fin S20480x2048.rank)

variable [Facts]

def fn {F : FTy → Type} [FloatOps F] (main_arg0 : IVec S8x128 32) (main_arg1 : FVec F S20480x7168 .bf16) (main_arg2 : FVec F S8x7168x2048 .bf16) : IVec S20480x2048 1 :=
  let main_v0 : IVec S512 32 := iotaInDim S512 32 0
  let main_v1 : IVec S1x512 32 := broadcastInDim S1x512 ![1] bcast_S512_S1x512_1 main_v0
  let main_v2 : IVec S40 32 := iotaInDim S40 32 0
  let main_v3 : IVec S40x1 32 := broadcastInDim S40x1 ![0] bcast_S40_S40x1_0 main_v2
  let main_v4 : IVec S1x1 32 := (extractStridedSlice S1x1 ![1, 0] · slices_S8x128_S1x1_1_0) main_arg0
  let main_v5 : IVec S_ 32 := shapeCast S_ main_v4 shapeCasts_S1x1_S_
  let main_v6 : IVec S40x1 32 := broadcastInDim S40x1 ![] bcast_S_S40x1 main_v5
  let main_v7 : IVec S40x1 1 := cmpi .slt main_v3 main_v6
  let main_v8 : IVec S1x40 32 := (extractStridedSlice S1x40 ![2, 0] · slices_S8x128_S1x40_2_0) main_arg0
  let main_v9 : IVec S40 32 := shapeCast S40 main_v8 shapeCasts_S1x40_S40
  let main_v10 : IVec S40x1 32 := broadcastInDim S40x1 ![0] bcast_S40_S40x1_0 main_v9
  let main_v11 : IVec S40x512 32 := broadcastInDim S40x512 ![0, 1] bcast_S1x512_S40x512_0_1 main_v1
  let main_v12 : IVec S40x512 32 := broadcastInDim S40x512 ![0, 1] bcast_S40x1_S40x512_0_1 main_v10
  let main_v13 : IVec S40x512 1 := cmpi .slt main_v11 main_v12
  let main_v14 : IVec S40x512 1 := broadcastInDim S40x512 ![0, 1] bcast_S40x1_S40x512_0_1 main_v7
  let main_v15 : IVec S40x512 1 := andi main_v14 main_v13
  let main_v16 : IVec S20480 1 := shapeCast S20480 main_v15 shapeCasts_S40x512_S20480
  let main_v17 : IVec S20480x1 1 := broadcastInDim S20480x1 ![0] bcast_S20480_S20480x1_0 main_v16
  let main_v18 : IVec S20480x2048 1 := broadcastInDim S20480x2048 ![0, 1] bcast_S20480x1_S20480x2048_0_1 main_v17
  main_v18
-- ==== Pre_tiles_named.lean ====
abbrev S8x128 : Shape := ⟨2, ![8, 128]⟩
abbrev S20480x2048 : Shape := ⟨2, ![20480, 2048]⟩
abbrev S8x2048x7168 : Shape := ⟨3, ![8, 2048, 7168]⟩
abbrev S57344x2048 : Shape := ⟨2, ![57344, 2048]⟩
abbrev S1x40 : Shape := ⟨2, ![1, 40]⟩
abbrev S_ : Shape := ⟨0, ![]⟩

class Facts : Prop where
  slices_S8x128_S1x40_0_0 : S8x128.Slices ![0, 0] S1x40
  slices_S8x128_S1x40_2_0 : S8x128.Slices ![2, 0] S1x40
  bcast_S_S1x40 : S_.BroadcastsInDim S1x40 (![] : Fin 0 → Fin S1x40.rank)

variable [Facts]

def fn {F : FTy → Type} [FloatOps F] (main_arg0 : IVec S8x128 32) (main_arg1 : FVec F S20480x2048 .bf16) (main_arg2 : FVec F S8x2048x7168 .bf16) (main_arg3 : FVec F S8x2048x7168 .bf16) (main_arg4 : FVec F S57344x2048 .f32) : IVec S1x40 1 :=
  let main_v0 : IVec S1x40 32 := (extractStridedSlice S1x40 ![0, 0] · slices_S8x128_S1x40_0_0) main_arg0
  let main_v1 : IVec S1x40 32 := (extractStridedSlice S1x40 ![2, 0] · slices_S8x128_S1x40_2_0) main_arg0
  let main_c : IVec S_ 32 := constantI S_ 32 0#32
  let main_v2 : IVec S1x40 32 := broadcastInDim S1x40 ![] bcast_S_S1x40 main_c
  let main_v3 : IVec S1x40 1 := cmpi .sge main_v0 main_v2
  let main_c_0 : IVec S_ 32 := constantI S_ 32 8#32
  let main_v4 : IVec S1x40 32 := broadcastInDim S1x40 ![] bcast_S_S1x40 main_c_0
  let main_v5 : IVec S1x40 1 := cmpi .slt main_v0 main_v4
  let main_v6 : IVec S1x40 1 := andi main_v3 main_v5
  let main_c_1 : IVec S_ 32 := constantI S_ 32 0#32
  let main_v7 : IVec S1x40 32 := broadcastInDim S1x40 ![] bcast_S_S1x40 main_c_1
  let main_v8 : IVec S1x40 1 := cmpi .sge main_v1 main_v7
  let main_v9 : IVec S1x40 1 := andi main_v6 main_v8
  let main_c_2 : IVec S_ 32 := constantI S_ 32 512#32
  let main_v10 : IVec S1x40 32 := broadcastInDim S1x40 ![] bcast_S_S1x40 main_c_2
  let main_v11 : IVec S1x40 1 := cmpi .sle main_v1 main_v10
  let main_v12 : IVec S1x40 1 := andi main_v9 main_v11
  main_v12
-- ==== Pre_tiles_named_down.lean ====
abbrev S8x128 : Shape := ⟨2, ![8, 128]⟩
abbrev S20480x7168 : Shape := ⟨2, ![20480, 7168]⟩
abbrev S8x7168x2048 : Shape := ⟨3, ![8, 7168, 2048]⟩
abbrev S1x40 : Shape := ⟨2, ![1, 40]⟩
abbrev S_ : Shape := ⟨0, ![]⟩

class Facts : Prop where
  slices_S8x128_S1x40_0_0 : S8x128.Slices ![0, 0] S1x40
  slices_S8x128_S1x40_2_0 : S8x128.Slices ![2, 0] S1x40
  bcast_S_S1x40 : S_.BroadcastsInDim S1x40 (![] : Fin 0 → Fin S1x40.rank)

variable [Facts]

def fn {F : FTy → Type} [FloatOps F] (main_arg0 : IVec S8x128 32) (main_arg1 : FVec F S20480x7168 .bf16) (main_arg2 : FVec F S8x7168x2048 .bf16) : IVec S1x40 1 :=
  let main_v0 : IVec S1x40 32 := (extractStridedSlice S1x40 ![0, 0] · slices_S8x128_S1x40_0_0) main_arg0
  let main_v1 : IVec S1x40 32 := (extractStridedSlice S1x40 ![2, 0] · slices_S8x128_S1x40_2_0) main_arg0
  let main_c : IVec S_ 32 := constantI S_ 32 0#32
  let main_v2 : IVec S1x40 32 := broadcastInDim S1x40 ![] bcast_S_S1x40 main_c
  let main_v3 : IVec S1x40 1 := cmpi .sge main_v0 main_v2
  let main_c_0 : IVec S_ 32 := constantI S_ 32 8#32
  let main_v4 : IVec S1x40 32 := broadcastInDim S1x40 ![] bcast_S_S1x40 main_c_0
  let main_v5 : IVec S1x40 1 := cmpi .slt main_v0 main_v4
  let main_v6 : IVec S1x40 1 := andi main_v3 main_v5
  let main_c_1 : IVec S_ 32 := constantI S_ 32 0#32
  let main_v7 : IVec S1x40 32 := broadcastInDim S1x40 ![] bcast_S_S1x40 main_c_1
  let main_v8 : IVec S1x40 1 := cmpi .sge main_v1 main_v7
  let main_v9 : IVec S1x40 1 := andi main_v6 main_v8
  let main_c_2 : IVec S_ 32 := constantI S_ 32 512#32
  let main_v10 : IVec S1x40 32 := broadcastInDim S1x40 ![] bcast_S_S1x40 main_c_2
  let main_v11 : IVec S1x40 1 := cmpi .sle main_v1 main_v10
  let main_v12 : IVec S1x40 1 := andi main_v9 main_v11
  main_v12
-- ==== Kernel.lean ====
abbrev S16x64x8192 : Shape := ⟨3, ![16, 64, 8192]⟩
abbrev S2x4x512x64 : Shape := ⟨4, ![2, 4, 512, 64]⟩
abbrev S32x128 : Shape := ⟨2, ![32, 128]⟩
abbrev S16 : Shape := ⟨1, ![16]⟩
abbrev S4x4x32x2048 : Shape := ⟨4, ![4, 4, 32, 2048]⟩
abbrev S4x64x512 : Shape := ⟨3, ![4, 64, 512]⟩
abbrev S1x1x128x64 : Shape := ⟨4, ![1, 1, 128, 64]⟩
abbrev S1x1x32x512 : Shape := ⟨4, ![1, 1, 32, 512]⟩
abbrev S128x64 : Shape := ⟨2, ![128, 64]⟩
abbrev S64x128 : Shape := ⟨2, ![64, 128]⟩
abbrev S128x512 : Shape := ⟨2, ![128, 512]⟩
abbrev S1x64x512 : Shape := ⟨3, ![1, 64, 512]⟩
abbrev S64x512 : Shape := ⟨2, ![64, 512]⟩
abbrev S1 : Shape := ⟨1, ![1]⟩
abbrev S512 : Shape := ⟨1, ![512]⟩
abbrev S1x512 : Shape := ⟨2, ![1, 512]⟩
abbrev S32x512 : Shape := ⟨2, ![32, 512]⟩

abbrev nBuf : Space → Nat
  | .hbm => 6
  | .vmem => 11
  | .smem => 1
  | _ => 0

abbrev bufTy : (tb : Table) → Fin (tcTables nBuf tb) → BufTy
  | .hbm, ⟨0, _⟩ => ⟨S16x64x8192, .bf16⟩
  | .hbm, ⟨1, _⟩ => ⟨S2x4x512x64, .f32⟩
  | .hbm, ⟨2, _⟩ => ⟨S32x128, .bf16⟩
  | .hbm, ⟨3, _⟩ => ⟨S16, .f32⟩
  | .hbm, ⟨4, _⟩ => ⟨S16x64x8192, .f32⟩
  | .hbm, ⟨5, _⟩ => ⟨S4x4x32x2048, .f32⟩
  | .local _ .vmem, ⟨0, _⟩ => ⟨S4x64x512, .bf16⟩
  | .local _ .vmem, ⟨1, _⟩ => ⟨S4x64x512, .bf16⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S32x128, .bf16⟩
  | .local _ .vmem, ⟨7, _⟩ => ⟨S4x64x512, .f32⟩
  | .local _ .vmem, ⟨8, _⟩ => ⟨S4x64x512, .f32⟩
  | .local _ .vmem, ⟨9, _⟩ => ⟨S1x1x32x512, .f32⟩
  | .local _ .vmem, ⟨10, _⟩ => ⟨S1x1x32x512, .f32⟩
  | .local _ .smem, ⟨0, _⟩ => ⟨S16, .f32⟩
  | _, _ => ⟨S16x64x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 4], ![false, false, false]⟩

def k0_off1 (i : grid0.Coords) (c0_i32_19 : BitVec 32) : Fin 1 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_19
  let v37 : Index := Scalar.indexCast v36
  ![v37.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x64x8192 : Shape := ⟨3, ![16, 64, 8192]⟩
abbrev S2x4x512x64 : Shape := ⟨4, ![2, 4, 512, 64]⟩
abbrev S4x4 : Shape := ⟨2, ![4, 4]⟩
abbrev S127x32 : Shape := ⟨2, ![127, 32]⟩
abbrev S4x4x64x4x2048 : Shape := ⟨5, ![4, 4, 64, 4, 2048]⟩
abbrev S1x4x512x64 : Shape := ⟨4, ![1, 4, 512, 64]⟩
abbrev S4x512x64 : Shape := ⟨3, ![4, 512, 64]⟩
abbrev S4x4x128x64 : Shape := ⟨4, ![4, 4, 128, 64]⟩
abbrev S4x4x127x64 : Shape := ⟨4, ![4, 4, 127, 64]⟩
abbrev S2048 : Shape := ⟨1, ![2048]⟩
abbrev S127 : Shape := ⟨1, ![127]⟩
abbrev S_ : Shape := ⟨0, ![]⟩
abbrev S2048x1 : Shape := ⟨2, ![2048, 1]⟩
abbrev S1x127 : Shape := ⟨2, ![1, 127]⟩
abbrev S2048x127 : Shape := ⟨2, ![2048, 127]⟩
abbrev S4x4x4x2048x127 : Shape := ⟨5, ![4, 4, 4, 2048, 127]⟩
abbrev S1x4x4x1x1 : Shape := ⟨5, ![1, 4, 4, 1, 1]⟩
abbrev S1x1x1x2048x127 : Shape := ⟨5, ![1, 1, 1, 2048, 127]⟩
abbrev S1x4x4x2048x127 : Shape := ⟨5, ![1, 4, 4, 2048, 127]⟩
abbrev S4x4x4x2048 : Shape := ⟨4, ![4, 4, 4, 2048]⟩
abbrev S4x4x4x2048x1 : Shape := ⟨5, ![4, 4, 4, 2048, 1]⟩
abbrev S4x4x2048x127 : Shape := ⟨4, ![4, 4, 2048, 127]⟩
abbrev S4x4x2048x32 : Shape := ⟨4, ![4, 4, 2048, 32]⟩
abbrev S32 : Shape := ⟨1, ![32]⟩
abbrev S1x32 : Shape := ⟨2, ![1, 32]⟩
abbrev S2048x32 : Shape := ⟨2, ![2048, 32]⟩
abbrev S4x4x2048x16 : Shape := ⟨4, ![4, 4, 2048, 16]⟩
abbrev S4x4x2048x16x1 : Shape := ⟨5, ![4, 4, 2048, 16, 1]⟩
abbrev S1x1x1x1x32 : Shape := ⟨5, ![1, 1, 1, 1, 32]⟩
abbrev S4x4x2048x16x32 : Shape := ⟨5, ![4, 4, 2048, 16, 32]⟩
abbrev S4x4x32x2048 : Shape := ⟨4, ![4, 4, 32, 2048]⟩

abbrev nBuf : Space → Nat
  | .hbm => 150
  | .vmem => 0
  | .smem => 0
  | _ => 0

abbrev hbmTy0_0 (i : Nat) : BufTy := match i % 128 with
  | 0 => ⟨S16x64x8192, .bf16⟩
  | 1 => ⟨S2x4x512x64, .f32⟩
  | 2 => ⟨S4x4, .f32⟩
  | 3 => ⟨S127x32, .f32⟩
  | 4 => ⟨S16x64x8192, .f32⟩
  | 5 => ⟨S4x4x64x4x2048, .f32⟩
  | 6 => ⟨S1x4x512x64, .f32⟩
  | 7 => ⟨S4x512x64, .f32⟩
  | 8 => ⟨S4x4x128x64, .f32⟩
  | 9 => ⟨S4x4x127x64, .f32⟩
  | 10 => ⟨S1x4x512x64, .f32⟩
  | 11 => ⟨S4x512x64, .f32⟩
  | 12 => ⟨S4x4x128x64, .f32⟩
  | 13 => ⟨S4x4x127x64, .f32⟩
  | 14 => ⟨S2048, .i32⟩
  | 15 => ⟨S127, .i32⟩
  | 16 => ⟨S_, .i32⟩
  | 17 => ⟨S127, .i32⟩
  | 18 => ⟨S127, .i32⟩
  | 19 => ⟨S_, .i32⟩
  | 20 => ⟨S127, .i32⟩
  | 21 => ⟨S127, .i32⟩
  | 22 => ⟨S2048x1, .i32⟩
  | 23 => ⟨S1x127, .i32⟩
  | 24 => ⟨S2048x127, .i32⟩
  | 25 => ⟨S2048x127, .i32⟩
  | 26 => ⟨S2048x127, .i32⟩
  | 27 => ⟨S4x4x4x2048x127, .f32⟩
  | 28 => ⟨S1x4x4x1x1, .f32⟩
  | 29 => ⟨S2048x127, .f32⟩
  | 30 => ⟨S1x1x1x2048x127, .f32⟩
  | 31 => ⟨S1x4x4x2048x127, .f32⟩
  | 32 => ⟨S1x4x4x2048x127, .f32⟩
  | 33 => ⟨S1x4x4x2048x127, .f32⟩
  | 34 => ⟨S4x4x4x2048x127, .f32⟩
  | 35 => ⟨S4x4x4x2048x127, .f32⟩
  | 36 => ⟨S_, .i32⟩
  | 37 => ⟨S2048x127, .i32⟩
  | 38 => ⟨S2048x127, .i1⟩
  | 39 => ⟨S_, .f32⟩
  | 40 => ⟨S_, .f32⟩
  | 41 => ⟨S4x4x4x2048x127, .i1⟩
  | 42 => ⟨S4x4x4x2048x127, .f32⟩
  | 43 => ⟨S4x4x4x2048x127, .f32⟩
  | 44 => ⟨S_, .f32⟩
  | 45 => ⟨S4x4x4x2048, .f32⟩
  | 46 => ⟨S4x4x4x2048x1, .f32⟩
  | 47 => ⟨S_, .f32⟩
  | 48 => ⟨S4x4x4x2048x1, .f32⟩
  | 49 => ⟨S4x4x4x2048x1, .i1⟩
  | 50 => ⟨S_, .f32⟩
  | 51 => ⟨S_, .f32⟩
  | 52 => ⟨S4x4x4x2048x1, .f32⟩
  | 53 => ⟨S4x4x4x2048x1, .f32⟩
  | 54 => ⟨S4x4x4x2048x127, .f32⟩
  | 55 => ⟨S4x4x4x2048x127, .f32⟩
  | 56 => ⟨S_, .f32⟩
  | 57 => ⟨S4x4x4x2048x127, .f32⟩
  | 58 => ⟨S4x4x4x2048x127, .f32⟩
  | 59 => ⟨S_, .f32⟩
  | 60 => ⟨S_, .f32⟩
  | 61 => ⟨S4x4x4x2048x127, .i1⟩
  | 62 => ⟨S4x4x4x2048x127, .f32⟩
  | 63 => ⟨S4x4x4x2048x127, .f32⟩
  | 64 => ⟨S_, .f32⟩
  | 65 => ⟨S4x4x4x2048, .f32⟩
  | 66 => ⟨S4x4x4x2048x1, .f32⟩
  | 67 => ⟨S_, .f32⟩
  | 68 => ⟨S4x4x4x2048x1, .f32⟩
  | 69 => ⟨S4x4x4x2048x1, .f32⟩
  | 70 => ⟨S4x4x4x2048x127, .f32⟩
  | 71 => ⟨S4x4x4x2048x127, .f32⟩
  | 72 => ⟨S4x4x64x4x2048, .f32⟩
  | 73 => ⟨S4x4x64x4x2048, .f32⟩
  | 74 => ⟨S_, .f32⟩
  | 75 => ⟨S4x4x2048x127, .f32⟩
  | 76 => ⟨S4x4x2048x32, .f32⟩
  | 77 => ⟨S32, .i32⟩
  | 78 => ⟨S_, .i32⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i1⟩
  | 86 => ⟨S2048, .i32⟩
  | 87 => ⟨S2048, .i32⟩
  | 88 => ⟨S_, .i32⟩
  | 89 => ⟨S2048, .i32⟩
  | 90 => ⟨S2048, .i1⟩
  | 91 => ⟨S2048, .i1⟩
  | 92 => ⟨S_, .i32⟩
  | 93 => ⟨S2048, .i32⟩
  | 94 => ⟨S2048, .i32⟩
  | 95 => ⟨S2048, .i32⟩
  | 96 => ⟨S1x32, .i32⟩
  | 97 => ⟨S_, .i32⟩
  | 98 => ⟨S1x32, .i32⟩
  | 99 => ⟨S1x32, .i32⟩
  | 100 => ⟨S2048x1, .i32⟩
  | 101 => ⟨S2048x32, .i32⟩
  | 102 => ⟨S2048x32, .i32⟩
  | 103 => ⟨S2048x32, .i1⟩
  | 104 => ⟨S1x32, .i32⟩
  | 105 => ⟨S_, .i32⟩
  | 106 => ⟨S1x32, .i32⟩
  | 107 => ⟨S1x32, .i1⟩
  | 108 => ⟨S1x32, .i32⟩
  | 109 => ⟨S2048x1, .i32⟩
  | 110 => ⟨S2048x32, .i32⟩
  | 111 => ⟨S2048x32, .i32⟩
  | 112 => ⟨S2048x32, .i1⟩
  | 113 => ⟨S2048x32, .i1⟩
  | 114 => ⟨S2048x32, .i1⟩
  | 115 => ⟨S1x32, .i32⟩
  | 116 => ⟨S2048x1, .i32⟩
  | 117 => ⟨S_, .i32⟩
  | 118 => ⟨S2048x1, .i32⟩
  | 119 => ⟨S2048x1, .i32⟩
  | 120 => ⟨S2048x32, .i32⟩
  | 121 => ⟨S2048x32, .i32⟩
  | 122 => ⟨S2048x32, .i1⟩
  | 123 => ⟨S2048x32, .i1⟩
  | 124 => ⟨S_, .f32⟩
  | 125 => ⟨S_, .f32⟩
  | 126 => ⟨S4x4x2048x32, .i1⟩
  | 127 => ⟨S4x4x2048x32, .f32⟩
  | _ => ⟨S16x64x8192, .bf16⟩

abbrev hbmTy0_1 (i : Nat) : BufTy := match i % 128 with
  | 0 => ⟨S4x4x2048x32, .f32⟩
  | 1 => ⟨S_, .f32⟩
  | 2 => ⟨S_, .f32⟩
  | 3 => ⟨S4x4x2048x32, .i1⟩
  | 4 => ⟨S4x4x2048x32, .f32⟩
  | 5 => ⟨S4x4x2048x32, .f32⟩
  | 6 => ⟨S4x4x2048x16, .f32⟩
  | 7 => ⟨S4x4x2048x16, .i32⟩
  | 8 => ⟨S4x4x2048x16x1, .i32⟩
  | 9 => ⟨S1x1x1x1x32, .i32⟩
  | 10 => ⟨S4x4x2048x16x32, .i32⟩
  | 11 => ⟨S4x4x2048x16x32, .i32⟩
  | 12 => ⟨S4x4x2048x16x32, .i1⟩
  | 13 => ⟨S_, .i1⟩
  | 14 => ⟨S4x4x2048x32, .i1⟩
  | 15 => ⟨S16x64x8192, .f32⟩
  | 16 => ⟨S_, .f32⟩
  | 17 => ⟨S_, .f32⟩
  | 18 => ⟨S4x4x2048x32, .f32⟩
  | 19 => ⟨S4x4x2048x32, .f32⟩
  | 20 => ⟨S4x4x2048x32, .f32⟩
  | 21 => ⟨S4x4x32x2048, .f32⟩
  | _ => ⟨S16x64x8192, .bf16⟩

abbrev hbmTy (i : Nat) : BufTy := match i / 128 with
  | 0 => hbmTy0_0 i
  | 1 => hbmTy0_1 i
  | _ => ⟨S16x64x8192, .bf16⟩

abbrev bufTy : (tb : Table) → Fin (tcTables nBuf tb) → BufTy
  | .hbm, ⟨i, _⟩ => hbmTy i
  | _, _ => ⟨S16x64x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v54 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_14 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_15 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_16 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v80 : Ref sig .tc := ⟨.hbm, 128, rfl⟩
abbrev main_cst_17 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v81 : Ref sig .tc := ⟨.hbm, 133, rfl⟩
abbrev main_values : Ref sig .tc := ⟨.hbm, 134, rfl⟩
abbrev main_indices : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_18 : Ref sig .tc := ⟨.hbm, 141, rfl⟩
abbrev main_v87 : Ref sig .tc := ⟨.hbm, 142, rfl⟩
abbrev main_v88 : Ref sig .tc := ⟨.hbm, 143, rfl⟩
abbrev main_cst_19 : Ref sig .tc := ⟨.hbm, 144, rfl⟩
abbrev main_cst_20 : Ref sig .tc := ⟨.hbm, 145, rfl⟩
abbrev main_call6_v0 : Ref sig .tc := ⟨.hbm, 146, rfl⟩
abbrev main_call6_v1 : Ref sig .tc := ⟨.hbm, 147, rfl⟩
abbrev main_v89 : Ref sig .tc := ⟨.hbm, 148, rfl⟩
abbrev main_v90 : Ref sig .tc := ⟨.hbm, 149, rfl⟩

abbrev nD : Nat := 1
abbrev τ : Topo := Topo.v7x

variable {F : FTy → Type} [FloatOps F]
-- ==== Swiglu.lean ====
abbrev S8192x2048 : Shape := ⟨2, ![8192, 2048]⟩
abbrev S2048x5632 : Shape := ⟨2, ![2048, 5632]⟩
abbrev S8192x5632 : Shape := ⟨2, ![8192, 5632]⟩
abbrev S2048x2048 : Shape := ⟨2, ![2048, 2048]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluReferenceIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnDown.lean ====
abbrev S8192x5632 : Shape := ⟨2, ![8192, 5632]⟩
abbrev S1x5632x2048 : Shape := ⟨3, ![1, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S8192x2048 : Shape := ⟨2, ![8192, 2048]⟩
abbrev S2x2048x2048 : Shape := ⟨3, ![2, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S8192x1024 : Shape := ⟨2, ![8192, 1024]⟩
abbrev S8192x6144 : Shape := ⟨2, ![8192, 6144]⟩
abbrev S2x1024x2048 : Shape := ⟨3, ![2, 1024, 2048]⟩
abbrev S8192x2048 : Shape := ⟨2, ![8192, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x6144, .f32⟩
  | .hbm, ⟨3, _⟩ => ⟨S2x1024x2048, .f32⟩
  | .hbm, ⟨4, _⟩ => ⟨S2x1024x2048, .f32⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S8192x1024 : Shape := ⟨2, ![8192, 1024]⟩
abbrev S8192x6144 : Shape := ⟨2, ![8192, 6144]⟩
abbrev S2x1024x2048 : Shape := ⟨3, ![2, 1024, 2048]⟩
abbrev S8192x2048 : Shape := ⟨2, ![8192, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x6144, .f32⟩
  | .hbm, ⟨3, _⟩ => ⟨S2x1024x2048, .f32⟩
  | .hbm, ⟨4, _⟩ => ⟨S2x1024x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x1024, .f32⟩
  | .hbm, ⟨24, _⟩ => ⟨S1x1024x2048, .f32⟩
  | .hbm, ⟨25, _⟩ => ⟨S1024x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1x1024x2048, .f32⟩
  | .hbm, ⟨30, _⟩ => ⟨S1024x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Up.lean ====
abbrev S8x128 : Shape := ⟨2, ![8, 128]⟩
abbrev S20480x2048 : Shape := ⟨2, ![20480, 2048]⟩
abbrev S8x2048x7168 : Shape := ⟨3, ![8, 2048, 7168]⟩
abbrev S57344x2048 : Shape := ⟨2, ![57344, 2048]⟩
abbrev S20480x7168 : Shape := ⟨2, ![20480, 7168]⟩
abbrev S512x2048 : Shape := ⟨2, ![512, 2048]⟩
abbrev S1x1 : Shape := ⟨2, ![1, 1]⟩
abbrev S1x2048x1792 : Shape := ⟨3, ![1, 2048, 1792]⟩
abbrev S448x2048 : Shape := ⟨2, ![448, 2048]⟩
abbrev S512x1792 : Shape := ⟨2, ![512, 1792]⟩
abbrev S128x2048 : Shape := ⟨2, ![128, 2048]⟩
abbrev S1x2048x256 : Shape := ⟨3, ![1, 2048, 256]⟩
abbrev S2048x256 : Shape := ⟨2, ![2048, 256]⟩
abbrev S128x256 : Shape := ⟨2, ![128, 256]⟩
abbrev S384x1792 : Shape := ⟨2, ![384, 1792]⟩
abbrev S256x2048 : Shape := ⟨2, ![256, 2048]⟩
abbrev S256x256 : Shape := ⟨2, ![256, 256]⟩
abbrev S256x1792 : Shape := ⟨2, ![256, 1792]⟩
abbrev S384x2048 : Shape := ⟨2, ![384, 2048]⟩
abbrev S384x256 : Shape := ⟨2, ![384, 256]⟩
abbrev S128x1792 : Shape := ⟨2, ![128, 1792]⟩
abbrev S512x256 : Shape := ⟨2, ![512, 256]⟩

abbrev nBuf : Space → Nat
  | .hbm => 6
  | .vmem => 12
  | .smem => 1
  | _ => 0

abbrev bufTy : (tb : Table) → Fin (tcTables nBuf tb) → BufTy
  | .hbm, ⟨0, _⟩ => ⟨S20480x2048, .bf16⟩
  | .hbm, ⟨1, _⟩ => ⟨S8x2048x7168, .bf16⟩
  | .hbm, ⟨2, _⟩ => ⟨S8x2048x7168, .bf16⟩
  | .hbm, ⟨3, _⟩ => ⟨S57344x2048, .f32⟩
  | .hbm, ⟨4, _⟩ => ⟨S20480x7168, .bf16⟩
  | .hbm, ⟨5, _⟩ => ⟨S57344x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1x2048x1792, .bf16⟩
  | .local _ .vmem, ⟨5, _⟩ => ⟨S1x2048x1792, .bf16⟩
  | .local _ .vmem, ⟨6, _⟩ => ⟨S448x2048, .f32⟩
  | .local _ .vmem, ⟨7, _⟩ => ⟨S448x2048, .f32⟩
  | .local _ .vmem, ⟨8, _⟩ => ⟨S512x1792, .bf16⟩
  | .local _ .vmem, ⟨9, _⟩ => ⟨S512x1792, .bf16⟩
  | .local _ .vmem, ⟨10, _⟩ => ⟨S448x2048, .bf16⟩
  | .local _ .vmem, ⟨11, _⟩ => ⟨S448x2048, .bf16⟩
  | .local _ .smem, ⟨0, _⟩ => ⟨S8x128, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 40], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c2 : Index := 2#32
  let arg1 : BitVec 32 := BitVec.ofNat 32 (i 1).val
  let v0 : Index := Scalar.indexCast arg1
  ![2, v0.toNat]
def k0_cond1 (v1 : BitVec 32) : BitVec 1 :=
  let c0_i32 : BitVec 32 := 0#32
  let v2 : BitVec 1 := Scalar.cmpi .sgt v1 c0_i32
  let c128_i32 : BitVec 32 := 128#32
  let v3 : BitVec 1 := Scalar.cmpi .sle v1 c128_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (v1 : BitVec 32) : BitVec 1 :=
  let c128_i32_1 : BitVec 32 := 128#32
  let v7 : BitVec 1 := Scalar.cmpi .sgt v1 c128_i32_1
  let c256_i32 : BitVec 32 := 256#32
  let v8 : BitVec 1 := Scalar.cmpi .sle v1 c256_i32
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (v1 : BitVec 32) : BitVec 1 :=
  let c256_i32_3 : BitVec 32 := 256#32
  let v12 : BitVec 1 := Scalar.cmpi .sgt v1 c256_i32_3
  let c384_i32 : BitVec 32 := 384#32
  let v13 : BitVec 1 := Scalar.cmpi .sle v1 c384_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond4 (v1 : BitVec 32) : BitVec 1 :=
  let c384_i32_5 : BitVec 32 := 384#32
  let v17 : BitVec 1 := Scalar.cmpi .sgt v1 c384_i32_5
  let c512_i32 : BitVec 32 := 512#32
  let v18 : BitVec 1 := Scalar.cmpi .sle v1 c512_i32
  let v19 : BitVec 1 := Scalar.andi v17 v18
  let v20 : BitVec 32 := Scalar.extui v19
  let c0_i32_6 : BitVec 32 := 0#32
  let v21 : BitVec 1 := Scalar.cmpi .ne v20 c0_i32_6
  v21

def k0_cond5 (v1 : BitVec 32) : BitVec 1 :=
  let c0_i32_7 : BitVec 32 := 0#32
  let v22 : BitVec 1 := Scalar.cmpi .eq v1 c0_i32_7
  let v23 : BitVec 32 := Scalar.extui v22
  let c0_i32_8 : BitVec 32 := 0#32
  let v24 : BitVec 1 := Scalar.cmpi .ne v23 c0_i32_8
  v24

def cc0_transform_0 (inb_S8x128_S1x1_1_0 : ∀ a, (![1, 0] : Fin 2 → Nat) a + S1x1.size a ≤ S8x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let c0 : Index := 0#32
  let v0 : BitVec 32 := pf.at 0 (Rect.unit (s := S8x128) ![1, 0] S1x1.size inb_S8x128_S1x1_1_0) numel1_S1x1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1x1.size a ≤ S8x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S8x128) ![0, v0.toNat] S1x1.size (k0_off1_inb i)) numel1_S1x1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1x1.size a ≤ S8x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S8x128) ![0, v0.toNat] S1x1.size (k0_off1_inb i)) numel1_S1x1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S448x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S448x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8x128 : Shape := ⟨2, ![8, 128]⟩
abbrev S20480x2048 : Shape := ⟨2, ![20480, 2048]⟩
abbrev S8x2048x7168 : Shape := ⟨3, ![8, 2048, 7168]⟩
abbrev S57344x2048 : Shape := ⟨2, ![57344, 2048]⟩
abbrev S1x40 : Shape := ⟨2, ![1, 40]⟩
abbrev S40 : Shape := ⟨1, ![40]⟩
abbrev S40x1 : Shape := ⟨2, ![40, 1]⟩
abbrev S40x512 : Shape := ⟨2, ![40, 512]⟩
abbrev S20480 : Shape := ⟨1, ![20480]⟩
abbrev S_ : Shape := ⟨0, ![]⟩
abbrev S20480x7168 : Shape := ⟨2, ![20480, 7168]⟩
abbrev S1x2048x7168 : Shape := ⟨3, ![1, 2048, 7168]⟩
abbrev S2048x7168 : Shape := ⟨2, ![2048, 7168]⟩
abbrev S20480x1 : Shape := ⟨2, ![20480, 1]⟩

abbrev nBuf : Space → Nat
  | .hbm => 207
  | .vmem => 0
  | .smem => 0
  | _ => 0

abbrev hbmTy0_0 (i : Nat) : BufTy := match i % 128 with
  | 0 => ⟨S8x128, .i32⟩
  | 1 => ⟨S20480x2048, .bf16⟩
  | 2 => ⟨S8x2048x7168, .bf16⟩
  | 3 => ⟨S8x2048x7168, .bf16⟩
  | 4 => ⟨S57344x2048, .f32⟩
  | 5 => ⟨S20480x2048, .f32⟩
  | 6 => ⟨S1x40, .i32⟩
  | 7 => ⟨S40, .i32⟩
  | 8 => ⟨S40x1, .i32⟩
  | 9 => ⟨S40x512, .i32⟩
  | 10 => ⟨S20480, .i32⟩
  | 11 => ⟨S_, .f32⟩
  | 12 => ⟨S20480x7168, .f32⟩
  | 13 => ⟨S1x2048x7168, .bf16⟩
  | 14 => ⟨S2048x7168, .bf16⟩
  | 15 => ⟨S2048x7168, .f32⟩
  | 16 => ⟨S1x2048x7168, .bf16⟩
  | 17 => ⟨S2048x7168, .bf16⟩
  | 18 => ⟨S2048x7168, .f32⟩
  | 19 => ⟨S_, .i32⟩
  | 20 => ⟨S20480, .i32⟩
  | 21 => ⟨S20480, .i1⟩
  | 22 => ⟨S20480x1, .i1⟩
  | 23 => ⟨S20480x7168, .f32⟩
  | 24 => ⟨S20480x7168, .f32⟩
  | 25 => ⟨S20480x7168, .f32⟩
  | 26 => ⟨S_, .f32⟩
  | 27 => ⟨S20480x7168, .f32⟩
  | 28 => ⟨S20480x7168, .f32⟩
  | 29 => ⟨S_, .f32⟩
  | 30 => ⟨S20480x7168, .f32⟩
  | 31 => ⟨S20480x7168, .f32⟩
  | 32 => ⟨S20480x7168, .f32⟩
  | 33 => ⟨S20480x7168, .f32⟩
  | 34 => ⟨S20480x7168, .f32⟩
  | 35 => ⟨S20480x7168, .i1⟩
  | 36 => ⟨S20480x7168, .f32⟩
  | 37 => ⟨S1x2048x7168, .bf16⟩
  | 38 => ⟨S2048x7168, .bf16⟩
  | 39 => ⟨S2048x7168, .f32⟩
  | 40 => ⟨S1x2048x7168, .bf16⟩
  | 41 => ⟨S2048x7168, .bf16⟩
  | 42 => ⟨S2048x7168, .f32⟩
  | 43 => ⟨S_, .i32⟩
  | 44 => ⟨S20480, .i32⟩
  | 45 => ⟨S20480, .i1⟩
  | 46 => ⟨S20480x1, .i1⟩
  | 47 => ⟨S20480x7168, .f32⟩
  | 48 => ⟨S20480x7168, .f32⟩
  | 49 => ⟨S20480x7168, .f32⟩
  | 50 => ⟨S_, .f32⟩
  | 51 => ⟨S20480x7168, .f32⟩
  | 52 => ⟨S20480x7168, .f32⟩
  | 53 => ⟨S_, .f32⟩
  | 54 => ⟨S20480x7168, .f32⟩
  | 55 => ⟨S20480x7168, .f32⟩
  | 56 => ⟨S20480x7168, .f32⟩
  | 57 => ⟨S20480x7168, .f32⟩
  | 58 => ⟨S20480x7168, .f32⟩
  | 59 => ⟨S20480x7168, .i1⟩
  | 60 => ⟨S20480x7168, .f32⟩
  | 61 => ⟨S1x2048x7168, .bf16⟩
  | 62 => ⟨S2048x7168, .bf16⟩
  | 63 => ⟨S2048x7168, .f32⟩
  | 64 => ⟨S1x2048x7168, .bf16⟩
  | 65 => ⟨S2048x7168, .bf16⟩
  | 66 => ⟨S2048x7168, .f32⟩
  | 67 => ⟨S_, .i32⟩
  | 68 => ⟨S20480, .i32⟩
  | 69 => ⟨S20480, .i1⟩
  | 70 => ⟨S20480x1, .i1⟩
  | 71 => ⟨S20480x7168, .f32⟩
  | 72 => ⟨S20480x7168, .f32⟩
  | 73 => ⟨S20480x7168, .f32⟩
  | 74 => ⟨S_, .f32⟩
  | 75 => ⟨S20480x7168, .f32⟩
  | 76 => ⟨S20480x7168, .f32⟩
  | 77 => ⟨S_, .f32⟩
  | 78 => ⟨S20480x7168, .f32⟩
  | 79 => ⟨S20480x7168, .f32⟩
  | 80 => ⟨S20480x7168, .f32⟩
  | 81 => ⟨S20480x7168, .f32⟩
  | 82 => ⟨S20480x7168, .f32⟩
  | 83 => ⟨S20480x7168, .i1⟩
  | 84 => ⟨S20480x7168, .f32⟩
  | 85 => ⟨S1x2048x7168, .bf16⟩
  | 86 => ⟨S2048x7168, .bf16⟩
  | 87 => ⟨S2048x7168, .f32⟩
  | 88 => ⟨S1x2048x7168, .bf16⟩
  | 89 => ⟨S2048x7168, .bf16⟩
  | 90 => ⟨S2048x7168, .f32⟩
  | 91 => ⟨S_, .i32⟩
  | 92 => ⟨S20480, .i32⟩
  | 93 => ⟨S20480, .i1⟩
  | 94 => ⟨S20480x1, .i1⟩
  | 95 => ⟨S20480x7168, .f32⟩
  | 96 => ⟨S20480x7168, .f32⟩
  | 97 => ⟨S20480x7168, .f32⟩
  | 98 => ⟨S_, .f32⟩
  | 99 => ⟨S20480x7168, .f32⟩
  | 100 => ⟨S20480x7168, .f32⟩
  | 101 => ⟨S_, .f32⟩
  | 102 => ⟨S20480x7168, .f32⟩
  | 103 => ⟨S20480x7168, .f32⟩
  | 104 => ⟨S20480x7168, .f32⟩
  | 105 => ⟨S20480x7168, .f32⟩
  | 106 => ⟨S20480x7168, .f32⟩
  | 107 => ⟨S20480x7168, .i1⟩
  | 108 => ⟨S20480x7168, .f32⟩
  | 109 => ⟨S1x2048x7168, .bf16⟩
  | 110 => ⟨S2048x7168, .bf16⟩
  | 111 => ⟨S2048x7168, .f32⟩
  | 112 => ⟨S1x2048x7168, .bf16⟩
  | 113 => ⟨S2048x7168, .bf16⟩
  | 114 => ⟨S2048x7168, .f32⟩
  | 115 => ⟨S_, .i32⟩
  | 116 => ⟨S20480, .i32⟩
  | 117 => ⟨S20480, .i1⟩
  | 118 => ⟨S20480x1, .i1⟩
  | 119 => ⟨S20480x7168, .f32⟩
  | 120 => ⟨S20480x7168, .f32⟩
  | 121 => ⟨S20480x7168, .f32⟩
  | 122 => ⟨S_, .f32⟩
  | 123 => ⟨S20480x7168, .f32⟩
  | 124 => ⟨S20480x7168, .f32⟩
  | 125 => ⟨S_, .f32⟩
  | 126 => ⟨S20480x7168, .f32⟩
  | 127 => ⟨S20480x7168, .f32⟩
  | _ => ⟨S8x128, .i32⟩

abbrev hbmTy0_1 (i : Nat) : BufTy := match i % 128 with
  | 0 => ⟨S20480x7168, .f32⟩
  | 1 => ⟨S20480x7168, .f32⟩
  | 2 => ⟨S20480x7168, .f32⟩
  | 3 => ⟨S20480x7168, .i1⟩
  | 4 => ⟨S20480x7168, .f32⟩
  | 5 => ⟨S1x2048x7168, .bf16⟩
  | 6 => ⟨S2048x7168, .bf16⟩
  | 7 => ⟨S2048x7168, .f32⟩
  | 8 => ⟨S1x2048x7168, .bf16⟩
  | 9 => ⟨S2048x7168, .bf16⟩
  | 10 => ⟨S2048x7168, .f32⟩
  | 11 => ⟨S_, .i32⟩
  | 12 => ⟨S20480, .i32⟩
  | 13 => ⟨S20480, .i1⟩
  | 14 => ⟨S20480x1, .i1⟩
  | 15 => ⟨S20480x7168, .f32⟩
  | 16 => ⟨S20480x7168, .f32⟩
  | 17 => ⟨S20480x7168, .f32⟩
  | 18 => ⟨S_, .f32⟩
  | 19 => ⟨S20480x7168, .f32⟩
  | 20 => ⟨S20480x7168, .f32⟩
  | 21 => ⟨S_, .f32⟩
  | 22 => ⟨S20480x7168, .f32⟩
  | 23 => ⟨S20480x7168, .f32⟩
  | 24 => ⟨S20480x7168, .f32⟩
  | 25 => ⟨S20480x7168, .f32⟩
  | 26 => ⟨S20480x7168, .f32⟩
  | 27 => ⟨S20480x7168, .i1⟩
  | 28 => ⟨S20480x7168, .f32⟩
  | 29 => ⟨S1x2048x7168, .bf16⟩
  | 30 => ⟨S2048x7168, .bf16⟩
  | 31 => ⟨S2048x7168, .f32⟩
  | 32 => ⟨S1x2048x7168, .bf16⟩
  | 33 => ⟨S2048x7168, .bf16⟩
  | 34 => ⟨S2048x7168, .f32⟩
  | 35 => ⟨S_, .i32⟩
  | 36 => ⟨S20480, .i32⟩
  | 37 => ⟨S20480, .i1⟩
  | 38 => ⟨S20480x1, .i1⟩
  | 39 => ⟨S20480x7168, .f32⟩
  | 40 => ⟨S20480x7168, .f32⟩
  | 41 => ⟨S20480x7168, .f32⟩
  | 42 => ⟨S_, .f32⟩
  | 43 => ⟨S20480x7168, .f32⟩
  | 44 => ⟨S20480x7168, .f32⟩
  | 45 => ⟨S_, .f32⟩
  | 46 => ⟨S20480x7168, .f32⟩
  | 47 => ⟨S20480x7168, .f32⟩
  | 48 => ⟨S20480x7168, .f32⟩
  | 49 => ⟨S20480x7168, .f32⟩
  | 50 => ⟨S20480x7168, .f32⟩
  | 51 => ⟨S20480x7168, .i1⟩
  | 52 => ⟨S20480x7168, .f32⟩
  | 53 => ⟨S1x2048x7168, .bf16⟩
  | 54 => ⟨S2048x7168, .bf16⟩
  | 55 => ⟨S2048x7168, .f32⟩
  | 56 => ⟨S1x2048x7168, .bf16⟩
  | 57 => ⟨S2048x7168, .bf16⟩
  | 58 => ⟨S2048x7168, .f32⟩
  | 59 => ⟨S_, .i32⟩
  | 60 => ⟨S20480, .i32⟩
  | 61 => ⟨S20480, .i1⟩
  | 62 => ⟨S20480x1, .i1⟩
  | 63 => ⟨S20480x7168, .f32⟩
  | 64 => ⟨S20480x7168, .f32⟩
  | 65 => ⟨S20480x7168, .f32⟩
  | 66 => ⟨S_, .f32⟩
  | 67 => ⟨S20480x7168, .f32⟩
  | 68 => ⟨S20480x7168, .f32⟩
  | 69 => ⟨S_, .f32⟩
  | 70 => ⟨S20480x7168, .f32⟩
  | 71 => ⟨S20480x7168, .f32⟩
  | 72 => ⟨S20480x7168, .f32⟩
  | 73 => ⟨S20480x7168, .f32⟩
  | 74 => ⟨S20480x7168, .f32⟩
  | 75 => ⟨S20480x7168, .i1⟩
  | 76 => ⟨S20480x7168, .f32⟩
  | 77 => ⟨S20480x7168, .bf16⟩
  | 78 => ⟨S57344x2048, .bf16⟩
  | _ => ⟨S8x128, .i32⟩

abbrev hbmTy (i : Nat) : BufTy := match i / 128 with
  | 0 => hbmTy0_0 i
  | 1 => hbmTy0_1 i
  | _ => ⟨S8x128, .i32⟩

abbrev bufTy : (tb : Table) → Fin (tcTables nBuf tb) → BufTy
  | .hbm, ⟨i, _⟩ => hbmTy i
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call3_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call5_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_2 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call6_v0 : Ref sig .tc := ⟨.hbm, 96, rfl⟩
abbrev main_call6_v1 : Ref sig .tc := ⟨.hbm, 97, rfl⟩
abbrev main_call6_cst : Ref sig .tc := ⟨.hbm, 98, rfl⟩
abbrev main_call6_v2 : Ref sig .tc := ⟨.hbm, 99, rfl⟩
abbrev main_call6_v3 : Ref sig .tc := ⟨.hbm, 100, rfl⟩
abbrev main_call6_cst_0 : Ref sig .tc := ⟨.hbm, 101, rfl⟩
abbrev main_call6_v4 : Ref sig .tc := ⟨.hbm, 102, rfl⟩
abbrev main_call6_v5 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call7_v0 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_3 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_call8_v0 : Ref sig .tc := ⟨.hbm, 120, rfl⟩
abbrev main_call8_v1 : Ref sig .tc := ⟨.hbm, 121, rfl⟩
abbrev main_call8_cst : Ref sig .tc := ⟨.hbm, 122, rfl⟩
abbrev main_call8_v2 : Ref sig .tc := ⟨.hbm, 123, rfl⟩
abbrev main_call8_v3 : Ref sig .tc := ⟨.hbm, 124, rfl⟩
abbrev main_call8_cst_0 : Ref sig .tc := ⟨.hbm, 125, rfl⟩
abbrev main_call8_v4 : Ref sig .tc := ⟨.hbm, 126, rfl⟩
abbrev main_call8_v5 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call9_v0 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_4 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call10_v0 : Ref sig .tc := ⟨.hbm, 144, rfl⟩
abbrev main_call10_v1 : Ref sig .tc := ⟨.hbm, 145, rfl⟩
abbrev main_call10_cst : Ref sig .tc := ⟨.hbm, 146, rfl⟩
abbrev main_call10_v2 : Ref sig .tc := ⟨.hbm, 147, rfl⟩
abbrev main_call10_v3 : Ref sig .tc := ⟨.hbm, 148, rfl⟩
abbrev main_call10_cst_0 : Ref sig .tc := ⟨.hbm, 149, rfl⟩
abbrev main_call10_v4 : Ref sig .tc := ⟨.hbm, 150, rfl⟩
abbrev main_call10_v5 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_call11_v0 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_c_5 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_call12_v0 : Ref sig .tc := ⟨.hbm, 168, rfl⟩
abbrev main_call12_v1 : Ref sig .tc := ⟨.hbm, 169, rfl⟩
abbrev main_call12_cst : Ref sig .tc := ⟨.hbm, 170, rfl⟩
abbrev main_call12_v2 : Ref sig .tc := ⟨.hbm, 171, rfl⟩
abbrev main_call12_v3 : Ref sig .tc := ⟨.hbm, 172, rfl⟩
abbrev main_call12_cst_0 : Ref sig .tc := ⟨.hbm, 173, rfl⟩
abbrev main_call12_v4 : Ref sig .tc := ⟨.hbm, 174, rfl⟩
abbrev main_call12_v5 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_call13_v0 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_c_6 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_call14_v0 : Ref sig .tc := ⟨.hbm, 192, rfl⟩
abbrev main_call14_v1 : Ref sig .tc := ⟨.hbm, 193, rfl⟩
abbrev main_call14_cst : Ref sig .tc := ⟨.hbm, 194, rfl⟩
abbrev main_call14_v2 : Ref sig .tc := ⟨.hbm, 195, rfl⟩
abbrev main_call14_v3 : Ref sig .tc := ⟨.hbm, 196, rfl⟩
abbrev main_call14_cst_0 : Ref sig .tc := ⟨.hbm, 197, rfl⟩
abbrev main_call14_v4 : Ref sig .tc := ⟨.hbm, 198, rfl⟩
abbrev main_call14_v5 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_call15_v0 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩

abbrev nD : Nat := 1
abbrev τ : Topo := Topo.v7x

variable {F : FTy → Type} [FloatOps F]
-- ==== Down.lean ====
abbrev S8x128 : Shape := ⟨2, ![8, 128]⟩
abbrev S20480x7168 : Shape := ⟨2, ![20480, 7168]⟩
abbrev S8x7168x2048 : Shape := ⟨3, ![8, 7168, 2048]⟩
abbrev S20480x2048 : Shape := ⟨2, ![20480, 2048]⟩
abbrev S512x3584 : Shape := ⟨2, ![512, 3584]⟩
abbrev S1x1 : Shape := ⟨2, ![1, 1]⟩
abbrev S1x3584x2048 : Shape := ⟨3, ![1, 3584, 2048]⟩
abbrev S512x2048 : Shape := ⟨2, ![512, 2048]⟩
abbrev S128x3584 : Shape := ⟨2, ![128, 3584]⟩
abbrev S1x3584x256 : Shape := ⟨3, ![1, 3584, 256]⟩
abbrev S3584x256 : Shape := ⟨2, ![3584, 256]⟩
abbrev S128x256 : Shape := ⟨2, ![128, 256]⟩
abbrev S384x2048 : Shape := ⟨2, ![384, 2048]⟩
abbrev S256x3584 : Shape := ⟨2, ![256, 3584]⟩
abbrev S256x256 : Shape := ⟨2, ![256, 256]⟩
abbrev S256x2048 : Shape := ⟨2, ![256, 2048]⟩
abbrev S384x3584 : Shape := ⟨2, ![384, 3584]⟩
abbrev S384x256 : Shape := ⟨2, ![384, 256]⟩
abbrev S128x2048 : Shape := ⟨2, ![128, 2048]⟩
abbrev S512x256 : Shape := ⟨2, ![512, 256]⟩

abbrev nBuf : Space → Nat
  | .hbm => 3
  | .vmem => 6
  | .smem => 1
  | _ => 0

abbrev bufTy : (tb : Table) → Fin (tcTables nBuf tb) → BufTy
  | .hbm, ⟨0, _⟩ => ⟨S20480x7168, .bf16⟩
  | .hbm, ⟨1, _⟩ => ⟨S8x7168x2048, .bf16⟩
  | .hbm, ⟨2, _⟩ => ⟨S20480x2048, .f32⟩
  | .local _ .vmem, ⟨0, _⟩ => ⟨S512x3584, .bf16⟩
  | .local _ .vmem, ⟨1, _⟩ => ⟨S512x3584, .bf16⟩
  | .local _ .vmem, ⟨2, _⟩ => ⟨S1x3584x2048, .bf16⟩
  | .local _ .vmem, ⟨3, _⟩ => ⟨S1x3584x2048, .bf16⟩
  | .local _ .vmem, ⟨4, _⟩ => ⟨S512x2048, .f32⟩
  | .local _ .vmem, ⟨5, _⟩ => ⟨S512x2048, .f32⟩
  | .local _ .smem, ⟨0, _⟩ => ⟨S8x128, .i32⟩
  | _, _ => ⟨S20480x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c2 : Index := 2#32
  let arg0 : BitVec 32 := BitVec.ofNat 32 (i 0).val
  let v0 : Index := Scalar.indexCast arg0
  ![2, v0.toNat]
def k0_cond1 (i : grid0.Coords) (v1 : BitVec 32) : BitVec 1 :=
  let c0_i32 : BitVec 32 := 0#32
  let v2 : BitVec 1 := Scalar.cmpi .sgt v1 c0_i32
  let c128_i32 : BitVec 32 := 128#32
  let v3 : BitVec 1 := Scalar.cmpi .sle v1 c128_i32
  let v4 : BitVec 1 := Scalar.andi v2 v3
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond2 (i : grid0.Coords) (v1 : BitVec 32) : BitVec 1 :=
  let c0_i32 : BitVec 32 := 0#32
  let v2 : BitVec 1 := Scalar.cmpi .sgt v1 c0_i32
  let c128_i32 : BitVec 32 := 128#32
  let v3 : BitVec 1 := Scalar.cmpi .sle v1 c128_i32
  let v4 : BitVec 1 := Scalar.andi v2 v3
  let arg1 : BitVec 32 := BitVec.ofNat 32 (i 1).val
  let c0_i32_2 : BitVec 32 := 0#32
  let v9 : BitVec 1 := Scalar.cmpi .sgt arg1 c0_i32_2
  let v10 : BitVec 1 := Scalar.andi v4 v9
  let v11 : BitVec 32 := Scalar.extui v10
  let c0_i32_3 : BitVec 32 := 0#32
  let v12 : BitVec 1 := Scalar.cmpi .ne v11 c0_i32_3
  v12

def k0_cond3 (i : grid0.Coords) (v1 : BitVec 32) : BitVec 1 :=
  let c128_i32_4 : BitVec 32 := 128#32
  let v13 : BitVec 1 := Scalar.cmpi .sgt v1 c128_i32_4
  let c256_i32 : BitVec 32 := 256#32
  let v14 : BitVec 1 := Scalar.cmpi .sle v1 c256_i32
  let v15 : BitVec 1 := Scalar.andi v13 v14
  let arg1 : BitVec 32 := BitVec.ofNat 32 (i 1).val
  let c0_i32_5 : BitVec 32 := 0#32
  let v16 : BitVec 1 := Scalar.cmpi .eq arg1 c0_i32_5
  let v17 : BitVec 1 := Scalar.andi v15 v16
  let v18 : BitVec 32 := Scalar.extui v17
  let c0_i32_6 : BitVec 32 := 0#32
  let v19 : BitVec 1 := Scalar.cmpi .ne v18 c0_i32_6
  v19

def k0_cond4 (i : grid0.Coords) (v1 : BitVec 32) : BitVec 1 :=
  let c128_i32_4 : BitVec 32 := 128#32
  let v13 : BitVec 1 := Scalar.cmpi .sgt v1 c128_i32_4
  let c256_i32 : BitVec 32 := 256#32
  let v14 : BitVec 1 := Scalar.cmpi .sle v1 c256_i32
  let v15 : BitVec 1 := Scalar.andi v13 v14
  let arg1 : BitVec 32 := BitVec.ofNat 32 (i 1).val
  let c0_i32_7 : BitVec 32 := 0#32
  let v20 : BitVec 1 := Scalar.cmpi .sgt arg1 c0_i32_7
  let v21 : BitVec 1 := Scalar.andi v15 v20
  let v22 : BitVec 32 := Scalar.extui v21
  let c0_i32_8 : BitVec 32 := 0#32
  let v23 : BitVec 1 := Scalar.cmpi .ne v22 c0_i32_8
  v23

def k0_cond5 (i : grid0.Coords) (v1 : BitVec 32) : BitVec 1 :=
  let c256_i32_9 : BitVec 32 := 256#32
  let v24 : BitVec 1 := Scalar.cmpi .sgt v1 c256_i32_9
  let c384_i32 : BitVec 32 := 384#32
  let v25 : BitVec 1 := Scalar.cmpi .sle v1 c384_i32
  let v26 : BitVec 1 := Scalar.andi v24 v25
  let arg1 : BitVec 32 := BitVec.ofNat 32 (i 1).val
  let c0_i32_10 : BitVec 32 := 0#32
  let v27 : BitVec 1 := Scalar.cmpi .eq arg1 c0_i32_10
  let v28 : BitVec 1 := Scalar.andi v26 v27
  let v29 : BitVec 32 := Scalar.extui v28
  let c0_i32_11 : BitVec 32 := 0#32
  let v30 : BitVec 1 := Scalar.cmpi .ne v29 c0_i32_11
  v30

def k0_cond6 (i : grid0.Coords) (v1 : BitVec 32) : BitVec 1 :=
  let c256_i32_9 : BitVec 32 := 256#32
  let v24 : BitVec 1 := Scalar.cmpi .sgt v1 c256_i32_9
  let c384_i32 : BitVec 32 := 384#32
  let v25 : BitVec 1 := Scalar.cmpi .sle v1 c384_i32
  let v26 : BitVec 1 := Scalar.andi v24 v25
  let arg1 : BitVec 32 := BitVec.ofNat 32 (i 1).val
  let c0_i32_12 : BitVec 32 := 0#32
  let v31 : BitVec 1 := Scalar.cmpi .sgt arg1 c0_i32_12
  let v32 : BitVec 1 := Scalar.andi v26 v31
  let v33 : BitVec 32 := Scalar.extui v32
  let c0_i32_13 : BitVec 32 := 0#32
  let v34 : BitVec 1 := Scalar.cmpi .ne v33 c0_i32_13
  v34

def k0_cond7 (i : grid0.Coords) (v1 : BitVec 32) : BitVec 1 :=
  let c384_i32_14 : BitVec 32 := 384#32
  let v35 : BitVec 1 := Scalar.cmpi .sgt v1 c384_i32_14
  let c512_i32 : BitVec 32 := 512#32
  let v36 : BitVec 1 := Scalar.cmpi .sle v1 c512_i32
  let v37 : BitVec 1 := Scalar.andi v35 v36
  let arg1 : BitVec 32 := BitVec.ofNat 32 (i 1).val
  let c0_i32_15 : BitVec 32 := 0#32
  let v38 : BitVec 1 := Scalar.cmpi .eq arg1 c0_i32_15
  let v39 : BitVec 1 := Scalar.andi v37 v38
  let v40 : BitVec 32 := Scalar.extui v39
  let c0_i32_16 : BitVec 32 := 0#32
  let v41 : BitVec 1 := Scalar.cmpi .ne v40 c0_i32_16
  v41

def k0_cond8 (i : grid0.Coords) (v1 : BitVec 32) : BitVec 1 :=
  let c384_i32_14 : BitVec 32 := 384#32
  let v35 : BitVec 1 := Scalar.cmpi .sgt v1 c384_i32_14
  let c512_i32 : BitVec 32 := 512#32
  let v36 : BitVec 1 := Scalar.cmpi .sle v1 c512_i32
  let v37 : BitVec 1 := Scalar.andi v35 v36
  let arg1 : BitVec 32 := BitVec.ofNat 32 (i 1).val
  let c0_i32_17 : BitVec 32 := 0#32
  let v42 : BitVec 1 := Scalar.cmpi .sgt arg1 c0_i32_17
  let v43 : BitVec 1 := Scalar.andi v37 v42
  let v44 : BitVec 32 := Scalar.extui v43
  let c0_i32_18 : BitVec 32 := 0#32
  let v45 : BitVec 1 := Scalar.cmpi .ne v44 c0_i32_18
  v45

def k0_cond9 (i : grid0.Coords) (v1 : BitVec 32) : BitVec 1 :=
  let c0_i32_19 : BitVec 32 := 0#32
  let v46 : BitVec 1 := Scalar.cmpi .eq v1 c0_i32_19
  let arg1 : BitVec 32 := BitVec.ofNat 32 (i 1).val
  let c0_i32_20 : BitVec 32 := 0#32
  let v47 : BitVec 1 := Scalar.cmpi .eq arg1 c0_i32_20
  let v48 : BitVec 1 := Scalar.andi v46 v47
  let v49 : BitVec 32 := Scalar.extui v48
  let c0_i32_21 : BitVec 32 := 0#32
  let v50 : BitVec 1 := Scalar.cmpi .ne v49 c0_i32_21
  v50

def cc0_transform_0 (inb_S8x128_S1x1_1_0 : ∀ a, (![1, 0] : Fin 2 → Nat) a + S1x1.size a ≤ S8x128.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let c0 : Index := 0#32
  let v0 : BitVec 32 := pf.at 0 (Rect.unit (s := S8x128) ![1, 0] S1x1.size inb_S8x128_S1x1_1_0) numel1_S1x1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  ![v3.toNat, arg1.toNat]

def cc0_transform_1 (k0_off1_inb : ∀ i : grid0.Coords, ∀ a, (k0_off1 i) a + S1x1.size a ≤ S8x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg0
  let v1 : BitVec 32 := pf.at 0 (Rect.unit (s := S8x128) ![0, v0.toNat] S1x1.size (k0_off1_inb i)) numel1_S1x1
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3584x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S8x128 : Shape := ⟨2, ![8, 128]⟩
abbrev S20480x7168 : Shape := ⟨2, ![20480, 7168]⟩
abbrev S8x7168x2048 : Shape := ⟨3, ![8, 7168, 2048]⟩
abbrev S1x40 : Shape := ⟨2, ![1, 40]⟩
abbrev S40 : Shape := ⟨1, ![40]⟩
abbrev S40x1 : Shape := ⟨2, ![40, 1]⟩
abbrev S40x512 : Shape := ⟨2, ![40, 512]⟩
abbrev S20480 : Shape := ⟨1, ![20480]⟩
abbrev S_ : Shape := ⟨0, ![]⟩
abbrev S20480x2048 : Shape := ⟨2, ![20480, 2048]⟩
abbrev S20480x1 : Shape := ⟨2, ![20480, 1]⟩
abbrev S1x7168x2048 : Shape := ⟨3, ![1, 7168, 2048]⟩
abbrev S7168x2048 : Shape := ⟨2, ![7168, 2048]⟩

abbrev nBuf : Space → Nat
  | .hbm => 91
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S20480x7168, .bf16⟩
  | .hbm, ⟨2, _⟩ => ⟨S8x7168x2048, .bf16⟩
  | .hbm, ⟨3, _⟩ => ⟨S20480x7168, .f32⟩
  | .hbm, ⟨4, _⟩ => ⟨S1x40, .i32⟩
  | .hbm, ⟨5, _⟩ => ⟨S40, .i32⟩
  | .hbm, ⟨6, _⟩ => ⟨S40x1, .i32⟩
  | .hbm, ⟨7, _⟩ => ⟨S40x512, .i32⟩
  | .hbm, ⟨8, _⟩ => ⟨S20480, .i32⟩
  | .hbm, ⟨9, _⟩ => ⟨S_, .f32⟩
  | .hbm, ⟨10, _⟩ => ⟨S20480x2048, .f32⟩
  | .hbm, ⟨11, _⟩ => ⟨S_, .i32⟩
  | .hbm, ⟨12, _⟩ => ⟨S20480, .i32⟩
  | .hbm, ⟨13, _⟩ => ⟨S20480, .i1⟩
  | .hbm, ⟨14, _⟩ => ⟨S20480x1, .i1⟩
  | .hbm, ⟨15, _⟩ => ⟨S1x7168x2048, .bf16⟩
  | .hbm, ⟨16, _⟩ => ⟨S7168x2048, .bf16⟩
  | .hbm, ⟨17, _⟩ => ⟨S7168x2048, .f32⟩
  | .hbm, ⟨18, _⟩ => ⟨S20480x2048, .f32⟩
  | .hbm, ⟨19, _⟩ => ⟨S20480x2048, .i1⟩
  | .hbm, ⟨20, _⟩ => ⟨S20480x2048, .f32⟩
  | .hbm, ⟨21, _⟩ => ⟨S_, .i32⟩
  | .hbm, ⟨22, _⟩ => ⟨S20480, .i32⟩
  | .hbm, ⟨23, _⟩ => ⟨S20480, .i1⟩
  | .hbm, ⟨24, _⟩ => ⟨S20480x1, .i1⟩
  | .hbm, ⟨25, _⟩ => ⟨S1x7168x2048, .bf16⟩
  | .hbm, ⟨26, _⟩ => ⟨S7168x2048, .bf16⟩
  | .hbm, ⟨27, _⟩ => ⟨S7168x2048, .f32⟩
  | .hbm, ⟨28, _⟩ => ⟨S20480x2048, .f32⟩
  | .hbm, ⟨29, _⟩ => ⟨S20480x2048, .i1⟩
  | .hbm, ⟨30, _⟩ => ⟨S20480x2048, .f32⟩
  | .hbm, ⟨31, _⟩ => ⟨S_, .i32⟩
  | .hbm, ⟨32, _⟩ => ⟨S20480, .i32⟩
  | .hbm, ⟨33, _⟩ => ⟨S20480, .i1⟩
  | .hbm, ⟨34, _⟩ => ⟨S20480x1, .i1⟩
  | .hbm, ⟨35, _⟩ => ⟨S1x7168x2048, .bf16⟩
  | .hbm, ⟨36, _⟩ => ⟨S7168x2048, .bf16⟩
  | .hbm, ⟨37, _⟩ => ⟨S7168x2048, .f32⟩
  | .hbm, ⟨38, _⟩ => ⟨S20480x2048, .f32⟩
  | .hbm, ⟨39, _⟩ => ⟨S20480x2048, .i1⟩
  | .hbm, ⟨40, _⟩ => ⟨S20480x2048, .f32⟩
  | .hbm, ⟨41, _⟩ => ⟨S_, .i32⟩
  | .hbm, ⟨42, _⟩ => ⟨S20480, .i32⟩
  | .hbm, ⟨43, _⟩ => ⟨S20480, .i1⟩
  | .hbm, ⟨44, _⟩ => ⟨S20480x1, .i1⟩
  | .hbm, ⟨45, _⟩ => ⟨S1x7168x2048, .bf16⟩
  | .hbm, ⟨46, _⟩ => ⟨S7168x2048, .bf16⟩
  | .hbm, ⟨47, _⟩ => ⟨S7168x2048, .f32⟩
  | .hbm, ⟨48, _⟩ => ⟨S20480x2048, .f32⟩
  | .hbm, ⟨49, _⟩ => ⟨S20480x2048, .i1⟩
  | .hbm, ⟨50, _⟩ => ⟨S20480x2048, .f32⟩
  | .hbm, ⟨51, _⟩ => ⟨S_, .i32⟩
  | .hbm, ⟨52, _⟩ => ⟨S20480, .i32⟩
  | .hbm, ⟨53, _⟩ => ⟨S20480, .i1⟩
  | .hbm, ⟨54, _⟩ => ⟨S20480x1, .i1⟩
  | .hbm, ⟨55, _⟩ => ⟨S1x7168x2048, .bf16⟩
  | .hbm, ⟨56, _⟩ => ⟨S7168x2048, .bf16⟩
  | .hbm, ⟨57, _⟩ => ⟨S7168x2048, .f32⟩
  | .hbm, ⟨58, _⟩ => ⟨S20480x2048, .f32⟩
  | .hbm, ⟨59, _⟩ => ⟨S20480x2048, .i1⟩
  | .hbm, ⟨60, _⟩ => ⟨S20480x2048, .f32⟩
  | .hbm, ⟨61, _⟩ => ⟨S_, .i32⟩
  | .hbm, ⟨62, _⟩ => ⟨S20480, .i32⟩
  | .hbm, ⟨63, _⟩ => ⟨S20480, .i1⟩
  | .hbm, ⟨64, _⟩ => ⟨S20480x1, .i1⟩
  | .hbm, ⟨65, _⟩ => ⟨S1x7168x2048, .bf16⟩
  | .hbm, ⟨66, _⟩ => ⟨S7168x2048, .bf16⟩
  | .hbm, ⟨67, _⟩ => ⟨S7168x2048, .f32⟩
  | .hbm, ⟨68, _⟩ => ⟨S20480x2048, .f32⟩
  | .hbm, ⟨69, _⟩ => ⟨S20480x2048, .i1⟩
  | .hbm, ⟨70, _⟩ => ⟨S20480x2048, .f32⟩
  | .hbm, ⟨71, _⟩ => ⟨S_, .i32⟩
  | .hbm, ⟨72, _⟩ => ⟨S20480, .i32⟩
  | .hbm, ⟨73, _⟩ => ⟨S20480, .i1⟩
  | .hbm, ⟨74, _⟩ => ⟨S20480x1, .i1⟩
  | .hbm, ⟨75, _⟩ => ⟨S1x7168x2048, .bf16⟩
  | .hbm, ⟨76, _⟩ => ⟨S7168x2048, .bf16⟩
  | .hbm, ⟨77, _⟩ => ⟨S7168x2048, .f32⟩
  | .hbm, ⟨78, _⟩ => ⟨S20480x2048, .f32⟩
  | .hbm, ⟨79, _⟩ => ⟨S20480x2048, .i1⟩
  | .hbm, ⟨80, _⟩ => ⟨S20480x2048, .f32⟩
  | .hbm, ⟨81, _⟩ => ⟨S_, .i32⟩
  | .hbm, ⟨82, _⟩ => ⟨S20480, .i32⟩
  | .hbm, ⟨83, _⟩ => ⟨S20480, .i1⟩
  | .hbm, ⟨84, _⟩ => ⟨S20480x1, .i1⟩
  | .hbm, ⟨85, _⟩ => ⟨S1x7168x2048, .bf16⟩
  | .hbm, ⟨86, _⟩ => ⟨S7168x2048, .bf16⟩
  | .hbm, ⟨87, _⟩ => ⟨S7168x2048, .f32⟩
  | .hbm, ⟨88, _⟩ => ⟨S20480x2048, .f32⟩
  | .hbm, ⟨89, _⟩ => ⟨S20480x2048, .i1⟩
  | .hbm, ⟨90, _⟩ => ⟨S20480x2048, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call1_v0 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call2_v0 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call3_v0 : Ref sig .tc := ⟨.hbm, 49, rfl⟩
abbrev main_v38 : Ref sig .tc := ⟨.hbm, 50, rfl⟩
abbrev main_c_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call4_v0 : Ref sig .tc := ⟨.hbm, 59, rfl⟩
abbrev main_v46 : Ref sig .tc := ⟨.hbm, 60, rfl⟩
abbrev main_c_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call5_v0 : Ref sig .tc := ⟨.hbm, 69, rfl⟩
abbrev main_v54 : Ref sig .tc := ⟨.hbm, 70, rfl⟩
abbrev main_c_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call6_v0 : Ref sig .tc := ⟨.hbm, 79, rfl⟩
abbrev main_v62 : Ref sig .tc := ⟨.hbm, 80, rfl⟩
abbrev main_c_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_call7_v0 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Rest.lean ====
abbrev S8192x2048 : Shape := ⟨2, ![8192, 2048]⟩
abbrev S2x8752x2048 : Shape := ⟨3, ![2, 8752, 2048]⟩
abbrev S8192x6144 : Shape := ⟨2, ![8192, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8752x2048, .f32⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1x1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c2608_i32 : BitVec 32 := 2608#32
  let arg0 : BitVec 32 := BitVec.ofNat 32 (i 0).val
  let c1024_i32 : BitVec 32 := 1024#32
  let v0 : BitVec 32 := Scalar.muli arg0 c1024_i32
  let v1 : BitVec 32 := Scalar.addi c2608_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2608_i32 : BitVec 32 := 2608#32
  let v1 : BitVec 32 := Scalar.addi c2608_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RestReferenceIdeal.lean ====
abbrev S8192x2048 : Shape := ⟨2, ![8192, 2048]⟩
abbrev S2x8752x2048 : Shape := ⟨3, ![2, 8752, 2048]⟩
abbrev S1x6144x2048 : Shape := ⟨3, ![1, 6144, 2048]⟩
abbrev S6144x2048 : Shape := ⟨2, ![6144, 2048]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8752x2048, .f32⟩
  | .hbm, ⟨2, _⟩ => ⟨S8192x2048, .f32⟩
  | .hbm, ⟨3, _⟩ => ⟨S1x6144x2048, .f32⟩
  | .hbm, ⟨4, _⟩ => ⟨S6144x2048, .f32⟩
  | .hbm, ⟨5, _⟩ => ⟨S2048x6144, .f32⟩
  | .hbm, ⟨6, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.UpRuns.lean ====
/- The body of the experts' up product, run once per size of a tile (the paths A to E: up to 512, 384, 256, 128 rows, none), and what each run stores. -/
module

public import proofs.«01_k».proof.Defs
public import proofs.«01_k».proof.Proof.Gen.Up
public import proofs.«01_k».proof.Proof.Gen.Up.Launch
public import proofs.«01_k».proof.Proof.Gen.Up.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Up.All

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The table of tiles, whole, as the kernel is handed it. -/
abbrev tbM0_0 : Memref sig .tc .smem S8x128 .i32 := Memref.whole main_arg0

/-- The word that says how many rows of a point's tile are filled, as the body reads it. -/
abbrev rowsW (i : grid0.Coords) (T : S8x128.Idx → BitVec 32) : BitVec 32 :=
  View.readAt (Elt Bits) (tbM0_0).view (Rect.unit (s := S8x128) (k0_off2 i) S1x1.size (k0_off2_inb i)).toLoadRect T (Shape.Idx.first (numel1_S1x1.symm ▸ Nat.one_pos))

/-! What the body's five conditions are on each path. -/

abbrev HypA (i : grid0.Coords) (T : S8x128.Idx → BitVec 32) : Prop :=
  ¬k0_cond1 (rowsW i T) = 1#1 ∧ ¬k0_cond2 (rowsW i T) = 1#1 ∧ ¬k0_cond3 (rowsW i T) = 1#1 ∧ k0_cond4 (rowsW i T) = 1#1 ∧ ¬k0_cond5 (rowsW i T) = 1#1 ∧ True
abbrev HypB (i : grid0.Coords) (T : S8x128.Idx → BitVec 32) : Prop :=
  ¬k0_cond1 (rowsW i T) = 1#1 ∧ ¬k0_cond2 (rowsW i T) = 1#1 ∧ k0_cond3 (rowsW i T) = 1#1 ∧ ¬k0_cond4 (rowsW i T) = 1#1 ∧ ¬k0_cond5 (rowsW i T) = 1#1 ∧ True
abbrev HypC (i : grid0.Coords) (T : S8x128.Idx → BitVec 32) : Prop :=
  ¬k0_cond1 (rowsW i T) = 1#1 ∧ k0_cond2 (rowsW i T) = 1#1 ∧ ¬k0_cond3 (rowsW i T) = 1#1 ∧ ¬k0_cond4 (rowsW i T) = 1#1 ∧ ¬k0_cond5 (rowsW i T) = 1#1 ∧ True
abbrev HypD (i : grid0.Coords) (T : S8x128.Idx → BitVec 32) : Prop :=
  k0_cond1 (rowsW i T) = 1#1 ∧ ¬k0_cond2 (rowsW i T) = 1#1 ∧ ¬k0_cond3 (rowsW i T) = 1#1 ∧ ¬k0_cond4 (rowsW i T) = 1#1 ∧ ¬k0_cond5 (rowsW i T) = 1#1 ∧ True
abbrev HypE (i : grid0.Coords) (T : S8x128.Idx → BitVec 32) : Prop :=
  ¬k0_cond1 (rowsW i T) = 1#1 ∧ ¬k0_cond2 (rowsW i T) = 1#1 ∧ ¬k0_cond3 (rowsW i T) = 1#1 ∧ ¬k0_cond4 (rowsW i T) = 1#1 ∧ k0_cond5 (rowsW i T) = 1#1 ∧ True

abbrev VO0_4 : View sig .tc .vmem S512x1792 .bf16 := (Memref.whole cc0_stg4_0 : Memref sig .tc .vmem S512x1792 .bf16).view
abbrev VO0_5 : View sig .tc .vmem S448x2048 .bf16 := (Memref.whole cc0_stg5_0 : Memref sig .tc .vmem S448x2048 .bf16).view

variable (c : Dev nD) (i : grid0.Coords)
  (arg3 : Memref sig .tc .vmem S512x2048 .bf16) (harg3 : arg3.IsWhole)
  (arg4 : Memref sig .tc .vmem S1x2048x1792 .bf16) (harg4 : arg4.IsWhole)
  (arg5 : Memref sig .tc .vmem S1x2048x1792 .bf16) (harg5 : arg5.IsWhole)
  (arg6 : Memref sig .tc .vmem S448x2048 .f32) (harg6 : arg6.IsWhole)
  (arg7 : Memref sig .tc .vmem S512x1792 .bf16) (harg7 : arg7.IsWhole)
  (arg8 : Memref sig .tc .vmem S448x2048 .bf16) (harg8 : arg8.IsWhole)
  (T0 : (S8x128.Idx → Elt Bits .i32))
  (x0 : (S512x2048.Idx → Elt Bits .bf16)) (x1 : (S1x2048x1792.Idx → Elt Bits .bf16)) (x2 : (S1x2048x1792.Idx → Elt Bits .bf16)) (x3 : (S448x2048.Idx → Elt Bits .f32))

set_option backward.proofsInPublic true in
set_option maxHeartbeats 8000000 in
noncomputable def kernelRun0_A (hk : HypA i T0) :
    Σ' (out0 : List (View.Piece (Elt Bits) S512x1792 .bf16)), { out1 : List (View.Piece (Elt Bits) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Bits) f out0)
              ∗ (∃ f, arg8.view.loc (c : Thread nD τ) ↦[arg8.view.set]{fullShare} arg8.view.writes (Elt Bits) f out1)) -∗ K ⟨⟩))
          ⊢ wp frame (wpE (defs₀ (F := Bits)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = ¬(k0_cond3 _ = _); exact hk.2.2.1) | (guard_target = k0_cond4 _ = _; exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_A_4 (hk : HypA i T0) (y : S512x1792.Idx) :
    ∃ pc ∈ (kernelRun0_A c i arg3 harg3 arg4 harg4 arg5 harg5 arg6 harg6 arg7 harg7 arg8 harg8 T0 x0 x1 x2 x3 hk).1, y ∈ pc.1.set :=
  View.cover_of_tiledL (kernelRun0_A c i arg3 harg3 arg4 harg4 arg5 harg5 arg6 harg6 arg7 harg7 arg8 harg8 T0 x0 x1 x2 x3 hk).1 S512x256.size (by sl_kernel_rfl) y

def out0_A_4 (hk : HypA i T0) : (S512x1792.Idx → Elt Bits .bf16) :=
  VO0_4.read (Elt Bits) (VO0_4.writes (Elt Bits) VO0_4.junk (kernelRun0_A c i arg3 harg3 arg4 harg4 arg5 harg5 arg6 harg6 arg7 harg7 arg8 harg8 T0 x0 x1 x2 x3 hk).1)

theorem cover0_A_5 (hk : HypA i T0) (y : S448x2048.Idx) :
    ∃ pc ∈ (kernelRun0_A c i arg3 harg3 arg4 harg4 arg5 harg5 arg6 harg6 arg7 harg7 arg8 harg8 T0 x0 x1 x2 x3 hk).2.1, y ∈ pc.1.set :=
  View.cover_of_tiledL (kernelRun0_A c i arg3 harg3 arg4 harg4 arg5 harg5 arg6 harg6 arg7 harg7 arg8 harg8 T0 x0 x1 x2 x3 hk).2.1 S448x2048.size (by sl_kernel_rfl) y

def out0_A_5 (hk : HypA i T0) : (S448x2048.Idx → Elt Bits .bf16) :=
  VO0_5.read (Elt Bits) (VO0_5.writes (Elt Bits) VO0_5.junk (kernelRun0_A c i arg3 harg3 arg4 harg4 arg5 harg5 arg6 harg6 arg7 harg7 arg8 harg8 T0 x0 x1 x2 x3 hk).2.1)

set_option backward.proofsInPublic true in
set_option maxHeartbeats 8000000 in
noncomputable def kernelRun0_B (hk : HypB i T0) :
    Σ' (out0 : List (View.Piece (Elt Bits) S512x1792 .bf16)), { out1 : List (View.Piece (Elt Bits) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Bits) f out0)
              ∗ (∃ f, arg8.view.loc (c : Thread nD τ) ↦[arg8.view.set]{fullShare} arg8.view.writes (Elt Bits) f out1)) -∗ K ⟨⟩))
          ⊢ wp frame (wpE (defs₀ (F := Bits)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = k0_cond3 _ = _; exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_B_4 (hk : HypB i T0) (y : S512x1792.Idx) :
    ∃ pc ∈ (kernelRun0_B c i arg3 harg3 arg4 harg4 arg5 harg5 arg6 harg6 arg7 harg7 arg8 harg8 T0 x0 x1 x2 x3 hk).1, y ∈ pc.1.set :=
  View.cover_of_tiledBy (kernelRun0_B c i arg3 harg3 arg4 harg4 arg5 harg5 arg6 harg6 arg7 harg7 arg8 harg8 T0 x0 x1 x2 x3 hk).1 ![128, 256] (by sl_kernel_rfl) y

def out0_B_4 (hk : HypB i T0) : (S512x1792.Idx → Elt Bits .bf16) :=
  VO0_4.read (Elt Bits) (VO0_4.writes (Elt Bits) VO0_4.junk (kernelRun0_B c i arg3 harg3 arg4 harg4 arg5 harg5 arg6 harg6 arg7 harg7 arg8 harg8 T0 x0 x1 x2 x3 hk).1)

theorem cover0_B_5 (hk : HypB i T0) (y : S448x2048.Idx) :
    ∃ pc ∈ (kernelRun0_B c i arg3 harg3 arg4 harg4 arg5 harg5 arg6 harg6 arg7 harg7 arg8 harg8 T0 x0 x1 x2 x3 hk).2.1, y ∈ pc.1.set :=
  View.cover_of_tiledL (kernelRun0_B c i arg3 harg3 arg4 harg4 arg5 harg5 arg6 harg6 arg7 harg7 arg8 harg8 T0 x0 x1 x2 x3 hk).2.1 S448x2048.size (by sl_kernel_rfl) y

def out0_B_5 (hk : HypB i T0) : (S448x2048.Idx → Elt Bits .bf16) :=
  VO0_5.read (Elt Bits) (VO0_5.writes (Elt Bits) VO0_5.junk (kernelRun0_B c i arg3 harg3 arg4 harg4 arg5 harg5 arg6 harg6 arg7 harg7 arg8 harg8 T0 x0 x1 x2 x3 hk).2.1)

set_option backward.proofsInPublic true in
set_option maxHeartbeats 8000000 in
noncomputable def kernelRun0_C (hk : HypC i T0) :
    Σ' (out0 : List (View.Piece (Elt Bits) S512x1792 .bf16)), { out1 : List (View.Piece (Elt Bits) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Bits) f out0)
              ∗ (∃ f, arg8.view.loc (c : Thread nD τ) ↦[arg8.view.set]{fullShare} arg8.view.writes (Elt Bits) f out1)) -∗ K ⟨⟩))
          ⊢ wp frame (wpE (defs₀ (F := Bits)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = k0_cond2 _ = _; exact hk.2.1) | (guard_target = ¬(k0_cond3 _ = _); exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_C_4 (hk : HypC i T0) (y : S512x1792.Idx) :
    ∃ pc ∈ (kernelRun0_C c i arg3 harg3 arg4 harg4 arg5 harg5 arg6 harg6 arg7 harg7 arg8 harg8 T0 x0 x1 x2 x3 hk).1, y ∈ pc.1.set :=
  View.cover_of_tiledBy (kernelRun0_C c i arg3 harg3 arg4 harg4 arg5 harg5 arg6 harg6 arg7 harg7 arg8 harg8 T0 x0 x1 x2 x3 hk).1 ![256, 256] (by sl_kernel_rfl) y

def out0_C_4 (hk : HypC i T0) : (S512x1792.Idx → Elt Bits .bf16) :=
  VO0_4.read (Elt Bits) (VO0_4.writes (Elt Bits) VO0_4.junk (kernelRun0_C c i arg3 harg3 arg4 harg4 arg5 harg5 arg6 harg6 arg7 harg7 arg8 harg8 T0 x0 x1 x2 x3 hk).1)

theorem cover0_C_5 (hk : HypC i T0) (y : S448x2048.Idx) :
    ∃ pc ∈ (kernelRun0_C c i arg3 harg3 arg4 harg4 arg5 harg5 arg6 harg6 arg7 harg7 arg8 harg8 T0 x0 x1 x2 x3 hk).2.1, y ∈ pc.1.set :=
  View.cover_of_tiledL (kernelRun0_C c i arg3 harg3 arg4 harg4 arg5 harg5 arg6 harg6 arg7 harg7 arg8 harg8 T0 x0 x1 x2 x3 hk).2.1 S448x2048.size (by sl_kernel_rfl) y

def out0_C_5 (hk : HypC i T0) : (S448x2048.Idx → Elt Bits .bf16) :=
  VO0_5.read (Elt Bits) (VO0_5.writes (Elt Bits) VO0_5.junk (kernelRun0_C c i arg3 harg3 arg4 harg4 arg5 harg5 arg6 harg6 arg7 harg7 arg8 harg8 T0 x0 x1 x2 x3 hk).2.1)

set_option backward.proofsInPublic true in
set_option maxHeartbeats 8000000 in
noncomputable def kernelRun0_D (hk : HypD i T0) :
    Σ' (out0 : List (View.Piece (Elt Bits) S512x1792 .bf16)), { out1 : List (View.Piece (Elt Bits) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Bits) f out0)
              ∗ (∃ f, arg8.view.loc (c : Thread nD τ) ↦[arg8.view.set]{fullShare} arg8.view.writes (Elt Bits) f out1)) -∗ K ⟨⟩))
          ⊢ wp frame (wpE (defs₀ (F := Bits)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = k0_cond1 _ = _; exact hk.1) | (guard_target = ¬(k0_cond2 _ = _); exact hk.2.1) | (guard_target = ¬(k0_cond3 _ = _); exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_D_4 (hk : HypD i T0) (y : S512x1792.Idx) :
    ∃ pc ∈ (kernelRun0_D c i arg3 harg3 arg4 harg4 arg5 harg5 arg6 harg6 arg7 harg7 arg8 harg8 T0 x0 x1 x2 x3 hk).1, y ∈ pc.1.set :=
  View.cover_of_tiledBy (kernelRun0_D c i arg3 harg3 arg4 harg4 arg5 harg5 arg6 harg6 arg7 harg7 arg8 harg8 T0 x0 x1 x2 x3 hk).1 ![128, 256] (by sl_kernel_rfl) y

def out0_D_4 (hk : HypD i T0) : (S512x1792.Idx → Elt Bits .bf16) :=
  VO0_4.read (Elt Bits) (VO0_4.writes (Elt Bits) VO0_4.junk (kernelRun0_D c i arg3 harg3 arg4 harg4 arg5 harg5 arg6 harg6 arg7 harg7 arg8 harg8 T0 x0 x1 x2 x3 hk).1)

theorem cover0_D_5 (hk : HypD i T0) (y : S448x2048.Idx) :
    ∃ pc ∈ (kernelRun0_D c i arg3 harg3 arg4 harg4 arg5 harg5 arg6 harg6 arg7 harg7 arg8 harg8 T0 x0 x1 x2 x3 hk).2.1, y ∈ pc.1.set :=
  View.cover_of_tiledL (kernelRun0_D c i arg3 harg3 arg4 harg4 arg5 harg5 arg6 harg6 arg7 harg7 arg8 harg8 T0 x0 x1 x2 x3 hk).2.1 S448x2048.size (by sl_kernel_rfl) y

def out0_D_5 (hk : HypD i T0) : (S448x2048.Idx → Elt Bits .bf16) :=
  VO0_5.read (Elt Bits) (VO0_5.writes (Elt Bits) VO0_5.junk (kernelRun0_D c i arg3 harg3 arg4 harg4 arg5 harg5 arg6 harg6 arg7 harg7 arg8 harg8 T0 x0 x1 x2 x3 hk).2.1)

set_option backward.proofsInPublic true in
set_option maxHeartbeats 8000000 in
noncomputable def kernelRun0_E (hk : HypE i T0) :
    Σ' (out0 : List (View.Piece (Elt Bits) S512x1792 .bf16)), { out1 : List (View.Piece (Elt Bits) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Bits) f out0)
              ∗ (∃ f, arg8.view.loc (c : Thread nD τ) ↦[arg8.view.set]{fullShare} arg8.view.writes (Elt Bits) f out1)) -∗ K ⟨⟩))
          ⊢ wp frame (wpE (defs₀ (F := Bits)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = ¬(k0_cond3 _ = _); exact hk.2.2.1) | (guard_target = ¬(k0_cond4 _ = _); exact hk.2.2.2.1) | (guard_target = k0_cond5 _ = _; exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_E_4 (hk : HypE i T0) (y : S512x1792.Idx) :
    ∃ pc ∈ (kernelRun0_E c i arg3 harg3 arg4 harg4 arg5 harg5 arg6 harg6 arg7 harg7 arg8 harg8 T0 x0 x1 x2 x3 hk).1, y ∈ pc.1.set :=
  View.cover_of_tiledL (kernelRun0_E c i arg3 harg3 arg4 harg4 arg5 harg5 arg6 harg6 arg7 harg7 arg8 harg8 T0 x0 x1 x2 x3 hk).1 S512x1792.size (by sl_kernel_rfl) y

def out0_E_4 (hk : HypE i T0) : (S512x1792.Idx → Elt Bits .bf16) :=
  VO0_4.read (Elt Bits) (VO0_4.writes (Elt Bits) VO0_4.junk (kernelRun0_E c i arg3 harg3 arg4 harg4 arg5 harg5 arg6 harg6 arg7 harg7 arg8 harg8 T0 x0 x1 x2 x3 hk).1)

theorem cover0_E_5 (hk : HypE i T0) (y : S448x2048.Idx) :
    ∃ pc ∈ (kernelRun0_E c i arg3 harg3 arg4 harg4 arg5 harg5 arg6 harg6 arg7 harg7 arg8 harg8 T0 x0 x1 x2 x3 hk).2.1, y ∈ pc.1.set :=
  View.cover_of_tiledL (kernelRun0_E c i arg3 harg3 arg4 harg4 arg5 harg5 arg6 harg6 arg7 harg7 arg8 harg8 T0 x0 x1 x2 x3 hk).2.1 S448x2048.size (by sl_kernel_rfl) y

def out0_E_5 (hk : HypE i T0) : (S448x2048.Idx → Elt Bits .bf16) :=
  VO0_5.read (Elt Bits) (VO0_5.writes (Elt Bits) VO0_5.junk (kernelRun0_E c i arg3 harg3 arg4 harg4 arg5 harg5 arg6 harg6 arg7 harg7 arg8 harg8 T0 x0 x1 x2 x3 hk).2.1)

end Cert.Up.All

end
-- ==== Proof.UpFlash.lean ====
/- The run of the experts' up product at any admissible table of tiles: what the outputs' buffers hold after each point, the body's obligation at a generic point by path, the launch, the frame. -/
module

public import proofs.«01_k».proof.Proof.UpTab

@[expose] public section

set_option maxRecDepth 16384
set_option Elab.async false

noncomputable section

namespace Cert.Up.All

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (ch : Tab)
variable (m : (ℓ : Loc nD τ sig) → Buf (Elt Bits) ℓ) (ρ : Dev nD → PrngReg)

theorem hypsR0_A : ∀ (ch : Tab) (t : Fin (cfgA ch).N), ¬P0_0 ch t → ¬P0_1 ch t → ¬P0_2 ch t → P0_3 ch t →
    HypA (crd ch t) (pinT_0 ch) := fun ch t q0 q1 q2 q3 => conds_A (word_le ch t) q0 q1 q2 q3

theorem sched0_A : ∀ (ch : Tab) (t : Fin (cfgA ch).N), ¬P0_0 ch t → ¬P0_1 ch t → ¬P0_2 ch t → P0_3 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ _ => sched ch t

theorem hypsR0_B : ∀ (ch : Tab) (t : Fin (cfgA ch).N), ¬P0_0 ch t → ¬P0_1 ch t → P0_2 ch t →
    HypB (crd ch t) (pinT_0 ch) := fun ch t q0 q1 q2 => conds_B (word_le ch t) q0 q1 q2

theorem sched0_B : ∀ (ch : Tab) (t : Fin (cfgA ch).N), ¬P0_0 ch t → ¬P0_1 ch t → P0_2 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ => sched ch t

theorem hypsR0_C : ∀ (ch : Tab) (t : Fin (cfgA ch).N), ¬P0_0 ch t → P0_1 ch t →
    HypC (crd ch t) (pinT_0 ch) := fun ch t q0 q1 => conds_C (word_le ch t) q0 q1

theorem sched0_C : ∀ (ch : Tab) (t : Fin (cfgA ch).N), ¬P0_0 ch t → P0_1 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ => sched ch t

theorem hypsR0_D : ∀ (ch : Tab) (t : Fin (cfgA ch).N), P0_0 ch t →
    HypD (crd ch t) (pinT_0 ch) := fun ch t q0 => conds_D (word_le ch t) q0

theorem sched0_D : ∀ (ch : Tab) (t : Fin (cfgA ch).N), P0_0 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ => sched ch t

theorem hypsR0_E : ∀ (ch : Tab) (t : Fin (cfgA ch).N), ¬P0_0 ch t → ¬P0_1 ch t → ¬P0_2 ch t → ¬P0_3 ch t →
    HypE (crd ch t) (pinT_0 ch) := fun ch t q0 q1 q2 q3 => conds_E (word_le ch t) q0 q1 q2 q3

theorem sched0_E : ∀ (ch : Tab) (t : Fin (cfgA ch).N), ¬P0_0 ch t → ¬P0_1 ch t → ¬P0_2 ch t → ¬P0_3 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ _ => sched ch t

def step0 (c : Dev nD) (t : Fin (cfgA ch).N) (prev : (S512x1792.Idx → Elt Bits .bf16) × (S448x2048.Idx → Elt Bits .bf16)) : (S512x1792.Idx → Elt Bits .bf16) × (S448x2048.Idx → Elt Bits .bf16) :=
  if q0 : P0_0 ch t then
    (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0), out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0))
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1), out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1))
    else
      if q2 : P0_2 ch t then
        (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2), out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2))
      else
        if q3 : P0_3 ch t then
          (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3), out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3))
        else
          (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3), out0_E_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3))

def traj0 (c : Dev nD) : (n : ℕ) → n < (cfgA ch).N → (S512x1792.Idx → Elt Bits .bf16) × (S448x2048.Idx → Elt Bits .bf16)
  | 0, h => step0 ch m ρ c ⟨0, h⟩ (default, default)
  | n + 1, h => step0 ch m ρ c ⟨n + 1, h⟩ (traj0 c n (Nat.lt_of_succ_lt h))

def prev0 (c : Dev nD) (t : Fin (cfgA ch).N) : (S512x1792.Idx → Elt Bits .bf16) × (S448x2048.Idx → Elt Bits .bf16) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x1792.Idx → Elt Bits .bf16) × (S448x2048.Idx → Elt Bits .bf16)) (q0 : ¬P0_0 ch t) (q1 : ¬P0_1 ch t) (q2 : ¬P0_2 ch t) (q3 : P0_3 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3), out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3)) := by
  unfold step0; simp only [dif_neg q0, dif_neg q1, dif_neg q2, dif_pos q3]

theorem step0_B (c : Dev nD) (t : Fin (cfgA ch).N) (prev : (S512x1792.Idx → Elt Bits .bf16) × (S448x2048.Idx → Elt Bits .bf16)) (q0 : ¬P0_0 ch t) (q1 : ¬P0_1 ch t) (q2 : P0_2 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2), out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2)) := by
  unfold step0; simp only [dif_neg q0, dif_neg q1, dif_pos q2]

theorem step0_C (c : Dev nD) (t : Fin (cfgA ch).N) (prev : (S512x1792.Idx → Elt Bits .bf16) × (S448x2048.Idx → Elt Bits .bf16)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1), out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1)) := by
  unfold step0; simp only [dif_neg q0, dif_pos q1]

theorem step0_D (c : Dev nD) (t : Fin (cfgA ch).N) (prev : (S512x1792.Idx → Elt Bits .bf16) × (S448x2048.Idx → Elt Bits .bf16)) (q0 : P0_0 ch t) :
    step0 ch m ρ c t prev = (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0), out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0)) := by
  unfold step0; simp only [dif_pos q0]

theorem step0_E (c : Dev nD) (t : Fin (cfgA ch).N) (prev : (S512x1792.Idx → Elt Bits .bf16) × (S448x2048.Idx → Elt Bits .bf16)) (q0 : ¬P0_0 ch t) (q1 : ¬P0_1 ch t) (q2 : ¬P0_2 ch t) (q3 : ¬P0_3 ch t) :
    step0 ch m ρ c t prev = (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3), out0_E_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3)) := by
  unfold step0; simp only [dif_neg q0, dif_neg q1, dif_neg q2, dif_neg q3]

def prev0T (c : Dev nD) (t : Fin ((cfgA ch).N + 1)) : (S512x1792.Idx → Elt Bits .bf16) × (S448x2048.Idx → Elt Bits .bf16) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} pinT_0 ch))

def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => (traj0 ch m ρ c t.val t.isLt).1
    | ⟨5, _⟩ => (traj0 ch m ρ c t.val t.isLt).2
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = (traj0 ch m ρ c t.val t.isLt).1 := rfl
theorem after0_5 (c : Dev nD) (t : Fin (cfgA ch).N) : (dats ch m ρ 0 c).after (5 : Fin 6) t = (traj0 ch m ρ c t.val t.isLt).2 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA ch).N) (ht : t.val ≠ 0), (cfgA ch).idle (4 : Fin 6) ((cfgA ch).grid.coords t) = true → (cfgA ch).fresh (4 : Fin 6) t.val = false →
    (dats ch m ρ 0 c).after (4 : Fin 6) t = (dats ch m ρ 0 c).after (4 : Fin 6) ⟨t.val - 1, by omega⟩ := by
  intro t ht hi hf
  rw [after0_4, after0_4, traj0_eq]
  by_cases q0 : P0_0 ch t
  · obtain ⟨i4, -, -, -⟩ := sched0_D ch t q0
    rw [i4] at hi; exact absurd hi (by decide)
  · by_cases q1 : P0_1 ch t
    · obtain ⟨i4, -, -, -⟩ := sched0_C ch t q0 q1
      rw [i4] at hi; exact absurd hi (by decide)
    · by_cases q2 : P0_2 ch t
      · obtain ⟨i4, -, -, -⟩ := sched0_B ch t q0 q1 q2
        rw [i4] at hi; exact absurd hi (by decide)
      · by_cases q3 : P0_3 ch t
        · obtain ⟨i4, -, -, -⟩ := sched0_A ch t q0 q1 q2 q3
          rw [i4] at hi; exact absurd hi (by decide)
        · obtain ⟨i4, -, -, -⟩ := sched0_E ch t q0 q1 q2 q3
          rw [i4] at hi; exact absurd hi (by decide)

theorem before0_4 (c : Dev nD) (t : Fin (cfgA ch).N) (d) :
    (dats ch m ρ 0 c).before (4 : Fin 6) t d = if (cfgA ch).fresh (4 : Fin 6) t.val then d else (prev0 ch m ρ c t).1 := by
  rw [(dats ch m ρ 0 c).before_out_traj (4 : Fin 6) rfl (fun _ _ => rfl) (hcarry0_4 ch m ρ c) t.val t rfl d]
  by_cases hf : (cfgA ch).fresh (4 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · obtain ⟨-, -, -, i5⟩ := sched0_D ch t q0
    rw [i5] at hi; exact absurd hi (by decide)
  · by_cases q1 : P0_1 ch t
    · obtain ⟨-, -, -, i5⟩ := sched0_C ch t q0 q1
      rw [i5] at hi; exact absurd hi (by decide)
    · by_cases q2 : P0_2 ch t
      · obtain ⟨-, -, -, i5⟩ := sched0_B ch t q0 q1 q2
        rw [i5] at hi; exact absurd hi (by decide)
      · by_cases q3 : P0_3 ch t
        · obtain ⟨-, -, -, i5⟩ := sched0_A ch t q0 q1 q2 q3
          rw [i5] at hi; exact absurd hi (by decide)
        · obtain ⟨-, -, -, i5⟩ := sched0_E ch t q0 q1 q2 q3
          rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t).2 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Bits) Λ₀ .tc) PUnit :=
  cc0_moe_up (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, i5⟩ := sched0_D ch t q0
    have hk := hypsR0_D ch t q0
    rewrite [i4]
    simp only [before0_0, before0_1, before0_2, before0_3, before0_4, before0_5, after0_0, after0_1, after0_2, after0_3, after0_4, after0_5, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_D ch m ρ c t _ q0]
    unfold Phi; simp only [prev0T_castSucc, prev0T_succ, traj0_eq, step0_D ch m ρ c t _ q0, Fin.val_castSucc, Fin.val_succ]
    iintro ⟨⟨HT0⟩, Ho, ⟨%d0, H0⟩, ⟨%d1, H1⟩, ⟨%d2, H2⟩, ⟨%d3, H3⟩, ⟨%d4, H4⟩, ⟨%d5, H5⟩⟩
    iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [H5]; · iexists _; iexact H5
    iintro ⟨H0, H1, H2, H3, HT0, ⟨%e4, H4⟩, ⟨%e5, H5⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · unfold owns; iexists _; isplitr; swap
      · iexact H4
      · ipureintro; exact View.read_writes_of_cover _ _ _ _ _ (cover0_D_4 c _ _ _ _ _ _ _ _ _ _ _ _ _ _ _ _ _ _ _)
    unfold owns; iexists _; isplitr; swap
    · iexact H5
    · ipureintro; exact View.read_writes_of_cover _ _ _ _ _ (cover0_D_5 c _ _ _ _ _ _ _ _ _ _ _ _ _ _ _ _ _ _ _)
  · by_cases q1 : P0_1 ch t
    · obtain ⟨i4, f4, fr4, i5⟩ := sched0_C ch t q0 q1
      have hk := hypsR0_C ch t q0 q1
      rewrite [i4]
      simp only [before0_0, before0_1, before0_2, before0_3, before0_4, before0_5, after0_0, after0_1, after0_2, after0_3, after0_4, after0_5, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [H5]; · iexists _; iexact H5
      iintro ⟨H0, H1, H2, H3, HT0, ⟨%e4, H4⟩, ⟨%e5, H5⟩⟩
      isplitl [HT0]
      · iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · unfold owns; iexists _; isplitr; swap
        · iexact H4
        · ipureintro; exact View.read_writes_of_cover _ _ _ _ _ (cover0_C_4 c _ _ _ _ _ _ _ _ _ _ _ _ _ _ _ _ _ _ _)
      unfold owns; iexists _; isplitr; swap
      · iexact H5
      · ipureintro; exact View.read_writes_of_cover _ _ _ _ _ (cover0_C_5 c _ _ _ _ _ _ _ _ _ _ _ _ _ _ _ _ _ _ _)
    · by_cases q2 : P0_2 ch t
      · obtain ⟨i4, f4, fr4, i5⟩ := sched0_B ch t q0 q1 q2
        have hk := hypsR0_B ch t q0 q1 q2
        rewrite [i4]
        simp only [before0_0, before0_1, before0_2, before0_3, before0_4, before0_5, after0_0, after0_1, after0_2, after0_3, after0_4, after0_5, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        iintro ⟨⟨HT0⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [H4]; · iexists _; iexact H4
        isplitl [H5]; · iexists _; iexact H5
        iintro ⟨H0, H1, H2, H3, HT0, ⟨%e4, H4⟩, ⟨%e5, H5⟩⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · unfold owns; iexists _; isplitr; swap
          · iexact H4
          · ipureintro; exact View.read_writes_of_cover _ _ _ _ _ (cover0_B_4 c _ _ _ _ _ _ _ _ _ _ _ _ _ _ _ _ _ _ _)
        unfold owns; iexists _; isplitr; swap
        · iexact H5
        · ipureintro; exact View.read_writes_of_cover _ _ _ _ _ (cover0_B_5 c _ _ _ _ _ _ _ _ _ _ _ _ _ _ _ _ _ _ _)
      · by_cases q3 : P0_3 ch t
        · obtain ⟨i4, f4, fr4, i5⟩ := sched0_A ch t q0 q1 q2 q3
          have hk := hypsR0_A ch t q0 q1 q2 q3
          rewrite [i4]
          simp only [before0_0, before0_1, before0_2, before0_3, before0_4, before0_5, after0_0, after0_1, after0_2, after0_3, after0_4, after0_5, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_A ch m ρ c t _ q0 q1 q2 q3]
          unfold Phi; simp only [prev0T_castSucc, prev0T_succ, traj0_eq, step0_A ch m ρ c t _ q0 q1 q2 q3, Fin.val_castSucc, Fin.val_succ]
          iintro ⟨⟨HT0⟩, Ho, ⟨%d0, H0⟩, ⟨%d1, H1⟩, ⟨%d2, H2⟩, ⟨%d3, H3⟩, ⟨%d4, H4⟩, ⟨%d5, H5⟩⟩
          iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [H4]; · iexists _; iexact H4
          isplitl [H5]; · iexists _; iexact H5
          iintro ⟨H0, H1, H2, H3, HT0, ⟨%e4, H4⟩, ⟨%e5, H5⟩⟩
          isplitl [HT0]
          · iexact HT0
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · unfold owns; iexists _; isplitr; swap
            · iexact H4
            · ipureintro; exact View.read_writes_of_cover _ _ _ _ _ (cover0_A_4 c _ _ _ _ _ _ _ _ _ _ _ _ _ _ _ _ _ _ _)
          unfold owns; iexists _; isplitr; swap
          · iexact H5
          · ipureintro; exact View.read_writes_of_cover _ _ _ _ _ (cover0_A_5 c _ _ _ _ _ _ _ _ _ _ _ _ _ _ _ _ _ _ _)
        · obtain ⟨i4, f4, fr4, i5⟩ := sched0_E ch t q0 q1 q2 q3
          have hk := hypsR0_E ch t q0 q1 q2 q3
          rewrite [i4]
          simp only [before0_0, before0_1, before0_2, before0_3, before0_4, before0_5, after0_0, after0_1, after0_2, after0_3, after0_4, after0_5, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2 q3]
          unfold Phi; simp only [prev0T_castSucc, prev0T_succ, traj0_eq, step0_E ch m ρ c t _ q0 q1 q2 q3, Fin.val_castSucc, Fin.val_succ]
          iintro ⟨⟨HT0⟩, Ho, ⟨%d0, H0⟩, ⟨%d1, H1⟩, ⟨%d2, H2⟩, ⟨%d3, H3⟩, ⟨%d4, H4⟩, ⟨%d5, H5⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [H4]; · iexists _; iexact H4
          isplitl [H5]; · iexists _; iexact H5
          iintro ⟨H0, H1, H2, H3, HT0, ⟨%e4, H4⟩, ⟨%e5, H5⟩⟩
          isplitl [HT0]
          · iexact HT0
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · unfold owns; iexists _; isplitr; swap
            · iexact H4
            · ipureintro; exact View.read_writes_of_cover _ _ _ _ _ (cover0_E_4 c _ _ _ _ _ _ _ _ _ _ _ _ _ _ _ _ _ _ _)
          unfold owns; iexists _; isplitr; swap
          · iexact H5
          · ipureintro; exact View.read_writes_of_cover _ _ _ _ _ (cover0_E_5 c _ _ _ _ _ _ _ _ _ _ _ _ _ _ _ _ _ _ _)

theorem body_obligation (hp : Pinned ch m) (c : Dev nD) : BodyObligation (dats ch m ρ 0 c) (defs₀ (F := Bits)) Variants.none () Set.univ := fun t => by
  rw [bigSep_W0]
  exact sound_body ch m ρ hp c t

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Bits)) (onTc (τ := τ) (main (F := Bits))) (s₀ m ρ) (QC ch m ρ) :=
  (θ_run defs _ _).mono (fun _ h => h.1) (run_main_quiescent ch m ρ hp)

theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _)⟩) (run_main ch m ρ hp)

theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged ch m ρ hp) ((θ_run defs _ _).mono (fun _ h => h.2) (run_main_quiescent ch m ρ hp))

end Cert.Up.All

end
-- ==== Proof.UpIdealRuns.lean ====
/- The body of the experts' up product, run once per size of a tile (the paths A to E: up to 512, 384, 256, 128 rows, none), and what each run stores. -/
module

public import proofs.«01_k».proof.Defs
public import proofs.«01_k».proof.Proof.Gen.UpIdeal
public import proofs.«01_k».proof.Proof.Gen.UpIdeal.Launch
public import proofs.«01_k».proof.Proof.Gen.UpIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.UpIdeal.All

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The table of tiles, whole, as the kernel is handed it. -/
abbrev tbM0_0 : Memref sig .tc .smem S8x128 .i32 := Memref.whole main_arg0

/-- The word that says how many rows of a point's tile are filled, as the body reads it. -/
abbrev rowsW (i : grid0.Coords) (T : S8x128.Idx → BitVec 32) : BitVec 32 :=
  View.readAt (Elt Ideal) (tbM0_0).view (Rect.unit (s := S8x128) (k0_off2 i) S1x1.size (k0_off2_inb i)).toLoadRect T (Shape.Idx.first (numel1_S1x1.symm ▸ Nat.one_pos))

/-! What the body's five conditions are on each path. -/

abbrev HypA (i : grid0.Coords) (T : S8x128.Idx → BitVec 32) : Prop :=
  ¬k0_cond1 (rowsW i T) = 1#1 ∧ ¬k0_cond2 (rowsW i T) = 1#1 ∧ ¬k0_cond3 (rowsW i T) = 1#1 ∧ k0_cond4 (rowsW i T) = 1#1 ∧ ¬k0_cond5 (rowsW i T) = 1#1 ∧ True
abbrev HypB (i : grid0.Coords) (T : S8x128.Idx → BitVec 32) : Prop :=
  ¬k0_cond1 (rowsW i T) = 1#1 ∧ ¬k0_cond2 (rowsW i T) = 1#1 ∧ k0_cond3 (rowsW i T) = 1#1 ∧ ¬k0_cond4 (rowsW i T) = 1#1 ∧ ¬k0_cond5 (rowsW i T) = 1#1 ∧ True
abbrev HypC (i : grid0.Coords) (T : S8x128.Idx → BitVec 32) : Prop :=
  ¬k0_cond1 (rowsW i T) = 1#1 ∧ k0_cond2 (rowsW i T) = 1#1 ∧ ¬k0_cond3 (rowsW i T) = 1#1 ∧ ¬k0_cond4 (rowsW i T) = 1#1 ∧ ¬k0_cond5 (rowsW i T) = 1#1 ∧ True
abbrev HypD (i : grid0.Coords) (T : S8x128.Idx → BitVec 32) : Prop :=
  k0_cond1 (rowsW i T) = 1#1 ∧ ¬k0_cond2 (rowsW i T) = 1#1 ∧ ¬k0_cond3 (rowsW i T) = 1#1 ∧ ¬k0_cond4 (rowsW i T) = 1#1 ∧ ¬k0_cond5 (rowsW i T) = 1#1 ∧ True
abbrev HypE (i : grid0.Coords) (T : S8x128.Idx → BitVec 32) : Prop :=
  ¬k0_cond1 (rowsW i T) = 1#1 ∧ ¬k0_cond2 (rowsW i T) = 1#1 ∧ ¬k0_cond3 (rowsW i T) = 1#1 ∧ ¬k0_cond4 (rowsW i T) = 1#1 ∧ k0_cond5 (rowsW i T) = 1#1 ∧ True

abbrev VO0_4 : View sig .tc .vmem S512x1792 .bf16 := (Memref.whole cc0_stg4_0 : Memref sig .tc .vmem S512x1792 .bf16).view
abbrev VO0_5 : View sig .tc .vmem S448x2048 .bf16 := (Memref.whole cc0_stg5_0 : Memref sig .tc .vmem S448x2048 .bf16).view

variable (c : Dev nD) (i : grid0.Coords)
  (arg3 : Memref sig .tc .vmem S512x2048 .bf16) (harg3 : arg3.IsWhole)
  (arg4 : Memref sig .tc .vmem S1x2048x1792 .bf16) (harg4 : arg4.IsWhole)
  (arg5 : Memref sig .tc .vmem S1x2048x1792 .bf16) (harg5 : arg5.IsWhole)
  (arg6 : Memref sig .tc .vmem S448x2048 .f32) (harg6 : arg6.IsWhole)
  (arg7 : Memref sig .tc .vmem S512x1792 .bf16) (harg7 : arg7.IsWhole)
  (arg8 : Memref sig .tc .vmem S448x2048 .bf16) (harg8 : arg8.IsWhole)
  (T0 : (S8x128.Idx → Elt Ideal .i32))
  (x0 : (S512x2048.Idx → Elt Ideal .bf16)) (x1 : (S1x2048x1792.Idx → Elt Ideal .bf16)) (x2 : (S1x2048x1792.Idx → Elt Ideal .bf16)) (x3 : (S448x2048.Idx → Elt Ideal .f32))

set_option backward.proofsInPublic true in
set_option maxHeartbeats 8000000 in
noncomputable def kernelRun0_A (hk : HypA i T0) :
    Σ' (out0 : List (View.Piece (Elt Ideal) S512x1792 .bf16)), { out1 : List (View.Piece (Elt Ideal) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)) -∗ K ⟨⟩))
          ⊢ wp frame (wpE (defs₀ (F := Ideal)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = ¬(k0_cond3 _ = _); exact hk.2.2.1) | (guard_target = k0_cond4 _ = _; exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_A_4 (hk : HypA i T0) (y : S512x1792.Idx) :
    ∃ pc ∈ (kernelRun0_A c i arg3 harg3 arg4 harg4 arg5 harg5 arg6 harg6 arg7 harg7 arg8 harg8 T0 x0 x1 x2 x3 hk).1, y ∈ pc.1.set :=
  View.cover_of_tiledL (kernelRun0_A c i arg3 harg3 arg4 harg4 arg5 harg5 arg6 harg6 arg7 harg7 arg8 harg8 T0 x0 x1 x2 x3 hk).1 S512x256.size (by sl_kernel_rfl) y

def out0_A_4 (hk : HypA i T0) : (S512x1792.Idx → Elt Ideal .bf16) :=
  VO0_4.read (Elt Ideal) (VO0_4.writes (Elt Ideal) VO0_4.junk (kernelRun0_A c i arg3 harg3 arg4 harg4 arg5 harg5 arg6 harg6 arg7 harg7 arg8 harg8 T0 x0 x1 x2 x3 hk).1)

theorem cover0_A_5 (hk : HypA i T0) (y : S448x2048.Idx) :
    ∃ pc ∈ (kernelRun0_A c i arg3 harg3 arg4 harg4 arg5 harg5 arg6 harg6 arg7 harg7 arg8 harg8 T0 x0 x1 x2 x3 hk).2.1, y ∈ pc.1.set :=
  View.cover_of_tiledL (kernelRun0_A c i arg3 harg3 arg4 harg4 arg5 harg5 arg6 harg6 arg7 harg7 arg8 harg8 T0 x0 x1 x2 x3 hk).2.1 S448x2048.size (by sl_kernel_rfl) y

def out0_A_5 (hk : HypA i T0) : (S448x2048.Idx → Elt Ideal .bf16) :=
  VO0_5.read (Elt Ideal) (VO0_5.writes (Elt Ideal) VO0_5.junk (kernelRun0_A c i arg3 harg3 arg4 harg4 arg5 harg5 arg6 harg6 arg7 harg7 arg8 harg8 T0 x0 x1 x2 x3 hk).2.1)

set_option backward.proofsInPublic true in
set_option maxHeartbeats 8000000 in
noncomputable def kernelRun0_B (hk : HypB i T0) :
    Σ' (out0 : List (View.Piece (Elt Ideal) S512x1792 .bf16)), { out1 : List (View.Piece (Elt Ideal) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)) -∗ K ⟨⟩))
          ⊢ wp frame (wpE (defs₀ (F := Ideal)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = k0_cond3 _ = _; exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_B_4 (hk : HypB i T0) (y : S512x1792.Idx) :
    ∃ pc ∈ (kernelRun0_B c i arg3 harg3 arg4 harg4 arg5 harg5 arg6 harg6 arg7 harg7 arg8 harg8 T0 x0 x1 x2 x3 hk).1, y ∈ pc.1.set :=
  View.cover_of_tiledBy (kernelRun0_B c i arg3 harg3 arg4 harg4 arg5 harg5 arg6 harg6 arg7 harg7 arg8 harg8 T0 x0 x1 x2 x3 hk).1 ![128, 256] (by sl_kernel_rfl) y

def out0_B_4 (hk : HypB i T0) : (S512x1792.Idx → Elt Ideal .bf16) :=
  VO0_4.read (Elt Ideal) (VO0_4.writes (Elt Ideal) VO0_4.junk (kernelRun0_B c i arg3 harg3 arg4 harg4 arg5 harg5 arg6 harg6 arg7 harg7 arg8 harg8 T0 x0 x1 x2 x3 hk).1)

theorem cover0_B_5 (hk : HypB i T0) (y : S448x2048.Idx) :
    ∃ pc ∈ (kernelRun0_B c i arg3 harg3 arg4 harg4 arg5 harg5 arg6 harg6 arg7 harg7 arg8 harg8 T0 x0 x1 x2 x3 hk).2.1, y ∈ pc.1.set :=
  View.cover_of_tiledL (kernelRun0_B c i arg3 harg3 arg4 harg4 arg5 harg5 arg6 harg6 arg7 harg7 arg8 harg8 T0 x0 x1 x2 x3 hk).2.1 S448x2048.size (by sl_kernel_rfl) y

def out0_B_5 (hk : HypB i T0) : (S448x2048.Idx → Elt Ideal .bf16) :=
  VO0_5.read (Elt Ideal) (VO0_5.writes (Elt Ideal) VO0_5.junk (kernelRun0_B c i arg3 harg3 arg4 harg4 arg5 harg5 arg6 harg6 arg7 harg7 arg8 harg8 T0 x0 x1 x2 x3 hk).2.1)

set_option backward.proofsInPublic true in
set_option maxHeartbeats 8000000 in
noncomputable def kernelRun0_C (hk : HypC i T0) :
    Σ' (out0 : List (View.Piece (Elt Ideal) S512x1792 .bf16)), { out1 : List (View.Piece (Elt Ideal) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)) -∗ K ⟨⟩))
          ⊢ wp frame (wpE (defs₀ (F := Ideal)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = k0_cond2 _ = _; exact hk.2.1) | (guard_target = ¬(k0_cond3 _ = _); exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_C_4 (hk : HypC i T0) (y : S512x1792.Idx) :
    ∃ pc ∈ (kernelRun0_C c i arg3 harg3 arg4 harg4 arg5 harg5 arg6 harg6 arg7 harg7 arg8 harg8 T0 x0 x1 x2 x3 hk).1, y ∈ pc.1.set :=
  View.cover_of_tiledBy (kernelRun0_C c i arg3 harg3 arg4 harg4 arg5 harg5 arg6 harg6 arg7 harg7 arg8 harg8 T0 x0 x1 x2 x3 hk).1 ![256, 256] (by sl_kernel_rfl) y

def out0_C_4 (hk : HypC i T0) : (S512x1792.Idx → Elt Ideal .bf16) :=
  VO0_4.read (Elt Ideal) (VO0_4.writes (Elt Ideal) VO0_4.junk (kernelRun0_C c i arg3 harg3 arg4 harg4 arg5 harg5 arg6 harg6 arg7 harg7 arg8 harg8 T0 x0 x1 x2 x3 hk).1)

theorem cover0_C_5 (hk : HypC i T0) (y : S448x2048.Idx) :
    ∃ pc ∈ (kernelRun0_C c i arg3 harg3 arg4 harg4 arg5 harg5 arg6 harg6 arg7 harg7 arg8 harg8 T0 x0 x1 x2 x3 hk).2.1, y ∈ pc.1.set :=
  View.cover_of_tiledL (kernelRun0_C c i arg3 harg3 arg4 harg4 arg5 harg5 arg6 harg6 arg7 harg7 arg8 harg8 T0 x0 x1 x2 x3 hk).2.1 S448x2048.size (by sl_kernel_rfl) y

def out0_C_5 (hk : HypC i T0) : (S448x2048.Idx → Elt Ideal .bf16) :=
  VO0_5.read (Elt Ideal) (VO0_5.writes (Elt Ideal) VO0_5.junk (kernelRun0_C c i arg3 harg3 arg4 harg4 arg5 harg5 arg6 harg6 arg7 harg7 arg8 harg8 T0 x0 x1 x2 x3 hk).2.1)

set_option backward.proofsInPublic true in
set_option maxHeartbeats 8000000 in
noncomputable def kernelRun0_D (hk : HypD i T0) :
    Σ' (out0 : List (View.Piece (Elt Ideal) S512x1792 .bf16)), { out1 : List (View.Piece (Elt Ideal) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)) -∗ K ⟨⟩))
          ⊢ wp frame (wpE (defs₀ (F := Ideal)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = k0_cond1 _ = _; exact hk.1) | (guard_target = ¬(k0_cond2 _ = _); exact hk.2.1) | (guard_target = ¬(k0_cond3 _ = _); exact hk.2.2.1) | (guard_target = ¬(k0_cond4 _ = _); exact hk.2.2.2.1) | (guard_target = ¬(k0_cond5 _ = _); exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_D_4 (hk : HypD i T0) (y : S512x1792.Idx) :
    ∃ pc ∈ (kernelRun0_D c i arg3 harg3 arg4 harg4 arg5 harg5 arg6 harg6 arg7 harg7 arg8 harg8 T0 x0 x1 x2 x3 hk).1, y ∈ pc.1.set :=
  View.cover_of_tiledBy (kernelRun0_D c i arg3 harg3 arg4 harg4 arg5 harg5 arg6 harg6 arg7 harg7 arg8 harg8 T0 x0 x1 x2 x3 hk).1 ![128, 256] (by sl_kernel_rfl) y

def out0_D_4 (hk : HypD i T0) : (S512x1792.Idx → Elt Ideal .bf16) :=
  VO0_4.read (Elt Ideal) (VO0_4.writes (Elt Ideal) VO0_4.junk (kernelRun0_D c i arg3 harg3 arg4 harg4 arg5 harg5 arg6 harg6 arg7 harg7 arg8 harg8 T0 x0 x1 x2 x3 hk).1)

theorem cover0_D_5 (hk : HypD i T0) (y : S448x2048.Idx) :
    ∃ pc ∈ (kernelRun0_D c i arg3 harg3 arg4 harg4 arg5 harg5 arg6 harg6 arg7 harg7 arg8 harg8 T0 x0 x1 x2 x3 hk).2.1, y ∈ pc.1.set :=
  View.cover_of_tiledL (kernelRun0_D c i arg3 harg3 arg4 harg4 arg5 harg5 arg6 harg6 arg7 harg7 arg8 harg8 T0 x0 x1 x2 x3 hk).2.1 S448x2048.size (by sl_kernel_rfl) y

def out0_D_5 (hk : HypD i T0) : (S448x2048.Idx → Elt Ideal .bf16) :=
  VO0_5.read (Elt Ideal) (VO0_5.writes (Elt Ideal) VO0_5.junk (kernelRun0_D c i arg3 harg3 arg4 harg4 arg5 harg5 arg6 harg6 arg7 harg7 arg8 harg8 T0 x0 x1 x2 x3 hk).2.1)

set_option backward.proofsInPublic true in
set_option maxHeartbeats 8000000 in
noncomputable def kernelRun0_E (hk : HypE i T0) :
    Σ' (out0 : List (View.Piece (Elt Ideal) S512x1792 .bf16)), { out1 : List (View.Piece (Elt Ideal) S448x2048 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (∃ d, owns (c : Thread nD τ) arg7 fullShare d)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)) -∗ K ⟨⟩))
          ⊢ wp frame (wpE (defs₀ (F := Ideal)) Variants.none c none) Set.univ (cc0_moe_up i tbM0_0 (Memref.isWhole_whole _) arg3 harg3 arg4 harg4 arg5 harg5 arg6 harg6 arg7 harg7 arg8 harg8) K } :=
  ⟨_, _, fun K => by
    unfold owns
    rw [cc0_moe_up_eq_skeleton]; unfold cc0_moe_up_skel
    iintro ⟨H0, H1, H2, H3, HT0, ⟨%d4, %f4, -, HO4⟩, ⟨%d5, %f5, -, HO5⟩, Hk⟩
    have hT0 : tbM0_0.IsWhole := Memref.isWhole_whole _
    sl_exec! (disch := first | (guard_target = ¬(k0_cond1 _ = _); exact hk.1) | (guard_target = ¬(k0_cond2 _ = _); exact hk.2.1) | (guard_target = ¬(k0_cond3 _ = _); exact hk.2.2.1) | (guard_target = ¬(k0_cond4 _ = _); exact hk.2.2.2.1) | (guard_target = k0_cond5 _ = _; exact hk.2.2.2.2.1))
    sl_step
    iapply Hk
    isplitl [H0]; · iexact H0
    isplitl [H1]; · iexact H1
    isplitl [H2]; · iexact H2
    isplitl [H3]; · iexact H3
    isplitl [HT0]; · iexact HT0
    isplitl [HO4]; · iexists _; iexact HO4
    iexists _; iexact HO5⟩

theorem cover0_E_4 (hk : HypE i T0) (y : S512x1792.Idx) :
    ∃ pc ∈ (kernelRun0_E c i arg3 harg3 arg4 harg4 arg5 harg5 arg6 harg6 arg7 harg7 arg8 harg8 T0 x0 x1 x2 x3 hk).1, y ∈ pc.1.set :=
  View.cover_of_tiledL (kernelRun0_E c i arg3 harg3 arg4 harg4 arg5 harg5 arg6 harg6 arg7 harg7 arg8 harg8 T0 x0 x1 x2 x3 hk).1 S512x1792.size (by sl_kernel_rfl) y

def out0_E_4 (hk : HypE i T0) : (S512x1792.Idx → Elt Ideal .bf16) :=
  VO0_4.read (Elt Ideal) (VO0_4.writes (Elt Ideal) VO0_4.junk (kernelRun0_E c i arg3 harg3 arg4 harg4 arg5 harg5 arg6 harg6 arg7 harg7 arg8 harg8 T0 x0 x1 x2 x3 hk).1)

theorem cover0_E_5 (hk : HypE i T0) (y : S448x2048.Idx) :
    ∃ pc ∈ (kernelRun0_E c i arg3 harg3 arg4 harg4 arg5 harg5 arg6 harg6 arg7 harg7 arg8 harg8 T0 x0 x1 x2 x3 hk).2.1, y ∈ pc.1.set :=
  View.cover_of_tiledL (kernelRun0_E c i arg3 harg3 arg4 harg4 arg5 harg5 arg6 harg6 arg7 harg7 arg8 harg8 T0 x0 x1 x2 x3 hk).2.1 S448x2048.size (by sl_kernel_rfl) y

def out0_E_5 (hk : HypE i T0) : (S448x2048.Idx → Elt Ideal .bf16) :=
  VO0_5.read (Elt Ideal) (VO0_5.writes (Elt Ideal) VO0_5.junk (kernelRun0_E c i arg3 harg3 arg4 harg4 arg5 harg5 arg6 harg6 arg7 harg7 arg8 harg8 T0 x0 x1 x2 x3 hk).2.1)

end Cert.UpIdeal.All

end
-- ==== Proof.UpIdealTab.lean ====
/- The tables of tiles that the precondition admits, and what the pipeline of the experts' up product is at one of them: every block inside its array, the decisions at each point, the write-backs. -/
module

public import proofs.«01_k».proof.Proof.UpIdealRuns
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.UpIdeal.All

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The admissible tables: every tile's expert is one of the eight, every tile holds at most 512 rows. -/
def Tab : Type := { T : S8x128.Idx → BitVec 32 //
  ∀ j : Fin 40, (T (ix2 0 ⟨j.val, Nat.lt_trans j.isLt (by decide)⟩)).toNat < 8 ∧ (T (ix2 2 ⟨j.val, Nat.lt_trans j.isLt (by decide)⟩)).toNat ≤ 512 }

variable (ch : Tab)

/-- The table's words. -/
def pinT_0 (ch : Tab) : S8x128.Idx → BitVec 32 := ch.1

set_option backward.proofsInPublic true in
/-- The table as the pipeline's one prefetched operand. -/
def pfN : pre0.Contents (Elt Ideal) := fun | ⟨0, _⟩ => pinT_0 ch | ⟨_ + 1, h⟩ => absurd h (by simp)

/-- The launch memory holds the table. -/
def Pinned (m : (ℓ : Loc nD τ sig) → Buf (Elt Ideal) ℓ) : Prop :=
  (∀ c : Dev nD, m ((c : Thread nD τ).loc main_arg0) = pinT_0 ch)

/-! ## The words -/

/-- A tile's number, as a word. -/
theorem tile_toNat (i : grid0.Coords) : (BitVec.ofNat 32 (i 1).val).toNat = (i 1).val := by
  rw [BitVec.toNat_ofNat]; exact Nat.mod_eq_of_lt (Nat.lt_trans (i 1).isLt (by decide))

/-- The expert's word of a tile, as the index maps read it. -/
theorem expert_at (i : grid0.Coords) :
    ((pfN ch).at 0 (Rect.unit (s := S8x128) (k0_off1 i) S1x1.size (k0_off1_inb i)) numel1_S1x1 : BitVec 32)
      = ch.1 (ix2 0 ⟨(i 1).val, Nat.lt_trans (i 1).isLt (by decide)⟩) := by
  refine congrArg ch.1 (funext fun a => Fin.ext ?_)
  have hi := tile_toNat i
  fin_cases a
  · rfl
  · show (BitVec.ofNat 32 (i 1).val).toNat + 1 * 0 = (i 1).val
    omega

theorem expert_lt (i : grid0.Coords) :
    ((pfN ch).at 0 (Rect.unit (s := S8x128) (k0_off1 i) S1x1.size (k0_off1_inb i)) numel1_S1x1 : BitVec 32).toNat < 8 := by
  rw [expert_at]; exact (ch.2 (i 1)).1

/-- The smaller of a tile's number and any word, raised to zero, is below 40. -/
theorem clamp_lt (a v : BitVec 32) (ha : a.toNat < 40) : (Scalar.maxsi (Scalar.minsi a v) 0#32).toNat < 40 := by
  have ht : a.toInt = a.toNat := by rw [BitVec.toInt_eq_toNat_cond, if_pos (by omega)]
  have h0 : (0#32 : BitVec 32).toInt = 0 := by decide
  have hm : (IntOp.minsi a v).toInt ≤ a.toInt := by
    unfold IntOp.minsi
    split
    · exact le_refl _
    · rename_i h
      simp only [BitVec.slt, decide_eq_true_eq] at h
      omega
  show (IntOp.maxsi (IntOp.minsi a v) 0#32).toNat < 40
  generalize IntOp.minsi a v = w at hm
  unfold IntOp.maxsi
  split
  · rename_i h
    simp only [BitVec.slt, decide_eq_true_eq] at h
    have hb := w.isLt
    have hw := BitVec.toInt_eq_toNat_cond w
    split at hw <;> omega
  · exact Nat.zero_lt_succ 39

/-- A block whose number is below the number of blocks ends inside the array. -/
theorem block_le {w k B S : Nat} (h : w < k) (hS : S = k * B) : (w + 1) * B ≤ S :=
  hS ▸ Nat.mul_le_mul_right B h

/-- The blocks of the rows, of the gates' weights and of the ups' weights are inside their arrays. -/
theorem rows_block (i : grid0.Coords) : ∀ a, (cc0_transform_0 inb_S8x128_S1x1_1_0 numel1_S1x1 (pfN ch) i a + 1) * S512x2048.size a ≤ S20480x2048.size a := by
  have h := clamp_lt (BitVec.ofNat 32 (i 1).val) (Scalar.subi ((pfN ch).at 0 (Rect.unit (s := S8x128) ![1, 0] S1x1.size inb_S8x128_S1x1_1_0) numel1_S1x1 : BitVec 32) 1#32)
    (by rw [tile_toNat]; exact (i 1).isLt)
  have e0 : cc0_transform_0 inb_S8x128_S1x1_1_0 numel1_S1x1 (pfN ch) i 0 < 40 := h
  have e1 : cc0_transform_0 inb_S8x128_S1x1_1_0 numel1_S1x1 (pfN ch) i 1 < 1 := Nat.zero_lt_one
  intro a
  fin_cases a
  · exact block_le e0 (show S20480x2048.size 0 = 40 * S512x2048.size 0 from rfl)
  · exact block_le e1 (show S20480x2048.size 1 = 1 * S512x2048.size 1 from rfl)

theorem expert_block_1 (i : grid0.Coords) : ∀ a, (cc0_transform_1 k0_off1_inb numel1_S1x1 (pfN ch) i a + 1) * S1x2048x1792.size a ≤ S8x2048x7168.size a := by
  have h := expert_lt ch i
  have h4 : (BitVec.ofNat 32 (i 0).val).toNat < 4 := by
    rw [BitVec.toNat_ofNat, Nat.mod_eq_of_lt (Nat.lt_trans (i 0).isLt (by decide))]; exact (i 0).isLt
  have e0 : cc0_transform_1 k0_off1_inb numel1_S1x1 (pfN ch) i 0 < 8 := h
  have e1 : cc0_transform_1 k0_off1_inb numel1_S1x1 (pfN ch) i 1 < 1 := Nat.zero_lt_one
  have e2 : cc0_transform_1 k0_off1_inb numel1_S1x1 (pfN ch) i 2 < 4 := h4
  intro a
  fin_cases a
  · exact block_le e0 (show S8x2048x7168.size 0 = 8 * S1x2048x1792.size 0 from rfl)
  · exact block_le e1 (show S8x2048x7168.size 1 = 1 * S1x2048x1792.size 1 from rfl)
  · exact block_le e2 (show S8x2048x7168.size 2 = 4 * S1x2048x1792.size 2 from rfl)

theorem expert_block_2 (i : grid0.Coords) : ∀ a, (cc0_transform_2 k0_off1_inb numel1_S1x1 (pfN ch) i a + 1) * S1x2048x1792.size a ≤ S8x2048x7168.size a := by
  have h := expert_lt ch i
  have h4 : (BitVec.ofNat 32 (i 0).val).toNat < 4 := by
    rw [BitVec.toNat_ofNat, Nat.mod_eq_of_lt (Nat.lt_trans (i 0).isLt (by decide))]; exact (i 0).isLt
  have e0 : cc0_transform_2 k0_off1_inb numel1_S1x1 (pfN ch) i 0 < 8 := h
  have e1 : cc0_transform_2 k0_off1_inb numel1_S1x1 (pfN ch) i 1 < 1 := Nat.zero_lt_one
  have e2 : cc0_transform_2 k0_off1_inb numel1_S1x1 (pfN ch) i 2 < 4 := h4
  intro a
  fin_cases a
  · exact block_le e0 (show S8x2048x7168.size 0 = 8 * S1x2048x1792.size 0 from rfl)
  · exact block_le e1 (show S8x2048x7168.size 1 = 1 * S1x2048x1792.size 1 from rfl)
  · exact block_le e2 (show S8x2048x7168.size 2 = 4 * S1x2048x1792.size 2 from rfl)

/-- Every admissible table meets the launch's side conditions. -/
theorem ok_pfN : ok0 (F := Ideal) (pfN ch) :=
  ⟨fun i => ⟨rows_block ch i, .inr (Affine.block_words_dvd (s := S20480x2048) (p := EltTy.packing .bf16) (by decide) (by decide))⟩,
    fun i => ⟨expert_block_1 ch i, .inr (Affine.block_words_dvd (s := S8x2048x7168) (p := EltTy.packing .bf16) (by decide) (by decide))⟩,
    fun i => ⟨expert_block_2 ch i, .inr (Affine.block_words_dvd (s := S8x2048x7168) (p := EltTy.packing .bf16) (by decide) (by decide))⟩⟩

def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S512x2048 .bf16 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x2048x1792 .bf16 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x2048x1792 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S448x2048 .f32 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S512x1792 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S448x2048 .bf16 := spec0_5.stage ((cfgA ch).slots t (5 : Fin 6))
abbrev hs0_5 (t : Fin (cfgA ch).N) : (ms0_5 ch t).IsWhole := hstage0_5 (((cfgA ch).slots t (5 : Fin 6)).cast nbuf0_5)

def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

abbrev P0_0 (t : Fin (cfgA ch).N) : Prop := k0_cond1 (rowsW (crd ch t) (pinT_0 ch)) = 1#1
abbrev P0_1 (t : Fin (cfgA ch).N) : Prop := k0_cond2 (rowsW (crd ch t) (pinT_0 ch)) = 1#1
abbrev P0_2 (t : Fin (cfgA ch).N) : Prop := k0_cond3 (rowsW (crd ch t) (pinT_0 ch)) = 1#1
abbrev P0_3 (t : Fin (cfgA ch).N) : Prop := k0_cond4 (rowsW (crd ch t) (pinT_0 ch)) = 1#1

/-! ## The decisions -/

/-- The word that says how many rows of a tile are filled, as the body reads it. -/
theorem rows_read (i : grid0.Coords) :
    (rowsW i (pinT_0 ch))
      = ch.1 (ix2 2 ⟨(i 1).val, Nat.lt_trans (i 1).isLt (by decide)⟩) := by
  unfold rowsW
  rw [View.readAt_apply]
  refine Eq.trans (show _ = pinT_0 ch ((Rect.unit (s := S8x128) (k0_off2 i) S1x1.size (k0_off2_inb i)).toLoadRect.idx (Shape.Idx.first (numel1_S1x1.symm ▸ Nat.one_pos))) from rfl) ?_
  refine congrArg ch.1 (funext fun a => Fin.ext ?_)
  have hi := tile_toNat i
  fin_cases a
  · rfl
  · show (BitVec.ofNat 32 (i 1).val).toNat + 1 * 0 = (i 1).val
    omega

/-- The tile of a point. -/
abbrev tileOf (t : Fin (cfgA ch).N) : Fin 40 := (grid0.coords t) 1

/-- A point's word is its tile's row count. -/
theorem rows_at (t : Fin (cfgA ch).N) :
    (rowsW (crd ch t) (pinT_0 ch))
      = ch.1 (ix2 2 ⟨(tileOf ch t).val, Nat.lt_trans (tileOf ch t).isLt (by decide)⟩) := rows_read ch (grid0.coords t)

theorem word_le (t : Fin (cfgA ch).N) :
    (rowsW (crd ch t) (pinT_0 ch)).toNat ≤ 512 := by
  rw [rows_at]; exact (ch.2 (tileOf ch t)).2

/-- The same word, as the table of untouched points reads it. -/
theorem rows_atD (i : grid0.Coords) :
    ((pfN ch).atD 0 (k0_off2 i) : BitVec 32) = ch.1 (ix2 2 ⟨(i 1).val, Nat.lt_trans (i 1).isLt (by decide)⟩) := by
  have hi := tile_toNat i
  have h : ∀ a, k0_off2 i a + 1 ≤ S8x128.size a := by
    intro a
    fin_cases a
    · show 2 + 1 ≤ 8
      decide
    · show (BitVec.ofNat 32 (i 1).val).toNat + 1 ≤ 128
      have := (i 1).isLt
      have h40 : (i 1).val < 40 := this
      omega
  unfold Pipeline.Prefetch.Contents.atD
  refine (dif_pos h).trans (congrArg ch.1 (funext fun a => Fin.ext ?_))
  fin_cases a
  · rfl
  · exact hi

/-- Of the five conditions on the number of rows, exactly one holds. -/
theorem conds_of_fin : ∀ n : Fin 513,
    (¬k0_cond1 (BitVec.ofNat 32 n.val) = 1#1 → ¬k0_cond2 (BitVec.ofNat 32 n.val) = 1#1 → ¬k0_cond3 (BitVec.ofNat 32 n.val) = 1#1 → ¬k0_cond4 (BitVec.ofNat 32 n.val) = 1#1 → k0_cond5 (BitVec.ofNat 32 n.val) = 1#1)
    ∧ (k0_cond1 (BitVec.ofNat 32 n.val) = 1#1 → ¬k0_cond2 (BitVec.ofNat 32 n.val) = 1#1 ∧ ¬k0_cond3 (BitVec.ofNat 32 n.val) = 1#1 ∧ ¬k0_cond4 (BitVec.ofNat 32 n.val) = 1#1 ∧ ¬k0_cond5 (BitVec.ofNat 32 n.val) = 1#1)
    ∧ (k0_cond2 (BitVec.ofNat 32 n.val) = 1#1 → ¬k0_cond3 (BitVec.ofNat 32 n.val) = 1#1 ∧ ¬k0_cond4 (BitVec.ofNat 32 n.val) = 1#1 ∧ ¬k0_cond5 (BitVec.ofNat 32 n.val) = 1#1)
    ∧ (k0_cond3 (BitVec.ofNat 32 n.val) = 1#1 → ¬k0_cond4 (BitVec.ofNat 32 n.val) = 1#1 ∧ ¬k0_cond5 (BitVec.ofNat 32 n.val) = 1#1)
    ∧ (k0_cond4 (BitVec.ofNat 32 n.val) = 1#1 → ¬k0_cond5 (BitVec.ofNat 32 n.val) = 1#1) := by decide +kernel

theorem conds_of (w : BitVec 32) (h : w.toNat ≤ 512) :
    (¬k0_cond1 w = 1#1 → ¬k0_cond2 w = 1#1 → ¬k0_cond3 w = 1#1 → ¬k0_cond4 w = 1#1 → k0_cond5 w = 1#1)
    ∧ (k0_cond1 w = 1#1 → ¬k0_cond2 w = 1#1 ∧ ¬k0_cond3 w = 1#1 ∧ ¬k0_cond4 w = 1#1 ∧ ¬k0_cond5 w = 1#1)
    ∧ (k0_cond2 w = 1#1 → ¬k0_cond3 w = 1#1 ∧ ¬k0_cond4 w = 1#1 ∧ ¬k0_cond5 w = 1#1)
    ∧ (k0_cond3 w = 1#1 → ¬k0_cond4 w = 1#1 ∧ ¬k0_cond5 w = 1#1)
    ∧ (k0_cond4 w = 1#1 → ¬k0_cond5 w = 1#1) := by
  have e : w = BitVec.ofNat 32 (⟨w.toNat, by omega⟩ : Fin 513).val := by
    simp
  rw [e]
  exact conds_of_fin _

theorem conds_A {w : BitVec 32} (h : w.toNat ≤ 512) (q0 : ¬k0_cond1 w = 1#1) (q1 : ¬k0_cond2 w = 1#1) (q2 : ¬k0_cond3 w = 1#1) (q3 : k0_cond4 w = 1#1) :
    ¬k0_cond1 w = 1#1 ∧ ¬k0_cond2 w = 1#1 ∧ ¬k0_cond3 w = 1#1 ∧ k0_cond4 w = 1#1 ∧ ¬k0_cond5 w = 1#1 ∧ True :=
  ⟨q0, q1, q2, q3, (conds_of w h).2.2.2.2 q3, trivial⟩
theorem conds_B {w : BitVec 32} (h : w.toNat ≤ 512) (q0 : ¬k0_cond1 w = 1#1) (q1 : ¬k0_cond2 w = 1#1) (q2 : k0_cond3 w = 1#1) :
    ¬k0_cond1 w = 1#1 ∧ ¬k0_cond2 w = 1#1 ∧ k0_cond3 w = 1#1 ∧ ¬k0_cond4 w = 1#1 ∧ ¬k0_cond5 w = 1#1 ∧ True :=
  ⟨q0, q1, q2, ((conds_of w h).2.2.2.1 q2).1, ((conds_of w h).2.2.2.1 q2).2, trivial⟩
theorem conds_C {w : BitVec 32} (h : w.toNat ≤ 512) (q0 : ¬k0_cond1 w = 1#1) (q1 : k0_cond2 w = 1#1) :
    ¬k0_cond1 w = 1#1 ∧ k0_cond2 w = 1#1 ∧ ¬k0_cond3 w = 1#1 ∧ ¬k0_cond4 w = 1#1 ∧ ¬k0_cond5 w = 1#1 ∧ True :=
  ⟨q0, q1, ((conds_of w h).2.2.1 q1).1, ((conds_of w h).2.2.1 q1).2.1, ((conds_of w h).2.2.1 q1).2.2, trivial⟩
theorem conds_D {w : BitVec 32} (h : w.toNat ≤ 512) (q0 : k0_cond1 w = 1#1) :
    k0_cond1 w = 1#1 ∧ ¬k0_cond2 w = 1#1 ∧ ¬k0_cond3 w = 1#1 ∧ ¬k0_cond4 w = 1#1 ∧ ¬k0_cond5 w = 1#1 ∧ True :=
  ⟨q0, ((conds_of w h).2.1 q0).1, ((conds_of w h).2.1 q0).2.1, ((conds_of w h).2.1 q0).2.2.1, ((conds_of w h).2.1 q0).2.2.2, trivial⟩
theorem conds_E {w : BitVec 32} (h : w.toNat ≤ 512) (q0 : ¬k0_cond1 w = 1#1) (q1 : ¬k0_cond2 w = 1#1) (q2 : ¬k0_cond3 w = 1#1) (q3 : ¬k0_cond4 w = 1#1) :
    ¬k0_cond1 w = 1#1 ∧ ¬k0_cond2 w = 1#1 ∧ ¬k0_cond3 w = 1#1 ∧ ¬k0_cond4 w = 1#1 ∧ k0_cond5 w = 1#1 ∧ True :=
  ⟨q0, q1, q2, q3, (conds_of w h).1 q0 q1 q2 q3, trivial⟩

/-- Some condition always holds, -/
theorem not_idle (w : BitVec 32) (h : w.toNat ≤ 512) :
    (!(k0_cond1 w == 1#1) && !(k0_cond2 w == 1#1) && !(k0_cond3 w == 1#1) && !(k0_cond4 w == 1#1) && !(k0_cond5 w == 1#1)) = false := by
  by_contra hc
  simp only [Bool.not_eq_false, Bool.and_eq_true, Bool.not_eq_true', beq_eq_false_iff_ne, ne_eq] at hc
  exact hc.2 ((conds_of w h).1 hc.1.1.1.1 hc.1.1.1.2 hc.1.1.2 hc.1.2)

/-- so no point leaves an output untouched. -/
theorem idle_false (t : Fin (cfgA ch).N) : (cfgA ch).idle (4 : Fin 6) ((cfgA ch).grid.coords t) = false ∧ (cfgA ch).idle (5 : Fin 6) ((cfgA ch).grid.coords t) = false := by
  have h : ((pfN ch).atD 0 (k0_off2 ((cfgA ch).grid.coords t)) : BitVec 32).toNat ≤ 512 := by
    exact (congrArg BitVec.toNat (rows_atD ch (grid0.coords t))).trans_le (ch.2 (tileOf ch t)).2
  exact ⟨not_idle _ h, not_idle _ h⟩

/-- The table of no rows. -/
def tab0 : Tab := ⟨fun _ => 0#32, fun _ => ⟨Nat.zero_lt_succ 7, Nat.zero_le 512⟩⟩

/-- Every point writes the product's block back. -/
theorem flush4_0 : ∀ t : Fin (cfgA tab0).N, ((cfgA tab0).win (4 : Fin 6)).flush t = true := by decide +kernel
theorem flush4 (t : Fin (cfgA ch).N) : ((cfgA ch).win (4 : Fin 6)).flush t = true := flush4_0 t

theorem fresh4_nat : ∀ n, n < (cfgA ch).N → (cfgA ch).fresh (4 : Fin 6) n = true
  | 0, _ => Pipeline.Cfg.fresh_zero (cfgA ch) (4 : Fin 6)
  | n + 1, hn => by
    refine (Pipeline.Cfg.fresh_succ (cfgA ch) (4 : Fin 6) n (Nat.lt_of_succ_lt hn)).trans ?_
    have h := flush4 ch ⟨n, Nat.lt_of_succ_lt hn⟩
    exact (congrArg (fun b => b || _) h).trans (Bool.true_or _)

theorem fresh4 (t : Fin (cfgA ch).N) : (cfgA ch).fresh (4 : Fin 6) t.val = true := fresh4_nat ch t.val t.isLt

theorem sched (t : Fin (cfgA ch).N) :
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false :=
  ⟨(idle_false ch t).1, flush4 ch t, fresh4 ch t, (idle_false ch t).2⟩

end Cert.UpIdeal.All

end
-- ==== Proof.UpIdealFlash.lean ====
/- The run of the experts' up product at any admissible table of tiles: what the outputs' buffers hold after each point, the body's obligation at a generic point by path, the launch, the frame. -/
module

public import proofs.«01_k».proof.Proof.UpIdealTab

@[expose] public section

set_option maxRecDepth 16384
set_option Elab.async false

noncomputable section

namespace Cert.UpIdeal.All

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (ch : Tab)
variable (m : (ℓ : Loc nD τ sig) → Buf (Elt Ideal) ℓ) (ρ : Dev nD → PrngReg)

theorem hypsR0_A : ∀ (ch : Tab) (t : Fin (cfgA ch).N), ¬P0_0 ch t → ¬P0_1 ch t → ¬P0_2 ch t → P0_3 ch t →
    HypA (crd ch t) (pinT_0 ch) := fun ch t q0 q1 q2 q3 => conds_A (word_le ch t) q0 q1 q2 q3

theorem sched0_A : ∀ (ch : Tab) (t : Fin (cfgA ch).N), ¬P0_0 ch t → ¬P0_1 ch t → ¬P0_2 ch t → P0_3 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ _ => sched ch t

theorem hypsR0_B : ∀ (ch : Tab) (t : Fin (cfgA ch).N), ¬P0_0 ch t → ¬P0_1 ch t → P0_2 ch t →
    HypB (crd ch t) (pinT_0 ch) := fun ch t q0 q1 q2 => conds_B (word_le ch t) q0 q1 q2

theorem sched0_B : ∀ (ch : Tab) (t : Fin (cfgA ch).N), ¬P0_0 ch t → ¬P0_1 ch t → P0_2 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ => sched ch t

theorem hypsR0_C : ∀ (ch : Tab) (t : Fin (cfgA ch).N), ¬P0_0 ch t → P0_1 ch t →
    HypC (crd ch t) (pinT_0 ch) := fun ch t q0 q1 => conds_C (word_le ch t) q0 q1

theorem sched0_C : ∀ (ch : Tab) (t : Fin (cfgA ch).N), ¬P0_0 ch t → P0_1 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ => sched ch t

theorem hypsR0_D : ∀ (ch : Tab) (t : Fin (cfgA ch).N), P0_0 ch t →
    HypD (crd ch t) (pinT_0 ch) := fun ch t q0 => conds_D (word_le ch t) q0

theorem sched0_D : ∀ (ch : Tab) (t : Fin (cfgA ch).N), P0_0 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ => sched ch t

theorem hypsR0_E : ∀ (ch : Tab) (t : Fin (cfgA ch).N), ¬P0_0 ch t → ¬P0_1 ch t → ¬P0_2 ch t → ¬P0_3 ch t →
    HypE (crd ch t) (pinT_0 ch) := fun ch t q0 q1 q2 q3 => conds_E (word_le ch t) q0 q1 q2 q3

theorem sched0_E : ∀ (ch : Tab) (t : Fin (cfgA ch).N), ¬P0_0 ch t → ¬P0_1 ch t → ¬P0_2 ch t → ¬P0_3 ch t →
    (cfgA ch).idle (4 : Fin 6) ((cfgA ch).grid.coords t) = false ∧ ((cfgA ch).win (4 : Fin 6)).flush t = true ∧ (cfgA ch).fresh (4 : Fin 6) t.val = true ∧ (cfgA ch).idle (5 : Fin 6) ((cfgA ch).grid.coords t) = false := fun ch t _ _ _ _ => sched ch t

def step0 (c : Dev nD) (t : Fin (cfgA ch).N) (prev : (S512x1792.Idx → Elt Ideal .bf16) × (S448x2048.Idx → Elt Ideal .bf16)) : (S512x1792.Idx → Elt Ideal .bf16) × (S448x2048.Idx → Elt Ideal .bf16) :=
  if q0 : P0_0 ch t then
    (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0), out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0))
  else
    if q1 : P0_1 ch t then
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1), out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1))
    else
      if q2 : P0_2 ch t then
        (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2), out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2))
      else
        if q3 : P0_3 ch t then
          (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3), out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3))
        else
          (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3), out0_E_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3))

def traj0 (c : Dev nD) : (n : ℕ) → n < (cfgA ch).N → (S512x1792.Idx → Elt Ideal .bf16) × (S448x2048.Idx → Elt Ideal .bf16)
  | 0, h => step0 ch m ρ c ⟨0, h⟩ (default, default)
  | n + 1, h => step0 ch m ρ c ⟨n + 1, h⟩ (traj0 c n (Nat.lt_of_succ_lt h))

def prev0 (c : Dev nD) (t : Fin (cfgA ch).N) : (S512x1792.Idx → Elt Ideal .bf16) × (S448x2048.Idx → Elt Ideal .bf16) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x1792.Idx → Elt Ideal .bf16) × (S448x2048.Idx → Elt Ideal .bf16)) (q0 : ¬P0_0 ch t) (q1 : ¬P0_1 ch t) (q2 : ¬P0_2 ch t) (q3 : P0_3 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3), out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_A ch t q0 q1 q2 q3)) := by
  unfold step0; simp only [dif_neg q0, dif_neg q1, dif_neg q2, dif_pos q3]

theorem step0_B (c : Dev nD) (t : Fin (cfgA ch).N) (prev : (S512x1792.Idx → Elt Ideal .bf16) × (S448x2048.Idx → Elt Ideal .bf16)) (q0 : ¬P0_0 ch t) (q1 : ¬P0_1 ch t) (q2 : P0_2 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2), out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_B ch t q0 q1 q2)) := by
  unfold step0; simp only [dif_neg q0, dif_neg q1, dif_pos q2]

theorem step0_C (c : Dev nD) (t : Fin (cfgA ch).N) (prev : (S512x1792.Idx → Elt Ideal .bf16) × (S448x2048.Idx → Elt Ideal .bf16)) (q0 : ¬P0_0 ch t) (q1 : P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1), out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_C ch t q0 q1)) := by
  unfold step0; simp only [dif_neg q0, dif_pos q1]

theorem step0_D (c : Dev nD) (t : Fin (cfgA ch).N) (prev : (S512x1792.Idx → Elt Ideal .bf16) × (S448x2048.Idx → Elt Ideal .bf16)) (q0 : P0_0 ch t) :
    step0 ch m ρ c t prev = (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0), out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_D ch t q0)) := by
  unfold step0; simp only [dif_pos q0]

theorem step0_E (c : Dev nD) (t : Fin (cfgA ch).N) (prev : (S512x1792.Idx → Elt Ideal .bf16) × (S448x2048.Idx → Elt Ideal .bf16)) (q0 : ¬P0_0 ch t) (q1 : ¬P0_1 ch t) (q2 : ¬P0_2 ch t) (q3 : ¬P0_3 ch t) :
    step0 ch m ρ c t prev = (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3), out0_E_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) (hypsR0_E ch t q0 q1 q2 q3)) := by
  unfold step0; simp only [dif_neg q0, dif_neg q1, dif_neg q2, dif_neg q3]

def prev0T (c : Dev nD) (t : Fin ((cfgA ch).N + 1)) : (S512x1792.Idx → Elt Ideal .bf16) × (S448x2048.Idx → Elt Ideal .bf16) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch))

def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => (traj0 ch m ρ c t.val t.isLt).1
    | ⟨5, _⟩ => (traj0 ch m ρ c t.val t.isLt).2
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = (traj0 ch m ρ c t.val t.isLt).1 := rfl
theorem after0_5 (c : Dev nD) (t : Fin (cfgA ch).N) : (dats ch m ρ 0 c).after (5 : Fin 6) t = (traj0 ch m ρ c t.val t.isLt).2 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA ch).N) (ht : t.val ≠ 0), (cfgA ch).idle (4 : Fin 6) ((cfgA ch).grid.coords t) = true → (cfgA ch).fresh (4 : Fin 6) t.val = false →
    (dats ch m ρ 0 c).after (4 : Fin 6) t = (dats ch m ρ 0 c).after (4 : Fin 6) ⟨t.val - 1, by omega⟩ := by
  intro t ht hi hf
  rw [after0_4, after0_4, traj0_eq]
  by_cases q0 : P0_0 ch t
  · obtain ⟨i4, -, -, -⟩ := sched0_D ch t q0
    rw [i4] at hi; exact absurd hi (by decide)
  · by_cases q1 : P0_1 ch t
    · obtain ⟨i4, -, -, -⟩ := sched0_C ch t q0 q1
      rw [i4] at hi; exact absurd hi (by decide)
    · by_cases q2 : P0_2 ch t
      · obtain ⟨i4, -, -, -⟩ := sched0_B ch t q0 q1 q2
        rw [i4] at hi; exact absurd hi (by decide)
      · by_cases q3 : P0_3 ch t
        · obtain ⟨i4, -, -, -⟩ := sched0_A ch t q0 q1 q2 q3
          rw [i4] at hi; exact absurd hi (by decide)
        · obtain ⟨i4, -, -, -⟩ := sched0_E ch t q0 q1 q2 q3
          rw [i4] at hi; exact absurd hi (by decide)

theorem before0_4 (c : Dev nD) (t : Fin (cfgA ch).N) (d) :
    (dats ch m ρ 0 c).before (4 : Fin 6) t d = if (cfgA ch).fresh (4 : Fin 6) t.val then d else (prev0 ch m ρ c t).1 := by
  rw [(dats ch m ρ 0 c).before_out_traj (4 : Fin 6) rfl (fun _ _ => rfl) (hcarry0_4 ch m ρ c) t.val t rfl d]
  by_cases hf : (cfgA ch).fresh (4 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · obtain ⟨-, -, -, i5⟩ := sched0_D ch t q0
    rw [i5] at hi; exact absurd hi (by decide)
  · by_cases q1 : P0_1 ch t
    · obtain ⟨-, -, -, i5⟩ := sched0_C ch t q0 q1
      rw [i5] at hi; exact absurd hi (by decide)
    · by_cases q2 : P0_2 ch t
      · obtain ⟨-, -, -, i5⟩ := sched0_B ch t q0 q1 q2
        rw [i5] at hi; exact absurd hi (by decide)
      · by_cases q3 : P0_3 ch t
        · obtain ⟨-, -, -, i5⟩ := sched0_A ch t q0 q1 q2 q3
          rw [i5] at hi; exact absurd hi (by decide)
        · obtain ⟨-, -, -, i5⟩ := sched0_E ch t q0 q1 q2 q3
          rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t).2 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Ideal) Λ₀ .tc) PUnit :=
  cc0_moe_up (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, i5⟩ := sched0_D ch t q0
    have hk := hypsR0_D ch t q0
    rewrite [i4]
    simp only [before0_0, before0_1, before0_2, before0_3, before0_4, before0_5, after0_0, after0_1, after0_2, after0_3, after0_4, after0_5, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_D ch m ρ c t _ q0]
    unfold Phi; simp only [prev0T_castSucc, prev0T_succ, traj0_eq, step0_D ch m ρ c t _ q0, Fin.val_castSucc, Fin.val_succ]
    iintro ⟨⟨HT0⟩, Ho, ⟨%d0, H0⟩, ⟨%d1, H1⟩, ⟨%d2, H2⟩, ⟨%d3, H3⟩, ⟨%d4, H4⟩, ⟨%d5, H5⟩⟩
    iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    isplitl [H5]; · iexists _; iexact H5
    iintro ⟨H0, H1, H2, H3, HT0, ⟨%e4, H4⟩, ⟨%e5, H5⟩⟩
    isplitl [HT0]
    · iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · unfold owns; iexists _; isplitr; swap
      · iexact H4
      · ipureintro; exact View.read_writes_of_cover _ _ _ _ _ (cover0_D_4 c _ _ _ _ _ _ _ _ _ _ _ _ _ _ _ _ _ _ _)
    unfold owns; iexists _; isplitr; swap
    · iexact H5
    · ipureintro; exact View.read_writes_of_cover _ _ _ _ _ (cover0_D_5 c _ _ _ _ _ _ _ _ _ _ _ _ _ _ _ _ _ _ _)
  · by_cases q1 : P0_1 ch t
    · obtain ⟨i4, f4, fr4, i5⟩ := sched0_C ch t q0 q1
      have hk := hypsR0_C ch t q0 q1
      rewrite [i4]
      simp only [before0_0, before0_1, before0_2, before0_3, before0_4, before0_5, after0_0, after0_1, after0_2, after0_3, after0_4, after0_5, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [H4]; · iexists _; iexact H4
      isplitl [H5]; · iexists _; iexact H5
      iintro ⟨H0, H1, H2, H3, HT0, ⟨%e4, H4⟩, ⟨%e5, H5⟩⟩
      isplitl [HT0]
      · iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · unfold owns; iexists _; isplitr; swap
        · iexact H4
        · ipureintro; exact View.read_writes_of_cover _ _ _ _ _ (cover0_C_4 c _ _ _ _ _ _ _ _ _ _ _ _ _ _ _ _ _ _ _)
      unfold owns; iexists _; isplitr; swap
      · iexact H5
      · ipureintro; exact View.read_writes_of_cover _ _ _ _ _ (cover0_C_5 c _ _ _ _ _ _ _ _ _ _ _ _ _ _ _ _ _ _ _)
    · by_cases q2 : P0_2 ch t
      · obtain ⟨i4, f4, fr4, i5⟩ := sched0_B ch t q0 q1 q2
        have hk := hypsR0_B ch t q0 q1 q2
        rewrite [i4]
        simp only [before0_0, before0_1, before0_2, before0_3, before0_4, before0_5, after0_0, after0_1, after0_2, after0_3, after0_4, after0_5, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        iintro ⟨⟨HT0⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [H4]; · iexists _; iexact H4
        isplitl [H5]; · iexists _; iexact H5
        iintro ⟨H0, H1, H2, H3, HT0, ⟨%e4, H4⟩, ⟨%e5, H5⟩⟩
        isplitl [HT0]
        · iexact HT0
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · unfold owns; iexists _; isplitr; swap
          · iexact H4
          · ipureintro; exact View.read_writes_of_cover _ _ _ _ _ (cover0_B_4 c _ _ _ _ _ _ _ _ _ _ _ _ _ _ _ _ _ _ _)
        unfold owns; iexists _; isplitr; swap
        · iexact H5
        · ipureintro; exact View.read_writes_of_cover _ _ _ _ _ (cover0_B_5 c _ _ _ _ _ _ _ _ _ _ _ _ _ _ _ _ _ _ _)
      · by_cases q3 : P0_3 ch t
        · obtain ⟨i4, f4, fr4, i5⟩ := sched0_A ch t q0 q1 q2 q3
          have hk := hypsR0_A ch t q0 q1 q2 q3
          rewrite [i4]
          simp only [before0_0, before0_1, before0_2, before0_3, before0_4, before0_5, after0_0, after0_1, after0_2, after0_3, after0_4, after0_5, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_A ch m ρ c t _ q0 q1 q2 q3]
          unfold Phi; simp only [prev0T_castSucc, prev0T_succ, traj0_eq, step0_A ch m ρ c t _ q0 q1 q2 q3, Fin.val_castSucc, Fin.val_succ]
          iintro ⟨⟨HT0⟩, Ho, ⟨%d0, H0⟩, ⟨%d1, H1⟩, ⟨%d2, H2⟩, ⟨%d3, H3⟩, ⟨%d4, H4⟩, ⟨%d5, H5⟩⟩
          iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [H4]; · iexists _; iexact H4
          isplitl [H5]; · iexists _; iexact H5
          iintro ⟨H0, H1, H2, H3, HT0, ⟨%e4, H4⟩, ⟨%e5, H5⟩⟩
          isplitl [HT0]
          · iexact HT0
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · unfold owns; iexists _; isplitr; swap
            · iexact H4
            · ipureintro; exact View.read_writes_of_cover _ _ _ _ _ (cover0_A_4 c _ _ _ _ _ _ _ _ _ _ _ _ _ _ _ _ _ _ _)
          unfold owns; iexists _; isplitr; swap
          · iexact H5
          · ipureintro; exact View.read_writes_of_cover _ _ _ _ _ (cover0_A_5 c _ _ _ _ _ _ _ _ _ _ _ _ _ _ _ _ _ _ _)
        · obtain ⟨i4, f4, fr4, i5⟩ := sched0_E ch t q0 q1 q2 q3
          have hk := hypsR0_E ch t q0 q1 q2 q3
          rewrite [i4]
          simp only [before0_0, before0_1, before0_2, before0_3, before0_4, before0_5, after0_0, after0_1, after0_2, after0_3, after0_4, after0_5, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2 q3]
          unfold Phi; simp only [prev0T_castSucc, prev0T_succ, traj0_eq, step0_E ch m ρ c t _ q0 q1 q2 q3, Fin.val_castSucc, Fin.val_succ]
          iintro ⟨⟨HT0⟩, Ho, ⟨%d0, H0⟩, ⟨%d1, H1⟩, ⟨%d2, H2⟩, ⟨%d3, H3⟩, ⟨%d4, H4⟩, ⟨%d5, H5⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (iblk ch m ρ c (0 : Fin 6) t) (iblk ch m ρ c (1 : Fin 6) t) (iblk ch m ρ c (2 : Fin 6) t) (iblk ch m ρ c (3 : Fin 6) t) hk).2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [H4]; · iexists _; iexact H4
          isplitl [H5]; · iexists _; iexact H5
          iintro ⟨H0, H1, H2, H3, HT0, ⟨%e4, H4⟩, ⟨%e5, H5⟩⟩
          isplitl [HT0]
          · iexact HT0
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · unfold owns; iexists _; isplitr; swap
            · iexact H4
            · ipureintro; exact View.read_writes_of_cover _ _ _ _ _ (cover0_E_4 c _ _ _ _ _ _ _ _ _ _ _ _ _ _ _ _ _ _ _)
          unfold owns; iexists _; isplitr; swap
          · iexact H5
          · ipureintro; exact View.read_writes_of_cover _ _ _ _ _ (cover0_E_5 c _ _ _ _ _ _ _ _ _ _ _ _ _ _ _ _ _ _ _)

theorem body_obligation (hp : Pinned ch m) (c : Dev nD) : BodyObligation (dats ch m ρ 0 c) (defs₀ (F := Ideal)) Variants.none () Set.univ := fun t => by
  rw [bigSep_W0]
  exact sound_body ch m ρ hp c t

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Ideal)) (onTc (τ := τ) (main (F := Ideal))) (s₀ m ρ) (QC ch m ρ) :=
  (θ_run defs _ _).mono (fun _ h => h.1) (run_main_quiescent ch m ρ hp)

theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _)⟩) (run_main ch m ρ hp)

theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged ch m ρ hp) ((θ_run defs _ _).mono (fun _ h => h.2) (run_main_quiescent ch m ρ hp))

end Cert.UpIdeal.All

end
-- ==== Proof.Words.lean ====
/- Words that name a tile, an expert, a number of rows. -/
module

public import Idealize.ShloMosaic.Lib.Pointwise
public import Idealize.ShloMosaic.PureOps.Ideal

@[expose] public section

noncomputable section

namespace Cert.Words

open Idealize.ShloMosaic

/-- A word above a small number, signed, is above it unsigned. -/
theorem lt_of_slt {a v : BitVec 32} (ha : a.toNat < 2 ^ 31) (h : IntOp.cmpi .slt a v = 1#1) : a.toNat < v.toNat ∧ v.toNat < 2 ^ 31 := by
  have hb : BitVec.slt a v = true := by
    have h' : BitVec.ofBool (BitVec.slt a v) = 1#1 := h
    revert h'; cases BitVec.slt a v <;> decide
  simp only [BitVec.slt, decide_eq_true_eq] at hb
  rw [BitVec.toInt_eq_toNat_cond, BitVec.toInt_eq_toNat_cond] at hb
  have := v.isLt
  split at hb <;> split at hb <;> omega

/-- A tile in use reads its own rows. -/
theorem clamp_used (a v : BitVec 32) (ha : a.toNat < 40) (h : IntOp.cmpi .slt a v = 1#1) :
    (Scalar.maxsi (Scalar.minsi a (Scalar.subi v 1#32)) 0#32).toNat = a.toNat := by
  obtain ⟨h1, h2⟩ := lt_of_slt (by omega) h
  have hs : (v - 1#32).toNat = v.toNat - 1 := by
    rw [BitVec.toNat_sub]; show (2 ^ 32 - 1 + v.toNat) % 2 ^ 32 = _; omega
  have hm : IntOp.minsi a (v - 1#32) = a := by
    unfold IntOp.minsi
    split
    · rfl
    · rename_i hn
      simp only [BitVec.slt, decide_eq_true_eq] at hn
      rw [BitVec.toInt_eq_toNat_cond, BitVec.toInt_eq_toNat_cond] at hn
      apply BitVec.eq_of_toNat_eq
      split at hn <;> split at hn <;> omega
  show (IntOp.maxsi (IntOp.minsi a (v - 1#32)) 0#32).toNat = a.toNat
  rw [hm]
  unfold IntOp.maxsi
  split
  · rfl
  · rename_i hn
    simp only [BitVec.slt, decide_eq_true_eq] at hn
    have h0 : (0#32 : BitVec 32).toInt = 0 := by decide
    rw [h0, BitVec.toInt_eq_toNat_cond] at hn
    show 0 = a.toNat
    split at hn <;> omega

/-- A bit that is the conjunction of two is set when both are. -/
theorem andi_one {a b : BitVec 1} (h : IntOp.andi a b = 1#1) : a = 1#1 ∧ b = 1#1 := by
  revert a b; decide

theorem ofBool_one {b : Bool} (h : BitVec.ofBool b = 1#1) : b = true := by
  revert b; decide

/-- A word between 0 and n, signed, is below n. -/
theorem of_sge_slt {w : BitVec 32} {n : Nat} (hn : n < 2 ^ 31) (h0 : IntOp.cmpi .sge w 0#32 = 1#1) (h1 : IntOp.cmpi .slt w (BitVec.ofNat 32 n) = 1#1) : w.toNat < n := by
  have a := ofBool_one h0
  have b := ofBool_one h1
  simp only [BitVec.sle, BitVec.slt, decide_eq_true_eq] at a b
  rw [BitVec.toInt_eq_toNat_cond, BitVec.toInt_eq_toNat_cond] at a b
  simp only [BitVec.toNat_ofNat] at a b
  have := w.isLt
  split at a <;> split at b <;> split at b <;> omega

/-- A word between 0 and n, signed and inclusive, is at most n. -/
theorem of_sge_sle {w : BitVec 32} {n : Nat} (hn : n < 2 ^ 31) (h0 : IntOp.cmpi .sge w 0#32 = 1#1) (h1 : IntOp.cmpi .sle w (BitVec.ofNat 32 n) = 1#1) : w.toNat < n + 1 := by
  have a := ofBool_one h0
  have b := ofBool_one h1
  simp only [BitVec.sle, decide_eq_true_eq] at a b
  rw [BitVec.toInt_eq_toNat_cond, BitVec.toInt_eq_toNat_cond] at a b
  simp only [BitVec.toNat_ofNat] at a b
  have := w.isLt
  split at a <;> split at b <;> split at b <;> omega

/-- Choosing where two words are equal. -/
theorem select_eq {α : Type} (a k : BitVec 32) (x y : α) : Scalar.select (IntOp.cmpi .eq a k) x y = if a = k then x else y := by
  by_cases he : a = k
  · rw [if_pos he, he]
    have : IntOp.cmpi .eq k k = 1#1 := by simp [IntOp.cmpi]
    rw [this]; rfl
  · rw [if_neg he]
    have : IntOp.cmpi .eq a k = 0#1 := by
      show BitVec.ofBool (a == k) = 0#1
      rw [beq_eq_false_iff_ne.mpr he]; rfl
    rw [this]; rfl

/-- Eight choices by a word that names one of eight. -/
theorem chain (w : BitVec 32) (g : Fin 8 → EReal) (z : EReal) (h : w.toNat < 8) :
    (if w = 7#32 then g 7 else if w = 6#32 then g 6 else if w = 5#32 then g 5 else if w = 4#32 then g 4 else if w = 3#32 then g 3
      else if w = 2#32 then g 2 else if w = 1#32 then g 1 else if w = 0#32 then g 0 else z) = g ⟨w.toNat, h⟩ := by
  obtain ⟨e, rfl⟩ : ∃ e : Fin 8, w = BitVec.ofNat 32 e.val := ⟨⟨w.toNat, h⟩, by simp⟩
  fin_cases e <;> rfl

end Cert.Words

end
-- ==== Proof.UpPre.lean ====
/- What the precondition and the mask of the experts' up product say of the table's words. -/
module

public import proofs.«01_k».proof.Pre_tiles_named
public import proofs.«01_k».proof.On_rows_used
public import proofs.«01_k».proof.Proof.Gen.Pre_tiles_named
public import proofs.«01_k».proof.Proof.Gen.On_rows_used
public import proofs.«01_k».proof.Proof.Words
public import Idealize.ShloMosaic.Lib.Pointwise

@[expose] public section

set_option maxRecDepth 16384

noncomputable section

namespace Cert.UpPre

open Idealize.ShloMosaic Cert.Words

variable {F : FTy → Type} [FloatOps F]

theorem tiles (T : IVec Pre_tiles_named.S8x128 32) (a1 : FVec F Pre_tiles_named.S20480x2048 .bf16) (a2 a3 : FVec F Pre_tiles_named.S8x2048x7168 .bf16) (a4 : FVec F Pre_tiles_named.S57344x2048 .f32)
    (h : Cert.Pre_tiles_named.fn (F := F) T a1 a2 a3 a4 = fun _ => 1#1) (j : Fin 40) :
    (T (ix2 0 ⟨j.val, Nat.lt_trans j.isLt (by decide)⟩)).toNat < 8 ∧ (T (ix2 2 ⟨j.val, Nat.lt_trans j.isLt (by decide)⟩)).toNat ≤ 512 := by
  have hj := congrFun h (ix2 0 j)
  unfold Cert.Pre_tiles_named.fn at hj
  obtain ⟨h1, h2⟩ := andi_one hj
  obtain ⟨h3, h4⟩ := andi_one h1
  obtain ⟨h5, h6⟩ := andi_one h3
  have e0 : extractStridedSlice Pre_tiles_named.S1x40 ![0, 0] T Pre_tiles_named.Facts.slices_S8x128_S1x40_0_0 (ix2 0 j) = T (ix2 0 ⟨j.val, Nat.lt_trans j.isLt (by decide)⟩) := by pointwise
  have e2 : extractStridedSlice Pre_tiles_named.S1x40 ![2, 0] T Pre_tiles_named.Facts.slices_S8x128_S1x40_2_0 (ix2 0 j) = T (ix2 2 ⟨j.val, Nat.lt_trans j.isLt (by decide)⟩) := by pointwise
  rw [← e0, ← e2]
  exact ⟨of_sge_slt (by decide) h5 h6, Nat.lt_succ_iff.mp (of_sge_sle (by decide) h4 h2)⟩

/-- A selected row: its tile is in use, and it is one of the tile's filled rows. -/
theorem used_apply (T : IVec On_rows_used.S8x128 32) (a1 : FVec F On_rows_used.S20480x2048 .bf16) (a2 a3 : FVec F On_rows_used.S8x2048x7168 .bf16) (a4 : FVec F On_rows_used.S57344x2048 .f32)
    (r : Fin 20480) (l : Fin 7168) :
    (Cert.On_rows_used.fn (F := F) T a1 a2 a3 a4).1 (ix2 r l)
      = IntOp.andi (IntOp.cmpi .slt (BitVec.ofNat 32 (r.val / 512)) (T (ix2 1 0)))
          (IntOp.cmpi .slt (BitVec.ofNat 32 (r.val % 512)) (T (ix2 2 ⟨r.val / 512, by have := r.isLt; omega⟩))) := by
  unfold Cert.On_rows_used.fn
  pointwise

end Cert.UpPre

end
-- ==== Proof.UpFrames.lean ====
/- The frames of the experts' up product: the table that the precondition admits, and the runs at it. -/
module

public import proofs.«01_k».proof.Defs
public import proofs.«01_k».proof.Proof.UpPre
public import proofs.«01_k».proof.Proof.UpFlash
public import proofs.«01_k».proof.Proof.UpIdealFlash
public import proofs.«01_k».proof.Proof.Gen.UpReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The table of the launch, as the precondition admits it. -/
def tabUp (m : (ℓ : Loc Cert.Up.nD Cert.Up.τ Cert.Up.sig) → Buf (Elt Bits) ℓ) (h : Cert.Pre_Up m) : Cert.Up.All.Tab :=
  ⟨m (((0 : Dev Cert.Up.nD).tc : Thread Cert.Up.nD Cert.Up.τ).loc Cert.Up.main_arg0), Cert.UpPre.tiles _ _ _ _ _ (h 0)⟩

theorem pinnedUp (m : (ℓ : Loc Cert.Up.nD Cert.Up.τ Cert.Up.sig) → Buf (Elt Bits) ℓ) (h : Cert.Pre_Up m) : Cert.Up.All.Pinned (tabUp m h) m := by
  intro c
  obtain rfl : c = 0 := Subsingleton.elim _ _
  rfl

def tabUpIdeal (m : (ℓ : Loc Cert.UpIdeal.nD Cert.UpIdeal.τ Cert.UpIdeal.sig) → Buf (Elt Ideal) ℓ) (h : Cert.Pre_UpIdeal m) : Cert.UpIdeal.All.Tab :=
  ⟨m (((0 : Dev Cert.UpIdeal.nD).tc : Thread Cert.UpIdeal.nD Cert.UpIdeal.τ).loc Cert.UpIdeal.main_arg0), Cert.UpPre.tiles _ _ _ _ _ (h 0)⟩

theorem pinnedUpIdeal (m : (ℓ : Loc Cert.UpIdeal.nD Cert.UpIdeal.τ Cert.UpIdeal.sig) → Buf (Elt Ideal) ℓ) (h : Cert.Pre_UpIdeal m) : Cert.UpIdeal.All.Pinned (tabUpIdeal m h) m := by
  intro c
  obtain rfl : c = 0 := Subsingleton.elim _ _
  rfl

theorem frame_up : Cert.quiescent_Up := fun m g h => Cert.Up.All.frame (tabUp m h) m g (pinnedUp m h)

theorem frame_up_ideal : Cert.quiescent_UpIdeal := fun m g h => Cert.UpIdeal.All.frame (tabUpIdeal m h) m g (pinnedUpIdeal m h)

theorem frame_up_ri : Cert.quiescent_UpReferenceIdeal := fun m ρ _ =>
  (θ_run Cert.UpReferenceIdeal.defs _ _).mono
    (fun r h => ⟨fun c => (h c).2.2, sem_eq_zero_of_no_sems (by decide) r.2⟩)
    (Cert.UpReferenceIdeal.Value.run (F := Ideal) m ρ)

end Cert.Proof

end
-- ==== Proof.UpBlock.lean ====
/- What the body of the experts' up product leaves in its two output blocks, at an entry. -/
module

public import proofs.«01_k».proof.Proof.UpIdealRuns

@[expose] public section

set_option maxRecDepth 16384

noncomputable section

namespace Cert.UpIdeal.All

open Idealize.ShloMosaic Idealize.ShloMosaic.TcCoe Idealize.SL.Sem
open Cert.UpIdeal Cert.UpIdeal.Gen

/-- A whole buffer starts at zero. -/
theorem z2 : (![0, 0] : Fin 2 → Nat) = fun _ => 0 := by decide

/-- The gated product of two numbers. -/
def act (a b : EReal) : EReal := a * Ideal.div 1 (1 + Ideal.exp (-a)) * b

/-- The gated product of a row of x with a column of each weight block. -/
def gated {n k : Nat} (X : Vec Ideal ⟨2, ![n, 2048]⟩ .bf16) (A B : Vec Ideal ⟨3, ![1, 2048, k]⟩ .bf16) (r : Fin n) (s : Fin k) : EReal :=
  act (∑ x : Fin 2048, X (ix2 r x) * A (ix3 0 x s)) (∑ x : Fin 2048, X (ix2 r x) * B (ix3 0 x s))

/-- The rows loaded from x's block. -/
theorem ldX (x0 : S512x2048.Idx → Elt Ideal .bf16) (n : Nat) (hn : n ≤ 512) (inb) (r : Fin n) (x : Fin 2048) :
    View.ld x0 (Rect.unit ![0, 0] ![n, 2048] inb) (ix2 r x) = x0 (ix2 ⟨r.val, by omega⟩ x) :=
  View.ld_unit_apply_of _ _ _ _ _ _ fun a => by fin_cases a <;> simp

/-- The columns loaded from a weight block. -/
theorem ldW (x1 : S1x2048x1792.Idx → Elt Ideal .bf16) (o : Nat) (ho : o + 256 ≤ 1792) (inb) (x : Fin 2048) (s : Fin 256) :
    View.ld x1 (Rect.unit ![0, 0, o] ![1, 2048, 256] inb) (ix3 0 x s) = x1 (ix3 0 x ⟨o + s.val, by omega⟩) :=
  View.ld_unit_apply_of _ _ _ _ _ _ fun a => by fin_cases a <;> simp

/-- A chunk of columns at an entry is the block's value there. -/
theorem chunk (x0 : S512x2048.Idx → Elt Ideal .bf16) (x1 x2 : S1x2048x1792.Idx → Elt Ideal .bf16) (n : Nat) (hn : n ≤ 512) (o : Nat) (ho : o + 256 ≤ 1792) (y : S512x1792.Idx)
    (i0 i1 i2) (w : (⟨2, ![n, 256]⟩ : Shape).Idx → EReal)
    (hw : ∀ (r : Fin n) (s : Fin 256), w (ix2 r s) = gated (View.ld x0 (Rect.unit ![0, 0] ![n, 2048] i0)) (View.ld x1 (Rect.unit ![0, 0, o] ![1, 2048, 256] i1)) (View.ld x2 (Rect.unit ![0, 0, o] ![1, 2048, 256] i2)) r s) :
    View.TileAt (Val := Elt Ideal) (e := .bf16) y ![0, o] ![n, 256] w (gated (n := 512) (k := 1792) x0 x1 x2 (y 0) (y 1)) := by
  intro x hx
  obtain ⟨r, s, rfl⟩ : ∃ (r : Fin n) (s : Fin 256), x = (ix2 r s : (⟨2, ![n, 256]⟩ : Shape).Idx) := ⟨x 0, x 1, eq_ix2 x⟩
  have h0 : (y 0).val = 0 + r.val := hx 0
  have h1 : (y 1).val = o + s.val := hx 1
  have e0 : (⟨r.val, by omega⟩ : Fin 512) = y 0 := Fin.ext (by show r.val = (y 0).val; omega)
  have e1 : (⟨o + s.val, by omega⟩ : Fin 1792) = y 1 := Fin.ext (by show o + s.val = (y 1).val; omega)
  refine (hw r s).trans ?_
  unfold gated
  refine congrArg₂ act (Finset.sum_congr rfl fun k _ => ?_) (Finset.sum_congr rfl fun k _ => ?_)
  · rw [ldX x0 n hn i0 r k, ldW x1 o ho i1 k s, e0, e1]
  · rw [ldX x0 n hn i0 r k, ldW x2 o ho i2 k s, e0, e1]

/-- A chunk of the 512-row path. -/
theorem payA0 (X : Vec Ideal S512x2048 .bf16) (A B : Vec Ideal S1x2048x256 .bf16) (r : Fin 512) (s : Fin 256) :
    k0_pay54 (F := Ideal) X A B (ix2 r s) = gated X A B r s := by
  unfold gated act
  pointwise [k0_pay54]
  simp only [zero_sub]

/-- A chunk of the 512-row path. -/
theorem payA1 (X : Vec Ideal S512x2048 .bf16) (A B : Vec Ideal S1x2048x256 .bf16) (r : Fin 512) (s : Fin 256) :
    k0_pay56 (F := Ideal) (k0_pay55 X A B) (ix2 r s) = gated X A B r s := by
  unfold gated act
  pointwise [k0_pay56, k0_pay55]
  simp only [zero_sub]

/-- A chunk of the 512-row path. -/
theorem payA2 (X : Vec Ideal S512x2048 .bf16) (A B : Vec Ideal S1x2048x256 .bf16) (r : Fin 512) (s : Fin 256) :
    k0_pay57 (F := Ideal) X A B (ix2 r s) = gated X A B r s := by
  unfold gated act
  pointwise [k0_pay57]
  simp only [zero_sub]

/-- A chunk of the 512-row path. -/
theorem payA3 (X : Vec Ideal S512x2048 .bf16) (A B : Vec Ideal S1x2048x256 .bf16) (r : Fin 512) (s : Fin 256) :
    k0_pay61 (F := Ideal) (k0_pay58 X A) (k0_pay59 X B) (k0_pay60 X A) (ix2 r s) = gated X A B r s := by
  unfold gated act
  pointwise [k0_pay61, k0_pay58, k0_pay59, k0_pay60]
  simp only [zero_sub]

/-- A chunk of the 512-row path. -/
theorem payA4 (X : Vec Ideal S512x2048 .bf16) (A B : Vec Ideal S1x2048x256 .bf16) (r : Fin 512) (s : Fin 256) :
    k0_pay62 (F := Ideal) X A B (ix2 r s) = gated X A B r s := by
  unfold gated act
  pointwise [k0_pay62]
  simp only [zero_sub]

/-- A chunk of the 512-row path. -/
theorem payA5 (X : Vec Ideal S512x2048 .bf16) (A B : Vec Ideal S1x2048x256 .bf16) (r : Fin 512) (s : Fin 256) :
    k0_pay13 (F := Ideal) (k0_pay63 X A) (k0_pay64 X B) (k0_pay65 X A) (FloatOps.ofBits FTy.f32 1065353216#32) (ix2 r s) = gated X A B r s := by
  unfold gated act
  pointwise [k0_pay13, k0_pay63, k0_pay64, k0_pay65]
  simp only [zero_sub]

/-- A chunk of the 512-row path. -/
theorem payA6 (X : Vec Ideal S512x2048 .bf16) (A B : Vec Ideal S1x2048x256 .bf16) (r : Fin 512) (s : Fin 256) :
    k0_pay14 (F := Ideal) X A B (ix2 r s) = gated X A B r s := by
  unfold gated act
  pointwise [k0_pay14]
  simp only [zero_sub]

/-- A chunk of the 384-row path. -/
theorem payB0 (X : Vec Ideal S384x2048 .bf16) (A B : Vec Ideal S1x2048x256 .bf16) (r : Fin 384) (s : Fin 256) :
    k0_pay42 (F := Ideal) X A B (ix2 r s) = gated X A B r s := by
  unfold gated act
  pointwise [k0_pay42]
  simp only [zero_sub]

/-- A chunk of the 384-row path. -/
theorem payB1 (X : Vec Ideal S384x2048 .bf16) (A B : Vec Ideal S1x2048x256 .bf16) (r : Fin 384) (s : Fin 256) :
    k0_pay44 (F := Ideal) (k0_pay43 X A B) (ix2 r s) = gated X A B r s := by
  unfold gated act
  pointwise [k0_pay44, k0_pay43]
  simp only [zero_sub]

/-- A chunk of the 384-row path. -/
theorem payB2 (X : Vec Ideal S384x2048 .bf16) (A B : Vec Ideal S1x2048x256 .bf16) (r : Fin 384) (s : Fin 256) :
    k0_pay45 (F := Ideal) X A B (ix2 r s) = gated X A B r s := by
  unfold gated act
  pointwise [k0_pay45]
  simp only [zero_sub]

/-- A chunk of the 384-row path. -/
theorem payB3 (X : Vec Ideal S384x2048 .bf16) (A B : Vec Ideal S1x2048x256 .bf16) (r : Fin 384) (s : Fin 256) :
    k0_pay49 (F := Ideal) (k0_pay46 X A) (k0_pay47 X B) (k0_pay48 X A) (ix2 r s) = gated X A B r s := by
  unfold gated act
  pointwise [k0_pay49, k0_pay46, k0_pay47, k0_pay48]
  simp only [zero_sub]

/-- A chunk of the 384-row path. -/
theorem payB4 (X : Vec Ideal S384x2048 .bf16) (A B : Vec Ideal S1x2048x256 .bf16) (r : Fin 384) (s : Fin 256) :
    k0_pay50 (F := Ideal) X A B (ix2 r s) = gated X A B r s := by
  unfold gated act
  pointwise [k0_pay50]
  simp only [zero_sub]

/-- A chunk of the 384-row path. -/
theorem payB5 (X : Vec Ideal S384x2048 .bf16) (A B : Vec Ideal S1x2048x256 .bf16) (r : Fin 384) (s : Fin 256) :
    k0_pay9 (F := Ideal) (k0_pay51 X A) (k0_pay52 X B) (k0_pay53 X A) (FloatOps.ofBits FTy.f32 1065353216#32) (ix2 r s) = gated X A B r s := by
  unfold gated act
  pointwise [k0_pay9, k0_pay51, k0_pay52, k0_pay53]
  simp only [zero_sub]

/-- A chunk of the 384-row path. -/
theorem payB6 (X : Vec Ideal S384x2048 .bf16) (A B : Vec Ideal S1x2048x256 .bf16) (r : Fin 384) (s : Fin 256) :
    k0_pay10 (F := Ideal) X A B (ix2 r s) = gated X A B r s := by
  unfold gated act
  pointwise [k0_pay10]
  simp only [zero_sub]

/-- A chunk of the 256-row path. -/
theorem payC0 (X : Vec Ideal S256x2048 .bf16) (A B : Vec Ideal S1x2048x256 .bf16) (r : Fin 256) (s : Fin 256) :
    k0_pay30 (F := Ideal) X A B (ix2 r s) = gated X A B r s := by
  unfold gated act
  pointwise [k0_pay30]
  simp only [zero_sub]

/-- A chunk of the 256-row path. -/
theorem payC1 (X : Vec Ideal S256x2048 .bf16) (A B : Vec Ideal S1x2048x256 .bf16) (r : Fin 256) (s : Fin 256) :
    k0_pay32 (F := Ideal) (k0_pay31 X A B) (ix2 r s) = gated X A B r s := by
  unfold gated act
  pointwise [k0_pay32, k0_pay31]
  simp only [zero_sub]

/-- A chunk of the 256-row path. -/
theorem payC2 (X : Vec Ideal S256x2048 .bf16) (A B : Vec Ideal S1x2048x256 .bf16) (r : Fin 256) (s : Fin 256) :
    k0_pay33 (F := Ideal) X A B (ix2 r s) = gated X A B r s := by
  unfold gated act
  pointwise [k0_pay33]
  simp only [zero_sub]

/-- A chunk of the 256-row path. -/
theorem payC3 (X : Vec Ideal S256x2048 .bf16) (A B : Vec Ideal S1x2048x256 .bf16) (r : Fin 256) (s : Fin 256) :
    k0_pay37 (F := Ideal) (k0_pay34 X A) (k0_pay35 X B) (k0_pay36 X A) (ix2 r s) = gated X A B r s := by
  unfold gated act
  pointwise [k0_pay37, k0_pay34, k0_pay35, k0_pay36]
  simp only [zero_sub]

/-- A chunk of the 256-row path. -/
theorem payC4 (X : Vec Ideal S256x2048 .bf16) (A B : Vec Ideal S1x2048x256 .bf16) (r : Fin 256) (s : Fin 256) :
    k0_pay38 (F := Ideal) X A B (ix2 r s) = gated X A B r s := by
  unfold gated act
  pointwise [k0_pay38]
  simp only [zero_sub]

/-- A chunk of the 256-row path. -/
theorem payC5 (X : Vec Ideal S256x2048 .bf16) (A B : Vec Ideal S1x2048x256 .bf16) (r : Fin 256) (s : Fin 256) :
    k0_pay5 (F := Ideal) (k0_pay39 X A) (k0_pay40 X B) (k0_pay41 X A) (FloatOps.ofBits FTy.f32 1065353216#32) (ix2 r s) = gated X A B r s := by
  unfold gated act
  pointwise [k0_pay5, k0_pay39, k0_pay40, k0_pay41]
  simp only [zero_sub]

/-- A chunk of the 256-row path. -/
theorem payC6 (X : Vec Ideal S256x2048 .bf16) (A B : Vec Ideal S1x2048x256 .bf16) (r : Fin 256) (s : Fin 256) :
    k0_pay6 (F := Ideal) X A B (ix2 r s) = gated X A B r s := by
  unfold gated act
  pointwise [k0_pay6]
  simp only [zero_sub]

/-- A chunk of the 128-row path. -/
theorem payD0 (X : Vec Ideal S128x2048 .bf16) (A B : Vec Ideal S1x2048x256 .bf16) (r : Fin 128) (s : Fin 256) :
    k0_pay18 (F := Ideal) X A B (ix2 r s) = gated X A B r s := by
  unfold gated act
  pointwise [k0_pay18]
  simp only [zero_sub]

/-- A chunk of the 128-row path. -/
theorem payD1 (X : Vec Ideal S128x2048 .bf16) (A B : Vec Ideal S1x2048x256 .bf16) (r : Fin 128) (s : Fin 256) :
    k0_pay20 (F := Ideal) (k0_pay19 X A B) (ix2 r s) = gated X A B r s := by
  unfold gated act
  pointwise [k0_pay20, k0_pay19]
  simp only [zero_sub]

/-- A chunk of the 128-row path. -/
theorem payD2 (X : Vec Ideal S128x2048 .bf16) (A B : Vec Ideal S1x2048x256 .bf16) (r : Fin 128) (s : Fin 256) :
    k0_pay21 (F := Ideal) X A B (ix2 r s) = gated X A B r s := by
  unfold gated act
  pointwise [k0_pay21]
  simp only [zero_sub]

/-- A chunk of the 128-row path. -/
theorem payD3 (X : Vec Ideal S128x2048 .bf16) (A B : Vec Ideal S1x2048x256 .bf16) (r : Fin 128) (s : Fin 256) :
    k0_pay25 (F := Ideal) (k0_pay22 X A) (k0_pay23 X B) (k0_pay24 X A) (ix2 r s) = gated X A B r s := by
  unfold gated act
  pointwise [k0_pay25, k0_pay22, k0_pay23, k0_pay24]
  simp only [zero_sub]

/-- A chunk of the 128-row path. -/
theorem payD4 (X : Vec Ideal S128x2048 .bf16) (A B : Vec Ideal S1x2048x256 .bf16) (r : Fin 128) (s : Fin 256) :
    k0_pay26 (F := Ideal) X A B (ix2 r s) = gated X A B r s := by
  unfold gated act
  pointwise [k0_pay26]
  simp only [zero_sub]

/-- A chunk of the 128-row path. -/
theorem payD5 (X : Vec Ideal S128x2048 .bf16) (A B : Vec Ideal S1x2048x256 .bf16) (r : Fin 128) (s : Fin 256) :
    k0_pay1 (F := Ideal) (k0_pay27 X A) (k0_pay28 X B) (k0_pay29 X A) (FloatOps.ofBits FTy.f32 1065353216#32) (ix2 r s) = gated X A B r s := by
  unfold gated act
  pointwise [k0_pay1, k0_pay27, k0_pay28, k0_pay29]
  simp only [zero_sub]

/-- A chunk of the 128-row path. -/
theorem payD6 (X : Vec Ideal S128x2048 .bf16) (A B : Vec Ideal S1x2048x256 .bf16) (r : Fin 128) (s : Fin 256) :
    k0_pay2 (F := Ideal) X A B (ix2 r s) = gated X A B r s := by
  unfold gated act
  pointwise [k0_pay2]
  simp only [zero_sub]

variable (c : Dev nD) (i : grid0.Coords) (arg3 : Memref sig .tc .vmem S512x2048 .bf16) (harg3 : arg3.IsWhole) (arg4 : Memref sig .tc .vmem S1x2048x1792 .bf16) (harg4 : arg4.IsWhole) (arg5 : Memref sig .tc .vmem S1x2048x1792 .bf16) (harg5 : arg5.IsWhole) (arg6 : Memref sig .tc .vmem S448x2048 .f32) (harg6 : arg6.IsWhole) (arg7 : Memref sig .tc .vmem S512x1792 .bf16) (harg7 : arg7.IsWhole) (arg8 : Memref sig .tc .vmem S448x2048 .bf16) (harg8 : arg8.IsWhole) (T0 : (S8x128.Idx → Elt Ideal .i32))
     (x0 : (S512x2048.Idx → Elt Ideal .bf16)) (x1 : (S1x2048x1792.Idx → Elt Ideal .bf16)) (x2 : (S1x2048x1792.Idx → Elt Ideal .bf16)) (x3 : (S448x2048.Idx → Elt Ideal .f32))

/-- The second result's block is w2's, cast. -/
theorem blockA_5 (hk) :
    out0_A_5 c i arg3 harg3 arg4 harg4 arg5 harg5 arg6 harg6 arg7 harg7 arg8 harg8 T0 x0 x1 x2 x3 hk = truncf .bf16 (F := Ideal) (φ := .f32) x3 bitsLt_bf16_f32 := by
  unfold out0_A_5
  rw [View.read_writes_eq_canon _ _ _ (cover0_A_5 c i arg3 harg3 arg4 harg4 arg5 harg5 arg6 harg6 arg7 harg7 arg8 harg8 T0 x0 x1 x2 x3 hk)]
  unfold kernelRun0_A
  dsimp only
  sl_unfold_words
  simp only [View.readAt_eq_ld, View.read_rep]
  simp only [View.canon_unit_zero (S := S448x2048) z2, View.ld_unit_zero (S := S448x2048) z2]
  rfl

/-- The second result's block is w2's, cast. -/
theorem blockB_5 (hk) :
    out0_B_5 c i arg3 harg3 arg4 harg4 arg5 harg5 arg6 harg6 arg7 harg7 arg8 harg8 T0 x0 x1 x2 x3 hk = truncf .bf16 (F := Ideal) (φ := .f32) x3 bitsLt_bf16_f32 := by
  unfold out0_B_5
  rw [View.read_writes_eq_canon _ _ _ (cover0_B_5 c i arg3 harg3 arg4 harg4 arg5 harg5 arg6 harg6 arg7 harg7 arg8 harg8 T0 x0 x1 x2 x3 hk)]
  unfold kernelRun0_B
  dsimp only
  sl_unfold_words
  simp only [View.readAt_eq_ld, View.read_rep]
  simp only [View.canon_unit_zero (S := S448x2048) z2, View.ld_unit_zero (S := S448x2048) z2]
  rfl

/-- The second result's block is w2's, cast. -/
theorem blockC_5 (hk) :
    out0_C_5 c i arg3 harg3 arg4 harg4 arg5 harg5 arg6 harg6 arg7 harg7 arg8 harg8 T0 x0 x1 x2 x3 hk = truncf .bf16 (F := Ideal) (φ := .f32) x3 bitsLt_bf16_f32 := by
  unfold out0_C_5
  rw [View.read_writes_eq_canon _ _ _ (cover0_C_5 c i arg3 harg3 arg4 harg4 arg5 harg5 arg6 harg6 arg7 harg7 arg8 harg8 T0 x0 x1 x2 x3 hk)]
  unfold kernelRun0_C
  dsimp only
  sl_unfold_words
  simp only [View.readAt_eq_ld, View.read_rep]
  simp only [View.canon_unit_zero (S := S448x2048) z2, View.ld_unit_zero (S := S448x2048) z2]
  rfl

/-- The second result's block is w2's, cast. -/
theorem blockD_5 (hk) :
    out0_D_5 c i arg3 harg3 arg4 harg4 arg5 harg5 arg6 harg6 arg7 harg7 arg8 harg8 T0 x0 x1 x2 x3 hk = truncf .bf16 (F := Ideal) (φ := .f32) x3 bitsLt_bf16_f32 := by
  unfold out0_D_5
  rw [View.read_writes_eq_canon _ _ _ (cover0_D_5 c i arg3 harg3 arg4 harg4 arg5 harg5 arg6 harg6 arg7 harg7 arg8 harg8 T0 x0 x1 x2 x3 hk)]
  unfold kernelRun0_D
  dsimp only
  sl_unfold_words
  simp only [View.readAt_eq_ld, View.read_rep]
  simp only [View.canon_unit_zero (S := S448x2048) z2, View.ld_unit_zero (S := S448x2048) z2]
  rfl

/-- The second result's block is w2's, cast. -/
theorem blockE_5 (hk) :
    out0_E_5 c i arg3 harg3 arg4 harg4 arg5 harg5 arg6 harg6 arg7 harg7 arg8 harg8 T0 x0 x1 x2 x3 hk = truncf .bf16 (F := Ideal) (φ := .f32) x3 bitsLt_bf16_f32 := by
  unfold out0_E_5
  rw [View.read_writes_eq_canon _ _ _ (cover0_E_5 c i arg3 harg3 arg4 harg4 arg5 harg5 arg6 harg6 arg7 harg7 arg8 harg8 T0 x0 x1 x2 x3 hk)]
  unfold kernelRun0_E
  dsimp only
  sl_unfold_words
  simp only [View.readAt_eq_ld, View.read_rep]
  simp only [View.canon_unit_zero (S := S448x2048) z2, View.ld_unit_zero (S := S448x2048) z2]
  rfl

/-- The first result's block on the rows of the 512-row path. -/
theorem blockA_4 (hk) (y : S512x1792.Idx) :
    out0_A_4 c i arg3 harg3 arg4 harg4 arg5 harg5 arg6 harg6 arg7 harg7 arg8 harg8 T0 x0 x1 x2 x3 hk y = gated (n := 512) (k := 1792) x0 x1 x2 (y 0) (y 1) := by
  unfold out0_A_4
  rw [View.read_writes_eq_canon _ _ _ (cover0_A_4 c i arg3 harg3 arg4 harg4 arg5 harg5 arg6 harg6 arg7 harg7 arg8 harg8 T0 x0 x1 x2 x3 hk)]
  refine View.canon_eq_of_allAt _ y _ (cover0_A_4 c i arg3 harg3 arg4 harg4 arg5 harg5 arg6 harg6 arg7 harg7 arg8 harg8 T0 x0 x1 x2 x3 hk y) ?_
  unfold kernelRun0_A
  dsimp only
  sl_unfold_words
  simp only [View.readAt_eq_ld, View.read_rep]
  refine View.allAt_cons_unit _ _ _ _ _ (chunk x0 x1 x2 512 (by decide) 1536 (by decide) y _ _ _ _ fun r s => payA6 _ _ _ r s) ?_
  refine View.allAt_cons_unit _ _ _ _ _ (chunk x0 x1 x2 512 (by decide) 1280 (by decide) y _ _ _ _ fun r s => payA5 _ _ _ r s) ?_
  refine View.allAt_cons_unit _ _ _ _ _ (chunk x0 x1 x2 512 (by decide) 1024 (by decide) y _ _ _ _ fun r s => payA4 _ _ _ r s) ?_
  refine View.allAt_cons_unit _ _ _ _ _ (chunk x0 x1 x2 512 (by decide) 768 (by decide) y _ _ _ _ fun r s => payA3 _ _ _ r s) ?_
  refine View.allAt_cons_unit _ _ _ _ _ (chunk x0 x1 x2 512 (by decide) 512 (by decide) y _ _ _ _ fun r s => payA2 _ _ _ r s) ?_
  refine View.allAt_cons_unit _ _ _ _ _ (chunk x0 x1 x2 512 (by decide) 256 (by decide) y _ _ _ _ fun r s => payA1 _ _ _ r s) ?_
  refine View.allAt_cons_unit _ _ _ _ _ (chunk x0 x1 x2 512 (by decide) 0 (by decide) y _ _ _ _ fun r s => payA0 _ _ _ r s) ?_
  exact View.allAt_nil _ _

/-- The first result's block on the rows of the 384-row path. -/
theorem blockB_4 (hk) (y : S512x1792.Idx) (hy : (y 0).val < 384) :
    out0_B_4 c i arg3 harg3 arg4 harg4 arg5 harg5 arg6 harg6 arg7 harg7 arg8 harg8 T0 x0 x1 x2 x3 hk y = gated (n := 512) (k := 1792) x0 x1 x2 (y 0) (y 1) := by
  unfold out0_B_4
  rw [View.read_writes_eq_canon _ _ _ (cover0_B_4 c i arg3 harg3 arg4 harg4 arg5 harg5 arg6 harg6 arg7 harg7 arg8 harg8 T0 x0 x1 x2 x3 hk)]
  refine View.canon_eq_of_allAt _ y _ (cover0_B_4 c i arg3 harg3 arg4 harg4 arg5 harg5 arg6 harg6 arg7 harg7 arg8 harg8 T0 x0 x1 x2 x3 hk y) ?_
  unfold kernelRun0_B
  dsimp only
  sl_unfold_words
  simp only [View.readAt_eq_ld, View.read_rep]
  refine View.allAt_cons_unit _ _ _ _ _ (fun x hx => absurd (show (y 0).val = 384 + (x 0).val from hx 0) (by omega)) ?_
  refine View.allAt_cons_unit _ _ _ _ _ (chunk x0 x1 x2 384 (by decide) 1536 (by decide) y _ _ _ _ fun r s => payB6 _ _ _ r s) ?_
  refine View.allAt_cons_unit _ _ _ _ _ (chunk x0 x1 x2 384 (by decide) 1280 (by decide) y _ _ _ _ fun r s => payB5 _ _ _ r s) ?_
  refine View.allAt_cons_unit _ _ _ _ _ (chunk x0 x1 x2 384 (by decide) 1024 (by decide) y _ _ _ _ fun r s => payB4 _ _ _ r s) ?_
  refine View.allAt_cons_unit _ _ _ _ _ (chunk x0 x1 x2 384 (by decide) 768 (by decide) y _ _ _ _ fun r s => payB3 _ _ _ r s) ?_
  refine View.allAt_cons_unit _ _ _ _ _ (chunk x0 x1 x2 384 (by decide) 512 (by decide) y _ _ _ _ fun r s => payB2 _ _ _ r s) ?_
  refine View.allAt_cons_unit _ _ _ _ _ (chunk x0 x1 x2 384 (by decide) 256 (by decide) y _ _ _ _ fun r s => payB1 _ _ _ r s) ?_
  refine View.allAt_cons_unit _ _ _ _ _ (chunk x0 x1 x2 384 (by decide) 0 (by decide) y _ _ _ _ fun r s => payB0 _ _ _ r s) ?_
  exact View.allAt_nil _ _

/-- The first result's block on the rows of the 256-row path. -/
theorem blockC_4 (hk) (y : S512x1792.Idx) (hy : (y 0).val < 256) :
    out0_C_4 c i arg3 harg3 arg4 harg4 arg5 harg5 arg6 harg6 arg7 harg7 arg8 harg8 T0 x0 x1 x2 x3 hk y = gated (n := 512) (k := 1792) x0 x1 x2 (y 0) (y 1) := by
  unfold out0_C_4
  rw [View.read_writes_eq_canon _ _ _ (cover0_C_4 c i arg3 harg3 arg4 harg4 arg5 harg5 arg6 harg6 arg7 harg7 arg8 harg8 T0 x0 x1 x2 x3 hk)]
  refine View.canon_eq_of_allAt _ y _ (cover0_C_4 c i arg3 harg3 arg4 harg4 arg5 harg5 arg6 harg6 arg7 harg7 arg8 harg8 T0 x0 x1 x2 x3 hk y) ?_
  unfold kernelRun0_C
  dsimp only
  sl_unfold_words
  simp only [View.readAt_eq_ld, View.read_rep]
  refine View.allAt_cons_unit _ _ _ _ _ (fun x hx => absurd (show (y 0).val = 256 + (x 0).val from hx 0) (by omega)) ?_
  refine View.allAt_cons_unit _ _ _ _ _ (chunk x0 x1 x2 256 (by decide) 1536 (by decide) y _ _ _ _ fun r s => payC6 _ _ _ r s) ?_
  refine View.allAt_cons_unit _ _ _ _ _ (chunk x0 x1 x2 256 (by decide) 1280 (by decide) y _ _ _ _ fun r s => payC5 _ _ _ r s) ?_
  refine View.allAt_cons_unit _ _ _ _ _ (chunk x0 x1 x2 256 (by decide) 1024 (by decide) y _ _ _ _ fun r s => payC4 _ _ _ r s) ?_
  refine View.allAt_cons_unit _ _ _ _ _ (chunk x0 x1 x2 256 (by decide) 768 (by decide) y _ _ _ _ fun r s => payC3 _ _ _ r s) ?_
  refine View.allAt_cons_unit _ _ _ _ _ (chunk x0 x1 x2 256 (by decide) 512 (by decide) y _ _ _ _ fun r s => payC2 _ _ _ r s) ?_
  refine View.allAt_cons_unit _ _ _ _ _ (chunk x0 x1 x2 256 (by decide) 256 (by decide) y _ _ _ _ fun r s => payC1 _ _ _ r s) ?_
  refine View.allAt_cons_unit _ _ _ _ _ (chunk x0 x1 x2 256 (by decide) 0 (by decide) y _ _ _ _ fun r s => payC0 _ _ _ r s) ?_
  exact View.allAt_nil _ _

/-- The first result's block on the rows of the 128-row path. -/
theorem blockD_4 (hk) (y : S512x1792.Idx) (hy : (y 0).val < 128) :
    out0_D_4 c i arg3 harg3 arg4 harg4 arg5 harg5 arg6 harg6 arg7 harg7 arg8 harg8 T0 x0 x1 x2 x3 hk y = gated (n := 512) (k := 1792) x0 x1 x2 (y 0) (y 1) := by
  unfold out0_D_4
  rw [View.read_writes_eq_canon _ _ _ (cover0_D_4 c i arg3 harg3 arg4 harg4 arg5 harg5 arg6 harg6 arg7 harg7 arg8 harg8 T0 x0 x1 x2 x3 hk)]
  refine View.canon_eq_of_allAt _ y _ (cover0_D_4 c i arg3 harg3 arg4 harg4 arg5 harg5 arg6 harg6 arg7 harg7 arg8 harg8 T0 x0 x1 x2 x3 hk y) ?_
  unfold kernelRun0_D
  dsimp only
  sl_unfold_words
  simp only [View.readAt_eq_ld, View.read_rep]
  refine View.allAt_cons_unit _ _ _ _ _ (fun x hx => absurd (show (y 0).val = 128 + (x 0).val from hx 0) (by omega)) ?_
  refine View.allAt_cons_unit _ _ _ _ _ (chunk x0 x1 x2 128 (by decide) 1536 (by decide) y _ _ _ _ fun r s => payD6 _ _ _ r s) ?_
  refine View.allAt_cons_unit _ _ _ _ _ (chunk x0 x1 x2 128 (by decide) 1280 (by decide) y _ _ _ _ fun r s => payD5 _ _ _ r s) ?_
  refine View.allAt_cons_unit _ _ _ _ _ (chunk x0 x1 x2 128 (by decide) 1024 (by decide) y _ _ _ _ fun r s => payD4 _ _ _ r s) ?_
  refine View.allAt_cons_unit _ _ _ _ _ (chunk x0 x1 x2 128 (by decide) 768 (by decide) y _ _ _ _ fun r s => payD3 _ _ _ r s) ?_
  refine View.allAt_cons_unit _ _ _ _ _ (chunk x0 x1 x2 128 (by decide) 512 (by decide) y _ _ _ _ fun r s => payD2 _ _ _ r s) ?_
  refine View.allAt_cons_unit _ _ _ _ _ (chunk x0 x1 x2 128 (by decide) 256 (by decide) y _ _ _ _ fun r s => payD1 _ _ _ r s) ?_
  refine View.allAt_cons_unit _ _ _ _ _ (chunk x0 x1 x2 128 (by decide) 0 (by decide) y _ _ _ _ fun r s => payD0 _ _ _ r s) ?_
  exact View.allAt_nil _ _

end Cert.UpIdeal.All

end
-- ==== Proof.UpValue.lean ====
/- What the experts' up product leaves in its two results. -/
module

public import proofs.«01_k».proof.Proof.UpIdealFlash
public import proofs.«01_k».proof.Proof.UpBlock
public import proofs.«01_k».proof.Proof.Words

@[expose] public section

set_option maxRecDepth 16384

noncomputable section

namespace Cert.UpIdeal.All

open Idealize.ShloMosaic Idealize.ShloMosaic.TcCoe Idealize.SL.Sem
open Cert.UpIdeal Cert.UpIdeal.Gen Cert.Words

/-- The rows of each path. -/
theorem rows_fin : ∀ n : Fin 513,
    (k0_cond1 (BitVec.ofNat 32 n.val) = 1#1 → n.val ≤ 128) ∧ (k0_cond2 (BitVec.ofNat 32 n.val) = 1#1 → n.val ≤ 256)
    ∧ (k0_cond3 (BitVec.ofNat 32 n.val) = 1#1 → n.val ≤ 384)
    ∧ (¬k0_cond1 (BitVec.ofNat 32 n.val) = 1#1 → ¬k0_cond2 (BitVec.ofNat 32 n.val) = 1#1 → ¬k0_cond3 (BitVec.ofNat 32 n.val) = 1#1 → ¬k0_cond4 (BitVec.ofNat 32 n.val) = 1#1 → n.val = 0) := by
  decide +kernel

theorem rows_of (w : BitVec 32) (h : w.toNat ≤ 512) :
    (k0_cond1 w = 1#1 → w.toNat ≤ 128) ∧ (k0_cond2 w = 1#1 → w.toNat ≤ 256) ∧ (k0_cond3 w = 1#1 → w.toNat ≤ 384)
    ∧ (¬k0_cond1 w = 1#1 → ¬k0_cond2 w = 1#1 → ¬k0_cond3 w = 1#1 → ¬k0_cond4 w = 1#1 → w.toNat = 0) := by
  have e : w = BitVec.ofNat 32 w.toNat := by simp
  have := rows_fin ⟨w.toNat, by omega⟩
  dsimp only at this
  rw [← e] at this
  exact this

variable (ch : Tab) (m : (ℓ : Loc nD τ sig) → Buf (Elt Ideal) ℓ) (ρ : Dev nD → PrngReg) (c : Dev nD)

/-- The number of tiles in use, as the index map reads it. -/
theorem used_at :
    ((pfN ch).at 0 (Rect.unit (s := S8x128) ![1, 0] S1x1.size inb_S8x128_S1x1_1_0) numel1_S1x1 : BitVec 32) = ch.1 (ix2 1 0) := by
  refine congrArg ch.1 (funext fun a => Fin.ext ?_)
  fin_cases a <;> rfl

/-- The arguments. -/
abbrev ar1 : Vec Ideal S20480x2048 .bf16 := m ((c : Thread nD τ).loc main_arg1)
abbrev ar2 : Vec Ideal S8x2048x7168 .bf16 := m ((c : Thread nD τ).loc main_arg2)
abbrev ar3 : Vec Ideal S8x2048x7168 .bf16 := m ((c : Thread nD τ).loc main_arg3)
abbrev ar4 : Vec Ideal S57344x2048 .f32 := m ((c : Thread nD τ).loc main_arg4)

/-- A tile's expert and its number of rows in use. -/
def expertOf (k : Fin 40) : Fin 8 := ⟨(ch.1 (ix2 0 ⟨k.val, Nat.lt_trans k.isLt (by decide)⟩)).toNat, (ch.2 k).1⟩
def rowsOf (k : Fin 40) : BitVec 32 := ch.1 (ix2 2 ⟨k.val, Nat.lt_trans k.isLt (by decide)⟩)

/-- The column tile of a point. -/
abbrev colOf (t : Fin (cfgA ch).N) : Fin 4 := (grid0.coords t) 0

theorem col_toNat (i : grid0.Coords) : (BitVec.ofNat 32 (i 0).val).toNat = (i 0).val := by
  rw [BitVec.toNat_ofNat]; exact Nat.mod_eq_of_lt (Nat.lt_trans (i 0).isLt (by decide))

theorem index0 (i : grid0.Coords) (h : IntOp.cmpi .slt (BitVec.ofNat 32 (i 1).val) (ch.1 (ix2 1 0)) = 1#1) :
    cc0_transform_0 inb_S8x128_S1x1_1_0 numel1_S1x1 (pfN ch) i 0 = (i 1).val := by
  have ht := tile_toNat i
  have h40 : (i 1).val < 40 := (i 1).isLt
  refine Eq.trans (show _ = (Scalar.maxsi (Scalar.minsi (BitVec.ofNat 32 (i 1).val) (Scalar.subi ((pfN ch).at 0 (Rect.unit (s := S8x128) ![1, 0] S1x1.size inb_S8x128_S1x1_1_0) numel1_S1x1 : BitVec 32) 1#32)) 0#32).toNat from rfl) ?_
  rw [used_at, clamp_used _ _ (by omega) h, ht]

/-- The blocks of a point. -/
theorem blk0 (t : Fin (cfgA ch).N) (h : IntOp.cmpi .slt (BitVec.ofNat 32 (tileOf ch t).val) (ch.1 (ix2 1 0)) = 1#1) (r : Fin 512) (x : Fin 2048) :
    (iblk ch m ρ c (0 : Fin 6) t : Vec Ideal S512x2048 .bf16) (ix2 r x)
      = ar1 m c (ix2 ⟨(tileOf ch t).val * 512 + r.val, by have := (tileOf ch t).isLt; omega⟩ x) := by
  refine congrArg (ar1 m c) (funext fun a => Fin.ext ?_)
  fin_cases a
  · show cc0_transform_0 inb_S8x128_S1x1_1_0 numel1_S1x1 (pfN ch) (grid0.coords t) 0 * 512 + 1 * r.val = (tileOf ch t).val * 512 + r.val
    rw [index0 ch _ h, Nat.one_mul]
  · show 0 * 2048 + 1 * x.val = x.val
    omega

theorem blk1 (t : Fin (cfgA ch).N) (x : Fin 2048) (s : Fin 1792) :
    (iblk ch m ρ c (1 : Fin 6) t : Vec Ideal S1x2048x1792 .bf16) (ix3 0 x s)
      = ar2 m c (ix3 (expertOf ch (tileOf ch t)) x
          ⟨(colOf ch t).val * 1792 + s.val, by have := (colOf ch t).isLt; omega⟩) := by
  refine congrArg (ar2 m c) (funext fun a => Fin.ext ?_)
  fin_cases a
  · show ((pfN ch).at 0 (Rect.unit (s := S8x128) (k0_off1 (grid0.coords t)) S1x1.size (k0_off1_inb (grid0.coords t))) numel1_S1x1 : BitVec 32).toNat * 1 + 1 * 0 = _
    rw [expert_at, Nat.mul_one]
    rfl
  · show 0 * 2048 + 1 * x.val = x.val
    omega
  · show (BitVec.ofNat 32 ((grid0.coords t) 0).val).toNat * 1792 + 1 * s.val = _
    rw [col_toNat, Nat.one_mul]
    rfl

theorem blk2 (t : Fin (cfgA ch).N) (x : Fin 2048) (s : Fin 1792) :
    (iblk ch m ρ c (2 : Fin 6) t : Vec Ideal S1x2048x1792 .bf16) (ix3 0 x s)
      = ar3 m c (ix3 (expertOf ch (tileOf ch t)) x
          ⟨(colOf ch t).val * 1792 + s.val, by have := (colOf ch t).isLt; omega⟩) := by
  refine congrArg (ar3 m c) (funext fun a => Fin.ext ?_)
  fin_cases a
  · show ((pfN ch).at 0 (Rect.unit (s := S8x128) (k0_off1 (grid0.coords t)) S1x1.size (k0_off1_inb (grid0.coords t))) numel1_S1x1 : BitVec 32).toNat * 1 + 1 * 0 = _
    rw [expert_at, Nat.mul_one]
    rfl
  · show 0 * 2048 + 1 * x.val = x.val
    omega
  · show (BitVec.ofNat 32 ((grid0.coords t) 0).val).toNat * 1792 + 1 * s.val = _
    rw [col_toNat, Nat.one_mul]
    rfl

/-! ## The results -/

/-- The tile of a row of the result. -/
abbrev tileAt (i : S20480x7168.Idx) : Fin 40 := ⟨(i 0).val / 512, by have h : (i 0).val < 20480 := (i 0).isLt; omega⟩

/-- A row of the result is one of a tile's rows in use. -/
def Used (i : S20480x7168.Idx) : Prop :=
  IntOp.cmpi .slt (BitVec.ofNat 32 ((i 0).val / 512)) (ch.1 (ix2 1 0)) = 1#1
    ∧ IntOp.cmpi .slt (BitVec.ofNat 32 ((i 0).val % 512)) (rowsOf ch (tileAt i)) = 1#1

/-- The first result at an entry: the gated product with the weights of the row's expert. -/
def gate (i : S20480x7168.Idx) : EReal :=
  act (∑ x : Fin 2048, ar1 m c (ix2 (i 0) x) * ar2 m c (ix3 (expertOf ch (tileAt i)) x (i 1)))
    (∑ x : Fin 2048, ar1 m c (ix2 (i 0) x) * ar3 m c (ix3 (expertOf ch (tileAt i)) x (i 1)))

/-- The blocks' gated product is the result's. -/
theorem gated_eq (t : Fin (cfgA ch).N) (y : S512x1792.Idx) (i : S20480x7168.Idx)
    (h0 : (i 0).val = (tileOf ch t).val * 512 + (y 0).val) (h1 : (i 1).val = (colOf ch t).val * 1792 + (y 1).val) (hu : Used ch i) :
    gated (n := 512) (k := 1792) (iblk ch m ρ c (0 : Fin 6) t) (iblk ch m ρ c (1 : Fin 6) t) (iblk ch m ρ c (2 : Fin 6) t) (y 0) (y 1) = gate ch m c i := by
  have hy : (y 0).val < 512 := (y 0).isLt
  have ht : tileAt i = tileOf ch t := Fin.ext (by show (i 0).val / 512 = _; omega)
  have hu0 : IntOp.cmpi .slt (BitVec.ofNat 32 (tileOf ch t).val) (ch.1 (ix2 1 0)) = 1#1 := by rw [← ht]; exact hu.1
  have e0 : (⟨(tileOf ch t).val * 512 + (y 0).val, by have := (tileOf ch t).isLt; omega⟩ : Fin 20480) = i 0 := Fin.ext h0.symm
  have e1 : (⟨(colOf ch t).val * 1792 + (y 1).val, by have := (colOf ch t).isLt; have h : (y 1).val < 1792 := (y 1).isLt; omega⟩ : Fin 7168) = i 1 := Fin.ext h1.symm
  unfold gate
  rw [ht]
  unfold gated
  refine congrArg₂ act (Finset.sum_congr rfl fun x _ => ?_) (Finset.sum_congr rfl fun x _ => ?_)
  · exact congrArg₂ (· * ·) ((blk0 ch m ρ c t hu0 (y 0) x).trans (by rw [e0])) ((blk1 ch m ρ c t x (y 1)).trans (by rw [e1]))
  · exact congrArg₂ (· * ·) ((blk0 ch m ρ c t hu0 (y 0) x).trans (by rw [e0])) ((blk2 ch m ρ c t x (y 1)).trans (by rw [e1]))

/-- A point leaves its rows in use. -/
theorem left (t : Fin (cfgA ch).N) (y : S512x1792.Idx) (i : S20480x7168.Idx)
    (h0 : (i 0).val = (tileOf ch t).val * 512 + (y 0).val) (h1 : (i 1).val = (colOf ch t).val * 1792 + (y 1).val) (hu : Used ch i) :
    (traj0 ch m ρ c t.val t.isLt).1 y = gate ch m c i := by
  have hy : (y 0).val < 512 := (y 0).isLt
  have ht : tileAt i = tileOf ch t := Fin.ext (by show (i 0).val / 512 = _; omega)
  have hr := hu.2
  rw [ht, show (i 0).val % 512 = (y 0).val by omega, show rowsOf ch (tileOf ch t) = _ from (rows_at ch t).symm] at hr
  obtain ⟨hlt, -⟩ := lt_of_slt (by rw [BitVec.toNat_ofNat]; omega) hr
  rw [BitVec.toNat_ofNat, Nat.mod_eq_of_lt (by omega)] at hlt
  obtain ⟨rD, rC, rB, rE⟩ := rows_of _ (word_le ch t)
  rw [← gated_eq ch m ρ c t y i h0 h1 hu, traj0_eq]
  by_cases q0 : P0_0 ch t
  · rw [step0_D ch m ρ c t _ q0]
    dsimp only
    exact blockD_4 _ _ _ _ _ _ _ _ _ _ _ _ _ _ _ _ _ _ _ _ y (by have := rD q0; omega)
  · by_cases q1 : P0_1 ch t
    · rw [step0_C ch m ρ c t _ q0 q1]
      dsimp only
      exact blockC_4 _ _ _ _ _ _ _ _ _ _ _ _ _ _ _ _ _ _ _ _ y (by have := rC q1; omega)
    · by_cases q2 : P0_2 ch t
      · rw [step0_B ch m ρ c t _ q0 q1 q2]
        dsimp only
        exact blockB_4 _ _ _ _ _ _ _ _ _ _ _ _ _ _ _ _ _ _ _ _ y (by have := rB q2; omega)
      · by_cases q3 : P0_3 ch t
        · rw [step0_A ch m ρ c t _ q0 q1 q2 q3]
          dsimp only
          exact blockA_4 _ _ _ _ _ _ _ _ _ _ _ _ _ _ _ _ _ _ _ _ y
        · have := rE q0 q1 q2 q3
          omega

/-- A point leaves w2's block, cast. -/
theorem left5 (t : Fin (cfgA ch).N) :
    (traj0 ch m ρ c t.val t.isLt).2 = truncf .bf16 (F := Ideal) (φ := .f32) (iblk ch m ρ c (3 : Fin 6) t : Vec Ideal S448x2048 .f32) bitsLt_bf16_f32 := by
  rw [traj0_eq]
  by_cases q0 : P0_0 ch t
  · rw [step0_D ch m ρ c t _ q0]
    dsimp only
    exact blockD_5 _ _ _ _ _ _ _ _ _ _ _ _ _ _ _ _ _ _ _ _
  · by_cases q1 : P0_1 ch t
    · rw [step0_C ch m ρ c t _ q0 q1]
      dsimp only
      exact blockC_5 _ _ _ _ _ _ _ _ _ _ _ _ _ _ _ _ _ _ _ _
    · by_cases q2 : P0_2 ch t
      · rw [step0_B ch m ρ c t _ q0 q1 q2]
        dsimp only
        exact blockB_5 _ _ _ _ _ _ _ _ _ _ _ _ _ _ _ _ _ _ _ _
      · by_cases q3 : P0_3 ch t
        · rw [step0_A ch m ρ c t _ q0 q1 q2 q3]
          dsimp only
          exact blockA_5 _ _ _ _ _ _ _ _ _ _ _ _ _ _ _ _ _ _ _ _
        · rw [step0_E ch m ρ c t _ q0 q1 q2 q3]
          dsimp only
          exact blockE_5 _ _ _ _ _ _ _ _ _ _ _ _ _ _ _ _ _ _ _ _

/-- The written blocks cover the results. -/
theorem covers4_0 : ((cfgA tab0).win (4 : Fin 6)).Covers := by decide +kernel
theorem covers4 : ((cfgA ch).win (4 : Fin 6)).Covers := covers4_0
theorem covers5_0 : ((cfgA tab0).win (5 : Fin 6)).Covers := by decide +kernel
theorem covers5 : ((cfgA ch).win (5 : Fin 6)).Covers := covers5_0

/-- The first result, on the rows in use. -/
theorem result4 (i : S20480x7168.Idx) (hu : Used ch i) :
    ((dats ch m ρ 0 c).arrAt (4 : Fin 6) (cfgA ch).N : Vec Ideal S20480x7168 .bf16) i = gate ch m c i := by
  refine (dats ch m ρ 0 c).arrAt_forall_of_covers (4 : Fin 6) (fun i v => Used ch i → v = gate ch m c i) (covers4 ch) (fun t hf y => ?_) i (Memref.isWhole_whole _) hu
  intro hu
  refine left ch m ρ c t y _ ?_ ?_ hu
  · show (BitVec.ofNat 32 ((grid0.coords t) 1).val).toNat * 512 + 1 * (y 0).val = _
    rw [tile_toNat, Nat.one_mul]
  · show (BitVec.ofNat 32 ((grid0.coords t) 0).val).toNat * 1792 + 1 * (y 1).val = _
    rw [col_toNat, Nat.one_mul]

/-- The second result is w2, cast. -/
theorem result5 :
    ((dats ch m ρ 0 c).arrAt (5 : Fin 6) (cfgA ch).N : Vec Ideal S57344x2048 .bf16) = truncf .bf16 (F := Ideal) (φ := .f32) (ar4 m c) bitsLt_bf16_f32 := by
  refine (dats ch m ρ 0 c).arrAt_eq_of_covers (5 : Fin 6) _ (covers5 ch) (fun t hf y => ?_) (Memref.isWhole_whole _)
  exact (congrFun (left5 ch m ρ c t) y).trans rfl

end Cert.UpIdeal.All

end
-- ==== Proof.UpRef.lean ====
/- What the experts' up product's reference computes, at an entry. -/
module

public import proofs.«01_k».proof.Proof.UpBlock
public import proofs.«01_k».proof.Proof.Words
public import proofs.«01_k».proof.Proof.Gen.UpReferenceIdeal.Run
public import Idealize.ShloMosaic.Lib.Tactic.ValueTie

@[expose] public section

set_option maxRecDepth 16384

noncomputable section

namespace Cert.UpReferenceIdeal.Entry

open Idealize.ShloMosaic Idealize.ShloMosaic.TcCoe Idealize.SL.Sem
open Cert.UpReferenceIdeal Cert.UpReferenceIdeal.Gen Cert.UpReferenceIdeal.Value Cert.Words
open Cert.UpIdeal.All (act)

/-- The rows times one expert's weights. -/
def prod (X : Vec Ideal S20480x2048 .bf16) (W : Vec Ideal S8x2048x7168 .bf16) (e : Fin 8) (i : S20480x7168.Idx) : EReal :=
  ∑ x : Fin 2048, X (ix2 (i 0) x) * W (ix3 e x (i 1))

theorem prod_apply (o : Nat) (ho : o < 8) (hs : S8x2048x7168.Slices ![o, 0, 0] S1x2048x7168) (X : Vec Ideal S20480x2048 .bf16) (W : Vec Ideal S8x2048x7168 .bf16) (i : S20480x7168.Idx) :
    Host.dotGeneral (F := Ideal) (φ₁ := .f32) (φ₂ := .f32) dot_S20480x2048_S2048x7168_S20480x7168_1_0_0_1_n_n none (extf .f32 (F := Ideal) (φ := .bf16) X bitsLt_bf16_f32)
      (extf .f32 (F := Ideal) (φ := .bf16) (shapeCast _ (extractStridedSlice S1x2048x7168 ![o, 0, 0] W hs) shapeCasts_S1x2048x7168_S2048x7168) bitsLt_bf16_f32) i
      = prod X W ⟨o, ho⟩ i := by
  unfold prod
  pointwise

theorem gate_apply (A B : Vec Ideal S20480x7168 .f32) (i : S20480x7168.Idx) :
    mulf (F := Ideal) (φ := .f32) (mulf (F := Ideal) (φ := .f32) A (Host.divf (F := Ideal) (φ := .f32) (broadcastInDim S20480x7168 ![] bcast_S_S20480x7168 (constant (F := Ideal) S_ .f32 0x3F800000#32))
      (addf (F := Ideal) (φ := .f32) (broadcastInDim S20480x7168 ![] bcast_S_S20480x7168 (constant (F := Ideal) S_ .f32 0x3F800000#32)) (Host.exp (F := Ideal) (φ := .f32) (Host.negf (F := Ideal) (φ := .f32) A))))) B i
      = act (A i) (B i) := by
  unfold act
  pointwise

theorem pick (E : IVec S20480 32) (k : BitVec 32) (A B : Vec Ideal S20480x7168 .f32) (i : S20480x7168.Idx) :
    select (broadcastInDim S20480x7168 ![0, 1] bcast_S20480x1_S20480x7168_0_1 (broadcastInDim S20480x1 ![0] bcast_S20480_S20480x1_0 (cmpi .eq E (broadcastInDim S20480 ![] bcast_S_S20480 (constantI S_ 32 k))))) A B i
      = if E (ix1 (i 0)) = k then A i else B i := by
  have h : select (broadcastInDim S20480x7168 ![0, 1] bcast_S20480x1_S20480x7168_0_1 (broadcastInDim S20480x1 ![0] bcast_S20480_S20480x1_0 (cmpi .eq E (broadcastInDim S20480 ![] bcast_S_S20480 (constantI S_ 32 k))))) A B i
      = Scalar.select (IntOp.cmpi .eq (E (ix1 (i 0))) k) (A i) (B i) := by pointwise
  exact h.trans (select_eq _ _ _ _)

/-- The expert of a row. -/
theorem expert_apply (V : Valuation τ sig (Elt Ideal)) (r : Fin 20480) :
    (res_main_v5 (F := Ideal) V : IVec S20480 32) (ix1 r) = (V (Proc.devRef .tc main_arg0) : IVec S8x128 32) (ix2 0 ⟨r.val / 512, by have := r.isLt; omega⟩) := by
  unfold res_main_v5
  generalize V (Proc.devRef .tc main_arg0) = T
  pointwise

/-- One expert's gated product. -/
def one (V : Valuation τ sig (Elt Ideal)) (i : S20480x7168.Idx) (e : Fin 8) : EReal :=
  act (prod (V (Proc.devRef .tc main_arg1)) (V (Proc.devRef .tc main_arg2)) e i) (prod (V (Proc.devRef .tc main_arg1)) (V (Proc.devRef .tc main_arg3)) e i)

/-- The reference's first result. -/
def first (V : Valuation τ sig (Elt Ideal)) : Vec Ideal S20480x7168 .bf16 :=
  truncf .bf16 (F := Ideal) (φ := .f32) (select (broadcastInDim S20480x7168 ![0, 1] bcast_S20480x1_S20480x7168_0_1 (broadcastInDim S20480x1 ![0] bcast_S20480_S20480x1_0 (cmpi .eq (res_main_v5 V) (broadcastInDim S20480 ![] bcast_S_S20480 (constantI S_ 32 7#32))))) (mulf (mulf (res_main_v114 V) (Host.divf (broadcastInDim S20480x7168 ![] bcast_S_S20480x7168 (constant S_ .f32 0x3F800000#32)) (addf (broadcastInDim S20480x7168 ![] bcast_S_S20480x7168 (constant S_ .f32 0x3F800000#32)) (Host.exp (Host.negf (res_main_v114 V)))))) (Host.dotGeneral (F := Ideal) (φ₁ := .f32) (φ₂ := .f32) dot_S20480x2048_S2048x7168_S20480x7168_1_0_0_1_n_n none (res_main_v0 V) (extf .f32 (shapeCast _ (extractStridedSlice S1x2048x7168 ![7, 0, 0] (V (Proc.devRef .tc main_arg3)) slices_S8x2048x7168_S1x2048x7168_7_0_0) shapeCasts_S1x2048x7168_S2048x7168) bitsLt_bf16_f32))) (select (broadcastInDim S20480x7168 ![0, 1] bcast_S20480x1_S20480x7168_0_1 (broadcastInDim S20480x1 ![0] bcast_S20480_S20480x1_0 (cmpi .eq (res_main_v5 V) (broadcastInDim S20480 ![] bcast_S_S20480 (constantI S_ 32 6#32))))) (mulf (mulf (res_main_v100 V) (Host.divf (broadcastInDim S20480x7168 ![] bcast_S_S20480x7168 (constant S_ .f32 0x3F800000#32)) (addf (broadcastInDim S20480x7168 ![] bcast_S_S20480x7168 (constant S_ .f32 0x3F800000#32)) (Host.exp (Host.negf (res_main_v100 V)))))) (Host.dotGeneral (F := Ideal) (φ₁ := .f32) (φ₂ := .f32) dot_S20480x2048_S2048x7168_S20480x7168_1_0_0_1_n_n none (res_main_v0 V) (extf .f32 (shapeCast _ (extractStridedSlice S1x2048x7168 ![6, 0, 0] (V (Proc.devRef .tc main_arg3)) slices_S8x2048x7168_S1x2048x7168_6_0_0) shapeCasts_S1x2048x7168_S2048x7168) bitsLt_bf16_f32))) (res_main_v90 V))) bitsLt_bf16_f32

/-- At an entry it is the gated product with the weights of the row's expert. -/
theorem first_apply (V : Valuation τ sig (Elt Ideal)) (i : S20480x7168.Idx)
    (h : ((V (Proc.devRef .tc main_arg0) : IVec S8x128 32) (ix2 0 ⟨(i 0).val / 512, by have h : (i 0).val < 20480 := (i 0).isLt; omega⟩)).toNat < 8) :
    first V i = one V i ⟨((V (Proc.devRef .tc main_arg0) : IVec S8x128 32) (ix2 0 ⟨(i 0).val / 512, by have h : (i 0).val < 20480 := (i 0).isLt; omega⟩)).toNat, h⟩ := by
  refine Eq.trans ?_ (chain _ (one V i) (broadcastInDim S20480x7168 ![] bcast_S_S20480x7168 (constant (F := Ideal) S_ .f32 0x00000000#32) i) h)
  have hx := expert_apply V (i 0)
  have g : ∀ (o : Nat) (ho : o < 8) (hs : S8x2048x7168.Slices ![o, 0, 0] S1x2048x7168) (A : Vec Ideal S20480x7168 .f32),
      A = Host.dotGeneral (F := Ideal) (φ₁ := .f32) (φ₂ := .f32) dot_S20480x2048_S2048x7168_S20480x7168_1_0_0_1_n_n none (res_main_v0 V)
        (extf .f32 (F := Ideal) (φ := .bf16) (shapeCast _ (extractStridedSlice S1x2048x7168 ![o, 0, 0] (V (Proc.devRef .tc main_arg2)) hs) shapeCasts_S1x2048x7168_S2048x7168) bitsLt_bf16_f32) →
      mulf (F := Ideal) (φ := .f32) (mulf (F := Ideal) (φ := .f32) A (Host.divf (F := Ideal) (φ := .f32) (broadcastInDim S20480x7168 ![] bcast_S_S20480x7168 (constant (F := Ideal) S_ .f32 0x3F800000#32))
        (addf (F := Ideal) (φ := .f32) (broadcastInDim S20480x7168 ![] bcast_S_S20480x7168 (constant (F := Ideal) S_ .f32 0x3F800000#32)) (Host.exp (F := Ideal) (φ := .f32) (Host.negf (F := Ideal) (φ := .f32) A)))))
        (Host.dotGeneral (F := Ideal) (φ₁ := .f32) (φ₂ := .f32) dot_S20480x2048_S2048x7168_S20480x7168_1_0_0_1_n_n none (res_main_v0 V)
          (extf .f32 (F := Ideal) (φ := .bf16) (shapeCast _ (extractStridedSlice S1x2048x7168 ![o, 0, 0] (V (Proc.devRef .tc main_arg3)) hs) shapeCasts_S1x2048x7168_S2048x7168) bitsLt_bf16_f32)) i
        = one V i ⟨o, ho⟩ := by
    intro o ho hs A hA
    rw [gate_apply, hA]
    exact congrArg₂ act (prod_apply o ho hs _ _ i) (prod_apply o ho hs _ _ i)
  refine (pick _ _ _ _ i).trans ?_
  rw [hx]
  refine if_congr Iff.rfl (g 7 (by decide) _ _ rfl) ?_
  refine (pick _ _ _ _ i).trans ?_
  rw [hx]
  refine if_congr Iff.rfl (g 6 (by decide) _ _ rfl) ?_
  unfold res_main_v90
  refine (pick _ _ _ _ i).trans ?_
  rw [hx]
  refine if_congr Iff.rfl (g 5 (by decide) _ _ rfl) ?_
  refine (pick _ _ _ _ i).trans ?_
  rw [hx]
  refine if_congr Iff.rfl (g 4 (by decide) _ _ rfl) ?_
  refine (pick _ _ _ _ i).trans ?_
  rw [hx]
  refine if_congr Iff.rfl (g 3 (by decide) _ _ rfl) ?_
  refine (pick _ _ _ _ i).trans ?_
  rw [hx]
  refine if_congr Iff.rfl (g 2 (by decide) _ _ rfl) ?_
  refine (pick _ _ _ _ i).trans ?_
  rw [hx]
  refine if_congr Iff.rfl (g 1 (by decide) _ _ rfl) ?_
  refine (pick _ _ _ _ i).trans ?_
  rw [hx]
  refine if_congr Iff.rfl (g 0 (by decide) _ _ rfl) ?_
  rfl

end Cert.UpReferenceIdeal.Entry

end
-- ==== Proof.UpTie.lean ====
/- The experts' up product. -/
module

public import proofs.«01_k».proof.Proof.UpFrames
public import proofs.«01_k».proof.Proof.UpValue
public import proofs.«01_k».proof.Proof.UpRef

@[expose] public section

set_option maxRecDepth 16384

noncomputable section

namespace Cert.Proof

open Idealize.ShloMosaic Idealize.ShloMosaic.TcCoe Idealize.SL.Sem
open Idealize.ShloMosaic.StableHlo

/-- A selected entry is one of a tile's rows in use. -/
theorem used_of (m : (ℓ : Loc Cert.UpIdeal.nD Cert.UpIdeal.τ Cert.UpIdeal.sig) → Buf (Elt Ideal) ℓ) (h : Cert.Pre_UpIdeal m)
    (a1 : FVec Ideal On_rows_used.S20480x2048 .bf16) (a2 a3 : FVec Ideal On_rows_used.S8x2048x7168 .bf16) (a4 : FVec Ideal On_rows_used.S57344x2048 .f32)
    (i : Cert.UpIdeal.S20480x7168.Idx) (hi : (Cert.On_rows_used.fn (F := Ideal) (tabUpIdeal m h).1 a1 a2 a3 a4).1 i = 1#1) :
    Cert.UpIdeal.All.Used (tabUpIdeal m h) i := by
  rw [show i = (ix2 (i 0) (i 1) : Cert.UpIdeal.S20480x7168.Idx) from eq_ix2 i] at hi
  exact Cert.Words.andi_one ((Cert.UpPre.used_apply _ a1 a2 a3 a4 (i 0) (i 1)).symm.trans hi)

/-- The experts' up product, on the rows in use. -/
theorem algebraic_up : Cert.algebraic_UpIdeal_UpReferenceIdeal_on_rows_used := by
  intro m ρ m' ρ' h hagree
  refine ⟨fun c => Cert.UpIdeal.All.gate (tabUpIdeal m h) m c, fun c => truncf .bf16 (F := Ideal) (φ := .f32) (Cert.UpIdeal.All.ar4 m c) Cert.UpIdeal.Gen.bitsLt_bf16_f32, ?_, ?_⟩
  · refine (θ_run Cert.UpIdeal.defs _ _).mono (fun r hr c => ⟨fun i hi => ?_, fun i _ => ?_, hr.2 c⟩)
      (θ_run_and (Cert.UpIdeal.All.run_main (tabUpIdeal m h) m ρ (pinnedUpIdeal m h)) (Cert.UpIdeal.All.unchanged (tabUpIdeal m h) m ρ (pinnedUpIdeal m h)))
    · obtain rfl : c = 0 := Subsingleton.elim _ _
      exact (congrFun ((hr.1 0).1 (4 : Fin 6)) i).trans (Cert.UpIdeal.All.result4 (tabUpIdeal m h) m ρ 0 i (used_of m h _ _ _ _ i hi))
    · exact (congrFun ((hr.1 c).1 (5 : Fin 6)) i).trans (congrFun (Cert.UpIdeal.All.result5 (tabUpIdeal m h) m ρ c) i)
  · refine (θ_run Cert.UpReferenceIdeal.defs _ _).mono (fun r hr c => ⟨fun i hi => ?_, fun i _ => ?_, (hr c).2.2⟩)
      (Cert.UpReferenceIdeal.Value.run (F := Ideal) m' ρ')
    · obtain rfl : c = 0 := Subsingleton.elim _ _
      obtain ⟨e0, e1, e2, e3, -⟩ := hagree 0
      have hx := (Cert.UpIdeal.All.expertOf (tabUpIdeal m h) (Cert.UpIdeal.All.tileAt i)).isLt
      have hT : (launchContents m' 0 (Proc.devRef .tc Cert.UpReferenceIdeal.main_arg0) : IVec Cert.UpReferenceIdeal.S8x128 32) = (tabUpIdeal m h).1 := e0
      have hf := Cert.UpReferenceIdeal.Entry.first_apply (launchContents m' 0) i (by rw [hT]; exact hx)
      refine (congrFun (hr 0).1 i).trans (hf.trans ?_)
      unfold Cert.UpReferenceIdeal.Entry.one Cert.UpReferenceIdeal.Entry.prod Cert.UpIdeal.All.gate
      have h1 : (launchContents m' 0 (Proc.devRef .tc Cert.UpReferenceIdeal.main_arg1) : Vec Ideal Cert.UpReferenceIdeal.S20480x2048 .bf16) = Cert.UpIdeal.All.ar1 m 0 := e1
      have h2 : (launchContents m' 0 (Proc.devRef .tc Cert.UpReferenceIdeal.main_arg2) : Vec Ideal Cert.UpReferenceIdeal.S8x2048x7168 .bf16) = Cert.UpIdeal.All.ar2 m 0 := e2
      have h3 : (launchContents m' 0 (Proc.devRef .tc Cert.UpReferenceIdeal.main_arg3) : Vec Ideal Cert.UpReferenceIdeal.S8x2048x7168 .bf16) = Cert.UpIdeal.All.ar3 m 0 := e3
      have hE : (⟨((launchContents m' 0 (Proc.devRef .tc Cert.UpReferenceIdeal.main_arg0) : IVec Cert.UpReferenceIdeal.S8x128 32) (ix2 0 ⟨(i 0).val / 512, by have h : (i 0).val < 20480 := (i 0).isLt; omega⟩)).toNat, by rw [hT]; exact hx⟩ : Fin 8)
          = Cert.UpIdeal.All.expertOf (tabUpIdeal m h) (Cert.UpIdeal.All.tileAt i) := by
        refine Fin.ext ?_
        show (_ : BitVec 32).toNat = _
        rw [hT]
        rfl
      rw [h1, h2, h3, hE]
    · refine (congrFun (hr c).2.1 i).trans ?_
      have h4 : (launchContents m' c (Proc.devRef .tc Cert.UpReferenceIdeal.main_arg4) : Vec Ideal Cert.UpReferenceIdeal.S57344x2048 .f32) = Cert.UpIdeal.All.ar4 m c := (hagree c).2.2.2.2
      rw [h4]

end Cert.Proof

end
-- ==== Proof.DownPre.lean ====
/- What the precondition and the mask of the experts' down product say of the table's words. -/
module

public import proofs.«01_k».proof.Pre_tiles_named_down
public import proofs.«01_k».proof.On_rows_used_down
public import proofs.«01_k».proof.Proof.Gen.Pre_tiles_named_down
public import proofs.«01_k».proof.Proof.Gen.On_rows_used_down
public import proofs.«01_k».proof.Proof.Words
public import Idealize.ShloMosaic.Lib.Pointwise

@[expose] public section

set_option maxRecDepth 16384

noncomputable section

namespace Cert.DownPre

open Idealize.ShloMosaic Cert.Words

variable {F : FTy → Type} [FloatOps F]

theorem tiles (T : IVec Pre_tiles_named_down.S8x128 32) (a1 : FVec F Pre_tiles_named_down.S20480x7168 .bf16) (a2 : FVec F Pre_tiles_named_down.S8x7168x2048 .bf16)
    (h : Cert.Pre_tiles_named_down.fn (F := F) T a1 a2 = fun _ => 1#1) (j : Fin 40) :
    (T (ix2 0 ⟨j.val, Nat.lt_trans j.isLt (by decide)⟩)).toNat < 8 ∧ (T (ix2 2 ⟨j.val, Nat.lt_trans j.isLt (by decide)⟩)).toNat ≤ 512 := by
  have hj := congrFun h (ix2 0 j)
  unfold Cert.Pre_tiles_named_down.fn at hj
  obtain ⟨h1, h2⟩ := andi_one hj
  obtain ⟨h3, h4⟩ := andi_one h1
  obtain ⟨h5, h6⟩ := andi_one h3
  have e0 : extractStridedSlice Pre_tiles_named_down.S1x40 ![0, 0] T Pre_tiles_named_down.Facts.slices_S8x128_S1x40_0_0 (ix2 0 j) = T (ix2 0 ⟨j.val, Nat.lt_trans j.isLt (by decide)⟩) := by pointwise
  have e2 : extractStridedSlice Pre_tiles_named_down.S1x40 ![2, 0] T Pre_tiles_named_down.Facts.slices_S8x128_S1x40_2_0 (ix2 0 j) = T (ix2 2 ⟨j.val, Nat.lt_trans j.isLt (by decide)⟩) := by pointwise
  rw [← e0, ← e2]
  exact ⟨of_sge_slt (by decide) h5 h6, Nat.lt_succ_iff.mp (of_sge_sle (by decide) h4 h2)⟩

/-- A selected row: its tile is in use, and it is one of the tile's filled rows. -/
theorem used_apply (T : IVec On_rows_used_down.S8x128 32) (a1 : FVec F On_rows_used_down.S20480x7168 .bf16) (a2 : FVec F On_rows_used_down.S8x7168x2048 .bf16)
    (r : Fin 20480) (l : Fin 2048) :
    (Cert.On_rows_used_down.fn (F := F) T a1 a2) (ix2 r l)
      = IntOp.andi (IntOp.cmpi .slt (BitVec.ofNat 32 (r.val / 512)) (T (ix2 1 0)))
          (IntOp.cmpi .slt (BitVec.ofNat 32 (r.val % 512)) (T (ix2 2 ⟨r.val / 512, by have := r.isLt; omega⟩))) := by
  unfold Cert.On_rows_used_down.fn
  pointwise

end Cert.DownPre

end
-- ==== Proof.DownRuns.lean ====
/- The body of the experts' down product, run once per path (A to I: a tile of up to 512, 384, 256, 128 rows, at its first half and at its second, and an empty tile at its first half; J: an empty tile at its second half), and what each run stores. -/
module

public import proofs.«01_k».proof.Defs
public import proofs.«01_k».proof.Proof.Gen.Down
public import proofs.«01_k».proof.Proof.Gen.Down.Launch
public import proofs.«01_k».proof.Proof.Gen.Down.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Down.All

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The table of tiles, whole, as the kernel is handed it. -/
abbrev tbM0_0 : Memref sig .tc .smem S8x128 .i32 := Memref.whole main_arg0

/-- The word that says how many rows of a point's tile are filled, as the body reads it. -/
abbrev rowsW (i : grid0.Coords) (T : S8x128.Idx → BitVec 32) : BitVec 32 :=
  View.readAt (Elt Bits) (tbM0_0).view (Rect.unit (s := S8x128) (k0_off2 i) S1x1.size (k0_off2_inb i)).toLoadRect T (Shape.Idx.first (numel1_S1x1.symm ▸ Nat.one_pos))

/-! What the body's nine conditions are on each path. -/

abbrev HypA (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ k0_cond7 i (rowsW i T) = 1#1 ∧ ¬k0_cond8 i (rowsW i T) = 1#1 ∧ ¬k0_cond9 i (rowsW i T) = 1#1 ∧ True

abbrev HypB (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ k0_cond8 i (rowsW i T) = 1#1 ∧ ¬k0_cond9 i (rowsW i T) = 1#1 ∧ True

abbrev HypC (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypD (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ k0_cond6 i (rowsW i T) = 1#1 ∧ ¬k0_cond7 i (rowsW i T) = 1#1 ∧ ¬k0_cond8 i (rowsW i T) = 1#1 ∧ ¬k0_cond9 i (rowsW i T) = 1#1 ∧ True

abbrev HypE (i : grid0.Coords) (T : S8x128.Idx → BitVec 32) : Prop := ¬k0_cond1 i (rowsW i T) = 1#1 ∧ ¬k0_cond2 i (rowsW i T) = 1#1 ∧ k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypF (i : grid0.Coords) (T : S8x128.Idx → BitVec 32) : Prop := ¬k0_cond1 i (rowsW i T) = 1#1 ∧ ¬k0_cond2 i (rowsW i T) = 1#1 ∧ ¬k0_cond3 i (rowsW i T) = 1#1 ∧ k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypG (i : grid0.Coords) (T : S8x128.Idx → BitVec 32) : Prop := k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypH (i : grid0.Coords) (T : S8x128.Idx → BitVec 32) : Prop := ¬k0_cond1 i (rowsW i T) = 1#1 ∧ k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypI (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ k0_cond9 i (rowsW i T) = 1#1 ∧ True

abbrev HypJ (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev VO0_2 : View sig .tc .vmem S512x2048 .f32 := (Memref.whole cc0_stg2_0 : Memref sig .tc .vmem S512x2048 .f32).view

variable (c : Dev nD) (i : grid0.Coords)
  (arg3 : Memref sig .tc .vmem S512x3584 .bf16) (harg3 : arg3.IsWhole)
  (arg4 : Memref sig .tc .vmem S1x3584x2048 .bf16) (harg4 : arg4.IsWhole)
  (arg5 : Memref sig .tc .vmem S512x2048 .f32) (harg5 : arg5.IsWhole)
  (T0 : (S8x128.Idx → Elt Bits .i32))
  (x0 : (S512x3584.Idx → Elt Bits .bf16)) (x1 : (S1x3584x2048.Idx → Elt Bits .bf16))

set_option backward.proofsInPublic true in
set_option maxHeartbeats 8000000 in
noncomputable def kernelRun0_A (hk : HypA i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = k0_cond7 _ _ = _; exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_A_2 (hk : HypA i T0) (y : S512x2048.Idx) :
    ∃ pc ∈ (kernelRun0_A c i arg3 harg3 arg4 harg4 arg5 harg5 T0 x0 x1 hk).1, y ∈ pc.1.set :=
  View.cover_of_tiledL (kernelRun0_A c i arg3 harg3 arg4 harg4 arg5 harg5 T0 x0 x1 hk).1 S512x256.size (by sl_kernel_rfl) y

def out0_A_2 (hk : HypA i T0) : (S512x2048.Idx → Elt Bits .f32) :=
  VO0_2.read (Elt Bits) (VO0_2.writes (Elt Bits) VO0_2.junk (kernelRun0_A c i arg3 harg3 arg4 harg4 arg5 harg5 T0 x0 x1 hk).1)

set_option backward.proofsInPublic true in
set_option maxHeartbeats 8000000 in
noncomputable def kernelRun0_B (xo2 : (S512x2048.Idx → Elt Bits .f32)) (hk : HypB i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = k0_cond8 _ _ = _; exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_B_2 (xo2 : (S512x2048.Idx → Elt Bits .f32)) (hk : HypB i T0) (y : S512x2048.Idx) :
    ∃ pc ∈ (kernelRun0_B c i arg3 harg3 arg4 harg4 arg5 harg5 T0 x0 x1 xo2 hk).1, y ∈ pc.1.set :=
  View.cover_of_tiledL (kernelRun0_B c i arg3 harg3 arg4 harg4 arg5 harg5 T0 x0 x1 xo2 hk).1 S512x256.size (by sl_kernel_rfl) y

def out0_B_2 (xo2 : (S512x2048.Idx → Elt Bits .f32)) (hk : HypB i T0) : (S512x2048.Idx → Elt Bits .f32) :=
  VO0_2.read (Elt Bits) (VO0_2.writes (Elt Bits) VO0_2.junk (kernelRun0_B c i arg3 harg3 arg4 harg4 arg5 harg5 T0 x0 x1 xo2 hk).1)

set_option backward.proofsInPublic true in
set_option maxHeartbeats 8000000 in
noncomputable def kernelRun0_C (hk : HypC i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = k0_cond5 _ _ = _; exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_C_2 (hk : HypC i T0) (y : S512x2048.Idx) :
    ∃ pc ∈ (kernelRun0_C c i arg3 harg3 arg4 harg4 arg5 harg5 T0 x0 x1 hk).1, y ∈ pc.1.set :=
  View.cover_of_tiledBy (kernelRun0_C c i arg3 harg3 arg4 harg4 arg5 harg5 T0 x0 x1 hk).1 ![128, 256] (by sl_kernel_rfl) y

def out0_C_2 (hk : HypC i T0) : (S512x2048.Idx → Elt Bits .f32) :=
  VO0_2.read (Elt Bits) (VO0_2.writes (Elt Bits) VO0_2.junk (kernelRun0_C c i arg3 harg3 arg4 harg4 arg5 harg5 T0 x0 x1 hk).1)

set_option backward.proofsInPublic true in
set_option maxHeartbeats 8000000 in
noncomputable def kernelRun0_D (xo2 : (S512x2048.Idx → Elt Bits .f32)) (hk : HypD i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Bits) (harg5.unread xo2) out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = k0_cond6 _ _ = _; exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_D_2 (xo2 : (S512x2048.Idx → Elt Bits .f32)) (hk : HypD i T0) : (S512x2048.Idx → Elt Bits .f32) :=
  arg5.view.read (Elt Bits) (arg5.view.writes (Elt Bits) (harg5.unread xo2) (kernelRun0_D c i arg3 harg3 arg4 harg4 arg5 harg5 T0 x0 x1 xo2 hk).1)

set_option backward.proofsInPublic true in
set_option maxHeartbeats 8000000 in
noncomputable def kernelRun0_E (hk : HypE i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = k0_cond3 _ _ = _; exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_E_2 (hk : HypE i T0) (y : S512x2048.Idx) :
    ∃ pc ∈ (kernelRun0_E c i arg3 harg3 arg4 harg4 arg5 harg5 T0 x0 x1 hk).1, y ∈ pc.1.set :=
  View.cover_of_tiledBy (kernelRun0_E c i arg3 harg3 arg4 harg4 arg5 harg5 T0 x0 x1 hk).1 ![256, 256] (by sl_kernel_rfl) y

def out0_E_2 (hk : HypE i T0) : (S512x2048.Idx → Elt Bits .f32) :=
  VO0_2.read (Elt Bits) (VO0_2.writes (Elt Bits) VO0_2.junk (kernelRun0_E c i arg3 harg3 arg4 harg4 arg5 harg5 T0 x0 x1 hk).1)

set_option backward.proofsInPublic true in
set_option maxHeartbeats 8000000 in
noncomputable def kernelRun0_F (xo2 : (S512x2048.Idx → Elt Bits .f32)) (hk : HypF i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Bits) (harg5.unread xo2) out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = k0_cond4 _ _ = _; exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_F_2 (xo2 : (S512x2048.Idx → Elt Bits .f32)) (hk : HypF i T0) : (S512x2048.Idx → Elt Bits .f32) :=
  arg5.view.read (Elt Bits) (arg5.view.writes (Elt Bits) (harg5.unread xo2) (kernelRun0_F c i arg3 harg3 arg4 harg4 arg5 harg5 T0 x0 x1 xo2 hk).1)

set_option backward.proofsInPublic true in
set_option maxHeartbeats 8000000 in
noncomputable def kernelRun0_G (hk : HypG i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = k0_cond1 _ _ = _; exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_G_2 (hk : HypG i T0) (y : S512x2048.Idx) :
    ∃ pc ∈ (kernelRun0_G c i arg3 harg3 arg4 harg4 arg5 harg5 T0 x0 x1 hk).1, y ∈ pc.1.set :=
  View.cover_of_tiledBy (kernelRun0_G c i arg3 harg3 arg4 harg4 arg5 harg5 T0 x0 x1 hk).1 ![128, 256] (by sl_kernel_rfl) y

def out0_G_2 (hk : HypG i T0) : (S512x2048.Idx → Elt Bits .f32) :=
  VO0_2.read (Elt Bits) (VO0_2.writes (Elt Bits) VO0_2.junk (kernelRun0_G c i arg3 harg3 arg4 harg4 arg5 harg5 T0 x0 x1 hk).1)

set_option backward.proofsInPublic true in
set_option maxHeartbeats 8000000 in
noncomputable def kernelRun0_H (xo2 : (S512x2048.Idx → Elt Bits .f32)) (hk : HypH i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Bits) (harg5.unread xo2) out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = k0_cond2 _ _ = _; exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_H_2 (xo2 : (S512x2048.Idx → Elt Bits .f32)) (hk : HypH i T0) : (S512x2048.Idx → Elt Bits .f32) :=
  arg5.view.read (Elt Bits) (arg5.view.writes (Elt Bits) (harg5.unread xo2) (kernelRun0_H c i arg3 harg3 arg4 harg4 arg5 harg5 T0 x0 x1 xo2 hk).1)

set_option backward.proofsInPublic true in
set_option maxHeartbeats 8000000 in
noncomputable def kernelRun0_I (hk : HypI i T0) :
    { out0 : List (View.Piece (Elt Bits) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Bits) f out0)) -∗ K ⟨⟩))
          ⊢ wp frame (wpE (defs₀ (F := Bits)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = k0_cond9 _ _ = _; exact hk.2.2.2.2.2.2.2.2.1))
    sl_step
    iapply Hk
    isplitl [H0]; · iexact H0
    isplitl [H1]; · iexact H1
    isplitl [HT0]; · iexact HT0
    iexists _; iexact HO2⟩

theorem cover0_I_2 (hk : HypI i T0) (y : S512x2048.Idx) :
    ∃ pc ∈ (kernelRun0_I c i arg3 harg3 arg4 harg4 arg5 harg5 T0 x0 x1 hk).1, y ∈ pc.1.set :=
  View.cover_of_tiledL (kernelRun0_I c i arg3 harg3 arg4 harg4 arg5 harg5 T0 x0 x1 hk).1 S512x2048.size (by sl_kernel_rfl) y

def out0_I_2 (hk : HypI i T0) : (S512x2048.Idx → Elt Bits .f32) :=
  VO0_2.read (Elt Bits) (VO0_2.writes (Elt Bits) VO0_2.junk (kernelRun0_I c i arg3 harg3 arg4 harg4 arg5 harg5 T0 x0 x1 hk).1)

set_option maxHeartbeats 8000000 in
noncomputable def kernelRun0_J (hk : HypJ i T0) :
    { out : Unit //
      ∀ (y2 : (S512x2048.Idx → Elt Bits .f32)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare y2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ owns (c : Thread nD τ) arg5 fullShare y2) -∗ K ⟨⟩))
          ⊢ wp frame (wpE (defs₀ (F := Bits)) Variants.none c none) Set.univ (cc0_moe_down i tbM0_0 (Memref.isWhole_whole _) arg3 harg3 arg4 harg4 arg5 harg5) K } :=
  ⟨⟨⟩, fun (y2 : (S512x2048.Idx → Elt Bits .f32)) K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; isplitr; · ipureintro; exact harg5.read_unread _
    iexact HO2⟩

end Cert.Down.All

end
-- ==== Proof.DownIdealRuns.lean ====
/- The body of the experts' down product, run once per path (A to I: a tile of up to 512, 384, 256, 128 rows, at its first half and at its second, and an empty tile at its first half; J: an empty tile at its second half), and what each run stores. -/
module

public import proofs.«01_k».proof.Defs
public import proofs.«01_k».proof.Proof.Gen.DownIdeal
public import proofs.«01_k».proof.Proof.Gen.DownIdeal.Launch
public import proofs.«01_k».proof.Proof.Gen.DownIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal.All

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The table of tiles, whole, as the kernel is handed it. -/
abbrev tbM0_0 : Memref sig .tc .smem S8x128 .i32 := Memref.whole main_arg0

/-- The word that says how many rows of a point's tile are filled, as the body reads it. -/
abbrev rowsW (i : grid0.Coords) (T : S8x128.Idx → BitVec 32) : BitVec 32 :=
  View.readAt (Elt Ideal) (tbM0_0).view (Rect.unit (s := S8x128) (k0_off2 i) S1x1.size (k0_off2_inb i)).toLoadRect T (Shape.Idx.first (numel1_S1x1.symm ▸ Nat.one_pos))

/-! What the body's nine conditions are on each path. -/

abbrev HypA (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ k0_cond7 i (rowsW i T) = 1#1 ∧ ¬k0_cond8 i (rowsW i T) = 1#1 ∧ ¬k0_cond9 i (rowsW i T) = 1#1 ∧ True

abbrev HypB (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ k0_cond8 i (rowsW i T) = 1#1 ∧ ¬k0_cond9 i (rowsW i T) = 1#1 ∧ True

abbrev HypC (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypD (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ k0_cond6 i (rowsW i T) = 1#1 ∧ ¬k0_cond7 i (rowsW i T) = 1#1 ∧ ¬k0_cond8 i (rowsW i T) = 1#1 ∧ ¬k0_cond9 i (rowsW i T) = 1#1 ∧ True

abbrev HypE (i : grid0.Coords) (T : S8x128.Idx → BitVec 32) : Prop := ¬k0_cond1 i (rowsW i T) = 1#1 ∧ ¬k0_cond2 i (rowsW i T) = 1#1 ∧ k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypF (i : grid0.Coords) (T : S8x128.Idx → BitVec 32) : Prop := ¬k0_cond1 i (rowsW i T) = 1#1 ∧ ¬k0_cond2 i (rowsW i T) = 1#1 ∧ ¬k0_cond3 i (rowsW i T) = 1#1 ∧ k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypG (i : grid0.Coords) (T : S8x128.Idx → BitVec 32) : Prop := k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypH (i : grid0.Coords) (T : S8x128.Idx → BitVec 32) : Prop := ¬k0_cond1 i (rowsW i T) = 1#1 ∧ k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev HypI (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ k0_cond9 i (rowsW i T) = 1#1 ∧ True

abbrev HypJ (i : grid0.Coords) (T : S8x128.Idx → BitVec 32) : Prop := ¬k0_cond1 i (rowsW i T) = 1#1 ∧ ¬k0_cond2 i (rowsW i T) = 1#1 ∧ ¬k0_cond3 i (rowsW i T) = 1#1 ∧ ¬k0_cond4 i (rowsW i T) = 1#1 ∧ ¬k0_cond5 i (rowsW i T) = 1#1 ∧ ¬k0_cond6 i (rowsW i T) = 1#1 ∧ ¬k0_cond7 i (rowsW i T) = 1#1 ∧ ¬k0_cond8 i (rowsW i T) = 1#1 ∧ ¬k0_cond9 i (rowsW i T) = 1#1 ∧ True

abbrev VO0_2 : View sig .tc .vmem S512x2048 .f32 := (Memref.whole cc0_stg2_0 : Memref sig .tc .vmem S512x2048 .f32).view

variable (c : Dev nD) (i : grid0.Coords)
  (arg3 : Memref sig .tc .vmem S512x3584 .bf16) (harg3 : arg3.IsWhole)
  (arg4 : Memref sig .tc .vmem S1x3584x2048 .bf16) (harg4 : arg4.IsWhole)
  (arg5 : Memref sig .tc .vmem S512x2048 .f32) (harg5 : arg5.IsWhole)
  (T0 : (S8x128.Idx → Elt Ideal .i32))
  (x0 : (S512x3584.Idx → Elt Ideal .bf16)) (x1 : (S1x3584x2048.Idx → Elt Ideal .bf16))

set_option backward.proofsInPublic true in
set_option maxHeartbeats 8000000 in
noncomputable def kernelRun0_A (hk : HypA i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = k0_cond7 _ _ = _; exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_A_2 (hk : HypA i T0) (y : S512x2048.Idx) :
    ∃ pc ∈ (kernelRun0_A c i arg3 harg3 arg4 harg4 arg5 harg5 T0 x0 x1 hk).1, y ∈ pc.1.set :=
  View.cover_of_tiledL (kernelRun0_A c i arg3 harg3 arg4 harg4 arg5 harg5 T0 x0 x1 hk).1 S512x256.size (by sl_kernel_rfl) y

def out0_A_2 (hk : HypA i T0) : (S512x2048.Idx → Elt Ideal .f32) :=
  VO0_2.read (Elt Ideal) (VO0_2.writes (Elt Ideal) VO0_2.junk (kernelRun0_A c i arg3 harg3 arg4 harg4 arg5 harg5 T0 x0 x1 hk).1)

set_option backward.proofsInPublic true in
set_option maxHeartbeats 8000000 in
noncomputable def kernelRun0_B (xo2 : (S512x2048.Idx → Elt Ideal .f32)) (hk : HypB i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = k0_cond8 _ _ = _; exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_B_2 (xo2 : (S512x2048.Idx → Elt Ideal .f32)) (hk : HypB i T0) (y : S512x2048.Idx) :
    ∃ pc ∈ (kernelRun0_B c i arg3 harg3 arg4 harg4 arg5 harg5 T0 x0 x1 xo2 hk).1, y ∈ pc.1.set :=
  View.cover_of_tiledL (kernelRun0_B c i arg3 harg3 arg4 harg4 arg5 harg5 T0 x0 x1 xo2 hk).1 S512x256.size (by sl_kernel_rfl) y

def out0_B_2 (xo2 : (S512x2048.Idx → Elt Ideal .f32)) (hk : HypB i T0) : (S512x2048.Idx → Elt Ideal .f32) :=
  VO0_2.read (Elt Ideal) (VO0_2.writes (Elt Ideal) VO0_2.junk (kernelRun0_B c i arg3 harg3 arg4 harg4 arg5 harg5 T0 x0 x1 xo2 hk).1)

set_option backward.proofsInPublic true in
set_option maxHeartbeats 8000000 in
noncomputable def kernelRun0_C (hk : HypC i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = k0_cond5 _ _ = _; exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_C_2 (hk : HypC i T0) (y : S512x2048.Idx) :
    ∃ pc ∈ (kernelRun0_C c i arg3 harg3 arg4 harg4 arg5 harg5 T0 x0 x1 hk).1, y ∈ pc.1.set :=
  View.cover_of_tiledBy (kernelRun0_C c i arg3 harg3 arg4 harg4 arg5 harg5 T0 x0 x1 hk).1 ![128, 256] (by sl_kernel_rfl) y

def out0_C_2 (hk : HypC i T0) : (S512x2048.Idx → Elt Ideal .f32) :=
  VO0_2.read (Elt Ideal) (VO0_2.writes (Elt Ideal) VO0_2.junk (kernelRun0_C c i arg3 harg3 arg4 harg4 arg5 harg5 T0 x0 x1 hk).1)

set_option backward.proofsInPublic true in
set_option maxHeartbeats 8000000 in
noncomputable def kernelRun0_D (xo2 : (S512x2048.Idx → Elt Ideal .f32)) (hk : HypD i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Ideal) (harg5.unread xo2) out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = k0_cond6 _ _ = _; exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_D_2 (xo2 : (S512x2048.Idx → Elt Ideal .f32)) (hk : HypD i T0) : (S512x2048.Idx → Elt Ideal .f32) :=
  arg5.view.read (Elt Ideal) (arg5.view.writes (Elt Ideal) (harg5.unread xo2) (kernelRun0_D c i arg3 harg3 arg4 harg4 arg5 harg5 T0 x0 x1 xo2 hk).1)

set_option backward.proofsInPublic true in
set_option maxHeartbeats 8000000 in
noncomputable def kernelRun0_E (hk : HypE i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = k0_cond3 _ _ = _; exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_E_2 (hk : HypE i T0) (y : S512x2048.Idx) :
    ∃ pc ∈ (kernelRun0_E c i arg3 harg3 arg4 harg4 arg5 harg5 T0 x0 x1 hk).1, y ∈ pc.1.set :=
  View.cover_of_tiledBy (kernelRun0_E c i arg3 harg3 arg4 harg4 arg5 harg5 T0 x0 x1 hk).1 ![256, 256] (by sl_kernel_rfl) y

def out0_E_2 (hk : HypE i T0) : (S512x2048.Idx → Elt Ideal .f32) :=
  VO0_2.read (Elt Ideal) (VO0_2.writes (Elt Ideal) VO0_2.junk (kernelRun0_E c i arg3 harg3 arg4 harg4 arg5 harg5 T0 x0 x1 hk).1)

set_option backward.proofsInPublic true in
set_option maxHeartbeats 8000000 in
noncomputable def kernelRun0_F (xo2 : (S512x2048.Idx → Elt Ideal .f32)) (hk : HypF i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Ideal) (harg5.unread xo2) out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = k0_cond4 _ _ = _; exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_F_2 (xo2 : (S512x2048.Idx → Elt Ideal .f32)) (hk : HypF i T0) : (S512x2048.Idx → Elt Ideal .f32) :=
  arg5.view.read (Elt Ideal) (arg5.view.writes (Elt Ideal) (harg5.unread xo2) (kernelRun0_F c i arg3 harg3 arg4 harg4 arg5 harg5 T0 x0 x1 xo2 hk).1)

set_option backward.proofsInPublic true in
set_option maxHeartbeats 8000000 in
noncomputable def kernelRun0_G (hk : HypG i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = k0_cond1 _ _ = _; exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; iexact HO2⟩

theorem cover0_G_2 (hk : HypG i T0) (y : S512x2048.Idx) :
    ∃ pc ∈ (kernelRun0_G c i arg3 harg3 arg4 harg4 arg5 harg5 T0 x0 x1 hk).1, y ∈ pc.1.set :=
  View.cover_of_tiledBy (kernelRun0_G c i arg3 harg3 arg4 harg4 arg5 harg5 T0 x0 x1 hk).1 ![128, 256] (by sl_kernel_rfl) y

def out0_G_2 (hk : HypG i T0) : (S512x2048.Idx → Elt Ideal .f32) :=
  VO0_2.read (Elt Ideal) (VO0_2.writes (Elt Ideal) VO0_2.junk (kernelRun0_G c i arg3 harg3 arg4 harg4 arg5 harg5 T0 x0 x1 hk).1)

set_option backward.proofsInPublic true in
set_option maxHeartbeats 8000000 in
noncomputable def kernelRun0_H (xo2 : (S512x2048.Idx → Elt Ideal .f32)) (hk : HypH i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare xo2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (arg5.view.loc (c : Thread nD τ) ↦[arg5.view.set]{fullShare} arg5.view.writes (Elt Ideal) (harg5.unread xo2) out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = k0_cond2 _ _ = _; exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexact HO2⟩

def out0_H_2 (xo2 : (S512x2048.Idx → Elt Ideal .f32)) (hk : HypH i T0) : (S512x2048.Idx → Elt Ideal .f32) :=
  arg5.view.read (Elt Ideal) (arg5.view.writes (Elt Ideal) (harg5.unread xo2) (kernelRun0_H c i arg3 harg3 arg4 harg4 arg5 harg5 T0 x0 x1 xo2 hk).1)

set_option backward.proofsInPublic true in
set_option maxHeartbeats 8000000 in
noncomputable def kernelRun0_I (hk : HypI i T0) :
    { out0 : List (View.Piece (Elt Ideal) S512x2048 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (∃ f, arg5.view.loc (c : Thread nD τ) ↦[arg5.view.set]{fullShare} arg5.view.writes (Elt Ideal) f out0)) -∗ K ⟨⟩))
          ⊢ wp frame (wpE (defs₀ (F := Ideal)) Variants.none c none) Set.univ (cc0_moe_down i tbM0_0 (Memref.isWhole_whole _) arg3 harg3 arg4 harg4 arg5 harg5) K } :=
  ⟨_, fun K => by
    unfold owns
    rw [cc0_moe_down_eq_skeleton]; unfold cc0_moe_down_skel
    iintro ⟨H0, H1, HT0, ⟨%d2, %f2, -, HO2⟩, Hk⟩
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = k0_cond9 _ _ = _; exact hk.2.2.2.2.2.2.2.2.1))
    sl_step
    iapply Hk
    isplitl [H0]; · iexact H0
    isplitl [H1]; · iexact H1
    isplitl [HT0]; · iexact HT0
    iexists _; iexact HO2⟩

theorem cover0_I_2 (hk : HypI i T0) (y : S512x2048.Idx) :
    ∃ pc ∈ (kernelRun0_I c i arg3 harg3 arg4 harg4 arg5 harg5 T0 x0 x1 hk).1, y ∈ pc.1.set :=
  View.cover_of_tiledL (kernelRun0_I c i arg3 harg3 arg4 harg4 arg5 harg5 T0 x0 x1 hk).1 S512x2048.size (by sl_kernel_rfl) y

def out0_I_2 (hk : HypI i T0) : (S512x2048.Idx → Elt Ideal .f32) :=
  VO0_2.read (Elt Ideal) (VO0_2.writes (Elt Ideal) VO0_2.junk (kernelRun0_I c i arg3 harg3 arg4 harg4 arg5 harg5 T0 x0 x1 hk).1)

set_option maxHeartbeats 8000000 in
noncomputable def kernelRun0_J (hk : HypJ i T0) :
    { out : Unit //
      ∀ (y2 : (S512x2048.Idx → Elt Ideal .f32)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ owns (c : Thread nD τ) arg5 fullShare y2
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ owns (c : Thread nD τ) arg5 fullShare y2) -∗ K ⟨⟩))
          ⊢ wp frame (wpE (defs₀ (F := Ideal)) Variants.none c none) Set.univ (cc0_moe_down i tbM0_0 (Memref.isWhole_whole _) arg3 harg3 arg4 harg4 arg5 harg5) K } :=
  ⟨⟨⟩, fun (y2 : (S512x2048.Idx → Elt Ideal .f32)) K => by
    unfold owns
    rw [cc0_moe_down_eq_skeleton]; unfold cc0_moe_down_skel
    iintro ⟨H0, H1, HT0, ⟨%f2, %hf2, HO2⟩, Hk⟩
    obtain rfl := harg5.eq_unread hf2
    have hT0 : tbM0_0.IsWhole := Memref.isWhole_whole _
    sl_exec! (disch := first | (guard_target = ¬(k0_cond1 _ _ = _); exact hk.1) | (guard_target = ¬(k0_cond2 _ _ = _); exact hk.2.1) | (guard_target = ¬(k0_cond3 _ _ = _); exact hk.2.2.1) | (guard_target = ¬(k0_cond4 _ _ = _); exact hk.2.2.2.1) | (guard_target = ¬(k0_cond5 _ _ = _); exact hk.2.2.2.2.1) | (guard_target = ¬(k0_cond6 _ _ = _); exact hk.2.2.2.2.2.1) | (guard_target = ¬(k0_cond7 _ _ = _); exact hk.2.2.2.2.2.2.1) | (guard_target = ¬(k0_cond8 _ _ = _); exact hk.2.2.2.2.2.2.2.1) | (guard_target = ¬(k0_cond9 _ _ = _); exact hk.2.2.2.2.2.2.2.2.1))
    sl_step
    iapply Hk
    isplitl [H0]; · iexact H0
    isplitl [H1]; · iexact H1
    isplitl [HT0]; · iexact HT0
    iexists _; isplitr; · ipureintro; exact harg5.read_unread _
    iexact HO2⟩

end Cert.DownIdeal.All

end
-- ==== Proof.DownIdealTab.lean ====
/- The tables of tiles that the precondition admits, and what the pipeline of the experts' down product is at one of them: every block inside its array, the decisions at each point, the write-backs. -/
module

public import proofs.«01_k».proof.Proof.DownIdealRuns
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal.All

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The admissible tables: every tile's expert is one of the eight, every tile holds at most 512 rows. -/
def Tab : Type := { T : S8x128.Idx → BitVec 32 //
  ∀ j : Fin 40, (T (ix2 0 ⟨j.val, Nat.lt_trans j.isLt (by decide)⟩)).toNat < 8 ∧ (T (ix2 2 ⟨j.val, Nat.lt_trans j.isLt (by decide)⟩)).toNat ≤ 512 }

variable (ch : Tab)

/-- The table's words. -/
def pinT_0 (ch : Tab) : S8x128.Idx → BitVec 32 := ch.1

set_option backward.proofsInPublic true in
/-- The table as the pipeline's one prefetched operand. -/
def pfN : pre0.Contents (Elt Ideal) := fun | ⟨0, _⟩ => pinT_0 ch | ⟨_ + 1, h⟩ => absurd h (by simp)

/-- The launch memory holds the table. -/
def Pinned (m : (ℓ : Loc nD τ sig) → Buf (Elt Ideal) ℓ) : Prop :=
  (∀ c : Dev nD, m ((c : Thread nD τ).loc main_arg0) = pinT_0 ch)

/-! ## The words -/

/-- A tile's number, as a word. -/
theorem tile_toNat (i : grid0.Coords) : (BitVec.ofNat 32 (i 0).val).toNat = (i 0).val := by
  rw [BitVec.toNat_ofNat]; exact Nat.mod_eq_of_lt (Nat.lt_trans (i 0).isLt (by decide))

/-- The expert's word of a tile, as the index maps read it, is one of the eight. -/
theorem expert_at (i : grid0.Coords) :
    ((pfN ch).at 0 (Rect.unit (s := S8x128) (k0_off1 i) S1x1.size (k0_off1_inb i)) numel1_S1x1 : BitVec 32)
      = ch.1 (ix2 0 ⟨(i 0).val, Nat.lt_trans (i 0).isLt (by decide)⟩) := by
  refine congrArg ch.1 (funext fun a => Fin.ext ?_)
  have hi := tile_toNat i
  fin_cases a
  · rfl
  · show (BitVec.ofNat 32 (i 0).val).toNat + 1 * 0 = (i 0).val
    omega

theorem expert_lt (i : grid0.Coords) :
    ((pfN ch).at 0 (Rect.unit (s := S8x128) (k0_off1 i) S1x1.size (k0_off1_inb i)) numel1_S1x1 : BitVec 32).toNat < 8 := by
  rw [expert_at]; exact (ch.2 (i 0)).1

/-- The smaller of a tile's number and any word, raised to zero, is below 40. -/
theorem clamp_lt (a v : BitVec 32) (ha : a.toNat < 40) : (Scalar.maxsi (Scalar.minsi a v) 0#32).toNat < 40 := by
  have ht : a.toInt = a.toNat := by rw [BitVec.toInt_eq_toNat_cond, if_pos (by omega)]
  have hm : (IntOp.minsi a v).toInt ≤ a.toInt := by
    unfold IntOp.minsi
    split
    · exact le_refl _
    · rename_i h
      simp only [BitVec.slt, decide_eq_true_eq] at h
      omega
  show (IntOp.maxsi (IntOp.minsi a v) 0#32).toNat < 40
  generalize IntOp.minsi a v = w at hm
  have h0 : (0#32 : BitVec 32).toInt = 0 := by decide
  unfold IntOp.maxsi
  split
  · rename_i h
    simp only [BitVec.slt, decide_eq_true_eq] at h
    have hb := w.isLt
    have hw := BitVec.toInt_eq_toNat_cond w
    split at hw <;> omega
  · exact Nat.zero_lt_succ 39

/-- A block whose number is below the number of blocks ends inside the array. -/
theorem block_le {w k B S : Nat} (h : w < k) (hS : S = k * B) : (w + 1) * B ≤ S :=
  hS ▸ Nat.mul_le_mul_right B h

/-- A half's number, as a word. -/
theorem half_lt (i : grid0.Coords) : (BitVec.ofNat 32 (i 1).val).toNat < 2 := by
  rw [BitVec.toNat_ofNat, Nat.mod_eq_of_lt (Nat.lt_trans (i 1).isLt (by decide))]; exact (i 1).isLt

/-- The blocks of the rows and of the experts' weights are inside their arrays. -/
theorem rows_block (i : grid0.Coords) : ∀ a, (cc0_transform_0 inb_S8x128_S1x1_1_0 numel1_S1x1 (pfN ch) i a + 1) * S512x3584.size a ≤ S20480x7168.size a := by
  have h := clamp_lt (BitVec.ofNat 32 (i 0).val) (Scalar.subi ((pfN ch).at 0 (Rect.unit (s := S8x128) ![1, 0] S1x1.size inb_S8x128_S1x1_1_0) numel1_S1x1 : BitVec 32) 1#32)
    (by rw [tile_toNat]; exact (i 0).isLt)
  have e0 : cc0_transform_0 inb_S8x128_S1x1_1_0 numel1_S1x1 (pfN ch) i 0 < 40 := h
  have e1 : cc0_transform_0 inb_S8x128_S1x1_1_0 numel1_S1x1 (pfN ch) i 1 < 2 := half_lt i
  intro a
  fin_cases a
  · exact block_le e0 (show S20480x7168.size 0 = 40 * S512x3584.size 0 from rfl)
  · exact block_le e1 (show S20480x7168.size 1 = 2 * S512x3584.size 1 from rfl)

theorem expert_block (i : grid0.Coords) : ∀ a, (cc0_transform_1 k0_off1_inb numel1_S1x1 (pfN ch) i a + 1) * S1x3584x2048.size a ≤ S8x7168x2048.size a := by
  have e0 : cc0_transform_1 k0_off1_inb numel1_S1x1 (pfN ch) i 0 < 8 := expert_lt ch i
  have e1 : cc0_transform_1 k0_off1_inb numel1_S1x1 (pfN ch) i 1 < 2 := half_lt i
  have e2 : cc0_transform_1 k0_off1_inb numel1_S1x1 (pfN ch) i 2 < 1 := Nat.zero_lt_one
  intro a
  fin_cases a
  · exact block_le e0 (show S8x7168x2048.size 0 = 8 * S1x3584x2048.size 0 from rfl)
  · exact block_le e1 (show S8x7168x2048.size 1 = 2 * S1x3584x2048.size 1 from rfl)
  · exact block_le e2 (show S8x7168x2048.size 2 = 1 * S1x3584x2048.size 2 from rfl)

/-- Every admissible table meets the launch's side conditions. -/
theorem ok_pfN : ok0 (F := Ideal) (pfN ch) :=
  ⟨fun i => ⟨rows_block ch i, .inr (Affine.block_words_dvd (s := S20480x7168) (p := EltTy.packing .bf16) (by decide) (by decide))⟩,
    fun i => ⟨expert_block ch i, .inr (Affine.block_words_dvd (s := S8x7168x2048) (p := EltTy.packing .bf16) (by decide) (by decide))⟩⟩

def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S512x3584 .bf16 := spec0_0.stage ((cfgA ch).slots t (0 : Fin 3))
abbrev hs0_0 (t : Fin (cfgA ch).N) : (ms0_0 ch t).IsWhole := hstage0_0 (((cfgA ch).slots t (0 : Fin 3)).cast nbuf0_0)
abbrev ms0_1 (t : Fin (cfgA ch).N) : Memref sig .tc .vmem S1x3584x2048 .bf16 := spec0_1.stage ((cfgA ch).slots t (1 : Fin 3))
abbrev hs0_1 (t : Fin (cfgA ch).N) : (ms0_1 ch t).IsWhole := hstage0_1 (((cfgA ch).slots t (1 : Fin 3)).cast nbuf0_1)
abbrev ms0_2 (t : Fin (cfgA ch).N) : Memref sig .tc .vmem S512x2048 .f32 := spec0_2.stage ((cfgA ch).slots t (2 : Fin 3))
abbrev hs0_2 (t : Fin (cfgA ch).N) : (ms0_2 ch t).IsWhole := hstage0_2 (((cfgA ch).slots t (2 : Fin 3)).cast nbuf0_2)

def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

abbrev P0_0 (t : Fin (cfgA ch).N) : Prop := k0_cond1 (crd ch t) (rowsW (crd ch t) (pinT_0 ch)) = 1#1
abbrev P0_1 (t : Fin (cfgA ch).N) : Prop := k0_cond2 (crd ch t) (rowsW (crd ch t) (pinT_0 ch)) = 1#1
abbrev P0_2 (t : Fin (cfgA ch).N) : Prop := k0_cond3 (crd ch t) (rowsW (crd ch t) (pinT_0 ch)) = 1#1
abbrev P0_3 (t : Fin (cfgA ch).N) : Prop := k0_cond4 (crd ch t) (rowsW (crd ch t) (pinT_0 ch)) = 1#1
abbrev P0_4 (t : Fin (cfgA ch).N) : Prop := k0_cond5 (crd ch t) (rowsW (crd ch t) (pinT_0 ch)) = 1#1
abbrev P0_5 (t : Fin (cfgA ch).N) : Prop := k0_cond6 (crd ch t) (rowsW (crd ch t) (pinT_0 ch)) = 1#1
abbrev P0_6 (t : Fin (cfgA ch).N) : Prop := k0_cond7 (crd ch t) (rowsW (crd ch t) (pinT_0 ch)) = 1#1
abbrev P0_7 (t : Fin (cfgA ch).N) : Prop := k0_cond8 (crd ch t) (rowsW (crd ch t) (pinT_0 ch)) = 1#1
abbrev P0_8 (t : Fin (cfgA ch).N) : Prop := k0_cond9 (crd ch t) (rowsW (crd ch t) (pinT_0 ch)) = 1#1

/-! ## The decisions -/

/-- The word that says how many rows of a tile are filled, as the body reads it, -/
theorem rows_read (i : grid0.Coords) : rowsW i (pinT_0 ch) = ch.1 (ix2 2 ⟨(i 0).val, Nat.lt_trans (i 0).isLt (by decide)⟩) := by
  unfold rowsW
  rw [View.readAt_apply]
  refine Eq.trans (show _ = pinT_0 ch ((Rect.unit (s := S8x128) (k0_off2 i) S1x1.size (k0_off2_inb i)).toLoadRect.idx (Shape.Idx.first (numel1_S1x1.symm ▸ Nat.one_pos))) from rfl) ?_
  refine congrArg ch.1 (funext fun a => Fin.ext ?_)
  have hi := tile_toNat i
  fin_cases a
  · rfl
  · show (BitVec.ofNat 32 (i 0).val).toNat + 1 * 0 = (i 0).val
    omega

/-- and as the table of untouched points reads it. -/
theorem rows_atD (i : grid0.Coords) : ((pfN ch).atD 0 (k0_off2 i) : BitVec 32) = rowsW i (pinT_0 ch) := by
  have hi := tile_toNat i
  have h : ∀ a, k0_off2 i a + 1 ≤ S8x128.size a := by
    intro a
    fin_cases a
    · show 2 + 1 ≤ 8
      decide
    · show (BitVec.ofNat 32 (i 0).val).toNat + 1 ≤ 128
      have := (i 0).isLt
      have h40 : (i 0).val < 40 := this
      omega
  rw [rows_read]
  unfold Pipeline.Prefetch.Contents.atD
  refine (dif_pos h).trans (congrArg ch.1 (funext fun a => Fin.ext ?_))
  fin_cases a
  · rfl
  · exact hi

theorem rows_le (t : Fin (cfgA ch).N) : (rowsW (crd ch t) (pinT_0 ch)).toNat ≤ 512 := by
  rw [rows_read ch (crd ch t)]; exact (ch.2 _).2

/-- The nine conditions, by number. -/
def condAt (b : Fin 9) (i : grid0.Coords) (w : BitVec 32) : BitVec 1 :=
  match b with
  | 0 => k0_cond1 i w | 1 => k0_cond2 i w | 2 => k0_cond3 i w | 3 => k0_cond4 i w | 4 => k0_cond5 i w
  | 5 => k0_cond6 i w | 6 => k0_cond7 i w | 7 => k0_cond8 i w | 8 => k0_cond9 i w

/-- The one condition that holds at a half of a tile of so many rows; none does at the second half of an empty tile. -/
def sel (k n : Nat) : Nat := if n = 0 then 8 + k else 2 * ((n + 127) / 128 - 1) + k

/-- The points of the first tile: its first half and its second. -/
abbrev pt (k : Fin 2) : grid0.Coords := grid0.coords ⟨k.val, Nat.lt_trans k.isLt (by decide)⟩

theorem condAt_pt (b : Fin 9) (i : grid0.Coords) (w : BitVec 32) : condAt b i w = condAt b (pt (i 1)) w := by
  have h : (i 1).val = (pt (i 1) 1).val := (by decide : ∀ k : Fin 2, k.val = (pt k 1).val) (i 1)
  fin_cases b <;> (dsimp only [condAt]; first
    | (unfold k0_cond1; rw [← h]) | (unfold k0_cond2; rw [← h]) | (unfold k0_cond3; rw [← h]) | (unfold k0_cond4; rw [← h]) | (unfold k0_cond5; rw [← h])
    | (unfold k0_cond6; rw [← h]) | (unfold k0_cond7; rw [← h]) | (unfold k0_cond8; rw [← h]) | (unfold k0_cond9; rw [← h]))

theorem condAt_fin : ∀ (k : Fin 2) (n : Fin 513) (b : Fin 9), condAt b (pt k) (BitVec.ofNat 32 n.val) = 1#1 ↔ b.val = sel k.val n.val := by decide +kernel

theorem condAt_iff (b : Fin 9) (i : grid0.Coords) (w : BitVec 32) (h : w.toNat ≤ 512) : condAt b i w = 1#1 ↔ b.val = sel (i 1).val w.toNat := by
  rw [condAt_pt]
  have e : w = BitVec.ofNat 32 (⟨w.toNat, by omega⟩ : Fin 513).val := by simp
  have := condAt_fin (i 1) ⟨w.toNat, by omega⟩ b
  rwa [← e] at this

/-- At most one condition holds. -/
theorem only {i : grid0.Coords} {w : BitVec 32} (h : w.toNat ≤ 512) {b : Fin 9} (q : condAt b i w = 1#1) (b' : Fin 9) (hb : b' ≠ b) : ¬condAt b' i w = 1#1 := fun q' =>
  hb (Fin.ext (((condAt_iff b' i w h).1 q').trans ((condAt_iff b i w h).1 q).symm))

/-- Conditions 0, 2, 4, 6, 8 hold at first halves only, the others at second halves only. -/
theorem parity {i : grid0.Coords} {w : BitVec 32} (h : w.toNat ≤ 512) {b : Fin 9} (q : condAt b i w = 1#1) : b.val % 2 = (i 1).val := by
  have e := (condAt_iff b i w h).1 q
  have hk : (i 1).val < 2 := (i 1).isLt
  unfold sel at e
  split at e <;> omega

/-- Some condition holds at every first half. -/
theorem some_holds {i : grid0.Coords} {w : BitVec 32} (h : w.toNat ≤ 512) (hk : (i 1).val = 0) : ∃ b : Fin 9, condAt b i w = 1#1 := by
  have hs : sel (i 1).val w.toNat < 9 := by rw [hk]; unfold sel; split <;> omega
  exact ⟨⟨_, hs⟩, (condAt_iff _ i w h).2 rfl⟩

/-- A point leaves the output untouched when no condition holds. -/
theorem idle_iff (t : Fin (cfgA ch).N) : (cfgA ch).idle (2 : Fin 3) ((cfgA ch).grid.coords t) = true ↔ ∀ b : Fin 9, ¬condAt b (crd ch t) (rowsW (crd ch t) (pinT_0 ch)) = 1#1 := by
  rw [← rows_atD ch (crd ch t)]
  show (!(k0_cond1 (crd ch t) _ == 1#1) && !(k0_cond2 (crd ch t) _ == 1#1) && !(k0_cond3 (crd ch t) _ == 1#1) && !(k0_cond4 (crd ch t) _ == 1#1) && !(k0_cond5 (crd ch t) _ == 1#1) && !(k0_cond6 (crd ch t) _ == 1#1) && !(k0_cond7 (crd ch t) _ == 1#1) && !(k0_cond8 (crd ch t) _ == 1#1) && !(k0_cond9 (crd ch t) _ == 1#1)) = true ↔ _
  simp only [Bool.and_eq_true, Bool.not_eq_true', beq_eq_false_iff_ne, ne_eq]
  constructor
  · rintro ⟨⟨⟨⟨⟨⟨⟨⟨h0, h1⟩, h2⟩, h3⟩, h4⟩, h5⟩, h6⟩, h7⟩, h8⟩ b
    fin_cases b
    exacts [h0, h1, h2, h3, h4, h5, h6, h7, h8]
  · exact fun h => ⟨⟨⟨⟨⟨⟨⟨⟨h 0, h 1⟩, h 2⟩, h 3⟩, h 4⟩, h 5⟩, h 6⟩, h 7⟩, h 8⟩

theorem idle_of (t : Fin (cfgA ch).N) (b : Fin 9) (q : condAt b (crd ch t) (rowsW (crd ch t) (pinT_0 ch)) = 1#1) : (cfgA ch).idle (2 : Fin 3) ((cfgA ch).grid.coords t) = false :=
  Bool.eq_false_iff.2 fun h => (idle_iff ch t).1 h b q

/-- The table of no rows. -/
def tab0 : Tab := ⟨fun _ => 0#32, fun _ => ⟨Nat.zero_lt_succ 7, Nat.zero_le 512⟩⟩

/-- The second half of every tile writes its block back, the first does not; the halves alternate. -/
theorem flush2_0 : ∀ t : Fin (cfgA tab0).N, ((cfgA tab0).win (2 : Fin 3)).flush t = decide (t.val % 2 = 1) := by decide +kernel
theorem flush2 (t : Fin (cfgA ch).N) : ((cfgA ch).win (2 : Fin 3)).flush t = decide (t.val % 2 = 1) := flush2_0 t
theorem half_0 : ∀ t : Fin (cfgA tab0).N, ((cfgA tab0).grid.coords t 1).val = t.val % 2 := by decide +kernel
theorem half (t : Fin (cfgA ch).N) : (crd ch t 1).val = t.val % 2 := half_0 t

theorem fresh2_nat : ∀ n, n < (cfgA ch).N → (cfgA ch).fresh (2 : Fin 3) n = decide (n % 2 = 0)
  | 0, _ => Pipeline.Cfg.fresh_zero (cfgA ch) (2 : Fin 3)
  | n + 1, hn => by
    have hl : n < (cfgA ch).N := Nat.lt_of_succ_lt hn
    refine (Pipeline.Cfg.fresh_succ (cfgA ch) (2 : Fin 3) n hl).trans ?_
    rw [flush2 ch ⟨n, hl⟩, fresh2_nat n hl]
    rcases Nat.mod_two_eq_zero_or_one n with e | e
    · obtain ⟨b, q⟩ := some_holds (rows_le ch ⟨n, hl⟩) ((half ch ⟨n, hl⟩).trans e)
      rw [idle_of ch ⟨n, hl⟩ b q]
      have e' : (n + 1) % 2 = 1 := by omega
      simp [e, e']
    · have e' : (n + 1) % 2 = 0 := by omega
      simp [e, e']

theorem first_sched (t : Fin (cfgA ch).N) (b : Fin 9) (hb : b.val % 2 = 0) (q : condAt b (crd ch t) (rowsW (crd ch t) (pinT_0 ch)) = 1#1) :
    (cfgA ch).idle (2 : Fin 3) ((cfgA ch).grid.coords t) = false ∧ ((cfgA ch).win (2 : Fin 3)).flush t = false ∧ (cfgA ch).fresh (2 : Fin 3) t.val = true := by
  have e : t.val % 2 = 0 := (half ch t).symm.trans ((parity (rows_le ch t) q).symm.trans hb)
  exact ⟨idle_of ch t b q, (flush2 ch t).trans (by simp [e]), (fresh2_nat ch t.val t.isLt).trans (by simp [e])⟩

theorem second_sched (t : Fin (cfgA ch).N) (b : Fin 9) (hb : b.val % 2 = 1) (q : condAt b (crd ch t) (rowsW (crd ch t) (pinT_0 ch)) = 1#1) :
    (cfgA ch).idle (2 : Fin 3) ((cfgA ch).grid.coords t) = false ∧ ((cfgA ch).win (2 : Fin 3)).flush t = true ∧ (cfgA ch).fresh (2 : Fin 3) t.val = false := by
  have e : t.val % 2 = 1 := (half ch t).symm.trans ((parity (rows_le ch t) q).symm.trans hb)
  exact ⟨idle_of ch t b q, (flush2 ch t).trans (by simp [e]), (fresh2_nat ch t.val t.isLt).trans (by simp [e])⟩

theorem idle_sched (t : Fin (cfgA ch).N) (q0 : ¬P0_0 ch t) (q1 : ¬P0_1 ch t) (q2 : ¬P0_2 ch t) (q3 : ¬P0_3 ch t) (q4 : ¬P0_4 ch t) (q5 : ¬P0_5 ch t) (q6 : ¬P0_6 ch t) (q7 : ¬P0_7 ch t) (q8 : ¬P0_8 ch t) :
    (cfgA ch).idle (2 : Fin 3) ((cfgA ch).grid.coords t) = true ∧ ((cfgA ch).win (2 : Fin 3)).flush t = true ∧ (cfgA ch).fresh (2 : Fin 3) t.val = false := by
  have h : ∀ b : Fin 9, ¬condAt b (crd ch t) (rowsW (crd ch t) (pinT_0 ch)) = 1#1 := by
    intro b
    fin_cases b
    exacts [q0, q1, q2, q3, q4, q5, q6, q7, q8]
  have e : t.val % 2 = 1 := by
    rcases Nat.mod_two_eq_zero_or_one t.val with e | e
    · obtain ⟨b, q⟩ := some_holds (rows_le ch t) ((half ch t).trans e)
      exact absurd q (h b)
    · exact e
  exact ⟨(idle_iff ch t).2 h, (flush2 ch t).trans (by simp [e]), (fresh2_nat ch t.val t.isLt).trans (by simp [e])⟩

end Cert.DownIdeal.All

end
-- ==== Proof.DownIdealFlash.lean ====
/- The run of the experts' down product at any admissible table of tiles: what the output's buffer holds after each point, the body's obligation at a generic point by path, the launch, the frame. -/
module

public import proofs.«01_k».proof.Proof.DownIdealTab

@[expose] public section

set_option maxRecDepth 16384
set_option Elab.async false

noncomputable section

namespace Cert.DownIdeal.All

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (ch : Tab)
variable (m : (ℓ : Loc nD τ sig) → Buf (Elt Ideal) ℓ) (ρ : Dev nD → PrngReg)

theorem hypsR0_A : ∀ (ch : Tab) (t : Fin (cfgA ch).N), ¬P0_0 ch t → ¬P0_1 ch t → ¬P0_2 ch t → ¬P0_3 ch t → ¬P0_4 ch t → ¬P0_5 ch t → P0_6 ch t →
    HypA (crd ch t) (pinT_0 ch) := fun ch t q0 q1 q2 q3 q4 q5 q6 => by
  have h := only (rows_le ch t) (b := 6) q6
  exact ⟨h 0 (by decide), h 1 (by decide), h 2 (by decide), h 3 (by decide), h 4 (by decide), h 5 (by decide), q6, h 7 (by decide), h 8 (by decide), trivial⟩

theorem sched0_A : ∀ (ch : Tab) (t : Fin (cfgA ch).N), ¬P0_0 ch t → ¬P0_1 ch t → ¬P0_2 ch t → ¬P0_3 ch t → ¬P0_4 ch t → ¬P0_5 ch t → P0_6 ch t →
    (cfgA ch).idle (2 : Fin 3) ((cfgA ch).grid.coords t) = false ∧ ((cfgA ch).win (2 : Fin 3)).flush t = false ∧ (cfgA ch).fresh (2 : Fin 3) t.val = true := fun ch t q0 q1 q2 q3 q4 q5 q6 => first_sched ch t 6 (by decide) q6

theorem hypsR0_B : ∀ (ch : Tab) (t : Fin (cfgA ch).N), ¬P0_0 ch t → ¬P0_1 ch t → ¬P0_2 ch t → ¬P0_3 ch t → ¬P0_4 ch t → ¬P0_5 ch t → ¬P0_6 ch t → P0_7 ch t →
    HypB (crd ch t) (pinT_0 ch) := fun ch t q0 q1 q2 q3 q4 q5 q6 q7 => by
  have h := only (rows_le ch t) (b := 7) q7
  exact ⟨h 0 (by decide), h 1 (by decide), h 2 (by decide), h 3 (by decide), h 4 (by decide), h 5 (by decide), h 6 (by decide), q7, h 8 (by decide), trivial⟩

theorem sched0_B : ∀ (ch : Tab) (t : Fin (cfgA ch).N), ¬P0_0 ch t → ¬P0_1 ch t → ¬P0_2 ch t → ¬P0_3 ch t → ¬P0_4 ch t → ¬P0_5 ch t → ¬P0_6 ch t → P0_7 ch t →
    (cfgA ch).idle (2 : Fin 3) ((cfgA ch).grid.coords t) = false ∧ ((cfgA ch).win (2 : Fin 3)).flush t = true ∧ (cfgA ch).fresh (2 : Fin 3) t.val = false := fun ch t q0 q1 q2 q3 q4 q5 q6 q7 => second_sched ch t 7 (by decide) q7

theorem hypsR0_C : ∀ (ch : Tab) (t : Fin (cfgA ch).N), ¬P0_0 ch t → ¬P0_1 ch t → ¬P0_2 ch t → ¬P0_3 ch t → P0_4 ch t →
    HypC (crd ch t) (pinT_0 ch) := fun ch t q0 q1 q2 q3 q4 => by
  have h := only (rows_le ch t) (b := 4) q4
  exact ⟨h 0 (by decide), h 1 (by decide), h 2 (by decide), h 3 (by decide), q4, h 5 (by decide), h 6 (by decide), h 7 (by decide), h 8 (by decide), trivial⟩

theorem sched0_C : ∀ (ch : Tab) (t : Fin (cfgA ch).N), ¬P0_0 ch t → ¬P0_1 ch t → ¬P0_2 ch t → ¬P0_3 ch t → P0_4 ch t →
    (cfgA ch).idle (2 : Fin 3) ((cfgA ch).grid.coords t) = false ∧ ((cfgA ch).win (2 : Fin 3)).flush t = false ∧ (cfgA ch).fresh (2 : Fin 3) t.val = true := fun ch t q0 q1 q2 q3 q4 => first_sched ch t 4 (by decide) q4

theorem hypsR0_D : ∀ (ch : Tab) (t : Fin (cfgA ch).N), ¬P0_0 ch t → ¬P0_1 ch t → ¬P0_2 ch t → ¬P0_3 ch t → ¬P0_4 ch t → P0_5 ch t →
    HypD (crd ch t) (pinT_0 ch) := fun ch t q0 q1 q2 q3 q4 q5 => by
  have h := only (rows_le ch t) (b := 5) q5
  exact ⟨h 0 (by decide), h 1 (by decide), h 2 (by decide), h 3 (by decide), h 4 (by decide), q5, h 6 (by decide), h 7 (by decide), h 8 (by decide), trivial⟩

theorem sched0_D : ∀ (ch : Tab) (t : Fin (cfgA ch).N), ¬P0_0 ch t → ¬P0_1 ch t → ¬P0_2 ch t → ¬P0_3 ch t → ¬P0_4 ch t → P0_5 ch t →
    (cfgA ch).idle (2 : Fin 3) ((cfgA ch).grid.coords t) = false ∧ ((cfgA ch).win (2 : Fin 3)).flush t = true ∧ (cfgA ch).fresh (2 : Fin 3) t.val = false := fun ch t q0 q1 q2 q3 q4 q5 => second_sched ch t 5 (by decide) q5

theorem hypsR0_E : ∀ (ch : Tab) (t : Fin (cfgA ch).N), ¬P0_0 ch t → ¬P0_1 ch t → P0_2 ch t →
    HypE (crd ch t) (pinT_0 ch) := fun ch t q0 q1 q2 => by
  have h := only (rows_le ch t) (b := 2) q2
  exact ⟨h 0 (by decide), h 1 (by decide), q2, h 3 (by decide), h 4 (by decide), h 5 (by decide), h 6 (by decide), h 7 (by decide), h 8 (by decide), trivial⟩

theorem sched0_E : ∀ (ch : Tab) (t : Fin (cfgA ch).N), ¬P0_0 ch t → ¬P0_1 ch t → P0_2 ch t →
    (cfgA ch).idle (2 : Fin 3) ((cfgA ch).grid.coords t) = false ∧ ((cfgA ch).win (2 : Fin 3)).flush t = false ∧ (cfgA ch).fresh (2 : Fin 3) t.val = true := fun ch t q0 q1 q2 => first_sched ch t 2 (by decide) q2

theorem hypsR0_F : ∀ (ch : Tab) (t : Fin (cfgA ch).N), ¬P0_0 ch t → ¬P0_1 ch t → ¬P0_2 ch t → P0_3 ch t →
    HypF (crd ch t) (pinT_0 ch) := fun ch t q0 q1 q2 q3 => by
  have h := only (rows_le ch t) (b := 3) q3
  exact ⟨h 0 (by decide), h 1 (by decide), h 2 (by decide), q3, h 4 (by decide), h 5 (by decide), h 6 (by decide), h 7 (by decide), h 8 (by decide), trivial⟩

theorem sched0_F : ∀ (ch : Tab) (t : Fin (cfgA ch).N), ¬P0_0 ch t → ¬P0_1 ch t → ¬P0_2 ch t → P0_3 ch t →
    (cfgA ch).idle (2 : Fin 3) ((cfgA ch).grid.coords t) = false ∧ ((cfgA ch).win (2 : Fin 3)).flush t = true ∧ (cfgA ch).fresh (2 : Fin 3) t.val = false := fun ch t q0 q1 q2 q3 => second_sched ch t 3 (by decide) q3

theorem hypsR0_G : ∀ (ch : Tab) (t : Fin (cfgA ch).N), P0_0 ch t →
    HypG (crd ch t) (pinT_0 ch) := fun ch t q0 => by
  have h := only (rows_le ch t) (b := 0) q0
  exact ⟨q0, h 1 (by decide), h 2 (by decide), h 3 (by decide), h 4 (by decide), h 5 (by decide), h 6 (by decide), h 7 (by decide), h 8 (by decide), trivial⟩

theorem sched0_G : ∀ (ch : Tab) (t : Fin (cfgA ch).N), P0_0 ch t →
    (cfgA ch).idle (2 : Fin 3) ((cfgA ch).grid.coords t) = false ∧ ((cfgA ch).win (2 : Fin 3)).flush t = false ∧ (cfgA ch).fresh (2 : Fin 3) t.val = true := fun ch t q0 => first_sched ch t 0 (by decide) q0

theorem hypsR0_H : ∀ (ch : Tab) (t : Fin (cfgA ch).N), ¬P0_0 ch t → P0_1 ch t →
    HypH (crd ch t) (pinT_0 ch) := fun ch t q0 q1 => by
  have h := only (rows_le ch t) (b := 1) q1
  exact ⟨h 0 (by decide), q1, h 2 (by decide), h 3 (by decide), h 4 (by decide), h 5 (by decide), h 6 (by decide), h 7 (by decide), h 8 (by decide), trivial⟩

theorem sched0_H : ∀ (ch : Tab) (t : Fin (cfgA ch).N), ¬P0_0 ch t → P0_1 ch t →
    (cfgA ch).idle (2 : Fin 3) ((cfgA ch).grid.coords t) = false ∧ ((cfgA ch).win (2 : Fin 3)).flush t = true ∧ (cfgA ch).fresh (2 : Fin 3) t.val = false := fun ch t q0 q1 => second_sched ch t 1 (by decide) q1

theorem hypsR0_I : ∀ (ch : Tab) (t : Fin (cfgA ch).N), ¬P0_0 ch t → ¬P0_1 ch t → ¬P0_2 ch t → ¬P0_3 ch t → ¬P0_4 ch t → ¬P0_5 ch t → ¬P0_6 ch t → ¬P0_7 ch t → P0_8 ch t →
    HypI (crd ch t) (pinT_0 ch) := fun ch t q0 q1 q2 q3 q4 q5 q6 q7 q8 => by
  have h := only (rows_le ch t) (b := 8) q8
  exact ⟨h 0 (by decide), h 1 (by decide), h 2 (by decide), h 3 (by decide), h 4 (by decide), h 5 (by decide), h 6 (by decide), h 7 (by decide), q8, trivial⟩

theorem sched0_I : ∀ (ch : Tab) (t : Fin (cfgA ch).N), ¬P0_0 ch t → ¬P0_1 ch t → ¬P0_2 ch t → ¬P0_3 ch t → ¬P0_4 ch t → ¬P0_5 ch t → ¬P0_6 ch t → ¬P0_7 ch t → P0_8 ch t →
    (cfgA ch).idle (2 : Fin 3) ((cfgA ch).grid.coords t) = false ∧ ((cfgA ch).win (2 : Fin 3)).flush t = false ∧ (cfgA ch).fresh (2 : Fin 3) t.val = true := fun ch t q0 q1 q2 q3 q4 q5 q6 q7 q8 => first_sched ch t 8 (by decide) q8

theorem hypsR0_J : ∀ (ch : Tab) (t : Fin (cfgA ch).N), ¬P0_0 ch t → ¬P0_1 ch t → ¬P0_2 ch t → ¬P0_3 ch t → ¬P0_4 ch t → ¬P0_5 ch t → ¬P0_6 ch t → ¬P0_7 ch t → ¬P0_8 ch t →
    HypJ (crd ch t) (pinT_0 ch) := fun ch t q0 q1 q2 q3 q4 q5 q6 q7 q8 => by
  exact ⟨q0, q1, q2, q3, q4, q5, q6, q7, q8, trivial⟩

theorem sched0_J : ∀ (ch : Tab) (t : Fin (cfgA ch).N), ¬P0_0 ch t → ¬P0_1 ch t → ¬P0_2 ch t → ¬P0_3 ch t → ¬P0_4 ch t → ¬P0_5 ch t → ¬P0_6 ch t → ¬P0_7 ch t → ¬P0_8 ch t →
    (cfgA ch).idle (2 : Fin 3) ((cfgA ch).grid.coords t) = true ∧ ((cfgA ch).win (2 : Fin 3)).flush t = true ∧ (cfgA ch).fresh (2 : Fin 3) t.val = false := fun ch t q0 q1 q2 q3 q4 q5 q6 q7 q8 => idle_sched ch t q0 q1 q2 q3 q4 q5 q6 q7 q8

def step0 (c : Dev nD) (t : Fin (cfgA ch).N) (prev : (S512x2048.Idx → Elt Ideal .f32)) : (S512x2048.Idx → Elt Ideal .f32) :=
  if q0 : P0_0 ch t then
    out0_G_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_G ch t q0)
  else
    if q1 : P0_1 ch t then
      out0_H_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_H ch t q0 q1)
    else
      if q2 : P0_2 ch t then
        out0_E_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_E ch t q0 q1 q2)
      else
        if q3 : P0_3 ch t then
          out0_F_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_F ch t q0 q1 q2 q3)
        else
          if q4 : P0_4 ch t then
            out0_C_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_C ch t q0 q1 q2 q3 q4)
          else
            if q5 : P0_5 ch t then
              out0_D_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_D ch t q0 q1 q2 q3 q4 q5)
            else
              if q6 : P0_6 ch t then
                out0_A_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_A ch t q0 q1 q2 q3 q4 q5 q6)
              else
                if q7 : P0_7 ch t then
                  out0_B_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_B ch t q0 q1 q2 q3 q4 q5 q6 q7)
                else
                  if q8 : P0_8 ch t then
                    out0_I_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_I ch t q0 q1 q2 q3 q4 q5 q6 q7 q8)
                  else
                    (if (cfgA ch).fresh (2 : Fin 3) t.val then default else prev)

def traj0 (c : Dev nD) : (n : ℕ) → n < (cfgA ch).N → (S512x2048.Idx → Elt Ideal .f32)
  | 0, h => step0 ch m ρ c ⟨0, h⟩ default
  | n + 1, h => step0 ch m ρ c ⟨n + 1, h⟩ (traj0 c n (Nat.lt_of_succ_lt h))

def prev0 (c : Dev nD) (t : Fin (cfgA ch).N) : (S512x2048.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : ¬P0_4 ch t) (q5 : ¬P0_5 ch t) (q6 : P0_6 ch t) :
    step0 ch m ρ c t prev = out0_A_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_A ch t q0 q1 q2 q3 q4 q5 q6) := by
  unfold step0; simp only [dif_neg q0, dif_neg q1, dif_neg q2, dif_neg q3, dif_neg q4, dif_neg q5, dif_pos q6]

theorem step0_B (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : ¬P0_4 ch t) (q5 : ¬P0_5 ch t) (q6 : ¬P0_6 ch t) (q7 : P0_7 ch t) :
    step0 ch m ρ c t prev = out0_B_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_B ch t q0 q1 q2 q3 q4 q5 q6 q7) := by
  unfold step0; simp only [dif_neg q0, dif_neg q1, dif_neg q2, dif_neg q3, dif_neg q4, dif_neg q5, dif_neg q6, dif_pos q7]

theorem step0_C (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : P0_4 ch t) :
    step0 ch m ρ c t prev = out0_C_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_C ch t q0 q1 q2 q3 q4) := by
  unfold step0; simp only [dif_neg q0, dif_neg q1, dif_neg q2, dif_neg q3, dif_pos q4]

theorem step0_D (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : ¬P0_4 ch t) (q5 : P0_5 ch t) :
    step0 ch m ρ c t prev = out0_D_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_D ch t q0 q1 q2 q3 q4 q5) := by
  unfold step0; simp only [dif_neg q0, dif_neg q1, dif_neg q2, dif_neg q3, dif_neg q4, dif_pos q5]

theorem step0_E (c : Dev nD) (t : Fin (cfgA ch).N) (prev : (S512x2048.Idx → Elt Ideal .f32)) (q0 : ¬P0_0 ch t) (q1 : ¬P0_1 ch t) (q2 : P0_2 ch t) :
    step0 ch m ρ c t prev = out0_E_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_E ch t q0 q1 q2) := by
  unfold step0; simp only [dif_neg q0, dif_neg q1, dif_pos q2]

theorem step0_F (c : Dev nD) (t : Fin (cfgA ch).N) (prev : (S512x2048.Idx → Elt Ideal .f32)) (q0 : ¬P0_0 ch t) (q1 : ¬P0_1 ch t) (q2 : ¬P0_2 ch t) (q3 : P0_3 ch t) :
    step0 ch m ρ c t prev = out0_F_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_F ch t q0 q1 q2 q3) := by
  unfold step0; simp only [dif_neg q0, dif_neg q1, dif_neg q2, dif_pos q3]

theorem step0_G (c : Dev nD) (t : Fin (cfgA ch).N) (prev : (S512x2048.Idx → Elt Ideal .f32)) (q0 : P0_0 ch t) :
    step0 ch m ρ c t prev = out0_G_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_G ch t q0) := by
  unfold step0; simp only [dif_pos q0]

theorem step0_H (c : Dev nD) (t : Fin (cfgA ch).N) (prev : (S512x2048.Idx → Elt Ideal .f32)) (q0 : ¬P0_0 ch t) (q1 : P0_1 ch t) :
    step0 ch m ρ c t prev = out0_H_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) prev (hypsR0_H ch t q0 q1) := by
  unfold step0; simp only [dif_neg q0, dif_pos q1]

theorem step0_I (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : ¬P0_4 ch t) (q5 : ¬P0_5 ch t) (q6 : ¬P0_6 ch t) (q7 : ¬P0_7 ch t) (q8 : P0_8 ch t) :
    step0 ch m ρ c t prev = out0_I_2 c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) (hypsR0_I ch t q0 q1 q2 q3 q4 q5 q6 q7 q8) := by
  unfold step0; simp only [dif_neg q0, dif_neg q1, dif_neg q2, dif_neg q3, dif_neg q4, dif_neg q5, dif_neg q6, dif_neg q7, dif_pos q8]

theorem step0_J (c : Dev nD) (t : Fin (cfgA ch).N) (prev : (S512x2048.Idx → Elt Ideal .f32)) (q0 : ¬P0_0 ch t) (q1 : ¬P0_1 ch t) (q2 : ¬P0_2 ch t) (q3 : ¬P0_3 ch t) (q4 : ¬P0_4 ch t) (q5 : ¬P0_5 ch t) (q6 : ¬P0_6 ch t) (q7 : ¬P0_7 ch t) (q8 : ¬P0_8 ch t) :
    step0 ch m ρ c t prev = (if (cfgA ch).fresh (2 : Fin 3) t.val then default else prev) := by
  unfold step0; simp only [dif_neg q0, dif_neg q1, dif_neg q2, dif_neg q3, dif_neg q4, dif_neg q5, dif_neg q6, dif_neg q7, dif_neg q8]

def prev0T (c : Dev nD) (t : Fin ((cfgA ch).N + 1)) : (S512x2048.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch))

def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 3) t
    | ⟨1, _⟩ => iblk ch m ρ c (1 : Fin 3) t
    | ⟨2, _⟩ => (traj0 ch m ρ c t.val t.isLt)
  Φ t := Phi ch m ρ c t
  q _ := fullShare
  owed _ := 0

theorem after0_0 (c : Dev nD) (t : Fin (cfgA ch).N) : (dats ch m ρ 0 c).after (0 : Fin 3) t = iblk ch m ρ c (0 : Fin 3) t := rfl
theorem after0_1 (c : Dev nD) (t : Fin (cfgA ch).N) : (dats ch m ρ 0 c).after (1 : Fin 3) t = iblk ch m ρ c (1 : Fin 3) t := rfl
theorem after0_2 (c : Dev nD) (t : Fin (cfgA ch).N) : (dats ch m ρ 0 c).after (2 : Fin 3) t = (traj0 ch m ρ c t.val t.isLt) := rfl

theorem before0_0 (c : Dev nD) (t : Fin (cfgA ch).N) (d) : (dats ch m ρ 0 c).before (0 : Fin 3) t d = iblk ch m ρ c (0 : Fin 3) t :=
  ((dats ch m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 3) t d = iblk ch m ρ c (1 : Fin 3) t :=
  ((dats ch m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

theorem hcarry0_2 (c : Dev nD) : ∀ (t : Fin (cfgA ch).N) (ht : t.val ≠ 0), (cfgA ch).idle (2 : Fin 3) ((cfgA ch).grid.coords t) = true → (cfgA ch).fresh (2 : Fin 3) t.val = false →
    (dats ch m ρ 0 c).after (2 : Fin 3) t = (dats ch m ρ 0 c).after (2 : Fin 3) ⟨t.val - 1, by omega⟩ := by
  intro t ht hi hf
  rw [after0_2, after0_2, traj0_eq]
  by_cases q0 : P0_0 ch t
  · obtain ⟨i2, -, -⟩ := sched0_G ch t q0
    rw [i2] at hi; exact absurd hi (by decide)
  · by_cases q1 : P0_1 ch t
    · obtain ⟨i2, -, -⟩ := sched0_H ch t q0 q1
      rw [i2] at hi; exact absurd hi (by decide)
    · by_cases q2 : P0_2 ch t
      · obtain ⟨i2, -, -⟩ := sched0_E ch t q0 q1 q2
        rw [i2] at hi; exact absurd hi (by decide)
      · by_cases q3 : P0_3 ch t
        · obtain ⟨i2, -, -⟩ := sched0_F ch t q0 q1 q2 q3
          rw [i2] at hi; exact absurd hi (by decide)
        · by_cases q4 : P0_4 ch t
          · obtain ⟨i2, -, -⟩ := sched0_C ch t q0 q1 q2 q3 q4
            rw [i2] at hi; exact absurd hi (by decide)
          · by_cases q5 : P0_5 ch t
            · obtain ⟨i2, -, -⟩ := sched0_D ch t q0 q1 q2 q3 q4 q5
              rw [i2] at hi; exact absurd hi (by decide)
            · by_cases q6 : P0_6 ch t
              · obtain ⟨i2, -, -⟩ := sched0_A ch t q0 q1 q2 q3 q4 q5 q6
                rw [i2] at hi; exact absurd hi (by decide)
              · by_cases q7 : P0_7 ch t
                · obtain ⟨i2, -, -⟩ := sched0_B ch t q0 q1 q2 q3 q4 q5 q6 q7
                  rw [i2] at hi; exact absurd hi (by decide)
                · by_cases q8 : P0_8 ch t
                  · obtain ⟨i2, -, -⟩ := sched0_I ch t q0 q1 q2 q3 q4 q5 q6 q7 q8
                    rw [i2] at hi; exact absurd hi (by decide)
                  · rw [step0_J ch m ρ c t _ q0 q1 q2 q3 q4 q5 q6 q7 q8]
                    simp only [hf, Bool.false_eq_true, ↓reduceIte]
                    unfold prev0; rw [dif_neg ht]

theorem before0_2 (c : Dev nD) (t : Fin (cfgA ch).N) (d) :
    (dats ch m ρ 0 c).before (2 : Fin 3) t d = if (cfgA ch).fresh (2 : Fin 3) t.val then d else (prev0 ch m ρ c t) := by
  rw [(dats ch m ρ 0 c).before_out_traj (2 : Fin 3) rfl (fun _ _ => rfl) (hcarry0_2 ch m ρ c) t.val t rfl d]
  by_cases hf : (cfgA ch).fresh (2 : Fin 3) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_2]; unfold prev0; rw [dif_neg h0]

abbrev bodyAt0 (t : Fin (cfgA ch).N) : Prog (TpuEff nD τ sig (Elt Ideal) Λ₀ .tc) PUnit :=
  cc0_moe_down (crd ch t) (Memref.whole main_arg0) (Memref.isWhole_whole _) (ms0_0 ch t) (hs0_0 ch t) (ms0_1 ch t) (hs0_1 ch t) (ms0_2 ch t) (hs0_2 ch t)

set_option maxHeartbeats 8000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 3) t d))
        ∗ (∃ d, owns (c : Thread nD τ) (ms0_1 ch t) fullShare ((dats ch m ρ 0 c).before (1 : Fin 3) t d))
        ∗ (∃ d, owns (c : Thread nD τ) (ms0_2 ch t) fullShare ((dats ch m ρ 0 c).before (2 : Fin 3) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i2, f2, fr2⟩ := sched0_G ch t q0
    have hk := hypsR0_G ch t q0
    rewrite [i2]
    simp only [before0_0, before0_1, before0_2, after0_0, after0_1, after0_2, f2]
    simp only [fr2, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_G ch m ρ c t _ q0]
    unfold Phi; simp only [prev0T_castSucc, prev0T_succ, traj0_eq, step0_G ch m ρ c t _ q0, Fin.val_castSucc, Fin.val_succ]
    iintro ⟨⟨HT0⟩, Ho, ⟨%d0, H0⟩, ⟨%d1, H1⟩, ⟨%d2, H2⟩⟩
    iapply ((kernelRun0_G c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _)
    isplitl [H0]; · iapply rep_of_owns; iexact H0
    isplitl [H1]; · iapply rep_of_owns; iexact H1
    isplitl [HT0]; · iexact HT0
    isplitl [H2]; · iexists _; iexact H2
    iintro ⟨H0, H1, HT0, ⟨%e2, H2⟩⟩
    isplitl [HT0]
    · iexact HT0
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_G_2 c _ _ _ _ _ _ _ _ _ _ _)
  · by_cases q1 : P0_1 ch t
    · obtain ⟨i2, f2, fr2⟩ := sched0_H ch t q0 q1
      have hk := hypsR0_H ch t q0 q1
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_H ch m ρ c t _ q0 q1]
      unfold Phi; simp only [prev0T_castSucc, prev0T_succ, traj0_eq, step0_H ch m ρ c t _ q0 q1, Fin.val_castSucc, Fin.val_succ]
      iintro ⟨⟨HT0⟩, Ho, ⟨%d0, H0⟩, ⟨%d1, H1⟩, ⟨%d2, H2⟩⟩
      iapply ((kernelRun0_H c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) _ hk).2 _)
      isplitl [H0]; · iapply rep_of_owns; iexact H0
      isplitl [H1]; · iapply rep_of_owns; iexact H1
      isplitl [HT0]; · iexact HT0
      isplitl [H2]; · iexact H2
      iintro ⟨H0, H1, HT0, H2⟩
      isplitl [HT0]
      · iexact HT0
      isplitl [Ho]; · iexact Ho
      isplitl [H0]
      · iapply owns_of_rep; iexact H0
      isplitl [H1]
      · iapply owns_of_rep; iexact H1
      unfold owns; iexists _; isplitr; swap
      · iexact H2
      · ipureintro; rfl
    · by_cases q2 : P0_2 ch t
      · obtain ⟨i2, f2, fr2⟩ := sched0_E ch t q0 q1 q2
        have hk := hypsR0_E ch t q0 q1 q2
        rewrite [i2]
        simp only [before0_0, before0_1, before0_2, after0_0, after0_1, after0_2, f2]
        simp only [fr2, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1 q2]
        unfold Phi; simp only [prev0T_castSucc, prev0T_succ, traj0_eq, step0_E ch m ρ c t _ q0 q1 q2, Fin.val_castSucc, Fin.val_succ]
        iintro ⟨⟨HT0⟩, Ho, ⟨%d0, H0⟩, ⟨%d1, H1⟩, ⟨%d2, H2⟩⟩
        iapply ((kernelRun0_E c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _)
        isplitl [H0]; · iapply rep_of_owns; iexact H0
        isplitl [H1]; · iapply rep_of_owns; iexact H1
        isplitl [HT0]; · iexact HT0
        isplitl [H2]; · iexists _; iexact H2
        iintro ⟨H0, H1, HT0, ⟨%e2, H2⟩⟩
        isplitl [HT0]
        · iexact HT0
        isplitl [Ho]; · iexact Ho
        isplitl [H0]
        · iapply owns_of_rep; iexact H0
        isplitl [H1]
        · iapply owns_of_rep; iexact H1
        unfold owns; iexists _; isplitr; swap
        · iexact H2
        · ipureintro; exact View.read_writes_of_cover _ _ _ _ _ (cover0_E_2 c _ _ _ _ _ _ _ _ _ _ _)
      · by_cases q3 : P0_3 ch t
        · obtain ⟨i2, f2, fr2⟩ := sched0_F ch t q0 q1 q2 q3
          have hk := hypsR0_F ch t q0 q1 q2 q3
          rewrite [i2]
          simp only [before0_0, before0_1, before0_2, after0_0, after0_1, after0_2, f2]
          simp only [fr2, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_F ch m ρ c t _ q0 q1 q2 q3]
          unfold Phi; simp only [prev0T_castSucc, prev0T_succ, traj0_eq, step0_F ch m ρ c t _ q0 q1 q2 q3, Fin.val_castSucc, Fin.val_succ]
          iintro ⟨⟨HT0⟩, Ho, ⟨%d0, H0⟩, ⟨%d1, H1⟩, ⟨%d2, H2⟩⟩
          iapply ((kernelRun0_F c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) _ hk).2 _)
          isplitl [H0]; · iapply rep_of_owns; iexact H0
          isplitl [H1]; · iapply rep_of_owns; iexact H1
          isplitl [HT0]; · iexact HT0
          isplitl [H2]; · iexact H2
          iintro ⟨H0, H1, HT0, H2⟩
          isplitl [HT0]
          · iexact HT0
          isplitl [Ho]; · iexact Ho
          isplitl [H0]
          · iapply owns_of_rep; iexact H0
          isplitl [H1]
          · iapply owns_of_rep; iexact H1
          unfold owns; iexists _; isplitr; swap
          · iexact H2
          · ipureintro; rfl
        · by_cases q4 : P0_4 ch t
          · obtain ⟨i2, f2, fr2⟩ := sched0_C ch t q0 q1 q2 q3 q4
            have hk := hypsR0_C ch t q0 q1 q2 q3 q4
            rewrite [i2]
            simp only [before0_0, before0_1, before0_2, after0_0, after0_1, after0_2, f2]
            simp only [fr2, Bool.false_eq_true, ↓reduceIte]
            rewrite [show (dats ch m ρ 0 c).Φ t.succ = Phi ch m ρ c t.succ from rfl, show (dats ch m ρ 0 c).Φ t.castSucc = Phi ch m ρ c t.castSucc from rfl,
              show (dats ch m ρ 0 c).owesAt () t.succ = (dats ch m ρ 0 c).owesAt () t.castSucc from rfl]
            try rewrite [traj0_eq, step0_C ch m ρ c t _ q0 q1 q2 q3 q4]
            unfold Phi; simp only [prev0T_castSucc, prev0T_succ, traj0_eq, step0_C ch m ρ c t _ q0 q1 q2 q3 q4, Fin.val_castSucc, Fin.val_succ]
            iintro ⟨⟨HT0⟩, Ho, ⟨%d0, H0⟩, ⟨%d1, H1⟩, ⟨%d2, H2⟩⟩
            iapply ((kernelRun0_C c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _)
            isplitl [H0]; · iapply rep_of_owns; iexact H0
            isplitl [H1]; · iapply rep_of_owns; iexact H1
            isplitl [HT0]; · iexact HT0
            isplitl [H2]; · iexists _; iexact H2
            iintro ⟨H0, H1, HT0, ⟨%e2, H2⟩⟩
            isplitl [HT0]
            · iexact HT0
            isplitl [Ho]; · iexact Ho
            isplitl [H0]
            · iapply owns_of_rep; iexact H0
            isplitl [H1]
            · iapply owns_of_rep; iexact H1
            unfold owns; iexists _; isplitr; swap
            · iexact H2
            · ipureintro; exact View.read_writes_of_cover _ _ _ _ _ (cover0_C_2 c _ _ _ _ _ _ _ _ _ _ _)
          · by_cases q5 : P0_5 ch t
            · obtain ⟨i2, f2, fr2⟩ := sched0_D ch t q0 q1 q2 q3 q4 q5
              have hk := hypsR0_D ch t q0 q1 q2 q3 q4 q5
              rewrite [i2]
              simp only [before0_0, before0_1, before0_2, after0_0, after0_1, after0_2, f2]
              simp only [fr2, Bool.false_eq_true, ↓reduceIte]
              rewrite [show (dats ch m ρ 0 c).Φ t.succ = Phi ch m ρ c t.succ from rfl, show (dats ch m ρ 0 c).Φ t.castSucc = Phi ch m ρ c t.castSucc from rfl,
                show (dats ch m ρ 0 c).owesAt () t.succ = (dats ch m ρ 0 c).owesAt () t.castSucc from rfl]
              try rewrite [traj0_eq, step0_D ch m ρ c t _ q0 q1 q2 q3 q4 q5]
              unfold Phi; simp only [prev0T_castSucc, prev0T_succ, traj0_eq, step0_D ch m ρ c t _ q0 q1 q2 q3 q4 q5, Fin.val_castSucc, Fin.val_succ]
              iintro ⟨⟨HT0⟩, Ho, ⟨%d0, H0⟩, ⟨%d1, H1⟩, ⟨%d2, H2⟩⟩
              iapply ((kernelRun0_D c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) _ hk).2 _)
              isplitl [H0]; · iapply rep_of_owns; iexact H0
              isplitl [H1]; · iapply rep_of_owns; iexact H1
              isplitl [HT0]; · iexact HT0
              isplitl [H2]; · iexact H2
              iintro ⟨H0, H1, HT0, H2⟩
              isplitl [HT0]
              · iexact HT0
              isplitl [Ho]; · iexact Ho
              isplitl [H0]
              · iapply owns_of_rep; iexact H0
              isplitl [H1]
              · iapply owns_of_rep; iexact H1
              unfold owns; iexists _; isplitr; swap
              · iexact H2
              · ipureintro; rfl
            · by_cases q6 : P0_6 ch t
              · obtain ⟨i2, f2, fr2⟩ := sched0_A ch t q0 q1 q2 q3 q4 q5 q6
                have hk := hypsR0_A ch t q0 q1 q2 q3 q4 q5 q6
                rewrite [i2]
                simp only [before0_0, before0_1, before0_2, after0_0, after0_1, after0_2, f2]
                simp only [fr2, Bool.false_eq_true, ↓reduceIte]
                rewrite [show (dats ch m ρ 0 c).Φ t.succ = Phi ch m ρ c t.succ from rfl, show (dats ch m ρ 0 c).Φ t.castSucc = Phi ch m ρ c t.castSucc from rfl,
                  show (dats ch m ρ 0 c).owesAt () t.succ = (dats ch m ρ 0 c).owesAt () t.castSucc from rfl]
                try rewrite [traj0_eq, step0_A ch m ρ c t _ q0 q1 q2 q3 q4 q5 q6]
                unfold Phi; simp only [prev0T_castSucc, prev0T_succ, traj0_eq, step0_A ch m ρ c t _ q0 q1 q2 q3 q4 q5 q6, Fin.val_castSucc, Fin.val_succ]
                iintro ⟨⟨HT0⟩, Ho, ⟨%d0, H0⟩, ⟨%d1, H1⟩, ⟨%d2, H2⟩⟩
                iapply ((kernelRun0_A c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _)
                isplitl [H0]; · iapply rep_of_owns; iexact H0
                isplitl [H1]; · iapply rep_of_owns; iexact H1
                isplitl [HT0]; · iexact HT0
                isplitl [H2]; · iexists _; iexact H2
                iintro ⟨H0, H1, HT0, ⟨%e2, H2⟩⟩
                isplitl [HT0]
                · iexact HT0
                isplitl [Ho]; · iexact Ho
                isplitl [H0]
                · iapply owns_of_rep; iexact H0
                isplitl [H1]
                · iapply owns_of_rep; iexact H1
                unfold owns; iexists _; isplitr; swap
                · iexact H2
                · ipureintro; exact View.read_writes_of_cover _ _ _ _ _ (cover0_A_2 c _ _ _ _ _ _ _ _ _ _ _)
              · by_cases q7 : P0_7 ch t
                · obtain ⟨i2, f2, fr2⟩ := sched0_B ch t q0 q1 q2 q3 q4 q5 q6 q7
                  have hk := hypsR0_B ch t q0 q1 q2 q3 q4 q5 q6 q7
                  rewrite [i2]
                  simp only [before0_0, before0_1, before0_2, after0_0, after0_1, after0_2, f2]
                  simp only [fr2, Bool.false_eq_true, ↓reduceIte]
                  rewrite [show (dats ch m ρ 0 c).Φ t.succ = Phi ch m ρ c t.succ from rfl, show (dats ch m ρ 0 c).Φ t.castSucc = Phi ch m ρ c t.castSucc from rfl,
                    show (dats ch m ρ 0 c).owesAt () t.succ = (dats ch m ρ 0 c).owesAt () t.castSucc from rfl]
                  try rewrite [traj0_eq, step0_B ch m ρ c t _ q0 q1 q2 q3 q4 q5 q6 q7]
                  unfold Phi; simp only [prev0T_castSucc, prev0T_succ, traj0_eq, step0_B ch m ρ c t _ q0 q1 q2 q3 q4 q5 q6 q7, Fin.val_castSucc, Fin.val_succ]
                  iintro ⟨⟨HT0⟩, Ho, ⟨%d0, H0⟩, ⟨%d1, H1⟩, ⟨%d2, H2⟩⟩
                  iapply ((kernelRun0_B c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) _ hk).2 _)
                  isplitl [H0]; · iapply rep_of_owns; iexact H0
                  isplitl [H1]; · iapply rep_of_owns; iexact H1
                  isplitl [HT0]; · iexact HT0
                  isplitl [H2]; · iexact H2
                  iintro ⟨H0, H1, HT0, ⟨%e2, H2⟩⟩
                  isplitl [HT0]
                  · iexact HT0
                  isplitl [Ho]; · iexact Ho
                  isplitl [H0]
                  · iapply owns_of_rep; iexact H0
                  isplitl [H1]
                  · iapply owns_of_rep; iexact H1
                  unfold owns; iexists _; isplitr; swap
                  · iexact H2
                  · ipureintro; exact View.read_writes_of_cover _ _ _ _ _ (cover0_B_2 c _ _ _ _ _ _ _ _ _ _ _ _)
                · by_cases q8 : P0_8 ch t
                  · obtain ⟨i2, f2, fr2⟩ := sched0_I ch t q0 q1 q2 q3 q4 q5 q6 q7 q8
                    have hk := hypsR0_I ch t q0 q1 q2 q3 q4 q5 q6 q7 q8
                    rewrite [i2]
                    simp only [before0_0, before0_1, before0_2, after0_0, after0_1, after0_2, f2]
                    simp only [fr2, Bool.false_eq_true, ↓reduceIte]
                    rewrite [show (dats ch m ρ 0 c).Φ t.succ = Phi ch m ρ c t.succ from rfl, show (dats ch m ρ 0 c).Φ t.castSucc = Phi ch m ρ c t.castSucc from rfl,
                      show (dats ch m ρ 0 c).owesAt () t.succ = (dats ch m ρ 0 c).owesAt () t.castSucc from rfl]
                    try rewrite [traj0_eq, step0_I ch m ρ c t _ q0 q1 q2 q3 q4 q5 q6 q7 q8]
                    unfold Phi; simp only [prev0T_castSucc, prev0T_succ, traj0_eq, step0_I ch m ρ c t _ q0 q1 q2 q3 q4 q5 q6 q7 q8, Fin.val_castSucc, Fin.val_succ]
                    iintro ⟨⟨HT0⟩, Ho, ⟨%d0, H0⟩, ⟨%d1, H1⟩, ⟨%d2, H2⟩⟩
                    iapply ((kernelRun0_I c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _)
                    isplitl [H0]; · iapply rep_of_owns; iexact H0
                    isplitl [H1]; · iapply rep_of_owns; iexact H1
                    isplitl [HT0]; · iexact HT0
                    isplitl [H2]; · iexists _; iexact H2
                    iintro ⟨H0, H1, HT0, ⟨%e2, H2⟩⟩
                    isplitl [HT0]
                    · iexact HT0
                    isplitl [Ho]; · iexact Ho
                    isplitl [H0]
                    · iapply owns_of_rep; iexact H0
                    isplitl [H1]
                    · iapply owns_of_rep; iexact H1
                    unfold owns; iexists _; isplitr; swap
                    · iexact H2
                    · ipureintro; exact View.read_writes_of_cover _ _ _ _ _ (cover0_I_2 c _ _ _ _ _ _ _ _ _ _ _)
                  · obtain ⟨i2, f2, fr2⟩ := sched0_J ch t q0 q1 q2 q3 q4 q5 q6 q7 q8
                    have hk := hypsR0_J ch t q0 q1 q2 q3 q4 q5 q6 q7 q8
                    rewrite [i2]
                    simp only [before0_0, before0_1, before0_2, after0_0, after0_1, after0_2, f2]
                    simp only [fr2, Bool.false_eq_true, ↓reduceIte]
                    rewrite [show (dats ch m ρ 0 c).Φ t.succ = Phi ch m ρ c t.succ from rfl, show (dats ch m ρ 0 c).Φ t.castSucc = Phi ch m ρ c t.castSucc from rfl,
                      show (dats ch m ρ 0 c).owesAt () t.succ = (dats ch m ρ 0 c).owesAt () t.castSucc from rfl]
                    try rewrite [traj0_eq, step0_J ch m ρ c t _ q0 q1 q2 q3 q4 q5 q6 q7 q8]
                    unfold Phi; simp only [prev0T_castSucc, prev0T_succ, traj0_eq, step0_J ch m ρ c t _ q0 q1 q2 q3 q4 q5 q6 q7 q8, Fin.val_castSucc, Fin.val_succ, fr2, Bool.false_eq_true, ↓reduceIte]
                    iintro ⟨⟨HT0⟩, Ho, ⟨%d0, H0⟩, ⟨%d1, H1⟩, ⟨%d2, H2⟩⟩
                    iapply ((kernelRun0_J c (crd ch t) (ms0_0 ch t) (hs0_0 ch t) (ms0_1 ch t) (hs0_1 ch t) (ms0_2 ch t) (hs0_2 ch t) (pinT_0 ch) (iblk ch m ρ c (0 : Fin 3) t) (iblk ch m ρ c (1 : Fin 3) t) hk).2 _ _)
                    isplitl [H0]; · iapply rep_of_owns; iexact H0
                    isplitl [H1]; · iapply rep_of_owns; iexact H1
                    isplitl [HT0]; · iexact HT0
                    isplitl [H2]; · iexact H2
                    iintro ⟨H0, H1, HT0, H2⟩
                    isplitl [HT0]
                    · iexact HT0
                    isplitl [Ho]; · iexact Ho
                    isplitl [H0]
                    · iapply owns_of_rep; iexact H0
                    isplitl [H1]
                    · iapply owns_of_rep; iexact H1
                    first | (iexists d2; iexact H2) | iexact H2

theorem body_obligation (hp : Pinned ch m) (c : Dev nD) : BodyObligation (dats ch m ρ 0 c) (defs₀ (F := Ideal)) Variants.none () Set.univ := fun t => by
  rw [bigSep_W0]
  exact sound_body ch m ρ hp c t

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, -⟩
  iexact HT0

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-⟩
  isplitr; · iempintro
  iempintro

def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Ideal)) (onTc (τ := τ) (main (F := Ideal))) (s₀ m ρ) (QC ch m ρ) :=
  (θ_run defs _ _).mono (fun _ h => h.1) (run_main_quiescent ch m ρ hp)

theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 0).trans (hp c).symm, ((h c).1 (0 : Fin 3)).trans ((dats ch m ρ 0 c).arrAt_in (0 : Fin 3) rfl _), ((h c).1 (1 : Fin 3)).trans ((dats ch m ρ 0 c).arrAt_in (1 : Fin 3) rfl _)⟩) (run_main ch m ρ hp)

theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged ch m ρ hp) ((θ_run defs _ _).mono (fun _ h => h.2) (run_main_quiescent ch m ρ hp))

end Cert.DownIdeal.All

end
-- ==== Proof.DownFrames.lean ====
/- The frames of the experts' down product: the table that the precondition admits, and the runs at it. -/
module

public import proofs.«01_k».proof.Defs
public import proofs.«01_k».proof.Proof.DownPre
public import proofs.«01_k».proof.Proof.DownFlash
public import proofs.«01_k».proof.Proof.DownIdealFlash
public import proofs.«01_k».proof.Proof.Gen.DownReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The table of the launch, as the precondition admits it. -/
def tabDown (m : (ℓ : Loc Cert.Down.nD Cert.Down.τ Cert.Down.sig) → Buf (Elt Bits) ℓ) (h : Cert.Pre_Down m) : Cert.Down.All.Tab :=
  ⟨m (((0 : Dev Cert.Down.nD).tc : Thread Cert.Down.nD Cert.Down.τ).loc Cert.Down.main_arg0), Cert.DownPre.tiles _ _ _ (h 0)⟩

theorem pinnedDown (m : (ℓ : Loc Cert.Down.nD Cert.Down.τ Cert.Down.sig) → Buf (Elt Bits) ℓ) (h : Cert.Pre_Down m) : Cert.Down.All.Pinned (tabDown m h) m := by
  intro c
  obtain rfl : c = 0 := Subsingleton.elim _ _
  rfl

def tabDownIdeal (m : (ℓ : Loc Cert.DownIdeal.nD Cert.DownIdeal.τ Cert.DownIdeal.sig) → Buf (Elt Ideal) ℓ) (h : Cert.Pre_DownIdeal m) : Cert.DownIdeal.All.Tab :=
  ⟨m (((0 : Dev Cert.DownIdeal.nD).tc : Thread Cert.DownIdeal.nD Cert.DownIdeal.τ).loc Cert.DownIdeal.main_arg0), Cert.DownPre.tiles _ _ _ (h 0)⟩

theorem pinnedDownIdeal (m : (ℓ : Loc Cert.DownIdeal.nD Cert.DownIdeal.τ Cert.DownIdeal.sig) → Buf (Elt Ideal) ℓ) (h : Cert.Pre_DownIdeal m) : Cert.DownIdeal.All.Pinned (tabDownIdeal m h) m := by
  intro c
  obtain rfl : c = 0 := Subsingleton.elim _ _
  rfl

theorem frame_down : Cert.quiescent_Down := fun m g h => Cert.Down.All.frame (tabDown m h) m g (pinnedDown m h)

theorem frame_down_ideal : Cert.quiescent_DownIdeal := fun m g h => Cert.DownIdeal.All.frame (tabDownIdeal m h) m g (pinnedDownIdeal m h)

theorem frame_down_ri : Cert.quiescent_DownReferenceIdeal := fun m ρ _ =>
  (θ_run Cert.DownReferenceIdeal.defs _ _).mono
    (fun r h => ⟨fun c => (h c).2, sem_eq_zero_of_no_sems (by decide) r.2⟩)
    (Cert.DownReferenceIdeal.Value.run (F := Ideal) m ρ)

end Cert.Proof

end
-- ==== Proof.DownBlock.lean ====
/- What the body of the experts' down product leaves in its output block, at an entry. -/
module

public import proofs.«01_k».proof.Proof.DownIdealRuns
public import Idealize.ShloMosaic.Lib.WritesUnit

@[expose] public section

set_option maxRecDepth 16384

noncomputable section

namespace Cert.DownIdeal.All

open Idealize.ShloMosaic Idealize.ShloMosaic.TcCoe Idealize.SL.Sem
open Cert.DownIdeal Cert.DownIdeal.Gen

/-- The product of a row of a block of the gate with a column of the weight block. -/
def part {n k : Nat} (X : Vec Ideal ⟨2, ![n, 3584]⟩ .bf16) (W : Vec Ideal ⟨3, ![1, 3584, k]⟩ .bf16) (r : Fin n) (s : Fin k) : EReal :=
  ∑ x : Fin 3584, X (ix2 r x) * W (ix3 0 x s)

/-- A chunk of 128 rows, from nothing, -/
theorem dot128 (X : Vec Ideal S128x3584 .bf16) (W : Vec Ideal S1x3584x256 .bf16) (r : Fin 128) (s : Fin 256) :
    matmul (F := Ideal) (φ₁ := .bf16) (φ₂ := .bf16) dot_S128x3584_S3584x256_S128x256_1_0_0_1_n_n none X (shapeCast S3584x256 W shapeCasts_S1x3584x256_S3584x256) (constant S128x256 .f32 0x00000000#32) (ix2 r s) = part X W r s := by
  unfold part
  pointwise

/-- and added to what was there. -/
theorem add128 (X : Vec Ideal S128x3584 .bf16) (Q : Vec Ideal S128x256 .f32) (W : Vec Ideal S1x3584x256 .bf16) (r : Fin 128) (s : Fin 256) :
    addf (F := Ideal) (φ := .f32) (shapeCast S128x256 Q shapeCasts_S128x256_S128x256) (matmul (F := Ideal) (φ₁ := .bf16) (φ₂ := .bf16) dot_S128x3584_S3584x256_S128x256_1_0_0_1_n_n none X (shapeCast S3584x256 W shapeCasts_S1x3584x256_S3584x256) (constant S128x256 .f32 0x00000000#32)) (ix2 r s) = Q (ix2 r s) + part X W r s := by
  unfold part
  pointwise

/-- A chunk of 256 rows, from nothing, -/
theorem dot256 (X : Vec Ideal S256x3584 .bf16) (W : Vec Ideal S1x3584x256 .bf16) (r : Fin 256) (s : Fin 256) :
    matmul (F := Ideal) (φ₁ := .bf16) (φ₂ := .bf16) dot_S256x3584_S3584x256_S256x256_1_0_0_1_n_n none X (shapeCast S3584x256 W shapeCasts_S1x3584x256_S3584x256) (constant S256x256 .f32 0x00000000#32) (ix2 r s) = part X W r s := by
  unfold part
  pointwise

/-- and added to what was there. -/
theorem add256 (X : Vec Ideal S256x3584 .bf16) (Q : Vec Ideal S256x256 .f32) (W : Vec Ideal S1x3584x256 .bf16) (r : Fin 256) (s : Fin 256) :
    addf (F := Ideal) (φ := .f32) (shapeCast S256x256 Q shapeCasts_S256x256_S256x256) (matmul (F := Ideal) (φ₁ := .bf16) (φ₂ := .bf16) dot_S256x3584_S3584x256_S256x256_1_0_0_1_n_n none X (shapeCast S3584x256 W shapeCasts_S1x3584x256_S3584x256) (constant S256x256 .f32 0x00000000#32)) (ix2 r s) = Q (ix2 r s) + part X W r s := by
  unfold part
  pointwise

/-- A chunk of 384 rows, from nothing, -/
theorem dot384 (X : Vec Ideal S384x3584 .bf16) (W : Vec Ideal S1x3584x256 .bf16) (r : Fin 384) (s : Fin 256) :
    matmul (F := Ideal) (φ₁ := .bf16) (φ₂ := .bf16) dot_S384x3584_S3584x256_S384x256_1_0_0_1_n_n none X (shapeCast S3584x256 W shapeCasts_S1x3584x256_S3584x256) (constant S384x256 .f32 0x00000000#32) (ix2 r s) = part X W r s := by
  unfold part
  pointwise

/-- and added to what was there. -/
theorem add384 (X : Vec Ideal S384x3584 .bf16) (Q : Vec Ideal S384x256 .f32) (W : Vec Ideal S1x3584x256 .bf16) (r : Fin 384) (s : Fin 256) :
    addf (F := Ideal) (φ := .f32) (shapeCast S384x256 Q shapeCasts_S384x256_S384x256) (matmul (F := Ideal) (φ₁ := .bf16) (φ₂ := .bf16) dot_S384x3584_S3584x256_S384x256_1_0_0_1_n_n none X (shapeCast S3584x256 W shapeCasts_S1x3584x256_S3584x256) (constant S384x256 .f32 0x00000000#32)) (ix2 r s) = Q (ix2 r s) + part X W r s := by
  unfold part
  pointwise

/-- A chunk of 512 rows, from nothing, -/
theorem dot512 (X : Vec Ideal S512x3584 .bf16) (W : Vec Ideal S1x3584x256 .bf16) (r : Fin 512) (s : Fin 256) :
    matmul (F := Ideal) (φ₁ := .bf16) (φ₂ := .bf16) dot_S512x3584_S3584x256_S512x256_1_0_0_1_n_n none X (shapeCast S3584x256 W shapeCasts_S1x3584x256_S3584x256) (constant S512x256 .f32 0x00000000#32) (ix2 r s) = part X W r s := by
  unfold part
  pointwise

/-- and added to what was there. -/
theorem add512 (X : Vec Ideal S512x3584 .bf16) (Q : Vec Ideal S512x256 .f32) (W : Vec Ideal S1x3584x256 .bf16) (r : Fin 512) (s : Fin 256) :
    addf (F := Ideal) (φ := .f32) (shapeCast S512x256 Q shapeCasts_S512x256_S512x256) (matmul (F := Ideal) (φ₁ := .bf16) (φ₂ := .bf16) dot_S512x3584_S3584x256_S512x256_1_0_0_1_n_n none X (shapeCast S3584x256 W shapeCasts_S1x3584x256_S3584x256) (constant S512x256 .f32 0x00000000#32)) (ix2 r s) = Q (ix2 r s) + part X W r s := by
  unfold part
  pointwise

section chunks
variable (v : View sig .tc .vmem S512x2048 .f32) (f : v.ty.Contents (Elt Ideal)) (n : Nat) (o : Nat)
  (L : List (View.Piece (Elt Ideal) S512x2048 .f32)) (y : S512x2048.Idx)

/-- A store to the rows above n leaves the others alone. -/
theorem over (inb) (w) (R : EReal) (hy : (y 0).val < n) (rest : v.read (Elt Ideal) (v.writes (Elt Ideal) f L) y = R) :
    v.read (Elt Ideal) (v.writes (Elt Ideal) f ((⟨Rect.unit ![n, 0] ![512 - n, 2048] inb, w⟩ : View.Piece (Elt Ideal) S512x2048 .f32) :: L)) y = R :=
  (View.read_writes_cons_unit_of_not_mem v f inb w L y rfl 0 (Or.inl hy)).trans rest

/-- A store of 256 columns: an entry is in it or among the columns before. -/
theorem cols (inb) (w : (⟨2, ![n, 256]⟩ : Shape).Idx → EReal) (R : EReal) (hy : (y 0).val < n) (hlt : (y 1).val < o + 256)
    (hw : ∀ (r : Fin n) (s : Fin 256), r.val = (y 0).val → o + s.val = (y 1).val → w (ix2 r s) = R)
    (rest : (y 1).val < o → v.read (Elt Ideal) (v.writes (Elt Ideal) f L) y = R) :
    v.read (Elt Ideal) (v.writes (Elt Ideal) f ((⟨Rect.unit ![0, o] ![n, 256] inb, w⟩ : View.Piece (Elt Ideal) S512x2048 .f32) :: L)) y = R := by
  by_cases h : (y 1).val < o
  · exact (View.read_writes_cons_unit_of_not_mem v f inb w L y rfl 1 (Or.inl h)).trans (rest h)
  · refine (View.read_writes_cons_unit_of_mem v f inb w L y (ix2 ⟨(y 0).val, hy⟩ ⟨(y 1).val - o, by omega⟩ : (⟨2, ![n, 256]⟩ : Shape).Idx) rfl fun a => ?_).trans
      (hw _ _ rfl (by show o + ((y 1).val - o) = _; omega))
    fin_cases a
    · show (y 0).val = 0 + (y 0).val
      omega
    · show (y 1).val = o + ((y 1).val - o)
      omega

variable (x0 : S512x3584.Idx → Elt Ideal .bf16) (x1 : S1x3584x2048.Idx → Elt Ideal .bf16) (xp : S512x2048.Idx → Elt Ideal .f32)

/-- The product of what a chunk loads is the blocks'. -/
theorem part_ld (i0 i1) (r : Fin n) (s : Fin 256) (hr : r.val = (y 0).val) (hs : o + s.val = (y 1).val) :
    part (View.ld x0 (Rect.unit ![0, 0] ![n, 3584] i0)) (View.ld x1 (Rect.unit ![0, 0, o] ![1, 3584, 256] i1)) r s
      = part (n := 512) (k := 2048) x0 x1 (y 0) (y 1) := by
  unfold part
  refine Finset.sum_congr rfl fun x _ => congrArg₂ (· * ·) ?_ ?_
  · exact View.ld_unit_apply_of _ _ _ _ _ _ fun a => by
      fin_cases a
      · show (y 0).val = 0 + r.val
        omega
      · show x.val = 0 + x.val
        omega
  · exact View.ld_unit_apply_of _ _ _ _ _ _ fun a => by
      fin_cases a
      · rfl
      · show x.val = 0 + x.val
        omega
      · show (y 1).val = o + s.val
        omega

/-- A chunk of the first half, -/
theorem chunk0 (i i0 i1) (w : (⟨2, ![n, 256]⟩ : Shape).Idx → EReal) (hy : (y 0).val < n) (hlt : (y 1).val < o + 256)
    (hw : ∀ (r : Fin n) (s : Fin 256), w (ix2 r s) = part (View.ld x0 (Rect.unit ![0, 0] ![n, 3584] i0)) (View.ld x1 (Rect.unit ![0, 0, o] ![1, 3584, 256] i1)) r s)
    (rest : (y 1).val < o → v.read (Elt Ideal) (v.writes (Elt Ideal) f L) y = part (n := 512) (k := 2048) x0 x1 (y 0) (y 1)) :
    v.read (Elt Ideal) (v.writes (Elt Ideal) f ((⟨Rect.unit ![0, o] ![n, 256] i, w⟩ : View.Piece (Elt Ideal) S512x2048 .f32) :: L)) y
      = part (n := 512) (k := 2048) x0 x1 (y 0) (y 1) :=
  cols v f n o L y i w _ hy hlt (fun r s hr hs => (hw r s).trans (part_ld n o y x0 x1 i0 i1 r s hr hs)) rest

/-- and of the second, added to the first. -/
theorem chunk1 (i i0 i1 i2) (w : (⟨2, ![n, 256]⟩ : Shape).Idx → EReal) (hy : (y 0).val < n) (hlt : (y 1).val < o + 256)
    (hw : ∀ (r : Fin n) (s : Fin 256), w (ix2 r s) = View.ld xp (Rect.unit ![0, o] ![n, 256] i2) (ix2 r s)
      + part (View.ld x0 (Rect.unit ![0, 0] ![n, 3584] i0)) (View.ld x1 (Rect.unit ![0, 0, o] ![1, 3584, 256] i1)) r s)
    (rest : (y 1).val < o → v.read (Elt Ideal) (v.writes (Elt Ideal) f L) y = xp y + part (n := 512) (k := 2048) x0 x1 (y 0) (y 1)) :
    v.read (Elt Ideal) (v.writes (Elt Ideal) f ((⟨Rect.unit ![0, o] ![n, 256] i, w⟩ : View.Piece (Elt Ideal) S512x2048 .f32) :: L)) y
      = xp y + part (n := 512) (k := 2048) x0 x1 (y 0) (y 1) :=
  cols v f n o L y i w _ hy hlt (fun r s hr hs => (hw r s).trans (congrArg₂ (· + ·)
    (View.ld_unit_apply_of _ _ _ _ _ _ fun a => by
      fin_cases a
      · show (y 0).val = 0 + r.val
        omega
      · show (y 1).val = o + s.val
        omega)
    (part_ld n o y x0 x1 i0 i1 r s hr hs))) rest

end chunks

variable (c : Dev nD) (i : grid0.Coords) (arg3 : Memref sig .tc .vmem S512x3584 .bf16) (harg3 : arg3.IsWhole) (arg4 : Memref sig .tc .vmem S1x3584x2048 .bf16) (harg4 : arg4.IsWhole) (arg5 : Memref sig .tc .vmem S512x2048 .f32) (harg5 : arg5.IsWhole) (T0 : S8x128.Idx → Elt Ideal .i32)
  (x0 : S512x3584.Idx → Elt Ideal .bf16) (x1 : S1x3584x2048.Idx → Elt Ideal .bf16) (xo2 : S512x2048.Idx → Elt Ideal .f32)

/-- The first half at a tile of up to 128 rows. -/
theorem blockG (hk) (y : S512x2048.Idx) (hy : (y 0).val < 128) :
    out0_G_2 c i arg3 harg3 arg4 harg4 arg5 harg5 T0 x0 x1 hk y = part (n := 512) (k := 2048) x0 x1 (y 0) (y 1) := by
  unfold out0_G_2 kernelRun0_G
  dsimp only
  sl_unfold_words
  simp only [View.readAt_eq_ld, View.read_rep]
  have h : (y 1).val < 2048 := (y 1).isLt
  refine over _ _ 128 _ y _ _ _ hy ?_
  refine chunk0 _ _ 128 1792 _ y x0 x1 _ _ _ _ hy h (fun r s => dot128 _ _ r s) fun h => ?_
  refine chunk0 _ _ 128 1536 _ y x0 x1 _ _ _ _ hy h (fun r s => dot128 _ _ r s) fun h => ?_
  refine chunk0 _ _ 128 1280 _ y x0 x1 _ _ _ _ hy h (fun r s => dot128 _ _ r s) fun h => ?_
  refine chunk0 _ _ 128 1024 _ y x0 x1 _ _ _ _ hy h (fun r s => dot128 _ _ r s) fun h => ?_
  refine chunk0 _ _ 128 768 _ y x0 x1 _ _ _ _ hy h (fun r s => dot128 _ _ r s) fun h => ?_
  refine chunk0 _ _ 128 512 _ y x0 x1 _ _ _ _ hy h (fun r s => dot128 _ _ r s) fun h => ?_
  refine chunk0 _ _ 128 256 _ y x0 x1 _ _ _ _ hy h (fun r s => dot128 _ _ r s) fun h => ?_
  refine chunk0 _ _ 128 0 _ y x0 x1 _ _ _ _ hy h (fun r s => dot128 _ _ r s) fun h => ?_
  exact absurd h (Nat.not_lt_zero _)

/-- The first half at a tile of up to 256 rows. -/
theorem blockE (hk) (y : S512x2048.Idx) (hy : (y 0).val < 256) :
    out0_E_2 c i arg3 harg3 arg4 harg4 arg5 harg5 T0 x0 x1 hk y = part (n := 512) (k := 2048) x0 x1 (y 0) (y 1) := by
  unfold out0_E_2 kernelRun0_E
  dsimp only
  sl_unfold_words
  simp only [View.readAt_eq_ld, View.read_rep]
  have h : (y 1).val < 2048 := (y 1).isLt
  refine over _ _ 256 _ y _ _ _ hy ?_
  refine chunk0 _ _ 256 1792 _ y x0 x1 _ _ _ _ hy h (fun r s => dot256 _ _ r s) fun h => ?_
  refine chunk0 _ _ 256 1536 _ y x0 x1 _ _ _ _ hy h (fun r s => dot256 _ _ r s) fun h => ?_
  refine chunk0 _ _ 256 1280 _ y x0 x1 _ _ _ _ hy h (fun r s => dot256 _ _ r s) fun h => ?_
  refine chunk0 _ _ 256 1024 _ y x0 x1 _ _ _ _ hy h (fun r s => dot256 _ _ r s) fun h => ?_
  refine chunk0 _ _ 256 768 _ y x0 x1 _ _ _ _ hy h (fun r s => dot256 _ _ r s) fun h => ?_
  refine chunk0 _ _ 256 512 _ y x0 x1 _ _ _ _ hy h (fun r s => dot256 _ _ r s) fun h => ?_
  refine chunk0 _ _ 256 256 _ y x0 x1 _ _ _ _ hy h (fun r s => dot256 _ _ r s) fun h => ?_
  refine chunk0 _ _ 256 0 _ y x0 x1 _ _ _ _ hy h (fun r s => dot256 _ _ r s) fun h => ?_
  exact absurd h (Nat.not_lt_zero _)

/-- The first half at a tile of up to 384 rows. -/
theorem blockC (hk) (y : S512x2048.Idx) (hy : (y 0).val < 384) :
    out0_C_2 c i arg3 harg3 arg4 harg4 arg5 harg5 T0 x0 x1 hk y = part (n := 512) (k := 2048) x0 x1 (y 0) (y 1) := by
  unfold out0_C_2 kernelRun0_C
  dsimp only
  sl_unfold_words
  simp only [View.readAt_eq_ld, View.read_rep]
  have h : (y 1).val < 2048 := (y 1).isLt
  refine over _ _ 384 _ y _ _ _ hy ?_
  refine chunk0 _ _ 384 1792 _ y x0 x1 _ _ _ _ hy h (fun r s => dot384 _ _ r s) fun h => ?_
  refine chunk0 _ _ 384 1536 _ y x0 x1 _ _ _ _ hy h (fun r s => dot384 _ _ r s) fun h => ?_
  refine chunk0 _ _ 384 1280 _ y x0 x1 _ _ _ _ hy h (fun r s => dot384 _ _ r s) fun h => ?_
  refine chunk0 _ _ 384 1024 _ y x0 x1 _ _ _ _ hy h (fun r s => dot384 _ _ r s) fun h => ?_
  refine chunk0 _ _ 384 768 _ y x0 x1 _ _ _ _ hy h (fun r s => dot384 _ _ r s) fun h => ?_
  refine chunk0 _ _ 384 512 _ y x0 x1 _ _ _ _ hy h (fun r s => dot384 _ _ r s) fun h => ?_
  refine chunk0 _ _ 384 256 _ y x0 x1 _ _ _ _ hy h (fun r s => dot384 _ _ r s) fun h => ?_
  refine chunk0 _ _ 384 0 _ y x0 x1 _ _ _ _ hy h (fun r s => dot384 _ _ r s) fun h => ?_
  exact absurd h (Nat.not_lt_zero _)

/-- The first half at a tile of up to 512 rows. -/
theorem blockA (hk) (y : S512x2048.Idx) :
    out0_A_2 c i arg3 harg3 arg4 harg4 arg5 harg5 T0 x0 x1 hk y = part (n := 512) (k := 2048) x0 x1 (y 0) (y 1) := by
  unfold out0_A_2 kernelRun0_A
  dsimp only
  sl_unfold_words
  simp only [View.readAt_eq_ld, View.read_rep]
  have hy : (y 0).val < 512 := (y 0).isLt
  have h : (y 1).val < 2048 := (y 1).isLt
  refine chunk0 _ _ 512 1792 _ y x0 x1 _ _ _ _ hy h (fun r s => dot512 _ _ r s) fun h => ?_
  refine chunk0 _ _ 512 1536 _ y x0 x1 _ _ _ _ hy h (fun r s => dot512 _ _ r s) fun h => ?_
  refine chunk0 _ _ 512 1280 _ y x0 x1 _ _ _ _ hy h (fun r s => dot512 _ _ r s) fun h => ?_
  refine chunk0 _ _ 512 1024 _ y x0 x1 _ _ _ _ hy h (fun r s => dot512 _ _ r s) fun h => ?_
  refine chunk0 _ _ 512 768 _ y x0 x1 _ _ _ _ hy h (fun r s => dot512 _ _ r s) fun h => ?_
  refine chunk0 _ _ 512 512 _ y x0 x1 _ _ _ _ hy h (fun r s => dot512 _ _ r s) fun h => ?_
  refine chunk0 _ _ 512 256 _ y x0 x1 _ _ _ _ hy h (fun r s => dot512 _ _ r s) fun h => ?_
  refine chunk0 _ _ 512 0 _ y x0 x1 _ _ _ _ hy h (fun r s => dot512 _ _ r s) fun h => ?_
  exact absurd h (Nat.not_lt_zero _)

/-- The second half at a tile of up to 128 rows. -/
theorem blockH (hk) (y : S512x2048.Idx) (hy : (y 0).val < 128) :
    out0_H_2 c i arg3 harg3 arg4 harg4 arg5 harg5 T0 x0 x1 xo2 hk y = xo2 y + part (n := 512) (k := 2048) x0 x1 (y 0) (y 1) := by
  unfold out0_H_2 kernelRun0_H
  dsimp only
  sl_unfold_words
  simp only [View.readAt_eq_ld, View.read_rep, harg5.read_unread]
  have h : (y 1).val < 2048 := (y 1).isLt
  refine chunk1 _ _ 128 1792 _ y x0 x1 xo2 _ _ _ _ _ hy h (fun r s => add128 _ (View.ld xo2 (Rect.unit ![0, 1792] ![128, 256] _)) (View.ld x1 (Rect.unit ![0, 0, 1792] ![1, 3584, 256] _)) r s) fun h => ?_
  refine chunk1 _ _ 128 1536 _ y x0 x1 xo2 _ _ _ _ _ hy h (fun r s => add128 _ (View.ld xo2 (Rect.unit ![0, 1536] ![128, 256] _)) (View.ld x1 (Rect.unit ![0, 0, 1536] ![1, 3584, 256] _)) r s) fun h => ?_
  refine chunk1 _ _ 128 1280 _ y x0 x1 xo2 _ _ _ _ _ hy h (fun r s => add128 _ (View.ld xo2 (Rect.unit ![0, 1280] ![128, 256] _)) (View.ld x1 (Rect.unit ![0, 0, 1280] ![1, 3584, 256] _)) r s) fun h => ?_
  refine chunk1 _ _ 128 1024 _ y x0 x1 xo2 _ _ _ _ _ hy h (fun r s => add128 _ (View.ld xo2 (Rect.unit ![0, 1024] ![128, 256] _)) (View.ld x1 (Rect.unit ![0, 0, 1024] ![1, 3584, 256] _)) r s) fun h => ?_
  refine chunk1 _ _ 128 768 _ y x0 x1 xo2 _ _ _ _ _ hy h (fun r s => add128 _ (View.ld xo2 (Rect.unit ![0, 768] ![128, 256] _)) (View.ld x1 (Rect.unit ![0, 0, 768] ![1, 3584, 256] _)) r s) fun h => ?_
  refine chunk1 _ _ 128 512 _ y x0 x1 xo2 _ _ _ _ _ hy h (fun r s => add128 _ (View.ld xo2 (Rect.unit ![0, 512] ![128, 256] _)) (View.ld x1 (Rect.unit ![0, 0, 512] ![1, 3584, 256] _)) r s) fun h => ?_
  refine chunk1 _ _ 128 256 _ y x0 x1 xo2 _ _ _ _ _ hy h (fun r s => add128 _ (View.ld xo2 (Rect.unit ![0, 256] ![128, 256] _)) (View.ld x1 (Rect.unit ![0, 0, 256] ![1, 3584, 256] _)) r s) fun h => ?_
  refine chunk1 _ _ 128 0 _ y x0 x1 xo2 _ _ _ _ _ hy h (fun r s => add128 _ (View.ld xo2 (Rect.unit ![0, 0] ![128, 256] _)) (View.ld x1 (Rect.unit ![0, 0, 0] ![1, 3584, 256] _)) r s) fun h => ?_
  exact absurd h (Nat.not_lt_zero _)

/-- The second half at a tile of up to 256 rows. -/
theorem blockF (hk) (y : S512x2048.Idx) (hy : (y 0).val < 256) :
    out0_F_2 c i arg3 harg3 arg4 harg4 arg5 harg5 T0 x0 x1 xo2 hk y = xo2 y + part (n := 512) (k := 2048) x0 x1 (y 0) (y 1) := by
  unfold out0_F_2 kernelRun0_F
  dsimp only
  sl_unfold_words
  simp only [View.readAt_eq_ld, View.read_rep, harg5.read_unread]
  have h : (y 1).val < 2048 := (y 1).isLt
  refine chunk1 _ _ 256 1792 _ y x0 x1 xo2 _ _ _ _ _ hy h (fun r s => add256 _ (View.ld xo2 (Rect.unit ![0, 1792] ![256, 256] _)) (View.ld x1 (Rect.unit ![0, 0, 1792] ![1, 3584, 256] _)) r s) fun h => ?_
  refine chunk1 _ _ 256 1536 _ y x0 x1 xo2 _ _ _ _ _ hy h (fun r s => add256 _ (View.ld xo2 (Rect.unit ![0, 1536] ![256, 256] _)) (View.ld x1 (Rect.unit ![0, 0, 1536] ![1, 3584, 256] _)) r s) fun h => ?_
  refine chunk1 _ _ 256 1280 _ y x0 x1 xo2 _ _ _ _ _ hy h (fun r s => add256 _ (View.ld xo2 (Rect.unit ![0, 1280] ![256, 256] _)) (View.ld x1 (Rect.unit ![0, 0, 1280] ![1, 3584, 256] _)) r s) fun h => ?_
  refine chunk1 _ _ 256 1024 _ y x0 x1 xo2 _ _ _ _ _ hy h (fun r s => add256 _ (View.ld xo2 (Rect.unit ![0, 1024] ![256, 256] _)) (View.ld x1 (Rect.unit ![0, 0, 1024] ![1, 3584, 256] _)) r s) fun h => ?_
  refine chunk1 _ _ 256 768 _ y x0 x1 xo2 _ _ _ _ _ hy h (fun r s => add256 _ (View.ld xo2 (Rect.unit ![0, 768] ![256, 256] _)) (View.ld x1 (Rect.unit ![0, 0, 768] ![1, 3584, 256] _)) r s) fun h => ?_
  refine chunk1 _ _ 256 512 _ y x0 x1 xo2 _ _ _ _ _ hy h (fun r s => add256 _ (View.ld xo2 (Rect.unit ![0, 512] ![256, 256] _)) (View.ld x1 (Rect.unit ![0, 0, 512] ![1, 3584, 256] _)) r s) fun h => ?_
  refine chunk1 _ _ 256 256 _ y x0 x1 xo2 _ _ _ _ _ hy h (fun r s => add256 _ (View.ld xo2 (Rect.unit ![0, 256] ![256, 256] _)) (View.ld x1 (Rect.unit ![0, 0, 256] ![1, 3584, 256] _)) r s) fun h => ?_
  refine chunk1 _ _ 256 0 _ y x0 x1 xo2 _ _ _ _ _ hy h (fun r s => add256 _ (View.ld xo2 (Rect.unit ![0, 0] ![256, 256] _)) (View.ld x1 (Rect.unit ![0, 0, 0] ![1, 3584, 256] _)) r s) fun h => ?_
  exact absurd h (Nat.not_lt_zero _)

/-- The second half at a tile of up to 384 rows. -/
theorem blockD (hk) (y : S512x2048.Idx) (hy : (y 0).val < 384) :
    out0_D_2 c i arg3 harg3 arg4 harg4 arg5 harg5 T0 x0 x1 xo2 hk y = xo2 y + part (n := 512) (k := 2048) x0 x1 (y 0) (y 1) := by
  unfold out0_D_2 kernelRun0_D
  dsimp only
  sl_unfold_words
  simp only [View.readAt_eq_ld, View.read_rep, harg5.read_unread]
  have h : (y 1).val < 2048 := (y 1).isLt
  refine chunk1 _ _ 384 1792 _ y x0 x1 xo2 _ _ _ _ _ hy h (fun r s => add384 _ (View.ld xo2 (Rect.unit ![0, 1792] ![384, 256] _)) (View.ld x1 (Rect.unit ![0, 0, 1792] ![1, 3584, 256] _)) r s) fun h => ?_
  refine chunk1 _ _ 384 1536 _ y x0 x1 xo2 _ _ _ _ _ hy h (fun r s => add384 _ (View.ld xo2 (Rect.unit ![0, 1536] ![384, 256] _)) (View.ld x1 (Rect.unit ![0, 0, 1536] ![1, 3584, 256] _)) r s) fun h => ?_
  refine chunk1 _ _ 384 1280 _ y x0 x1 xo2 _ _ _ _ _ hy h (fun r s => add384 _ (View.ld xo2 (Rect.unit ![0, 1280] ![384, 256] _)) (View.ld x1 (Rect.unit ![0, 0, 1280] ![1, 3584, 256] _)) r s) fun h => ?_
  refine chunk1 _ _ 384 1024 _ y x0 x1 xo2 _ _ _ _ _ hy h (fun r s => add384 _ (View.ld xo2 (Rect.unit ![0, 1024] ![384, 256] _)) (View.ld x1 (Rect.unit ![0, 0, 1024] ![1, 3584, 256] _)) r s) fun h => ?_
  refine chunk1 _ _ 384 768 _ y x0 x1 xo2 _ _ _ _ _ hy h (fun r s => add384 _ (View.ld xo2 (Rect.unit ![0, 768] ![384, 256] _)) (View.ld x1 (Rect.unit ![0, 0, 768] ![1, 3584, 256] _)) r s) fun h => ?_
  refine chunk1 _ _ 384 512 _ y x0 x1 xo2 _ _ _ _ _ hy h (fun r s => add384 _ (View.ld xo2 (Rect.unit ![0, 512] ![384, 256] _)) (View.ld x1 (Rect.unit ![0, 0, 512] ![1, 3584, 256] _)) r s) fun h => ?_
  refine chunk1 _ _ 384 256 _ y x0 x1 xo2 _ _ _ _ _ hy h (fun r s => add384 _ (View.ld xo2 (Rect.unit ![0, 256] ![384, 256] _)) (View.ld x1 (Rect.unit ![0, 0, 256] ![1, 3584, 256] _)) r s) fun h => ?_
  refine chunk1 _ _ 384 0 _ y x0 x1 xo2 _ _ _ _ _ hy h (fun r s => add384 _ (View.ld xo2 (Rect.unit ![0, 0] ![384, 256] _)) (View.ld x1 (Rect.unit ![0, 0, 0] ![1, 3584, 256] _)) r s) fun h => ?_
  exact absurd h (Nat.not_lt_zero _)

/-- The second half at a tile of up to 512 rows. -/
theorem blockB (hk) (y : S512x2048.Idx) :
    out0_B_2 c i arg3 harg3 arg4 harg4 arg5 harg5 T0 x0 x1 xo2 hk y = xo2 y + part (n := 512) (k := 2048) x0 x1 (y 0) (y 1) := by
  unfold out0_B_2 kernelRun0_B
  dsimp only
  sl_unfold_words
  simp only [View.readAt_eq_ld, View.read_rep, harg5.read_unread]
  have hy : (y 0).val < 512 := (y 0).isLt
  have h : (y 1).val < 2048 := (y 1).isLt
  refine chunk1 _ _ 512 1792 _ y x0 x1 xo2 _ _ _ _ _ hy h (fun r s => add512 _ (View.ld xo2 (Rect.unit ![0, 1792] ![512, 256] _)) (View.ld x1 (Rect.unit ![0, 0, 1792] ![1, 3584, 256] _)) r s) fun h => ?_
  refine chunk1 _ _ 512 1536 _ y x0 x1 xo2 _ _ _ _ _ hy h (fun r s => add512 _ (View.ld xo2 (Rect.unit ![0, 1536] ![512, 256] _)) (View.ld x1 (Rect.unit ![0, 0, 1536] ![1, 3584, 256] _)) r s) fun h => ?_
  refine chunk1 _ _ 512 1280 _ y x0 x1 xo2 _ _ _ _ _ hy h (fun r s => add512 _ (View.ld xo2 (Rect.unit ![0, 1280] ![512, 256] _)) (View.ld x1 (Rect.unit ![0, 0, 1280] ![1, 3584, 256] _)) r s) fun h => ?_
  refine chunk1 _ _ 512 1024 _ y x0 x1 xo2 _ _ _ _ _ hy h (fun r s => add512 _ (View.ld xo2 (Rect.unit ![0, 1024] ![512, 256] _)) (View.ld x1 (Rect.unit ![0, 0, 1024] ![1, 3584, 256] _)) r s) fun h => ?_
  refine chunk1 _ _ 512 768 _ y x0 x1 xo2 _ _ _ _ _ hy h (fun r s => add512 _ (View.ld xo2 (Rect.unit ![0, 768] ![512, 256] _)) (View.ld x1 (Rect.unit ![0, 0, 768] ![1, 3584, 256] _)) r s) fun h => ?_
  refine chunk1 _ _ 512 512 _ y x0 x1 xo2 _ _ _ _ _ hy h (fun r s => add512 _ (View.ld xo2 (Rect.unit ![0, 512] ![512, 256] _)) (View.ld x1 (Rect.unit ![0, 0, 512] ![1, 3584, 256] _)) r s) fun h => ?_
  refine chunk1 _ _ 512 256 _ y x0 x1 xo2 _ _ _ _ _ hy h (fun r s => add512 _ (View.ld xo2 (Rect.unit ![0, 256] ![512, 256] _)) (View.ld x1 (Rect.unit ![0, 0, 256] ![1, 3584, 256] _)) r s) fun h => ?_
  refine chunk1 _ _ 512 0 _ y x0 x1 xo2 _ _ _ _ _ hy h (fun r s => add512 _ (View.ld xo2 (Rect.unit ![0, 0] ![512, 256] _)) (View.ld x1 (Rect.unit ![0, 0, 0] ![1, 3584, 256] _)) r s) fun h => ?_
  exact absurd h (Nat.not_lt_zero _)

end Cert.DownIdeal.All

end
-- ==== Proof.DownValue.lean ====
/- What the experts' down product leaves in its result. -/
module

public import proofs.«01_k».proof.Proof.DownIdealFlash
public import proofs.«01_k».proof.Proof.DownBlock
public import proofs.«01_k».proof.Proof.Words

@[expose] public section

set_option maxRecDepth 16384

noncomputable section

namespace Cert.DownIdeal.All

open Idealize.ShloMosaic Idealize.ShloMosaic.TcCoe Idealize.SL.Sem
open Cert.DownIdeal Cert.DownIdeal.Gen Cert.Words

/-- A half's number, as a word, exactly. -/
theorem half_toNat (i : grid0.Coords) : (BitVec.ofNat 32 (i 1).val).toNat = (i 1).val := by
  rw [BitVec.toNat_ofNat]; exact Nat.mod_eq_of_lt (Nat.lt_trans (i 1).isLt (by decide))

/-- The rows of the path taken; the path of no rows is not taken at a tile with rows. -/
theorem sel_bound {k n : Nat} (hk : k < 2) (hn : n ≤ 512) (h0 : 0 < n) : sel k n < 8 ∧ n ≤ 128 * (sel k n / 2 + 1) := by
  unfold sel
  rw [if_neg (by omega)]
  omega

variable (ch : Tab) (m : (ℓ : Loc nD τ sig) → Buf (Elt Ideal) ℓ) (ρ : Dev nD → PrngReg) (c : Dev nD)

/-- The tile and the half of a point. -/
abbrev tileOf (t : Fin (cfgA ch).N) : Fin 40 := (grid0.coords t) 0
abbrev halfOf (t : Fin (cfgA ch).N) : Fin 2 := (grid0.coords t) 1

theorem tile_0 : ∀ t : Fin (cfgA tab0).N, ((cfgA tab0).grid.coords t 0).val = t.val / 2 := by decide +kernel
theorem tile (t : Fin (cfgA ch).N) : (tileOf ch t).val = t.val / 2 := tile_0 t
theorem half_eq (t : Fin (cfgA ch).N) : (halfOf ch t).val = t.val % 2 := half ch t

/-- A point's step at one of its tile's rows: the first half starts the sum, the second adds to it. -/
theorem stepped (t : Fin (cfgA ch).N) (prev : S512x2048.Idx → Elt Ideal .f32) (y : S512x2048.Idx) (hy : (y 0).val < (rowsW (crd ch t) (pinT_0 ch)).toNat) :
    step0 ch m ρ c t prev y
      = if (halfOf ch t).val = 0 then part (n := 512) (k := 2048) (iblk ch m ρ c (0 : Fin 3) t) (iblk ch m ρ c (1 : Fin 3) t) (y 0) (y 1)
        else prev y + part (n := 512) (k := 2048) (iblk ch m ρ c (0 : Fin 3) t) (iblk ch m ρ c (1 : Fin 3) t) (y 0) (y 1) := by
  have hw := rows_le ch t
  obtain ⟨hs, hb⟩ := sel_bound (k := (halfOf ch t).val) (halfOf ch t).isLt hw (by omega)
  have q : condAt ⟨sel (halfOf ch t).val (rowsW (crd ch t) (pinT_0 ch)).toNat, by omega⟩ (crd ch t) (rowsW (crd ch t) (pinT_0 ch)) = 1#1 := (condAt_iff _ (crd ch t) _ hw).2 rfl
  generalize hbe : (⟨sel (halfOf ch t).val (rowsW (crd ch t) (pinT_0 ch)).toNat, by omega⟩ : Fin 9) = b at q
  have hbv : sel (halfOf ch t).val (rowsW (crd ch t) (pinT_0 ch)).toNat = b.val := congrArg Fin.val hbe
  rw [hbv] at hs hb
  have hp : b.val % 2 = (halfOf ch t).val := parity hw q
  have no : ∀ b' : Fin 9, b' ≠ b → ¬condAt b' (crd ch t) (rowsW (crd ch t) (pinT_0 ch)) = 1#1 := only hw q
  clear hbe hbv
  fin_cases b
  · have q : P0_0 ch t := q
    rw [if_pos (by have h : 0 % 2 = (halfOf ch t).val := hp; omega), step0_G ch m ρ c t prev q]
    exact blockG _ _ _ _ _ _ _ _ _ _ _ _ y (by have h : (rowsW (crd ch t) (pinT_0 ch)).toNat ≤ 128 * (0 / 2 + 1) := hb; omega)
  · have q : P0_1 ch t := q
    have n0 : ¬P0_0 ch t := no 0 (by decide)
    rw [if_neg (by have h : 1 % 2 = (halfOf ch t).val := hp; omega), step0_H ch m ρ c t prev n0 q]
    exact blockH _ _ _ _ _ _ _ _ _ _ _ _ _ y (by have h : (rowsW (crd ch t) (pinT_0 ch)).toNat ≤ 128 * (1 / 2 + 1) := hb; omega)
  · have q : P0_2 ch t := q
    have n0 : ¬P0_0 ch t := no 0 (by decide)
    have n1 : ¬P0_1 ch t := no 1 (by decide)
    rw [if_pos (by have h : 2 % 2 = (halfOf ch t).val := hp; omega), step0_E ch m ρ c t prev n0 n1 q]
    exact blockE _ _ _ _ _ _ _ _ _ _ _ _ y (by have h : (rowsW (crd ch t) (pinT_0 ch)).toNat ≤ 128 * (2 / 2 + 1) := hb; omega)
  · have q : P0_3 ch t := q
    have n0 : ¬P0_0 ch t := no 0 (by decide)
    have n1 : ¬P0_1 ch t := no 1 (by decide)
    have n2 : ¬P0_2 ch t := no 2 (by decide)
    rw [if_neg (by have h : 3 % 2 = (halfOf ch t).val := hp; omega), step0_F ch m ρ c t prev n0 n1 n2 q]
    exact blockF _ _ _ _ _ _ _ _ _ _ _ _ _ y (by have h : (rowsW (crd ch t) (pinT_0 ch)).toNat ≤ 128 * (3 / 2 + 1) := hb; omega)
  · have q : P0_4 ch t := q
    have n0 : ¬P0_0 ch t := no 0 (by decide)
    have n1 : ¬P0_1 ch t := no 1 (by decide)
    have n2 : ¬P0_2 ch t := no 2 (by decide)
    have n3 : ¬P0_3 ch t := no 3 (by decide)
    rw [if_pos (by have h : 4 % 2 = (halfOf ch t).val := hp; omega), step0_C ch m ρ c t prev n0 n1 n2 n3 q]
    exact blockC _ _ _ _ _ _ _ _ _ _ _ _ y (by have h : (rowsW (crd ch t) (pinT_0 ch)).toNat ≤ 128 * (4 / 2 + 1) := hb; omega)
  · have q : P0_5 ch t := q
    have n0 : ¬P0_0 ch t := no 0 (by decide)
    have n1 : ¬P0_1 ch t := no 1 (by decide)
    have n2 : ¬P0_2 ch t := no 2 (by decide)
    have n3 : ¬P0_3 ch t := no 3 (by decide)
    have n4 : ¬P0_4 ch t := no 4 (by decide)
    rw [if_neg (by have h : 5 % 2 = (halfOf ch t).val := hp; omega), step0_D ch m ρ c t prev n0 n1 n2 n3 n4 q]
    exact blockD _ _ _ _ _ _ _ _ _ _ _ _ _ y (by have h : (rowsW (crd ch t) (pinT_0 ch)).toNat ≤ 128 * (5 / 2 + 1) := hb; omega)
  · have q : P0_6 ch t := q
    have n0 : ¬P0_0 ch t := no 0 (by decide)
    have n1 : ¬P0_1 ch t := no 1 (by decide)
    have n2 : ¬P0_2 ch t := no 2 (by decide)
    have n3 : ¬P0_3 ch t := no 3 (by decide)
    have n4 : ¬P0_4 ch t := no 4 (by decide)
    have n5 : ¬P0_5 ch t := no 5 (by decide)
    rw [if_pos (by have h : 6 % 2 = (halfOf ch t).val := hp; omega), step0_A ch m ρ c t prev n0 n1 n2 n3 n4 n5 q]
    exact blockA _ _ _ _ _ _ _ _ _ _ _ _ y
  · have q : P0_7 ch t := q
    have n0 : ¬P0_0 ch t := no 0 (by decide)
    have n1 : ¬P0_1 ch t := no 1 (by decide)
    have n2 : ¬P0_2 ch t := no 2 (by decide)
    have n3 : ¬P0_3 ch t := no 3 (by decide)
    have n4 : ¬P0_4 ch t := no 4 (by decide)
    have n5 : ¬P0_5 ch t := no 5 (by decide)
    have n6 : ¬P0_6 ch t := no 6 (by decide)
    rw [if_neg (by have h : 7 % 2 = (halfOf ch t).val := hp; omega), step0_B ch m ρ c t prev n0 n1 n2 n3 n4 n5 n6 q]
    exact blockB _ _ _ _ _ _ _ _ _ _ _ _ _ y
  · exact absurd hs (Nat.lt_irrefl 8)

/-- The arguments. -/
abbrev ar1 : Vec Ideal S20480x7168 .bf16 := m ((c : Thread nD τ).loc main_arg1)
abbrev ar2 : Vec Ideal S8x7168x2048 .bf16 := m ((c : Thread nD τ).loc main_arg2)

/-- A tile's expert and its number of rows in use. -/
def expertOf (k : Fin 40) : Fin 8 := ⟨(ch.1 (ix2 0 ⟨k.val, Nat.lt_trans k.isLt (by decide)⟩)).toNat, (ch.2 k).1⟩
def rowsOf (k : Fin 40) : BitVec 32 := ch.1 (ix2 2 ⟨k.val, Nat.lt_trans k.isLt (by decide)⟩)

/-- A place of the summed axis, by half. -/
def at2 (k : Fin 2) (x : Fin 3584) : Fin 7168 := ⟨k.val * 3584 + x.val, by omega⟩

/-- The number of tiles in use, as the index map reads it. -/
theorem used_at :
    ((pfN ch).at 0 (Rect.unit (s := S8x128) ![1, 0] S1x1.size inb_S8x128_S1x1_1_0) numel1_S1x1 : BitVec 32) = ch.1 (ix2 1 0) := by
  refine congrArg ch.1 (funext fun a => Fin.ext ?_)
  fin_cases a <;> rfl

theorem index0 (i : grid0.Coords) (h : IntOp.cmpi .slt (BitVec.ofNat 32 (i 0).val) (ch.1 (ix2 1 0)) = 1#1) :
    cc0_transform_0 inb_S8x128_S1x1_1_0 numel1_S1x1 (pfN ch) i 0 = (i 0).val := by
  have ht := tile_toNat i
  have h40 : (i 0).val < 40 := (i 0).isLt
  refine Eq.trans (show _ = (Scalar.maxsi (Scalar.minsi (BitVec.ofNat 32 (i 0).val) (Scalar.subi ((pfN ch).at 0 (Rect.unit (s := S8x128) ![1, 0] S1x1.size inb_S8x128_S1x1_1_0) numel1_S1x1 : BitVec 32) 1#32)) 0#32).toNat from rfl) ?_
  rw [used_at, clamp_used _ _ (by omega) h, ht]

/-- The blocks of a point. -/
theorem blk0 (t : Fin (cfgA ch).N) (h : IntOp.cmpi .slt (BitVec.ofNat 32 (tileOf ch t).val) (ch.1 (ix2 1 0)) = 1#1) (r : Fin 512) (x : Fin 3584) :
    (iblk ch m ρ c (0 : Fin 3) t : Vec Ideal S512x3584 .bf16) (ix2 r x)
      = ar1 m c (ix2 ⟨(tileOf ch t).val * 512 + r.val, by have := (tileOf ch t).isLt; omega⟩ (at2 (halfOf ch t) x)) := by
  refine congrArg (ar1 m c) (funext fun a => Fin.ext ?_)
  fin_cases a
  · show cc0_transform_0 inb_S8x128_S1x1_1_0 numel1_S1x1 (pfN ch) (grid0.coords t) 0 * 512 + 1 * r.val = (tileOf ch t).val * 512 + r.val
    rw [index0 ch _ h, Nat.one_mul]
  · show (BitVec.ofNat 32 ((grid0.coords t) 1).val).toNat * 3584 + 1 * x.val = _
    rw [half_toNat, Nat.one_mul]
    rfl

theorem blk1 (t : Fin (cfgA ch).N) (x : Fin 3584) (s : Fin 2048) :
    (iblk ch m ρ c (1 : Fin 3) t : Vec Ideal S1x3584x2048 .bf16) (ix3 0 x s)
      = ar2 m c (ix3 (expertOf ch (tileOf ch t)) (at2 (halfOf ch t) x) s) := by
  refine congrArg (ar2 m c) (funext fun a => Fin.ext ?_)
  fin_cases a
  · show ((pfN ch).at 0 (Rect.unit (s := S8x128) (k0_off1 (grid0.coords t)) S1x1.size (k0_off1_inb (grid0.coords t))) numel1_S1x1 : BitVec 32).toNat * 1 + 1 * 0 = _
    rw [expert_at, Nat.mul_one]
    rfl
  · show (BitVec.ofNat 32 ((grid0.coords t) 1).val).toNat * 3584 + 1 * x.val = _
    rw [half_toNat, Nat.one_mul]
    rfl
  · show 0 * 2048 + 1 * s.val = s.val
    omega

/-! ## The result -/

/-- The tile of a row of the result. -/
abbrev tileAt (i : S20480x2048.Idx) : Fin 40 := ⟨(i 0).val / 512, by have h : (i 0).val < 20480 := (i 0).isLt; omega⟩

/-- A row of the result is one of a tile's rows in use. -/
def Used (i : S20480x2048.Idx) : Prop :=
  IntOp.cmpi .slt (BitVec.ofNat 32 ((i 0).val / 512)) (ch.1 (ix2 1 0)) = 1#1
    ∧ IntOp.cmpi .slt (BitVec.ofNat 32 ((i 0).val % 512)) (rowsOf ch (tileAt i)) = 1#1

/-- The result at an entry: the product with the weights of the row's expert, -/
def down (i : S20480x2048.Idx) : EReal :=
  ∑ x : Fin 7168, ar1 m c (ix2 (i 0) x) * ar2 m c (ix3 (expertOf ch (tileAt i)) x (i 1))

/-- and half of it. -/
def downHalf (k : Fin 2) (i : S20480x2048.Idx) : EReal :=
  ∑ x : Fin 3584, ar1 m c (ix2 (i 0) (at2 k x)) * ar2 m c (ix3 (expertOf ch (tileAt i)) (at2 k x) (i 1))

theorem down_eq (i : S20480x2048.Idx) : downHalf ch m c 0 i + downHalf ch m c 1 i = down ch m c i := by
  have split : ∀ f : Fin 7168 → EReal, (∑ x : Fin 3584, f (at2 0 x)) + (∑ x : Fin 3584, f (at2 1 x)) = ∑ x, f x := fun f => by
    refine ((Fin.sum_univ_add (a := 3584) (b := 3584) f).trans (congrArg₂ (· + ·) (Finset.sum_congr rfl fun x _ => congrArg f (Fin.ext ?_)) (Finset.sum_congr rfl fun x _ => congrArg f (Fin.ext ?_)))).symm
    · show x.val = 0 * 3584 + x.val
      omega
    · show 3584 + x.val = 1 * 3584 + x.val
      omega
  exact split fun x => ar1 m c (ix2 (i 0) x) * ar2 m c (ix3 (expertOf ch (tileAt i)) x (i 1))

/-- The blocks' product is half of the result. -/
theorem part_eq (t : Fin (cfgA ch).N) (y : S512x2048.Idx) (i : S20480x2048.Idx) (h0 : (i 0).val = (tileOf ch t).val * 512 + (y 0).val) (h1 : (i 1).val = (y 1).val) (hu : Used ch i) :
    part (n := 512) (k := 2048) (iblk ch m ρ c (0 : Fin 3) t) (iblk ch m ρ c (1 : Fin 3) t) (y 0) (y 1) = downHalf ch m c (halfOf ch t) i := by
  have hy : (y 0).val < 512 := (y 0).isLt
  have ht : tileAt i = tileOf ch t := Fin.ext (by show (i 0).val / 512 = _; omega)
  have hu0 : IntOp.cmpi .slt (BitVec.ofNat 32 (tileOf ch t).val) (ch.1 (ix2 1 0)) = 1#1 := by rw [← ht]; exact hu.1
  have e0 : (⟨(tileOf ch t).val * 512 + (y 0).val, by have := (tileOf ch t).isLt; omega⟩ : Fin 20480) = i 0 := Fin.ext h0.symm
  have e1 : (⟨(y 1).val, (y 1).isLt⟩ : Fin 2048) = i 1 := Fin.ext h1.symm
  unfold downHalf part
  rw [ht]
  exact Finset.sum_congr rfl fun x _ => congrArg₂ (· * ·) ((blk0 ch m ρ c t hu0 (y 0) x).trans (by rw [e0])) ((blk1 ch m ρ c t x (y 1)).trans (by rw [← e1]; rfl))

/-- The second half of a tile leaves its rows in use. -/
theorem left (t : Fin (cfgA ch).N) (hf : t.val % 2 = 1) (y : S512x2048.Idx) (i : S20480x2048.Idx)
    (h0 : (i 0).val = (tileOf ch t).val * 512 + (y 0).val) (h1 : (i 1).val = (y 1).val) (hu : Used ch i) :
    traj0 ch m ρ c t.val t.isLt y = down ch m c i := by
  have hy : (y 0).val < 512 := (y 0).isLt
  have hlt : t.val - 1 < (cfgA ch).N := by have := t.isLt; omega
  have et : tileOf ch ⟨t.val - 1, hlt⟩ = tileOf ch t := Fin.ext (by rw [tile, tile]; show (t.val - 1) / 2 = t.val / 2; omega)
  have k1 : halfOf ch t = 1 := Fin.ext ((half_eq ch t).trans hf)
  have k0 : halfOf ch ⟨t.val - 1, hlt⟩ = 0 := Fin.ext ((half_eq ch _).trans (by show (t.val - 1) % 2 = 0; omega))
  have rows : ∀ t' : Fin (cfgA ch).N, tileOf ch t' = tileOf ch t → (y 0).val < (rowsW (crd ch t') (pinT_0 ch)).toNat := fun t' e => by
    have ht : tileAt i = tileOf ch t' := Fin.ext (by show (i 0).val / 512 = _; rw [e]; omega)
    have hr := hu.2
    rw [ht, show (i 0).val % 512 = (y 0).val by omega, show rowsOf ch (tileOf ch t') = _ from (rows_read ch (crd ch t')).symm] at hr
    obtain ⟨hl, -⟩ := lt_of_slt (by rw [BitVec.toNat_ofNat]; omega) hr
    rwa [BitVec.toNat_ofNat, Nat.mod_eq_of_lt (by omega)] at hl
  have hprev : prev0 ch m ρ c t = traj0 ch m ρ c (t.val - 1) hlt := by
    unfold prev0
    rw [dif_neg (by omega)]
  rw [traj0_eq, stepped ch m ρ c t _ y (rows t rfl), if_neg (by rw [k1]; decide), part_eq ch m ρ c t y i h0 h1 hu, k1, hprev,
    show traj0 ch m ρ c (t.val - 1) hlt = _ from traj0_eq ch m ρ c ⟨t.val - 1, hlt⟩, stepped ch m ρ c _ _ y (rows _ et), if_pos (by rw [k0]; rfl),
    part_eq ch m ρ c _ y i (by rw [et]; exact h0) h1 hu, k0, down_eq]

/-- The written blocks cover the result. -/
theorem covers_0 : ((cfgA tab0).win (2 : Fin 3)).Covers := by decide +kernel
theorem covers : ((cfgA ch).win (2 : Fin 3)).Covers := covers_0

/-- The result, on the rows in use. -/
theorem result (i : S20480x2048.Idx) (hu : Used ch i) :
    ((dats ch m ρ 0 c).arrAt (2 : Fin 3) (cfgA ch).N : Vec Ideal S20480x2048 .f32) i = down ch m c i := by
  refine (dats ch m ρ 0 c).arrAt_forall_of_covers (2 : Fin 3) (fun i v => Used ch i → v = down ch m c i) (covers ch) (fun t hf y => ?_) i (Memref.isWhole_whole _) hu
  intro hu
  refine left ch m ρ c t (of_decide_eq_true ((flush2 ch t).symm.trans hf)) y _ ?_ ?_ hu
  · show (BitVec.ofNat 32 ((grid0.coords t) 0).val).toNat * 512 + 1 * (y 0).val = _
    rw [tile_toNat, Nat.one_mul]
  · show 0 * 2048 + 1 * (y 1).val = _
    omega

end Cert.DownIdeal.All

end
-- ==== Proof.DownRef.lean ====
/- What the experts' down product's reference computes, at an entry. -/
module

public import proofs.«01_k».proof.Proof.Words
public import proofs.«01_k».proof.Proof.Gen.DownReferenceIdeal.Run
public import Idealize.ShloMosaic.Lib.Tactic.ValueTie

@[expose] public section

set_option maxRecDepth 16384

noncomputable section

namespace Cert.DownReferenceIdeal.Entry

open Idealize.ShloMosaic Idealize.ShloMosaic.TcCoe Idealize.SL.Sem
open Cert.DownReferenceIdeal Cert.DownReferenceIdeal.Gen Cert.DownReferenceIdeal.Value Cert.Words

/-- The rows times one expert's weights. -/
def prod (X : Vec Ideal S20480x7168 .bf16) (W : Vec Ideal S8x7168x2048 .bf16) (e : Fin 8) (i : S20480x2048.Idx) : EReal :=
  ∑ x : Fin 7168, X (ix2 (i 0) x) * W (ix3 e x (i 1))

/-- The reference's product with one expert's weights is that. -/
theorem prod_apply (o : Nat) (ho : o < 8) (hs : S8x7168x2048.Slices ![o, 0, 0] S1x7168x2048) (X : Vec Ideal S20480x7168 .bf16) (W : Vec Ideal S8x7168x2048 .bf16) (i : S20480x2048.Idx) :
    Host.dotGeneral (F := Ideal) (φ₁ := .f32) (φ₂ := .f32) dot_S20480x7168_S7168x2048_S20480x2048_1_0_0_1_n_n none (extf .f32 (F := Ideal) (φ := .bf16) X bitsLt_bf16_f32)
      (extf .f32 (F := Ideal) (φ := .bf16) (shapeCast _ (extractStridedSlice S1x7168x2048 ![o, 0, 0] W hs) shapeCasts_S1x7168x2048_S7168x2048) bitsLt_bf16_f32) i
      = prod X W ⟨o, ho⟩ i := by
  unfold prod
  pointwise

/-- One of the reference's choices, at an entry: the product with expert `k`'s weights where the row's expert is `k`, else what was there. -/
theorem pick (E : IVec S20480 32) (k : BitVec 32) (A B : Vec Ideal S20480x2048 .f32) (i : S20480x2048.Idx) :
    select (broadcastInDim S20480x2048 ![0, 1] bcast_S20480x1_S20480x2048_0_1 (broadcastInDim S20480x1 ![0] bcast_S20480_S20480x1_0 (cmpi .eq E (broadcastInDim S20480 ![] bcast_S_S20480 (constantI S_ 32 k))))) A B i
      = if E (ix1 (i 0)) = k then A i else B i := by
  have h : select (broadcastInDim S20480x2048 ![0, 1] bcast_S20480x1_S20480x2048_0_1 (broadcastInDim S20480x1 ![0] bcast_S20480_S20480x1_0 (cmpi .eq E (broadcastInDim S20480 ![] bcast_S_S20480 (constantI S_ 32 k))))) A B i
      = Scalar.select (IntOp.cmpi .eq (E (ix1 (i 0))) k) (A i) (B i) := by pointwise
  exact h.trans (select_eq _ _ _ _)

/-- The expert of a row. -/
theorem expert_apply (T : IVec S8x128 32) (r : Fin 20480) :
    (shapeCast _ (broadcastInDim S40x512 ![0, 1] bcast_S40x1_S40x512_0_1 (broadcastInDim S40x1 ![0] bcast_S40_S40x1_0 (shapeCast _ (extractStridedSlice S1x40 ![0, 0] T slices_S8x128_S1x40_0_0) shapeCasts_S1x40_S40))) shapeCasts_S40x512_S20480 : IVec S20480 32) (ix1 r)
      = T (ix2 0 ⟨r.val / 512, by have := r.isLt; omega⟩) := by
  pointwise

variable (m : (ℓ : Loc nD τ sig) → Buf (Elt Ideal) ℓ) (c : Dev nD)

/-- The arguments. -/
abbrev ar0 : IVec S8x128 32 := m ((c.tc : Thread nD τ).loc main_arg0)
abbrev ar1 : Vec Ideal S20480x7168 .bf16 := m ((c.tc : Thread nD τ).loc main_arg1)
abbrev ar2 : Vec Ideal S8x7168x2048 .bf16 := m ((c.tc : Thread nD τ).loc main_arg2)

/-- The word of a row's expert. -/
abbrev word (i : S20480x2048.Idx) : BitVec 32 := ar0 m c (ix2 0 ⟨(i 0).val / 512, by have h : (i 0).val < 20480 := (i 0).isLt; omega⟩)

/-- The reference's result at an entry is the product with the weights of the row's expert. -/
theorem out_apply (i : S20480x2048.Idx) (h : (word m c i).toNat < 8) :
    (res_main_v70 (F := Ideal) m c : Vec Ideal S20480x2048 .f32) i = prod (ar1 m c) (ar2 m c) ⟨(word m c i).toNat, h⟩ i := by
  refine Eq.trans ?_ (chain _ (fun e => prod (ar1 m c) (ar2 m c) e i) (broadcastInDim S20480x2048 ![] bcast_S_S20480x2048 (constant (F := Ideal) S_ .f32 0x00000000#32) i) h)
  have hx := expert_apply (ar0 m c) (i 0)
  unfold res_main_v70
  refine (pick _ _ _ _ i).trans (if_congr (by rw [hx]) (prod_apply 7 (by decide) _ (ar1 m c) (ar2 m c) i) ?_)
  refine (pick _ _ _ _ i).trans (if_congr (by rw [hx]) (prod_apply 6 (by decide) _ (ar1 m c) (ar2 m c) i) ?_)
  refine (pick _ _ _ _ i).trans (if_congr (by rw [hx]) (prod_apply 5 (by decide) _ (ar1 m c) (ar2 m c) i) ?_)
  refine (pick _ _ _ _ i).trans (if_congr (by rw [hx]) (prod_apply 4 (by decide) _ (ar1 m c) (ar2 m c) i) ?_)
  refine (pick _ _ _ _ i).trans (if_congr (by rw [hx]) (prod_apply 3 (by decide) _ (ar1 m c) (ar2 m c) i) ?_)
  refine (pick _ _ _ _ i).trans (if_congr (by rw [hx]) (prod_apply 2 (by decide) _ (ar1 m c) (ar2 m c) i) ?_)
  refine (pick _ _ _ _ i).trans (if_congr (by rw [hx]) (prod_apply 1 (by decide) _ (ar1 m c) (ar2 m c) i) ?_)
  refine (pick _ _ _ _ i).trans (if_congr (by rw [hx]) (prod_apply 0 (by decide) _ (ar1 m c) (ar2 m c) i) ?_)
  rfl

end Cert.DownReferenceIdeal.Entry

end
-- ==== Proof.DownTie.lean ====
/- The experts' down product. -/
module

public import proofs.«01_k».proof.Proof.DownFrames
public import proofs.«01_k».proof.Proof.DownValue
public import proofs.«01_k».proof.Proof.DownRef

@[expose] public section

set_option maxRecDepth 16384

noncomputable section

namespace Cert.Proof

open Idealize.ShloMosaic Idealize.ShloMosaic.TcCoe Idealize.SL.Sem

/-- A selected entry is one of a tile's rows in use. -/
theorem used_of_down (m : (ℓ : Loc Cert.DownIdeal.nD Cert.DownIdeal.τ Cert.DownIdeal.sig) → Buf (Elt Ideal) ℓ) (h : Cert.Pre_DownIdeal m)
    (a1 : FVec Ideal On_rows_used_down.S20480x7168 .bf16) (a2 : FVec Ideal On_rows_used_down.S8x7168x2048 .bf16)
    (i : Cert.DownIdeal.S20480x2048.Idx) (hi : (Cert.On_rows_used_down.fn (F := Ideal) (tabDownIdeal m h).1 a1 a2) i = 1#1) :
    Cert.DownIdeal.All.Used (tabDownIdeal m h) i := by
  rw [show i = (ix2 (i 0) (i 1) : Cert.DownIdeal.S20480x2048.Idx) from eq_ix2 i] at hi
  exact Cert.Words.andi_one ((Cert.DownPre.used_apply _ a1 a2 (i 0) (i 1)).symm.trans hi)

/-- The experts' down product, on the rows in use. -/
theorem algebraic_down : Cert.algebraic_DownIdeal_DownReferenceIdeal_on_rows_used_down := by
  intro m ρ m' ρ' h hagree
  refine ⟨fun c => Cert.DownIdeal.All.down (tabDownIdeal m h) m c, ?_, ?_⟩
  · refine (θ_run Cert.DownIdeal.defs _ _).mono (fun r hr c => ⟨fun i hi => ?_, hr.2 c⟩)
      (θ_run_and (Cert.DownIdeal.All.run_main (tabDownIdeal m h) m ρ (pinnedDownIdeal m h)) (Cert.DownIdeal.All.unchanged (tabDownIdeal m h) m ρ (pinnedDownIdeal m h)))
    obtain rfl : c = 0 := Subsingleton.elim _ _
    exact (congrFun ((hr.1 0).1 (2 : Fin 3)) i).trans (Cert.DownIdeal.All.result (tabDownIdeal m h) m ρ 0 i (used_of_down m h _ _ i hi))
  · refine (θ_run Cert.DownReferenceIdeal.defs _ _).mono (fun r hr c => ⟨fun i hi => ?_, (hr c).2⟩)
      (Cert.DownReferenceIdeal.Value.run (F := Ideal) m' ρ')
    obtain rfl : c = 0 := Subsingleton.elim _ _
    obtain ⟨e0, e1, e2⟩ := hagree 0
    have hx := (Cert.DownIdeal.All.expertOf (tabDownIdeal m h) (Cert.DownIdeal.All.tileAt i)).isLt
    have hT : Cert.DownReferenceIdeal.Entry.ar0 m' 0 = (tabDownIdeal m h).1 := e0
    have h1 : Cert.DownReferenceIdeal.Entry.ar1 m' 0 = Cert.DownIdeal.All.ar1 m 0 := e1
    have h2 : Cert.DownReferenceIdeal.Entry.ar2 m' 0 = Cert.DownIdeal.All.ar2 m 0 := e2
    have hw : (Cert.DownReferenceIdeal.Entry.word m' 0 i).toNat = (Cert.DownIdeal.All.expertOf (tabDownIdeal m h) (Cert.DownIdeal.All.tileAt i)).val := by
      unfold Cert.DownReferenceIdeal.Entry.word
      rw [hT]
      rfl
    refine (congrFun (hr 0).1 i).trans ((Cert.DownReferenceIdeal.Entry.out_apply m' 0 i (by rw [hw]; exact hx)).trans ?_)
    unfold Cert.DownReferenceIdeal.Entry.prod Cert.DownIdeal.All.down
    rw [h1, h2, show (⟨(Cert.DownReferenceIdeal.Entry.word m' 0 i).toNat, by rw [hw]; exact hx⟩ : Fin 8) = Cert.DownIdeal.All.expertOf (tabDownIdeal m h) (Cert.DownIdeal.All.tileAt i) from Fin.ext hw]

end Cert.Proof

end
-- ==== Proof.RestFold.lean ====
/- What the last part of the input projection leaves at each grid point: the product with the weight block kept in scratch. -/
module

public import proofs.«01_k».proof.Proof.Gen.RestIdeal.Value
public import Idealize.ShloMosaic.Lib.Pipeline.ValueKit
public import Idealize.ShloMosaic.Lib.Pointwise

@[expose] public section

set_option maxRecDepth 16384

noncomputable section

namespace Cert.RestIdeal.Fold

open Cert.RestIdeal Cert.RestIdeal.Gen Idealize.ShloMosaic Idealize.ShloMosaic.TcCoe Idealize.SL.Sem

/-- A whole buffer starts at zero. -/
theorem z2 : (![0, 0] : Fin 2 → Nat) = fun _ => 0 := by decide
theorem z3 : (![0, 0, 0] : Fin 3 → Nat) = fun _ => 0 := by decide

section runs
variable (c : Dev nD) (i : grid0.Coords) (a2 : Memref sig .tc .vmem S1024x2048 .bf16) (h2 : a2.IsWhole) (a3 : Memref sig .tc .vmem S1x1024x2048 .f32) (h3 : a3.IsWhole)
  (a4 : Memref sig .tc .vmem S1024x1024 .f32) (h4 : a4.IsWhole) (a5 : Memref sig .tc .vmem S1x1024x2048 .bf16) (h5 : a5.IsWhole)
  (x0 : Vec Ideal S1024x2048 .bf16) (x1 : Vec Ideal S1x1024x2048 .f32) (xs : Vec Ideal S1x1024x2048 .bf16)

/-- At the first point of a column the scratch takes the cast weight block, -/
theorem scrA (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A; dsimp only; sl_unfold_words
  simp only [View.readAt_eq_ld, h2.read_unread, h3.read_unread]
  simp only [View.canon_unit_zero (S := S1x1024x2048) z3, View.canon_unit_zero (S := S1024x1024) z2, View.ld_unit_zero (S := S1024x2048) z2,
    View.ld_unit_zero (S := S1x1024x2048) z3, View.readCov_unit_zero (S := S1x1024x2048) _ z3]

/-- and the output is the product with it; -/
theorem outA (hc : cond0_0 i) : out0_A_2 c i a2 h2 a3 h3 a4 h4 a5 h5 hc x0 x1 = k0_pay2 (k0_pay1 x1) x0 := by
  unfold out0_A_2
  rw [View.read_writes_eq_canon _ _ _ (cover0_A_2 c i a2 h2 a3 h3 a4 h4 a5 h5 hc x0 x1)]
  unfold kernelRun0_A; dsimp only; sl_unfold_words
  simp only [View.readAt_eq_ld, h2.read_unread, h3.read_unread]
  simp only [View.canon_unit_zero (S := S1x1024x2048) z3, View.canon_unit_zero (S := S1024x1024) z2, View.ld_unit_zero (S := S1024x2048) z2,
    View.ld_unit_zero (S := S1x1024x2048) z3, View.readCov_unit_zero (S := S1x1024x2048) _ z3]

/-- at the others the output is the product with what the scratch holds. -/
theorem outB (hc : ¬cond0_0 i) : out0_B_2 c i a2 h2 a3 h3 a4 h4 a5 h5 hc x0 x1 xs = k0_pay2 xs x0 := by
  unfold out0_B_2
  rw [View.read_writes_eq_canon _ _ _ (cover0_B_2 c i a2 h2 a3 h3 a4 h4 a5 h5 hc x0 x1 xs)]
  unfold kernelRun0_B; dsimp only; sl_unfold_words
  simp only [View.readAt_eq_ld, h2.read_unread, h5.read_unread]
  simp only [View.canon_unit_zero (S := S1024x1024) z2, View.ld_unit_zero (S := S1024x2048) z2, View.ld_unit_zero (S := S1x1024x2048) z3]

end runs

/-- The windows' index maps; the weight's gives the first row of its block. -/
theorem idx : ∀ p : Fin cfg0.N,
    (win0_0.index p 0 = p.val % 8 ∧ win0_0.index p 1 = 0)
    ∧ (win0_1.index p 0 = 0 ∧ win0_1.index p 1 = 2608 + p.val / 8 * 1024 ∧ win0_1.index p 2 = 0) := by
  decide +kernel

variable (m : (ℓ : Loc nD τ sig) → Buf (Elt Ideal) ℓ) (c : Dev nD) (p : Fin cfg0.N)

/-- The arguments. -/
abbrev ar0 : Vec Ideal S8192x2048 .bf16 := m ((c : Thread nD τ).loc main_arg0)
abbrev ar1 : Vec Ideal S2x8752x2048 .f32 := m ((c : Thread nD τ).loc main_arg1)

theorem hp : p.val < 48 := lt_of_lt_of_eq p.isLt N_0

theorem blk0 (r : Fin 1024) (x : Fin 2048) :
    (iblk m c 0 p : Vec Ideal S1024x2048 .bf16) (ix2 r x)
      = (m ((c : Thread nD τ).loc main_arg0) : Vec Ideal S8192x2048 .bf16) (ix2 ⟨p.val % 8 * 1024 + r.val, by omega⟩ x) := by
  blk_ext [iblk, V, idx p]

theorem blk1 (s : Fin 1024) (x : Fin 2048) :
    (iblk m c 1 p : Vec Ideal S1x1024x2048 .f32) (ix3 0 s x)
      = (m ((c : Thread nD τ).loc main_arg1) : Vec Ideal S2x8752x2048 .f32) (ix3 0 ⟨2608 + (p.val / 8 * 1024 + s.val), by have := hp p; omega⟩ x) := by
  blk_ext [iblk, V, idx p]
  · exact (win0_1.rect_emb_val_off p (ix3 0 s x) 0).trans (by show win0_1.index p 0 + 0 = 0; rw [(idx p).2.1])
  · exact (win0_1.rect_emb_val_off p (ix3 0 s x) 1).trans (by show win0_1.index p 1 + s.val = _; rw [(idx p).2.2.1]; omega)
  · exact (win0_1.rect_emb_val_off p (ix3 0 s x) 2).trans (by show win0_1.index p 2 + x.val = _; rw [(idx p).2.2.2]; omega)

/-- The cast weight block of a point at an entry. -/
theorem wAt (s : Fin 1024) (x : Fin 2048) :
    k0_pay1 (F := Ideal) (iblk m c 1 p) (ix3 0 s x)
      = (m ((c : Thread nD τ).loc main_arg1) : Vec Ideal S2x8752x2048 .f32) (ix3 0 ⟨2608 + (p.val / 8 * 1024 + s.val), by have := hp p; omega⟩ x) := by
  rw [← blk1 m c p]
  generalize iblk m c 1 p = w
  pointwise [k0_pay1]

/-- Two points of one column have the same weight block. -/
theorem same (q : Fin cfg0.N) (h : p.val / 8 = q.val / 8) : k0_pay1 (F := Ideal) (iblk m c 1 p) = k0_pay1 (iblk m c 1 q) := by
  funext y
  have h0 : (y 0).val < 1 := (y 0).isLt
  have hy : y = ix3 0 (y 1) (y 2) := (eq_ix3 y).trans (congrArg (fun a => ix3 a (y 1) (y 2)) (Fin.ext (by show (y 0).val = 0; omega)))
  rw [hy]
  refine (wAt m c p (y 1) (y 2)).trans (Eq.trans ?_ (wAt m c q (y 1) (y 2)).symm)
  congr 2
  exact Fin.ext (by show 2608 + (p.val / 8 * 1024 + _) = 2608 + (q.val / 8 * 1024 + _); rw [h])

/-- After every point the scratch holds the cast weight block of the point's column. -/
theorem scr : ∀ (n : ℕ) (hn : n < cfg0.N), (outsAt0 m c n hn).2 = k0_pay1 (F := Ideal) (iblk m c 1 ⟨n, hn⟩) := by
  intro n
  induction n with
  | zero => intro hn; rw [outsAt0_A m c ⟨0, hn⟩ rfl]; rw [scrA]
  | succ n ih =>
    intro hn
    by_cases h : (n + 1) % 8 = 0
    · rw [outsAt0_A m c ⟨n + 1, hn⟩ h]; rw [scrA]
    · rw [outsAt0_B m c ⟨n + 1, hn⟩ h]
      exact (ih (Nat.lt_of_succ_lt hn)).trans (same m c ⟨n, Nat.lt_of_succ_lt hn⟩ ⟨n + 1, hn⟩ (by show n / 8 = (n + 1) / 8; omega))

/-- What every point leaves in the output window. -/
theorem out (t : Fin cfg0.N) :
    (outsAt0 m c t.val t.isLt).1 = k0_pay2 (F := Ideal) (k0_pay1 (iblk m c 1 t)) (iblk m c 0 t) := by
  by_cases h : t.val % 8 = 0
  · rw [outsAt0_A m c t h]; rw [outA]
  · have h0 : t.val - 1 < cfg0.N := by have := t.isLt; omega
    rw [outsAt0_B m c t h, ← same m c ⟨t.val - 1, h0⟩ t (by show (t.val - 1) / 8 = t.val / 8; omega), ← scr m c (t.val - 1) h0]
    rw [outB]

/-- The result at an entry. -/
theorem result (i : S8192x6144.Idx) :
    (Value.G2 m c : Vec Ideal S8192x6144 .f32) i
      = ∑ x : Fin 2048, ar0 m c (ix2 (i 0) x) * ar1 m c (ix3 0 ⟨2608 + (i 1).val, by have h : (i 1).val < 6144 := (i 1).isLt; omega⟩ x) := by
  have h0 : (i 0).val < 8192 := (i 0).isLt
  have h1 : (i 1).val < 6144 := (i 1).isLt
  have hlt : Value.pt2Of i < cfg0.N := by
    rw [show cfg0.N = 48 from N_0]; show 1 * ((i 0).val / 1024 - 0) + 8 * ((i 1).val / 1024 - 0) < 48; omega
  have hv : Value.pt2Of i = 1 * ((i 0).val / 1024 - 0) + 8 * ((i 1).val / 1024 - 0) := rfl
  unfold Value.G2
  rw [dif_pos hlt, ← Value.outsAt0_sweep m c _ hlt, out m c ⟨Value.pt2Of i, hlt⟩,
    show Value.loc2Of i = ix2 ⟨(i 0).val % 1024, Nat.mod_lt _ (by decide)⟩ ⟨(i 1).val % 1024, Nat.mod_lt _ (by decide)⟩ from eq_ix2 _]
  have e : ∀ (w : Vec Ideal S1x1024x2048 .bf16) (a : Vec Ideal S1024x2048 .bf16) (r : Fin 1024) (s : Fin 1024),
      k0_pay2 (F := Ideal) w a (ix2 r s) = ∑ x : Fin 2048, a (ix2 r x) * w (ix3 0 s x) := by
    intro w a r s
    pointwise [k0_pay2]
  rw [e]
  simp only [blk0, wAt]
  have e0 : (⟨Value.pt2Of i % 8 * 1024 + (i 0).val % 1024, by omega⟩ : Fin 8192) = i 0 := Fin.ext (by show Value.pt2Of i % 8 * 1024 + (i 0).val % 1024 = _; rw [hv]; omega)
  have e1 : (⟨2608 + (Value.pt2Of i / 8 * 1024 + (i 1).val % 1024), by have := hp ⟨_, hlt⟩; dsimp only at this; omega⟩ : Fin 8752) = ⟨2608 + (i 1).val, by omega⟩ :=
    Fin.ext (by show 2608 + (Value.pt2Of i / 8 * 1024 + (i 1).val % 1024) = 2608 + (i 1).val; rw [hv]; omega)
  simp only [e0, e1]

end Cert.RestIdeal.Fold

end
-- ==== Proof.RestTie.lean ====
/- The last part of the input projection: the gated branch and the gates. -/
module

public import proofs.«01_k».proof.Defs
public import proofs.«01_k».proof.Proof.Gen.Rest.Frame
public import proofs.«01_k».proof.Proof.RestFold
public import proofs.«01_k».proof.Proof.Gen.RestReferenceIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem frame_rest_ri : Cert.quiescent_RestReferenceIdeal := fun m ρ _ =>
  (θ_run Cert.RestReferenceIdeal.defs _ _).mono
    (fun r h => ⟨fun c => (h c).2, sem_eq_zero_of_no_sems (by decide) r.2⟩)
    (Cert.RestReferenceIdeal.Value.run (F := Ideal) m ρ)

/-- The last part of the input projection: the gated branch and the gates. -/
theorem algebraic_rest : Cert.algebraic_RestIdeal_RestReferenceIdeal := by
  intro m ρ m' ρ' _ hagree
  refine ⟨_, Cert.RestIdeal.Value.run (F := Ideal) m ρ, ?_⟩
  refine (θ_run Cert.RestReferenceIdeal.defs _ _).mono (fun _ h c => ⟨?_, (h c).2⟩)
    (Cert.RestReferenceIdeal.Value.run (F := Ideal) m' ρ')
  rw [(h c).1]
  simp only [hagree c]
  funext i
  refine Eq.trans ?_ (Cert.RestIdeal.Fold.result m c i).symm
  pointwise

end Cert.Proof

end
-- ==== Proof.KerTerm.lean ====
module

public import proofs.«01_k».proof.Proof.Gen.KernelIdeal.Value
public import Idealize.ShloMosaic.Lib.Pipeline.ValueKit
public import Idealize.ShloMosaic.Lib.Pointwise

/-! What one grid point of the kernel leaves in its two output blocks, as named steps. -/

@[expose] public section

set_option maxRecDepth 16384

noncomputable section

namespace Cert.Ker

open Idealize.ShloMosaic Idealize.ShloMosaic.TcCoe Idealize.SL.Sem
open Cert.KernelIdeal Cert.KernelIdeal.Gen

variable {F : FTy → Type} [FloatOps F] [Named F]

/-- Head 0 of the point's group: its slice of the block of queries. -/
abbrev qSlice0 (x1 : Vec F S4x64x512 .bf16) : Vec F S1x64x512 .bf16 :=
  View.ld x1 (Rect.unit (s := S4x64x512) ![0, 0, 0] S1x64x512.size inb_S4x64x512_S1x64x512_0_0_0)

/-- The slope head 0 of the point's group reads from the table. -/
def slope0 (i : grid0.Coords) (x0 : Vec F S16 .f32) : F .f32 :=
  View.ld x0 (Rect.unit (s := S16) (k0_off1 i 0#32) S1.size (k0_off1_inb i 0)) (Shape.Idx.first (by show 0 < S1.numel; decide))

/-- Head 1 of the point's group: its slice of the block of queries. -/
abbrev qSlice1 (x1 : Vec F S4x64x512 .bf16) : Vec F S1x64x512 .bf16 :=
  View.ld x1 (Rect.unit (s := S4x64x512) ![1, 0, 0] S1x64x512.size inb_S4x64x512_S1x64x512_1_0_0)

/-- The slope head 1 of the point's group reads from the table. -/
def slope1 (i : grid0.Coords) (x0 : Vec F S16 .f32) : F .f32 :=
  View.ld x0 (Rect.unit (s := S16) (k0_off1 i 1#32) S1.size (k0_off1_inb i 1)) (Shape.Idx.first (by show 0 < S1.numel; decide))

/-- Head 2 of the point's group: its slice of the block of queries. -/
abbrev qSlice2 (x1 : Vec F S4x64x512 .bf16) : Vec F S1x64x512 .bf16 :=
  View.ld x1 (Rect.unit (s := S4x64x512) ![2, 0, 0] S1x64x512.size inb_S4x64x512_S1x64x512_2_0_0)

/-- The slope head 2 of the point's group reads from the table. -/
def slope2 (i : grid0.Coords) (x0 : Vec F S16 .f32) : F .f32 :=
  View.ld x0 (Rect.unit (s := S16) (k0_off1 i 2#32) S1.size (k0_off1_inb i 2)) (Shape.Idx.first (by show 0 < S1.numel; decide))

/-- Head 3 of the point's group: its slice of the block of queries. -/
abbrev qSlice3 (x1 : Vec F S4x64x512 .bf16) : Vec F S1x64x512 .bf16 :=
  View.ld x1 (Rect.unit (s := S4x64x512) ![3, 0, 0] S1x64x512.size inb_S4x64x512_S1x64x512_3_0_0)

/-- The slope head 3 of the point's group reads from the table. -/
def slope3 (i : grid0.Coords) (x0 : Vec F S16 .f32) : F .f32 :=
  View.ld x0 (Rect.unit (s := S16) (k0_off1 i 3#32) S1.size (k0_off1_inb i 3)) (Shape.Idx.first (by show 0 < S1.numel; decide))

/-- Head 0's probabilities. -/
def prob0 (i : grid0.Coords) (x0 : Vec F S16 .f32) (x1 : Vec F S4x64x512 .bf16) (x2 : Vec F S1x1x128x64 .f32) : FVec F S128x512 .f32 :=
  k0_pay11 (k0_pay5 i) (k0_pay6 i) (k0_pay7 x2 (qSlice0 x1)) (slope0 i x0)

/-- Head 1's probabilities. -/
def prob1 (i : grid0.Coords) (x0 : Vec F S16 .f32) (x1 : Vec F S4x64x512 .bf16) (x2 : Vec F S1x1x128x64 .f32) : FVec F S128x512 .f32 :=
  k0_pay13 (k0_pay12 (k0_pay5 i) (k0_pay6 i) (k0_pay8 x2 (qSlice1 x1)) (slope1 i x0))

/-- Head 2's probabilities. -/
def prob2 (i : grid0.Coords) (x0 : Vec F S16 .f32) (x1 : Vec F S4x64x512 .bf16) (x2 : Vec F S1x1x128x64 .f32) : FVec F S128x512 .f32 :=
  k0_pay14 (k0_pay5 i) (k0_pay6 i) (k0_pay9 x2 (qSlice2 x1)) (slope2 i x0)

/-- Head 3's powers. -/
def pow3 (i : grid0.Coords) (x0 : Vec F S16 .f32) (x1 : Vec F S4x64x512 .bf16) (x2 : Vec F S1x1x128x64 .f32) : FVec F S128x512 .f32 :=
  k0_pay15 (k0_pay5 i) (k0_pay6 i) (k0_pay10 (k0_pay2 x2) (qSlice3 x1)) (slope3 i x0)

/-- The sum of the four heads' probabilities. -/
def total (i : grid0.Coords) (x0 : Vec F S16 .f32) (x1 : Vec F S4x64x512 .bf16) (x2 : Vec F S1x1x128x64 .f32) : FVec F S128x512 .f32 :=
  k0_pay21 (k0_pay5 i) (prob0 i x0 x1 x2) (prob1 i x0 x1 x2) (prob2 i x0 x1 x2) (pow3 i x0 x1 x2)

/-- The importances. -/
def imp (i : grid0.Coords) (x0 : Vec F S16 .f32) (x1 : Vec F S4x64x512 .bf16) (x2 : Vec F S1x1x128x64 .f32) (x4 : Vec F S32x128 .bf16) : FVec F S32x512 .f32 :=
  k0_pay22 (total i x0 x1 x2) x4

/-- The scores the selection blocks are ranked by, from the importances. -/
def ranked (i : grid0.Coords) (v : FVec F S32x512 .f32) : FVec F S32x512 .f32 :=
  k0_pay28 v (k0_pay25 (BitVec.ofNat 32 (i 2).val)) (k0_pay26 (BitVec.ofNat 32 (i 2).val)) (k0_pay27 (BitVec.ofNat 32 (i 2).val))

/-- The block numbers, as words. -/
abbrev number : IVec S32x512 32 := iota .tc S32x512 32 [0] iota_S32x512_d0_w32

/-- The count of blocks ahead, after further blocks. -/
def count1 (v205 : FVec F S32x512 .f32) (a b : FVec F S32x512 .f32) : FVec F S32x512 .f32 :=
  k0_pay33 number v205 (k0_pay31 number v205 a b) (k0_pay32 number v205)

/-- The count of blocks ahead, after further blocks. -/
def count2 (v205 : FVec F S32x512 .f32)(a : FVec F S32x512 .f32) : FVec F S32x512 .f32 :=
  k0_pay35 number v205 a (k0_pay34 number v205) (Scalar.ofBits .f32 0x3F800000#32)

/-- The count of blocks ahead, after further blocks. -/
def count3 (v205 : FVec F S32x512 .f32)(a : FVec F S32x512 .f32) : FVec F S32x512 .f32 :=
  k0_pay42 number v205 (k0_pay40 number v205 a (k0_pay37 v205) (k0_pay38 v205) k0_pay39) (k0_pay41 v205)

/-- The count of blocks ahead, after further blocks. -/
def count4 (v205 : FVec F S32x512 .f32)(a : FVec F S32x512 .f32) : FVec F S32x512 .f32 :=
  k0_pay46 number v205 (k0_pay44 number v205 a (k0_pay43 number v205)) (k0_pay45 number v205) (Scalar.ofBits .f32 0x3F800000#32)

/-- Whether fewer than sixteen blocks are ahead. -/
def chosen (v205 : FVec F S32x512 .f32)(a : FVec F S32x512 .f32) : IVec S32x512 1 :=
  k0_pay51 number v205 a (k0_pay48 v205) (k0_pay49 v205) k0_pay50

/-- The point's block of the second result. -/
def choice (i : grid0.Coords) (x0 : Vec F S16 .f32) (x1 : Vec F S4x64x512 .bf16) (x2 : Vec F S1x1x128x64 .f32) (x4 : Vec F S32x128 .bf16) : FVec F S1x1x32x512 .f32 :=
  let v := imp i x0 x1 x2 x4
  let s := ranked i v
  let a := k0_pay29 v number (k0_pay25 (BitVec.ofNat 32 (i 2).val)) (k0_pay26 (BitVec.ofNat 32 (i 2).val)) (k0_pay27 (BitVec.ofNat 32 (i 2).val))
  let b := k0_pay30 v (k0_pay25 (BitVec.ofNat 32 (i 2).val)) (k0_pay26 (BitVec.ofNat 32 (i 2).val)) (k0_pay27 (BitVec.ofNat 32 (i 2).val))
  k0_pay1 (chosen s (count4 s (count3 s (count2 s (count1 s a b))))) (Scalar.ofBits .f32 0x00000000#32) k0_pay52

variable (m : (ℓ : Loc nD τ sig) → Buf (Elt F) ℓ)

/-- The second output's buffer after a point. -/
theorem after_choice (c : Dev nD) (t : Fin cfg0.N) : (outsAt0 m c t).2
    = choice (grid0.coords t) (iblk m c 0 t) (iblk m c 1 t) (iblk m c 2 t) (iblk m c 4 t) := by
  funext y
  unfold outsAt0
  frame_out
  rfl

end Cert.Ker

end
-- ==== Proof.Consts.lean ====
module

public import Idealize.ShloMosaic.PureOps.Ideal

@[expose] public section

noncomputable section

namespace Cert.Consts

open Idealize.ShloMosaic

/-- The word `0x40000000` denotes the real number two. -/
theorem two : Ideal.ofBits .f32 0x40000000#32 = ((2 : ℝ) : EReal) := by
  simp [Ideal.ofBits, Ideal.ieee, -EReal.coe_mul]; try norm_num

/-- The bf16 word `0x4000` denotes the real number two. -/
theorem two_bf16 : Ideal.ofBits .bf16 0x4000#16 = ((2 : ℝ) : EReal) := by
  simp [Ideal.ofBits, Ideal.ieee, -EReal.coe_mul]; try norm_num

/-- The word `0x41800000` denotes the real number sixteen. -/
theorem sixteen : Ideal.ofBits .f32 0x41800000#32 = ((16 : ℝ) : EReal) := by
  simp [Ideal.ofBits, Ideal.ieee, -EReal.coe_mul]; try norm_num

/-- The word `0xFF800000` denotes minus infinity. -/
theorem bot : Ideal.ofBits .f32 0xFF800000#32 = ⊥ := by
  simp [Ideal.ofBits, Ideal.ieee]

/-- The word of the softmax's least denominator denotes a positive real number. -/
theorem tiny : ∃ r : ℝ, 0 < r ∧ Ideal.ofBits .f32 228737632#32 = (r : EReal) := by
  refine ⟨_, ?_, by simp [Ideal.ofBits, Ideal.ieee, -EReal.coe_mul]; rfl⟩
  norm_num

end Cert.Consts

end
-- ==== Proof.Column.lean ====
module

public import proofs.«01_k».proof.Proof.Consts
public import Idealize.ShloMosaic.Lib.IdealHost

/-! One column of the masked base-two softmax: the kernel's 128 rows, the last of them masked, against the
    reference's 127. -/

@[expose] public section

noncomputable section

namespace Cert.Column

open Idealize.ShloMosaic

variable {n : Nat}

/-- The scores of a column, minus infinity at the masked rows. -/
def masked (M : Fin n → BitVec 1) (s : Fin n → EReal) (c : Fin n) : EReal := Scalar.select (M c) (s c) ⊥

/-- The largest masked score. -/
def top (M : Fin n → BitVec 1) (s : Fin n → EReal) : EReal := Finset.fold max ⊥ (masked M s) Finset.univ

/-- The powers as the kernel takes them. -/
def kpow (M : Fin n → BitVec 1) (s : Fin n → EReal) (c : Fin n) : EReal :=
  Scalar.select (M c) (Ideal.exp2 (masked M s c - top M s)) 0

/-- The kernel's probabilities: powers times the inverse of the larger of their sum and the least denominator. -/
def kprob (M : Fin n → BitVec 1) (s : Fin n → EReal) (c : Fin n) : EReal :=
  kpow M s c * Ideal.div 1 (max (∑ x, kpow M s x) (Ideal.ofBits .f32 228737632#32))

/-- What the reference subtracts: the largest score, or zero when no row is seen. -/
def guard (M : Fin n → BitVec 1) (s : Fin n → EReal) : EReal := if ⊥ < top M s then top M s else 0

/-- The powers as the reference takes them. -/
def rpow (M : Fin n → BitVec 1) (s : Fin n → EReal) (c : Fin n) : EReal :=
  Scalar.select (M c) (Ideal.pow ((2 : ℝ) : EReal) (masked M s c - guard M s)) 0

/-- The reference's probabilities. -/
def rprob (M : Fin n → BitVec 1) (s : Fin n → EReal) (c : Fin n) : EReal :=
  Ideal.div (rpow M s c) (max (∑ x, rpow M s x) (Ideal.ofBits .f32 228737632#32))

theorem masked_le_top (M : Fin n → BitVec 1) (s : Fin n → EReal) (c : Fin n) : masked M s c ≤ top M s :=
  Finset.le_sup (f := masked M s) (Finset.mem_univ c)

theorem top_le (M : Fin n → BitVec 1) (s : Fin n → EReal) (b : EReal) (h : ∀ c, masked M s c ≤ b) : top M s ≤ b :=
  Finset.sup_le (f := masked M s) fun c _ => h c

/-- A value less one at least as large is never plus infinity, and a power of two of it is a real number, the
    same one whichever way it is taken. -/
theorem pow_below (x t : EReal) (h : x ≤ t) :
    ∃ r : ℝ, Ideal.exp2 (x - t) = r ∧ Ideal.pow ((2 : ℝ) : EReal) (x - if ⊥ < t then t else 0) = r := by
  induction t with
  | bot =>
    have hx : x = ⊥ := le_bot_iff.mp h
    subst hx
    refine ⟨0, ?_, ?_⟩
    · simp [Ideal.exp2_bot]
    · simp
  | top =>
    refine ⟨0, ?_, ?_⟩ <;> simp [EReal.sub_top]
  | coe t =>
    induction x with
    | bot => exact ⟨0, by simp, by simp⟩
    | top => simp at h
    | coe x =>
      refine ⟨Real.rpow 2 (x - t), ?_, ?_⟩
      · rw [← EReal.coe_sub, Ideal.exp2_coe]
      · rw [if_pos (EReal.bot_lt_coe t), ← EReal.coe_sub, Ideal.pow_coe_coe]

/-- The powers of a column are real numbers, the same in the kernel as in the reference. -/
theorem pows (M : Fin n → BitVec 1) (s : Fin n → EReal) :
    ∃ r : Fin n → ℝ, (∀ c, kpow M s c = r c) ∧ (∀ c, rpow M s c = r c) ∧ ∀ c, M c = 0#1 → r c = 0 := by
  have key : ∀ c, ∃ r : ℝ, kpow M s c = r ∧ rpow M s c = r ∧ (M c = 0#1 → r = 0) := by
    intro c
    by_cases h : M c = 0#1
    · exact ⟨0, by simp [kpow, h, Scalar.select], by simp [rpow, h, Scalar.select], fun _ => rfl⟩
    · obtain ⟨r, h1, h2⟩ := pow_below _ _ (masked_le_top M s c)
      have h' : M c = 1#1 := by revert h; generalize M c = b; revert b; decide
      exact ⟨r, by simpa [kpow, h', Scalar.select] using h1, by simpa [rpow, guard, h', Scalar.select] using h2,
        fun e => absurd e h⟩
  choose r h1 h2 h3 using key
  exact ⟨r, h1, h2, h3⟩

theorem coe_sum {ι : Type} (t : Finset ι) (r : ι → ℝ) : ∑ x ∈ t, ((r x : ℝ) : EReal) = ((∑ x ∈ t, r x : ℝ) : EReal) := by
  classical
  induction t using Finset.induction_on with
  | empty => simp
  | insert a t h ih => rw [Finset.sum_insert h, Finset.sum_insert h, ih, EReal.coe_add]

theorem coe_max (a b : ℝ) : max (a : EReal) (b : EReal) = ((max a b : ℝ) : EReal) :=
  (EReal.coe_strictMono.monotone.map_max (a := a) (b := b)).symm

/-- In a column whose powers are real numbers, the kernel's product with the inverse is the reference's quotient. -/
theorem kprob_eq_rprob (M : Fin n → BitVec 1) (s : Fin n → EReal) (c : Fin n) :
    kprob M s c = rprob M s c ∧ ∃ r : ℝ, kprob M s c = r ∧ (M c = 0#1 → r = 0) := by
  obtain ⟨r, h1, h2, h3⟩ := pows M s
  obtain ⟨ε, hε, e⟩ := Consts.tiny
  have hk : kprob M s c = ((r c * (1 * (1 / max (∑ x, r x) ε)) : ℝ) : EReal) := by
    have hpos : max (∑ x, r x) ε ≠ 0 := (lt_of_lt_of_le hε (le_max_right _ _)).ne'
    rw [kprob, funext h1, coe_sum, e, coe_max, Ideal.div_coe hpos]
    push_cast; rfl
  have hr : rprob M s c = ((r c * (1 / max (∑ x, r x) ε) : ℝ) : EReal) := by
    have hpos : max (∑ x, r x) ε ≠ 0 := (lt_of_lt_of_le hε (le_max_right _ _)).ne'
    rw [rprob, funext h2, coe_sum, e, coe_max, Ideal.div_coe hpos]
    push_cast; rfl
  exact ⟨by rw [hk, hr, one_mul], _, hk, fun h => by rw [h3 c h, zero_mul]⟩

/-- A last masked row changes no score, no largest score, and no power. -/
theorem drop_last (M : Fin (n + 1) → BitVec 1) (s : Fin (n + 1) → EReal) (h : M (Fin.last n) = 0#1) (c : Fin n) :
    rprob M s c.castSucc = rprob (fun x => M x.castSucc) (fun x => s x.castSucc) c := by
  have ht : top M s = top (fun x => M x.castSucc) (fun x => s x.castSucc) := by
    refine le_antisymm (top_le _ _ _ fun c => ?_) (top_le _ _ _ fun c => masked_le_top M s c.castSucc)
    induction c using Fin.lastCases with
    | last => simp [masked, h, Scalar.select]
    | cast c => exact masked_le_top (fun x => M x.castSucc) (fun x => s x.castSucc) c
  have hp : ∀ x : Fin n, rpow M s x.castSucc = rpow (fun x => M x.castSucc) (fun x => s x.castSucc) x := by
    intro x; unfold rpow guard; rw [ht]; rfl
  have hl : rpow M s (Fin.last n) = 0 := by simp [rpow, h, Scalar.select]
  unfold rprob
  rw [Fin.sum_univ_castSucc, hl, add_zero, hp, Finset.sum_congr rfl fun x _ => hp x]

/-- The kernel's probabilities over the 128 rows: the reference's over the first 127, zero at the last. -/
theorem kprob_castSucc (M : Fin (n + 1) → BitVec 1) (s : Fin (n + 1) → EReal) (h : M (Fin.last n) = 0#1) (c : Fin n) :
    kprob M s c.castSucc = rprob (fun x => M x.castSucc) (fun x => s x.castSucc) c :=
  (kprob_eq_rprob M s _).1.trans (drop_last M s h c)

theorem kprob_last (M : Fin (n + 1) → BitVec 1) (s : Fin (n + 1) → EReal) (h : M (Fin.last n) = 0#1) :
    kprob M s (Fin.last n) = 0 := by
  obtain ⟨_, r, e, h0⟩ := kprob_eq_rprob M s (Fin.last n)
  rw [e, h0 h]; rfl

end Cert.Column

end
-- ==== Proof.Rank.lean ====
/-
  The rank of an entry in a stable descending sort: how many entries come before it.
-/
module

public import Idealize.ShloMosaic.Lib.SortFacts
public import Mathlib.Data.EReal.Basic
public import Mathlib.Data.Fintype.EquivFin

@[expose] public section

namespace Cert.Rank

open Idealize.ShloMosaic

variable {α : Type} [LinearOrder α] {n : ℕ}

/-- Entry `a` stands before entry `b`: it is greater, or equal and at a smaller position. -/
def Ahead (f : Fin n → α) (a b : Fin n) : Prop := f b < f a ∨ (f a = f b ∧ a < b)

instance (f : Fin n → α) (a b : Fin n) : Decidable (Ahead f a b) := by unfold Ahead; infer_instance

theorem Ahead.trans {f : Fin n → α} {a b c : Fin n} (h : Ahead f a b) (h' : Ahead f b c) : Ahead f a c := by
  rcases h with h | ⟨h, hp⟩ <;> rcases h' with h' | ⟨h', hp'⟩
  · exact .inl (h'.trans h)
  · exact .inl (h' ▸ h)
  · exact .inl (h ▸ h')
  · exact .inr ⟨h.trans h', hp.trans hp'⟩

theorem Ahead.irrefl {f : Fin n → α} {a : Fin n} : ¬ Ahead f a a := by
  rintro (h | ⟨_, h⟩) <;> exact lt_irrefl _ h

/-- Putting a position into a list sorted this way, when it is smaller than every position of the list. -/
theorem pairwise_insert (f : Fin n → α) (a : Fin n) (l : List (Fin n)) (ha : ∀ b ∈ l, a < b)
    (hl : l.Pairwise (Ahead f)) : (insertBefore (fun x y => decide (f y < f x)) a l).Pairwise (Ahead f) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem _ hc)) hb.2⟩
      rcases List.mem_cons.mp ((perm_insertBefore _ a l).mem_iff.mp hc) with rfl | hc'
      · exact .inl (of_decide_eq_true h)
      · exact hb.1 c hc'
    · rename_i h
      have hab : Ahead f a b := by
        rcases lt_or_eq_of_le (not_lt.mp fun h' => h (decide_eq_true h')) with h' | h'
        · exact .inl h'
        · exact .inr ⟨h'.symm, ha b List.mem_cons_self⟩
      refine List.pairwise_cons.mpr ⟨fun c hc => ?_, hl⟩
      rcases List.mem_cons.mp hc with rfl | hc'
      · exact hab
      · exact hab.trans (hb.1 c hc')

/-- A stable descending sort of an increasing list of positions is sorted by `Ahead`. -/
theorem pairwise_sort (f : Fin n → α) (l : List (Fin n)) (hl : l.Pairwise (· < ·)) :
    (stableSort (fun x y => decide (f y < f x)) l).Pairwise (Ahead f) := by
  induction l with
  | nil => exact List.Pairwise.nil
  | cons a l ih =>
    have ha := List.pairwise_cons.mp hl
    unfold stableSort
    exact pairwise_insert f a _ (fun b hb => ha.1 b ((perm_stableSort _ l).mem_iff.mp hb)) (ih ha.2)

/-- Of two places of the sort the earlier one holds the entry that stands before. -/
theorem sorted_ahead (f : Fin n → α) (i j : Fin n) (hij : i < j) :
    Ahead f (sortedFrom (fun x y => decide (f y < f x)) i) (sortedFrom (fun x y => decide (f y < f x)) j) := by
  have hp : ∀ a b : Fin (sortPositions n fun x y => decide (f y < f x)).length, a < b →
      Ahead f ((sortPositions n fun x y => decide (f y < f x)).get a) ((sortPositions n fun x y => decide (f y < f x)).get b) :=
    List.pairwise_iff_get.mp (pairwise_sort f (List.finRange n) (List.pairwise_lt_finRange n))
  exact hp _ _ (by simp only [Fin.lt_def, Fin.val_cast]; exact hij)

/-- The entry at place `j` of the sort has exactly `j` entries ahead of it. -/
theorem card_ahead (f : Fin n → α) (j : Fin n) :
    (Finset.univ.filter fun a => Ahead f a (sortedFrom (fun x y => decide (f y < f x)) j)).card = j.val := by
  let π : Fin n → Fin n := sortedFrom (fun x y => decide (f y < f x))
  have hinj : Function.Injective π := sortedFrom_injective _
  have hsur : Function.Surjective π := sortedFrom_surjective _
  have hiff : ∀ i, Ahead f (π i) (π j) ↔ i < j := by
    intro i
    refine ⟨fun h => ?_, sorted_ahead f i j⟩
    rcases lt_trichotomy i j with hlt | rfl | hgt
    · exact hlt
    · exact absurd h Ahead.irrefl
    · exact absurd (h.trans (sorted_ahead f j i hgt)) Ahead.irrefl
  have himg : (Finset.univ.filter fun a => Ahead f a (π j)) = (Finset.univ.filter fun i => i < j).image π := by
    ext a
    simp only [Finset.mem_filter, Finset.mem_univ, true_and, Finset.mem_image]
    constructor
    · intro h
      obtain ⟨i, rfl⟩ := hsur a
      exact ⟨i, (hiff i).mp h, rfl⟩
    · rintro ⟨i, hi, rfl⟩
      exact (hiff i).mpr hi
  show (Finset.univ.filter fun a => Ahead f a (π j)).card = _
  rw [himg, Finset.card_image_of_injective _ hinj, Finset.filter_gt_eq_Iio, Fin.card_Iio]

/-- An entry is among the first `k` of the sort exactly when fewer than `k` entries stand ahead of it. -/
theorem mem_first_iff (f : Fin n → α) (k : ℕ) (a : Fin n) :
    (∃ j : Fin n, j.val < k ∧ sortedFrom (fun x y => decide (f y < f x)) j = a)
      ↔ (Finset.univ.filter fun b => Ahead f b a).card < k := by
  constructor
  · rintro ⟨j, hj, rfl⟩
    rw [card_ahead]; exact hj
  · intro h
    obtain ⟨j, rfl⟩ := sortedFrom_surjective (fun x y => decide (f y < f x)) a
    rw [card_ahead] at h
    exact ⟨j, h, rfl⟩

end Cert.Rank
-- ==== Proof.Spec.lean ====
module

public import proofs.«01_k».proof.Proof.Column
public import proofs.«01_k».proof.Proof.Rank

/-! The words and scores both programs compute, as functions of a position and a block. -/

@[expose] public section

noncomputable section

namespace Cert.Spec

open Idealize.ShloMosaic

/-- The distance from position `t` back to the end of compressed block `c`. -/
def dist (t c : Nat) : BitVec 32 :=
  IntOp.subi (BitVec.ofNat 32 t) (IntOp.addi (IntOp.muli (BitVec.ofNat 32 c) 16#32) 31#32)

/-- Whether compressed block `c` ends at or before position `t`. -/
def seen (t c : Nat) : BitVec 1 := IntOp.cmpi .sge (dist t c) 0#32

/-- Whether position `t` always takes selection block `n`: the first block, its own, and the one before. -/
def forced (t n : Nat) : BitVec 1 :=
  IntOp.ori (IntOp.ori (IntOp.cmpi .eq (BitVec.ofNat 32 n) 0#32) (IntOp.cmpi .eq (BitVec.ofNat 32 n) (BitVec.ofNat 32 (t / 64))))
    (IntOp.cmpi .eq (BitVec.ofNat 32 n) (IntOp.subi (BitVec.ofNat 32 (t / 64)) 1#32))

/-- Whether selection block `n` begins at or before position `t`. -/
def begun (t n : Nat) : BitVec 1 := IntOp.cmpi .sle (IntOp.muli (BitVec.ofNat 32 n) 64#32) (BitVec.ofNat 32 t)

/-- The score a selection block is ranked by at position `t`, from the importances. -/
def ranked (t : Nat) (imp : Fin 32 → EReal) (n : Fin 32) : EReal :=
  Scalar.select (forced t n) (Ideal.ofBits .f32 0x461C4000#32)
    (Scalar.select (begun t n) (imp n) (Ideal.ofBits .f32 0xBF800000#32))

/-- One for a block with fewer than sixteen ahead of it, zero for another. -/
def chosen (f : Fin 32 → EReal) (n : Fin 32) : EReal :=
  if (Finset.univ.filter fun m => Rank.Ahead f m n).card < 16 then 1 else 0

end Cert.Spec

end
-- ==== Proof.KerRead.lean ====
module

public import proofs.«01_k».proof.Proof.KerTerm
public import proofs.«01_k».proof.Proof.Spec

/-! The kernel's probabilities, importances and first result at an index. -/

@[expose] public section

set_option maxRecDepth 16384

noncomputable section

namespace Cert.Ker

open Idealize.ShloMosaic Idealize.ShloMosaic.TcCoe Idealize.SL.Sem
open Cert.KernelIdeal Cert.KernelIdeal.Gen

variable (M : IVec S128x512 1) (D S : FVec Ideal S128x512 .f32) (a : EReal) (c : Fin 128) (t : Fin 512)

/-- The mask's named constant is minus infinity. -/
theorem mask_bot : (Named.named (F := Ideal) (φ := .f32) κ "mask" 4048155338#32 : EReal) = ⊥ :=
  IdealRules.named_const.ideal_named_scalar _ _ _ _ rfl

theorem select_mul (b : BitVec 1) (x y : EReal) : Scalar.select b (x * y) 0 = Scalar.select b x 0 * y := by
  rcases BitVec.eq_zero_or_eq_one b with h | h <;> simp [h, Scalar.select]

/-- A column's probabilities, from its mask, its distances, its products and its slope. -/
def column : Fin 128 → EReal := Column.kprob (fun c => M (ix2 c t)) (fun c => S (ix2 c t) - a * D (ix2 c t))

theorem head0 : k0_pay11 M D S a (ix2 c t) = column M D S a t c := by
  pointwise [k0_pay11]
  simp only [mask_bot, Consts.bot, select_mul]
  rfl

theorem head1 : k0_pay13 (k0_pay12 M D S a) (ix2 c t) = column M D S a t c := by
  pointwise [k0_pay13, k0_pay12]
  simp only [mask_bot, Consts.bot, select_mul]
  rfl

theorem head2 : k0_pay14 M D S a (ix2 c t) = column M D S a t c := by
  pointwise [k0_pay14]
  simp only [mask_bot, Consts.bot, select_mul]
  rfl

theorem head3 : k0_pay16 M (k0_pay15 M D S a) (ix2 c t) = column M D S a t c := by
  pointwise [k0_pay16, k0_pay15]
  simp only [mask_bot, Consts.bot, select_mul]
  rfl

/-- The position a point's column stands for, as a word. -/
theorem position (i : grid0.Coords) :
    IntOp.addi (Scalar.muli (BitVec.ofNat 32 (i 2).val) 512#32) (BitVec.ofNat 32 t.val)
      = BitVec.ofNat 32 ((i 2).val * 512 + t.val) := by
  show BitVec.ofNat 32 (i 2).val * BitVec.ofNat 32 512 + BitVec.ofNat 32 t.val = _
  rw [← BitVec.ofNat_mul, ← BitVec.ofNat_add]

theorem dist_read (i : grid0.Coords) : k0_pay4 i (ix2 c t) = Spec.dist ((i 2).val * 512 + t.val) c := by
  pointwise [k0_pay4]
  rw [position]; rfl

/-- The kernel's mask at a row: the block is seen, and is not the last of the 128. -/
def mask (T : Nat) (c : Fin 128) : BitVec 1 :=
  IntOp.andi (Spec.seen T c) (IntOp.cmpi .slt (BitVec.ofNat 32 c.val) 127#32)

theorem mask_read (i : grid0.Coords) : k0_pay5 i (ix2 c t) = mask ((i 2).val * 512 + t.val) c := by
  pointwise [k0_pay5]
  rw [dist_read]; rfl

theorem mask_last (T : Nat) : mask T (Fin.last 127) = 0#1 := by
  show Spec.seen T _ &&& 0#1 = 0#1
  exact BitVec.and_zero

theorem inside : ∀ c : Fin 127, IntOp.cmpi .slt (BitVec.ofNat 32 c.castSucc.val) 127#32 = 1#1 := by decide

theorem mask_castSucc (T : Nat) (c : Fin 127) : mask T c.castSucc = Spec.seen T c := by
  unfold mask
  rw [inside]
  show Spec.seen T c.val &&& 1#1 = Spec.seen T c.val
  rcases BitVec.eq_zero_or_eq_one (Spec.seen T c.val) with h | h <;> rw [h] <;> rfl

/-- A head's score at a row, as the kernel forms it. -/
def score (T : Nat) (a : EReal) (x1 : Vec Ideal S4x64x512 .bf16) (x2 : Vec Ideal S1x1x128x64 .f32) (j : Fin 4) (t : Fin 512)
    (c : Fin 128) : EReal :=
  (∑ x : Fin 64, x2 (ix4 0 0 c x) * x1 (ix3 j x t)) - a * FloatOps.sitofp (F := Ideal) .f32 (Spec.dist T c)

/-- A column with the kernel's mask and distances. -/
theorem column_eq (i : grid0.Coords) (x1 : Vec Ideal S4x64x512 .bf16) (x2 : Vec Ideal S1x1x128x64 .f32) (j : Fin 4)
    (hS : ∀ c, S (ix2 c t) = ∑ x : Fin 64, x2 (ix4 0 0 c x) * x1 (ix3 j x t)) :
    column (k0_pay5 i) (k0_pay6 i) S a t
      = Column.kprob (mask ((i 2).val * 512 + t.val)) (score ((i 2).val * 512 + t.val) a x1 x2 j t) := by
  unfold column score
  have hD : ∀ c : Fin 128, k0_pay6 (F := Ideal) i (ix2 c t)
      = FloatOps.sitofp (F := Ideal) .f32 (Spec.dist ((i 2).val * 512 + t.val) c) := by
    intro c
    pointwise [k0_pay6]
    rw [dist_read]
  rw [funext fun c => mask_read c t i, funext fun c => congrArg₂ (fun u v : EReal => u - a * v) (hS c) (hD c)]

variable (i : grid0.Coords) (x0 : Vec Ideal S16 .f32) (x1 : Vec Ideal S4x64x512 .bf16) (x2 : Vec Ideal S1x1x128x64 .f32)

/-- A head's probability at a row of the point's block. -/
def prob (a : EReal) (j : Fin 4) (t : Fin 512) : Fin 128 → EReal :=
  Column.kprob (mask ((i 2).val * 512 + t.val)) (score ((i 2).val * 512 + t.val) a x1 x2 j t)

theorem prob0_read : prob0 i x0 x1 x2 (ix2 c t) = prob i x1 x2 (slope0 i x0) 0 t c := by
  refine (head0 _ _ _ _ c t).trans (congrFun (column_eq _ _ t i x1 x2 0 fun c => ?_) c)
  pointwise [k0_pay7, k0_pay2, qSlice0]

theorem prob1_read : prob1 i x0 x1 x2 (ix2 c t) = prob i x1 x2 (slope1 i x0) 1 t c := by
  refine (head1 _ _ _ _ c t).trans (congrFun (column_eq _ _ t i x1 x2 1 fun c => ?_) c)
  pointwise [k0_pay8, k0_pay2, qSlice1]

theorem prob2_read : prob2 i x0 x1 x2 (ix2 c t) = prob i x1 x2 (slope2 i x0) 2 t c := by
  refine (head2 _ _ _ _ c t).trans (congrFun (column_eq _ _ t i x1 x2 2 fun c => ?_) c)
  pointwise [k0_pay9, k0_pay2, qSlice2]

theorem prob3_read : k0_pay16 (k0_pay5 i) (pow3 i x0 x1 x2) (ix2 c t) = prob i x1 x2 (slope3 i x0) 3 t c := by
  refine (head3 _ _ _ _ c t).trans (congrFun (column_eq _ _ t i x1 x2 3 fun c => ?_) c)
  pointwise [k0_pay10, k0_pay2, qSlice3]

/-- The slope a head reads: the table's entry at four times the group, plus the head. -/
def slope (j : Fin 4) : EReal := x0 (ix1 ⟨(i 1).val * 4 + j.val, by have : (i 1).val < 4 := (i 1).isLt; omega⟩)

theorem entry : ∀ g j : Fin 4, (BitVec.ofNat 32 g.val * 4#32 + BitVec.ofNat 32 j.val).toNat = g.val * 4 + j.val := by decide

theorem slope0_read : slope0 i x0 = slope i x0 0 := by
  pointwise [slope0]
  exact congrArg (fun k => x0 (ix1 k)) (Fin.ext (entry (i 1) 0))

theorem slope1_read : slope1 i x0 = slope i x0 1 := by
  pointwise [slope1]
  exact congrArg (fun k => x0 (ix1 k)) (Fin.ext (entry (i 1) 1))

theorem slope2_read : slope2 i x0 = slope i x0 2 := by
  pointwise [slope2]
  exact congrArg (fun k => x0 (ix1 k)) (Fin.ext (entry (i 1) 2))

theorem slope3_read : slope3 i x0 = slope i x0 3 := by
  pointwise [slope3]
  exact congrArg (fun k => x0 (ix1 k)) (Fin.ext (entry (i 1) 3))

/-- Every head's probability is a real number. -/
theorem prob_real (a : EReal) (j : Fin 4) : ∃ r : ℝ, prob i x1 x2 a j t c = r :=
  let ⟨r, e, _⟩ := (Column.kprob_eq_rprob _ _ c).2
  ⟨r, e⟩

theorem total_read : total i x0 x1 x2 (ix2 c t) = ∑ j : Fin 4, prob i x1 x2 (slope i x0 j) j t c := by
  unfold total
  have h3 := prob3_read c t i x0 x1 x2
  pointwise [k0_pay21]
  rw [h3, prob0_read, prob1_read, prob2_read, slope0_read, slope1_read, slope2_read, slope3_read, Fin.sum_univ_four]

/-- The importances: the second product, with the rounding's remainder, adds nothing. -/
theorem imp_read (x4 : Vec Ideal S32x128 .bf16) (n : Fin 32) :
    imp i x0 x1 x2 x4 (ix2 n t)
      = ∑ c : Fin 128, x4 (ix2 n c) * ∑ j : Fin 4, prob i x1 x2 (slope i x0 j) j t c := by
  pointwise [imp, k0_pay22]
  have h0 : ∀ c : Fin 128, total i x0 x1 x2 (ix2 c t) - total i x0 x1 x2 (ix2 c t) = 0 := by
    intro c
    rw [total_read]
    choose r hr using fun j : Fin 4 => prob_real c t i x1 x2 (slope i x0 j) j
    rw [Finset.sum_congr rfl fun j _ => hr j, Column.coe_sum, ← EReal.coe_sub, sub_self]; rfl
  rw [Finset.sum_congr rfl fun c _ => congrArg (x4 (ix2 n c) * ·) (h0 c)]
  simp only [mul_zero, Finset.sum_const_zero, add_zero, total_read]

end Cert.Ker

end
-- ==== Proof.KerCount.lean ====
module

public import proofs.«01_k».proof.Proof.KerRead
public import proofs.«01_k».proof.Proof.Spec

/-! The kernel's choice of blocks: its count of the blocks ahead, and the words the count ranks by. -/

@[expose] public section

set_option maxRecDepth 16384

noncomputable section

namespace Cert.Ker

open Idealize.ShloMosaic Idealize.ShloMosaic.TcCoe Idealize.SL.Sem
open Cert.KernelIdeal Cert.KernelIdeal.Gen

/-- One when block `m` is ahead of block `n`, zero otherwise, as the kernel compares them. -/
def tick (f : Fin 32 → EReal) (n m : Fin 32) : EReal :=
  Scalar.select (IntOp.ori (BitVec.ofBool (decide (f n < f m)))
    (IntOp.andi (BitVec.ofBool (decide (f m = f n))) (IntOp.cmpi .sgt (BitVec.ofNat 32 n.val) (BitVec.ofNat 32 m.val)))) 1 0

theorem later : ∀ n m : Fin 32,
    IntOp.cmpi .sgt (BitVec.ofNat 32 n.val) (BitVec.ofNat 32 m.val) = BitVec.ofBool (decide (m < n)) := by decide

theorem tick_eq (f : Fin 32 → EReal) (n m : Fin 32) : tick f n m = if Rank.Ahead f m n then 1 else 0 := by
  unfold tick Rank.Ahead
  rw [later]
  by_cases h1 : f n < f m <;> by_cases h2 : f m = f n <;> by_cases h3 : m < n <;>
    simp [h1, h2, h3, IntOp.ori, IntOp.andi, Scalar.select]

/-- The count of the blocks ahead is below sixteen exactly when fewer than sixteen are. -/
theorem count_lt (f : Fin 32 → EReal) (n : Fin 32) :
    (∑ m : Fin 32, tick f n m) < Ideal.ofBits .f32 1098907648#32
      ↔ (Finset.univ.filter fun m => Rank.Ahead f m n).card < 16 := by
  rw [Finset.sum_congr rfl fun m _ => tick_eq f n m, Finset.sum_boole, Consts.sixteen]
  generalize (Finset.univ.filter fun m => Rank.Ahead f m n).card = k
  rw [show ((k : ℕ) : EReal) = ((k : ℝ) : EReal) from rfl, EReal.coe_lt_coe_iff]
  exact_mod_cast Iff.rfl

variable (s : FVec Ideal S32x512 .f32) (n : Fin 32) (t : Fin 512)

/-- The kernel's running comparison, read at an index: the count of all 32 blocks against sixteen. -/
theorem chosen_read (a b : FVec Ideal S32x512 .f32)
    (ha : a (ix2 n t) = tick (fun m => s (ix2 m t)) n 0 + tick (fun m => s (ix2 m t)) n 1 + tick (fun m => s (ix2 m t)) n 2)
    (hb : b (ix2 n t) = s (ix2 3 t)) :
    chosen s (count4 s (count3 s (count2 s (count1 s a b)))) (ix2 n t)
      = BitVec.ofBool (decide (∑ m : Fin 32, tick (fun m => s (ix2 m t)) n m < Ideal.ofBits .f32 1098907648#32)) := by
  pointwise [chosen, count4, count3, count2, count1, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51]
  rw [ha, hb]
  simp only [Fin.sum_univ_castSucc, Fin.sum_univ_zero, zero_add]
  rfl

theorem three_read (v161 : FVec Ideal S32x512 .f32) (v193 v197 v200 : IVec S32x512 1) :
    k0_pay29 v161 number v193 v197 v200 (ix2 n t)
      = tick (fun m => k0_pay28 v161 v193 v197 v200 (ix2 m t)) n 0 + tick (fun m => k0_pay28 v161 v193 v197 v200 (ix2 m t)) n 1
        + tick (fun m => k0_pay28 v161 v193 v197 v200 (ix2 m t)) n 2 := by
  unfold k0_pay29
  generalize k0_pay28 v161 v193 v197 v200 = z
  pointwise []
  rfl

theorem next_read (v161 : FVec Ideal S32x512 .f32) (v193 v197 v200 : IVec S32x512 1) :
    k0_pay30 v161 v193 v197 v200 (ix2 n t) = k0_pay28 v161 v193 v197 v200 (ix2 3 t) := by
  pointwise [k0_pay30]

/-- The block a position lies in, as the kernel divides. -/
def cur (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem cur_eq : ∀ T : Fin 2048, cur (BitVec.ofNat 32 T.val) = BitVec.ofNat 32 (T.val / 64) := by decide +kernel

theorem i2_lt (i : grid0.Coords) : (i 2).val < 4 := (i 2).isLt

/-- The scores the kernel ranks blocks by, at an index. -/
theorem ranked_read (i : grid0.Coords) :
    ranked i s (ix2 n t) = Spec.ranked ((i 2).val * 512 + t.val) (fun m => s (ix2 m t)) n := by
  pointwise [ranked, k0_pay28, k0_pay25, k0_pay26, k0_pay27, k0_pay24, k0_pay23]
  rw [position]
  have h := cur_eq ⟨(i 2).val * 512 + t.val, by have := i2_lt i; omega⟩
  unfold cur at h
  dsimp only at h
  rw [h]
  rfl

/-- The point's block of the second result at an index. -/
theorem choice_read (i : grid0.Coords) (x0 : Vec Ideal S16 .f32) (x1 : Vec Ideal S4x64x512 .bf16)
    (x2 : Vec Ideal S1x1x128x64 .f32) (x4 : Vec Ideal S32x128 .bf16) (u v : Fin 1) :
    choice (F := Ideal) i x0 x1 x2 x4 (ix4 u v n t)
      = Spec.chosen (Spec.ranked ((i 2).val * 512 + t.val) fun m => imp (F := Ideal) i x0 x1 x2 x4 (ix2 m t)) n := by
  have h := chosen_read (ranked i (imp (F := Ideal) i x0 x1 x2 x4)) n t _ _
    (three_read n t (imp (F := Ideal) i x0 x1 x2 x4) (k0_pay25 (BitVec.ofNat 32 (i 2).val))
      (k0_pay26 (BitVec.ofNat 32 (i 2).val))
      (k0_pay27 (BitVec.ofNat 32 (i 2).val)))
    (next_read n t (imp (F := Ideal) i x0 x1 x2 x4) (k0_pay25 (BitVec.ofNat 32 (i 2).val))
      (k0_pay26 (BitVec.ofNat 32 (i 2).val))
      (k0_pay27 (BitVec.ofNat 32 (i 2).val)))
  unfold choice
  dsimp only
  generalize chosen (F := Ideal) _ _ = z at h ⊢
  pointwise [k0_pay1, k0_pay52]
  rw [h]
  unfold Spec.chosen
  rw [← funext fun m => ranked_read (imp (F := Ideal) i x0 x1 x2 x4) m t i]
  by_cases hc : (Finset.univ.filter fun m => Rank.Ahead (fun m => ranked i (imp (F := Ideal) i x0 x1 x2 x4) (ix2 m t)) m n).card < 16
  · rw [if_pos hc, decide_eq_true ((count_lt _ _).mpr hc)]; rfl
  · rw [if_neg hc, decide_eq_false (fun h => hc ((count_lt _ _).mp h))]; rfl

end Cert.Ker

end
-- ==== Proof.KerOut.lean ====
module

public import proofs.«01_k».proof.Proof.KerRead
public import proofs.«01_k».proof.Proof.KerCount

/-! The kernel's block of the first result at an index. -/

@[expose] public section

set_option maxRecDepth 16384

noncomputable section

namespace Cert.Ker

open Idealize.ShloMosaic Idealize.ShloMosaic.TcCoe Idealize.SL.Sem
open Cert.KernelIdeal Cert.KernelIdeal.Gen

section stores

variable (M : IVec S128x512 1) (p : FVec Ideal S128x512 .f32) (x3 : Vec Ideal S1x1x128x64 .f32) (z : Fin 1) (d : Fin 64) (t : Fin 512)

theorem store0 : k0_pay17 (k0_pay3 x3) p (ix3 z d t) = ∑ r : Fin 128, x3 (ix4 0 0 r d) * p (ix2 r t) := by
  pointwise [k0_pay17, k0_pay3]

theorem store1 : k0_pay18 (k0_pay3 x3) p (ix3 z d t) = ∑ r : Fin 128, x3 (ix4 0 0 r d) * p (ix2 r t) := by
  pointwise [k0_pay18, k0_pay3]

theorem store2 : k0_pay19 (k0_pay3 x3) p (ix3 z d t) = ∑ r : Fin 128, x3 (ix4 0 0 r d) * p (ix2 r t) := by
  pointwise [k0_pay19, k0_pay3]

theorem store3 : k0_pay20 (k0_pay3 x3) M p (ix3 z d t) = ∑ r : Fin 128, x3 (ix4 0 0 r d) * k0_pay16 M p (ix2 r t) := by
  pointwise [k0_pay20, k0_pay3]

end stores

/-- The first result's entry: a head's probabilities against the values. -/
def out (i : grid0.Coords) (x0 : Vec Ideal S16 .f32) (x1 : Vec Ideal S4x64x512 .bf16) (x2 x3 : Vec Ideal S1x1x128x64 .f32)
    (j : Fin 4) (d : Fin 64) (t : Fin 512) : EReal :=
  ∑ r : Fin 128, x3 (ix4 0 0 r d) * prob i x1 x2 (slope i x0 j) j t r

section heads

variable (i : grid0.Coords) (x0 : Vec Ideal S16 .f32) (x1 : Vec Ideal S4x64x512 .bf16) (x2 x3 : Vec Ideal S1x1x128x64 .f32)
  (z : Fin 1) (d : Fin 64) (t : Fin 512)

theorem head0_out : k0_pay17 (k0_pay3 x3) (prob0 i x0 x1 x2) (ix3 z d t) = out i x0 x1 x2 x3 0 d t := by
  rw [store0, out]
  exact Finset.sum_congr rfl fun r _ => by rw [prob0_read, slope0_read]

theorem head1_out : k0_pay18 (k0_pay3 x3) (prob1 i x0 x1 x2) (ix3 z d t) = out i x0 x1 x2 x3 1 d t := by
  rw [store1, out]
  exact Finset.sum_congr rfl fun r _ => by rw [prob1_read, slope1_read]

theorem head2_out : k0_pay19 (k0_pay3 x3) (prob2 i x0 x1 x2) (ix3 z d t) = out i x0 x1 x2 x3 2 d t := by
  rw [store2, out]
  exact Finset.sum_congr rfl fun r _ => by rw [prob2_read, slope2_read]

theorem head3_out : k0_pay20 (k0_pay3 x3) (k0_pay5 i) (pow3 i x0 x1 x2) (ix3 z d t) = out i x0 x1 x2 x3 3 d t := by
  rw [store3, out]
  exact Finset.sum_congr rfl fun r _ => by rw [prob3_read, slope3_read]

end heads

variable (m : (ℓ : Loc nD τ sig) → Buf (Elt Ideal) ℓ)

/-- The first output's buffer after a point, by head, lane and position. -/
theorem after_out (c : Dev nD) (p : Fin cfg0.N) (y : S4x64x512.Idx) (j : Fin 4) (d : Fin 64) (t : Fin 512)
    (hj : (y 0 : ℕ) = j) (hd : (y 1 : ℕ) = d) (ht : (y 2 : ℕ) = t) :
    (outsAt0 m c p).1 y
      = out (grid0.coords p) (iblk m c 0 p) (iblk m c 1 p) (iblk m c 2 p) (iblk m c 3 p) j d t := by
  have at_x : ∀ x : S1x64x512.Idx, (x 1 : ℕ) = d → (x 2 : ℕ) = t → x = ix3 (x 0) d t := by
    intro x h1 h2
    funext a
    match a with
    | 0 => rfl
    | 1 => exact Fin.ext h1
    | 2 => exact Fin.ext h2
  unfold outsAt0
  frame_out
  canon_tiles x h
  · obtain rfl : j = 3 := Fin.ext (by simp; omega)
    rw [at_x x (by omega) (by omega)]
    exact head3_out _ (iblk m c 0 p) (iblk m c 1 p) (iblk m c 2 p) (iblk m c 3 p) _ d t
  · obtain rfl : j = 2 := Fin.ext (by simp; omega)
    rw [at_x x (by omega) (by omega)]
    exact head2_out _ (iblk m c 0 p) (iblk m c 1 p) (iblk m c 2 p) (iblk m c 3 p) _ d t
  · obtain rfl : j = 1 := Fin.ext (by simp; omega)
    rw [at_x x (by omega) (by omega)]
    exact head1_out _ (iblk m c 0 p) (iblk m c 1 p) (iblk m c 2 p) (iblk m c 3 p) _ d t
  · obtain rfl : j = 0 := Fin.ext (by simp; omega)
    rw [at_x x (by omega) (by omega)]
    exact head0_out _ (iblk m c 0 p) (iblk m c 1 p) (iblk m c 2 p) (iblk m c 3 p) _ d t

end Cert.Ker

end
-- ==== Proof.KerBlk.lean ====
module

public import proofs.«01_k».proof.Proof.KerOut

/-! The kernel's input blocks as entries of the arguments, and where its output blocks lie. -/

@[expose] public section

set_option maxRecDepth 16384

noncomputable section

namespace Cert.Ker

open Idealize.ShloMosaic Idealize.ShloMosaic.TcCoe Idealize.SL.Sem
open Cert.KernelIdeal Cert.KernelIdeal.Gen

/-- The sequence of a grid point, -/
def bOf (p : Fin cfg0.N) : Fin 4 := ⟨(grid0.coords p 0).val, (grid0.coords p 0).isLt⟩
/-- its group, -/
def gOf (p : Fin cfg0.N) : Fin 4 := ⟨(grid0.coords p 1).val, (grid0.coords p 1).isLt⟩
/-- and its tile of positions. -/
def iOf (p : Fin cfg0.N) : Fin 4 := ⟨(grid0.coords p 2).val, (grid0.coords p 2).isLt⟩

/-- The windows' index maps. -/
theorem idx : ∀ p : Fin cfg0.N,
    (win0_0.index p 0 = 0)
    ∧ (win0_1.index p 0 = (gOf p).val ∧ win0_1.index p 1 = 0 ∧ win0_1.index p 2 = (bOf p).val * 4 + (iOf p).val)
    ∧ (win0_2.index p 0 = 0 ∧ win0_2.index p 1 = (gOf p).val ∧ win0_2.index p 2 = (bOf p).val ∧ win0_2.index p 3 = 0)
    ∧ (win0_3.index p 0 = 1 ∧ win0_3.index p 1 = (gOf p).val ∧ win0_3.index p 2 = (bOf p).val ∧ win0_3.index p 3 = 0)
    ∧ (win0_4.index p 0 = 0 ∧ win0_4.index p 1 = 0)
    ∧ (win0_5.index p 0 = (gOf p).val ∧ win0_5.index p 1 = 0 ∧ win0_5.index p 2 = (bOf p).val * 4 + (iOf p).val)
    ∧ (win0_6.index p 0 = (bOf p).val ∧ win0_6.index p 1 = (gOf p).val ∧ win0_6.index p 2 = 0 ∧ win0_6.index p 3 = (iOf p).val) := by
  decide +kernel

variable (m : (ℓ : Loc nD τ sig) → Buf (Elt Ideal) ℓ) (c : Dev nD) (p : Fin cfg0.N)

theorem blk1 (j : Fin 4) (x : Fin 64) (s : Fin 512) :
    (iblk m c 1 p : Vec Ideal S4x64x512 .bf16) (ix3 j x s)
      = (m ((c : Thread nD τ).loc main_arg0) : Vec Ideal S16x64x8192 .bf16)
          (ix3 ⟨(gOf p).val * 4 + j.val, by omega⟩ x ⟨(bOf p).val * 2048 + ((iOf p).val * 512 + s.val), by omega⟩) := by
  blk_ext [iblk, V, idx p]

theorem blk2 (r : Fin 128) (x : Fin 64) :
    (iblk m c 2 p : Vec Ideal S1x1x128x64 .f32) (ix4 0 0 r x)
      = (m ((c : Thread nD τ).loc main_arg1) : Vec Ideal S2x4x512x64 .f32) (ix4 0 (gOf p) ⟨(bOf p).val * 128 + r.val, by omega⟩ x) := by
  blk_ext [iblk, V, idx p]

theorem blk3 (r : Fin 128) (x : Fin 64) :
    (iblk m c 3 p : Vec Ideal S1x1x128x64 .f32) (ix4 0 0 r x)
      = (m ((c : Thread nD τ).loc main_arg1) : Vec Ideal S2x4x512x64 .f32) (ix4 1 (gOf p) ⟨(bOf p).val * 128 + r.val, by omega⟩ x) := by
  blk_ext [iblk, V, idx p]

theorem blk0 (k : Fin 16) :
    (iblk m c 0 p : Vec Ideal S16 .f32) (ix1 k) = Ideal.ofBits .f32 (lit1 (S16.rowMajor (ix1 k))) := by
  blk_ext [iblk, V, idx p]

theorem blk4 (n : Fin 32) (r : Fin 128) :
    (iblk m c 4 p : Vec Ideal S32x128 .bf16) (ix2 n r) = Ideal.ofBits .bf16 (lit0 (S32x128.rowMajor (ix2 n r))) := by
  blk_ext [iblk, V, idx p]

end Cert.Ker

end
-- ==== Proof.Ref.lean ====
module

public import proofs.«01_k».proof.Proof.Gen.ReferenceIdeal.Run
public import Idealize.ShloMosaic.Lib.IdealHost
public import Idealize.ShloMosaic.Lib.Pointwise
public import Idealize.ShloMosaic.Lib.ValueIdx

/-! The reference's two results as named steps. -/

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value

variable {F : FTy → Type} [FloatOps F]

/-- The distance, as a word, from each position back to the end of each compressed block. -/
def distW : IVec S2048x127 32 :=
  (subi (broadcastInDim S2048x127 ![0, 1] bcast_S2048x1_S2048x127_0_1 (broadcastInDim S2048x1 ![0] bcast_S2048_S2048x1_0 (iotaInDim S2048 32 0))) (broadcastInDim S2048x127 ![0, 1] bcast_S1x127_S2048x127_0_1 (broadcastInDim S1x127 ![1] bcast_S127_S1x127_1 (addi (muli (iotaInDim S127 32 0) (broadcastInDim S127 ![] bcast_S_S127 (constantI S_ 32 16#32))) (broadcastInDim S127 ![] bcast_S_S127 (constantI S_ 32 31#32))))))

/-- Whether a compressed block ends at or before a position. -/
def maskW : IVec S2048x127 1 :=
  (cmpi .sge distW (broadcastInDim S2048x127 ![] bcast_S_S2048x127 (constantI S_ 32 0#32)))

/-- The scores: queries against compressed keys, less the slope times the distance. -/
def scoreW (q : FVec F S16x64x8192 .bf16) (kv : FVec F S2x4x512x64 .f32) : FVec F S4x4x4x2048x127 .f32 :=
  (subf (Host.dotGeneral dot_S4x4x64x4x2048_S4x4x127x64_S4x4x4x2048x127_2_3_14_2_30_10 none (shapeCast _ (extf .f32 q bitsLt_bf16_f32) shapeCasts_S16x64x8192_S4x4x64x4x2048) (extractStridedSlice S4x4x127x64 ![0, 0, 0, 0] (shapeCast _ (shapeCast _ (extractStridedSlice S1x4x512x64 ![0, 0, 0, 0] kv slices_S2x4x512x64_S1x4x512x64_0_0_0_0) shapeCasts_S1x4x512x64_S4x512x64) shapeCasts_S4x512x64_S4x4x128x64) slices_S4x4x128x64_S4x4x127x64_0_0_0_0)) (broadcastInDim S4x4x4x2048x127 ![0, 1, 2, 3, 4] bcast_S1x4x4x2048x127_S4x4x4x2048x127_0_1_2_3_4 (mulf (broadcastInDim S1x4x4x2048x127 ![0, 1, 2, 3, 4] bcast_S1x4x4x1x1_S1x4x4x2048x127_0_1_2_3_4 (broadcastInDim S1x4x4x1x1 ![1, 2] bcast_S4x4_S1x4x4x1x1_1_2 ((fun i => FloatOps.ofBits .f32 (lit0 (S4x4.rowMajor i)))))) (broadcastInDim S1x4x4x2048x127 ![0, 1, 2, 3, 4] bcast_S1x1x1x2048x127_S1x4x4x2048x127_0_1_2_3_4 (broadcastInDim S1x1x1x2048x127 ![3, 4] bcast_S2048x127_S1x1x1x2048x127_3_4 (sitofp .f32 distW))))))

/-- The scores, minus infinity where a block is not seen. -/
def maskedW (q : FVec F S16x64x8192 .bf16) (kv : FVec F S2x4x512x64 .f32) : FVec F S4x4x4x2048x127 .f32 :=
  (select (broadcastInDim S4x4x4x2048x127 ![3, 4] bcast_S2048x127_S4x4x4x2048x127_3_4 maskW) (scoreW q kv) (broadcastInDim S4x4x4x2048x127 ![] bcast_S_S4x4x4x2048x127 (id (constant S_ .f32 0xFF800000#32))))

/-- The largest masked score of a position. -/
def topW (q : FVec F S16x64x8192 .bf16) (kv : FVec F S2x4x512x64 .f32) : FVec F S4x4x4x2048 .f32 :=
  (Host.reduce FloatOps.maximumf (maskedW q kv) (constant S_ .f32 0xFF800000#32) reducesTo_S4x4x4x2048x127_S4x4x4x2048_d4 h_S_)

/-- The largest score, zero where a position sees no block. -/
def guardW (q : FVec F S16x64x8192 .bf16) (kv : FVec F S2x4x512x64 .f32) : FVec F S4x4x4x2048x1 .f32 :=
  (select (cmpf .ogt (broadcastInDim S4x4x4x2048x1 ![0, 1, 2, 3] bcast_S4x4x4x2048_S4x4x4x2048x1_0_1_2_3 (topW q kv)) (broadcastInDim S4x4x4x2048x1 ![] bcast_S_S4x4x4x2048x1 (constant S_ .f32 0xFF800000#32))) (broadcastInDim S4x4x4x2048x1 ![0, 1, 2, 3] bcast_S4x4x4x2048_S4x4x4x2048x1_0_1_2_3 (topW q kv)) (broadcastInDim S4x4x4x2048x1 ![] bcast_S_S4x4x4x2048x1 (id (constant S_ .f32 0x00000000#32))))

/-- The powers of two of the scores below the guard, zero where not seen. -/
def expW (q : FVec F S16x64x8192 .bf16) (kv : FVec F S2x4x512x64 .f32) : FVec F S4x4x4x2048x127 .f32 :=
  (select (broadcastInDim S4x4x4x2048x127 ![3, 4] bcast_S2048x127_S4x4x4x2048x127_3_4 maskW) (Host.powf (broadcastInDim S4x4x4x2048x127 ![] bcast_S_S4x4x4x2048x127 (constant S_ .f32 0x40000000#32)) (subf (maskedW q kv) (broadcastInDim S4x4x4x2048x127 ![0, 1, 2, 3, 4] bcast_S4x4x4x2048x1_S4x4x4x2048x127_0_1_2_3_4 (guardW q kv)))) (broadcastInDim S4x4x4x2048x127 ![] bcast_S_S4x4x4x2048x127 (id (constant S_ .f32 0x00000000#32))))

/-- The probabilities: powers over the larger of their sum and the least denominator. -/
def probW (q : FVec F S16x64x8192 .bf16) (kv : FVec F S2x4x512x64 .f32) : FVec F S4x4x4x2048x127 .f32 :=
  (Host.divf (expW q kv) (broadcastInDim S4x4x4x2048x127 ![0, 1, 2, 3, 4] bcast_S4x4x4x2048x1_S4x4x4x2048x127_0_1_2_3_4 (maximumf (broadcastInDim S4x4x4x2048x1 ![0, 1, 2, 3] bcast_S4x4x4x2048_S4x4x4x2048x1_0_1_2_3 (Host.reduceAdd (expW q kv) (constant S_ .f32 0x00000000#32) reducesTo_S4x4x4x2048x127_S4x4x4x2048_d4 h_S_)) (broadcastInDim S4x4x4x2048x1 ![] bcast_S_S4x4x4x2048x1 (constant S_ .f32 0x0DA24260#32)))))

/-- The importance of each selection block: probabilities summed over the heads of a group, against the overlaps. -/
def impW (q : FVec F S16x64x8192 .bf16) (kv : FVec F S2x4x512x64 .f32) : FVec F S4x4x2048x32 .f32 :=
  (Host.dotGeneral dot_S4x4x2048x127_S127x32_S4x4x2048x32_3_0_012_1_n_n none (Host.reduceAdd (probW q kv) (constant S_ .f32 0x00000000#32) reducesTo_S4x4x4x2048x127_S4x4x2048x127_d2 h_S_) ((fun i => FloatOps.ofBits .f32 (lit1 (S127x32.rowMajor i)))))

/-- The selection block a position lies in, as a word. -/
def curW : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

/-- The blocks every position takes: the first, its own, and the one before. -/
def forcedW : IVec S2048x32 1 :=
  (ori (ori (broadcastInDim S2048x32 ![0, 1] bcast_S1x32_S2048x32_0_1 (cmpi .eq (broadcastInDim S1x32 ![1] bcast_S32_S1x32_1 (iotaInDim S32 32 0)) (broadcastInDim S1x32 ![] bcast_S_S1x32 (constantI S_ 32 0#32)))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (broadcastInDim S2048x1 ![0] bcast_S2048_S2048x1_0 curW)))) (cmpi .eq (broadcastInDim S2048x32 ![0, 1] bcast_S1x32_S2048x32_0_1 (broadcastInDim S1x32 ![1] bcast_S32_S1x32_1 (iotaInDim S32 32 0))) (broadcastInDim S2048x32 ![0, 1] bcast_S2048x1_S2048x32_0_1 (subi (broadcastInDim S2048x1 ![0] bcast_S2048_S2048x1_0 curW) (broadcastInDim S2048x1 ![] bcast_S_S2048x1 (constantI S_ 32 1#32))))))

/-- The score a selection block is ranked by. -/
def rankW (q : FVec F S16x64x8192 .bf16) (kv : FVec F S2x4x512x64 .f32) : FVec F S4x4x2048x32 .f32 :=
  (select (broadcastInDim S4x4x2048x32 ![2, 3] bcast_S2048x32_S4x4x2048x32_2_3 forcedW) (broadcastInDim S4x4x2048x32 ![] bcast_S_S4x4x2048x32 (id (constant S_ .f32 0x461C4000#32))) (select (broadcastInDim S4x4x2048x32 ![2, 3] bcast_S2048x32_S4x4x2048x32_2_3 (cmpi .sle (broadcastInDim S2048x32 ![0, 1] bcast_S1x32_S2048x32_0_1 (muli (broadcastInDim S1x32 ![1] bcast_S32_S1x32_1 (iotaInDim S32 32 0)) (broadcastInDim S1x32 ![] bcast_S_S1x32 (constantI S_ 32 64#32)))) (broadcastInDim S2048x32 ![0, 1] bcast_S2048x1_S2048x32_0_1 (broadcastInDim S2048x1 ![0] bcast_S2048_S2048x1_0 (iotaInDim S2048 32 0))))) (impW q kv) (broadcastInDim S4x4x2048x32 ![] bcast_S_S4x4x2048x32 (id (constant S_ .f32 0xBF800000#32)))))

/-- Whether a block is among the sixteen chosen. -/
def selW (q : FVec F S16x64x8192 .bf16) (kv : FVec F S2x4x512x64 .f32) : IVec S4x4x2048x32 1 :=
  (Host.reduce IntOp.ori (cmpi .eq (broadcastInDim S4x4x2048x16x32 ![0, 1, 2, 3, 4] bcast_S4x4x2048x16x1_S4x4x2048x16x32_0_1_2_3_4 (broadcastInDim S4x4x2048x16x1 ![0, 1, 2, 3] bcast_S4x4x2048x16_S4x4x2048x16x1_0_1_2_3 ((Host.topK S4x4x2048x16 3 (FloatOps.cmpfTotal .gt) (rankW q kv) sliceFits_S4x4x2048x32_S4x4x2048x16).2))) (broadcastInDim S4x4x2048x16x32 ![0, 1, 2, 3, 4] bcast_S1x1x1x1x32_S4x4x2048x16x32_0_1_2_3_4 (broadcastInDim S1x1x1x1x32 ![4] bcast_S32_S1x1x1x1x32_4 (iotaInDim S32 32 0)))) (constantI S_ 1 0#1) reducesTo_S4x4x2048x16x32_S4x4x2048x32_d3 h_S_)

/-- The first result: the probabilities against the compressed values. -/
def outW (q : FVec F S16x64x8192 .bf16) (kv : FVec F S2x4x512x64 .f32) : FVec F S16x64x8192 .f32 :=
  shapeCast _ (transpose S4x4x64x4x2048 [0, 3, 2, 1, 4] (Host.dotGeneral dot_S4x4x127x64_S4x4x4x2048x127_S4x4x64x4x2048_2_4_3_23_01_10 none (extractStridedSlice S4x4x127x64 ![0, 0, 0, 0] (shapeCast _ (shapeCast _ (extractStridedSlice S1x4x512x64 ![1, 0, 0, 0] kv slices_S2x4x512x64_S1x4x512x64_1_0_0_0) shapeCasts_S1x4x512x64_S4x512x64) shapeCasts_S4x512x64_S4x4x128x64) slices_S4x4x128x64_S4x4x127x64_0_0_0_0) (probW q kv)) transposes_S4x4x64x4x2048_S4x4x64x4x2048_0_3_2_1_4) shapeCasts_S4x4x64x4x2048_S16x64x8192

/-- The second result: one for a chosen block, zero for another. -/
def choiceW (q : FVec F S16x64x8192 .bf16) (kv : FVec F S2x4x512x64 .f32) : FVec F S4x4x32x2048 .f32 :=
  transpose S4x4x32x2048 [0, 1, 3, 2] (select (selW q kv) (broadcastInDim S4x4x2048x32 ![] bcast_S_S4x4x2048x32 (constant S_ .f32 0x3F800000#32)) (broadcastInDim S4x4x2048x32 ![] bcast_S_S4x4x2048x32 (constant S_ .f32 0x00000000#32))) transposes_S4x4x2048x32_S4x4x32x2048_0_1_3_2

/-- The reference's first result is `outW` of its two arguments. -/
theorem res0 (m : (ℓ : Loc nD τ sig) → Buf (Elt F) ℓ) (c : Dev nD) :
    res_main_v88 m c = outW (m ((c.tc : Thread nD τ).loc main_arg0)) (m ((c.tc : Thread nD τ).loc main_arg1)) := rfl

/-- The reference's second result is `choiceW` of its two arguments. -/
theorem res1 (m : (ℓ : Loc nD τ sig) → Buf (Elt F) ℓ) (c : Dev nD) :
    res_main_v90 m c = choiceW (m ((c.tc : Thread nD τ).loc main_arg0)) (m ((c.tc : Thread nD τ).loc main_arg1)) := rfl

end Cert.Ref

end
-- ==== Proof.RefRead.lean ====
module

public import proofs.«01_k».proof.Proof.Ref
public import proofs.«01_k».proof.Proof.Spec
public import Idealize.ShloMosaic.Lib.Routing.OpsOrder

/-! The reference's results at an index. -/

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value

variable (q : FVec Ideal S16x64x8192 .bf16) (kv : FVec Ideal S2x4x512x64 .f32)

/-- The score of position `t` against compressed block `r`, for sequence `b`, group `g` and head `j` of it. -/
def score (b g j : Fin 4) (t : Fin 2048) (r : Fin 128) : EReal :=
  (∑ x : Fin 64, q (ix3 ⟨g.val * 4 + j.val, by omega⟩ x ⟨b.val * 2048 + t.val, by omega⟩)
      * kv (ix4 0 g ⟨b.val * 128 + r.val, by omega⟩ x))
    - Ideal.ofBits .f32 (lit0 (S4x4.rowMajor (ix2 g j))) * FloatOps.sitofp (F := Ideal) .f32 (Spec.dist t r)

/-- The probability of compressed block `c`. -/
def prob (b g j : Fin 4) (t : Fin 2048) (c : Fin 127) : EReal :=
  Column.rprob (fun c : Fin 127 => Spec.seen t c) (fun c => score q kv b g j t c.castSucc) c

/-- The importance of selection block `n`. -/
def imp (b g : Fin 4) (t : Fin 2048) (n : Fin 32) : EReal :=
  ∑ x : Fin 127, (∑ j : Fin 4, prob q kv b g j t x) * Ideal.ofBits .f32 (lit1 (S127x32.rowMajor (ix2 x n)))

theorem dist_read (t : Fin 2048) (c : Fin 127) : distW (ix2 t c) = Spec.dist t c := by
  pointwise [distW]
  rfl

theorem seen_read (t : Fin 2048) (c : Fin 127) : maskW (ix2 t c) = Spec.seen t c := by
  pointwise [maskW]
  rw [dist_read]; rfl

theorem score_read (b g j : Fin 4) (t : Fin 2048) (c : Fin 127) :
    scoreW q kv (ix5 b g j t c) = score q kv b g j t c.castSucc := by
  pointwise [scoreW]
  rw [dist_read]; rfl

theorem masked_read (b g j : Fin 4) (t : Fin 2048) (c : Fin 127) :
    maskedW q kv (ix5 b g j t c)
      = Column.masked (fun c : Fin 127 => Spec.seen t c) (fun c => score q kv b g j t c.castSucc) c := by
  pointwise [maskedW]
  rw [seen_read, score_read]
  exact congrArg (Scalar.select _ _) Consts.bot

theorem top_read (b g j : Fin 4) (t : Fin 2048) :
    topW q kv (ix4 b g j t)
      = Column.top (fun c : Fin 127 => Spec.seen t c) (fun c => score q kv b g j t c.castSucc) := by
  pointwise [topW]
  rw [funext fun x => masked_read q kv b g j t x, Consts.bot]; rfl

theorem keep_read (w : FVec Ideal S4x4x4x2048 .f32) (b g j : Fin 4) (t : Fin 2048) (z : Fin 1) :
    broadcastInDim S4x4x4x2048x1 ![0, 1, 2, 3] bcast_S4x4x4x2048_S4x4x4x2048x1_0_1_2_3 w (ix5 b g j t z) = w (ix4 b g j t) := by
  pointwise []

theorem above_read (w : FVec Ideal S4x4x4x2048 .f32) (b g j : Fin 4) (t : Fin 2048) (z : Fin 1) :
    cmpf .ogt (broadcastInDim S4x4x4x2048x1 ![0, 1, 2, 3] bcast_S4x4x4x2048_S4x4x4x2048x1_0_1_2_3 w)
      (broadcastInDim S4x4x4x2048x1 ![] bcast_S_S4x4x4x2048x1 (constant (F := Ideal) S_ .f32 0xFF800000#32)) (ix5 b g j t z)
      = FloatOps.cmpf .ogt (w (ix4 b g j t)) (Ideal.ofBits .f32 0xFF800000#32) :=
  congrArg (fun x => FloatOps.cmpf (F := Ideal) (φ := .f32) .ogt x (Ideal.ofBits .f32 0xFF800000#32)) (keep_read w b g j t z)

theorem choose_read (w : FVec Ideal S4x4x4x2048 .f32) (b g j : Fin 4) (t : Fin 2048) (z : Fin 1) :
    select (cmpf .ogt (broadcastInDim S4x4x4x2048x1 ![0, 1, 2, 3] bcast_S4x4x4x2048_S4x4x4x2048x1_0_1_2_3 w)
        (broadcastInDim S4x4x4x2048x1 ![] bcast_S_S4x4x4x2048x1 (constant S_ .f32 0xFF800000#32)))
      (broadcastInDim S4x4x4x2048x1 ![0, 1, 2, 3] bcast_S4x4x4x2048_S4x4x4x2048x1_0_1_2_3 w)
      (broadcastInDim S4x4x4x2048x1 ![] bcast_S_S4x4x4x2048x1 (id (constant S_ .f32 0x00000000#32))) (ix5 b g j t z)
      = Scalar.select (FloatOps.cmpf (F := Ideal) (φ := .f32) .ogt (w (ix4 b g j t)) (Ideal.ofBits .f32 0xFF800000#32))
          (w (ix4 b g j t)) (Ideal.ofBits .f32 0#32) := by
  rw [← above_read w b g j t z, ← keep_read w b g j t z]; rfl

theorem guard_read (b g j : Fin 4) (t : Fin 2048) (z : Fin 1) :
    guardW q kv (ix5 b g j t z)
      = Column.guard (fun c : Fin 127 => Spec.seen t c) (fun c => score q kv b g j t c.castSucc) := by
  have h := choose_read (topW q kv) b g j t z
  unfold guardW
  rw [h, top_read, Consts.bot, Ideal.ofBits_zero_f32]
  unfold Column.guard
  generalize Column.top _ _ = x
  by_cases hx : ⊥ < x <;> simp [hx, FloatOps.cmpf, Ideal.cmp, Scalar.select]

theorem pow_read (b g j : Fin 4) (t : Fin 2048) (c : Fin 127) :
    expW q kv (ix5 b g j t c)
      = Column.rpow (fun c : Fin 127 => Spec.seen t c) (fun c => score q kv b g j t c.castSucc) c := by
  pointwise [expW]
  rw [seen_read, masked_read, guard_read, Consts.two]
  exact congrArg (Scalar.select _ _) Ideal.ofBits_zero_f32

theorem prob_read (b g j : Fin 4) (t : Fin 2048) (c : Fin 127) :
    probW q kv (ix5 b g j t c) = prob q kv b g j t c := by
  pointwise [probW]
  rw [funext fun x => pow_read q kv b g j t x, pow_read]; rfl

theorem imp_read (b g : Fin 4) (t : Fin 2048) (n : Fin 32) : impW q kv (ix4 b g t n) = imp q kv b g t n := by
  pointwise [impW]
  exact Finset.sum_congr rfl fun x _ => congrArg (· * _) (Finset.sum_congr rfl fun j _ => prob_read q kv b g j t x)

theorem cur_read (t : Fin 2048) : curW (ix1 t) = BitVec.ofNat 32 (t.val / 64) := by
  pointwise [curW]
  revert t
  decide +kernel

theorem ranked_read (b g : Fin 4) (t : Fin 2048) (n : Fin 32) :
    rankW q kv (ix4 b g t n) = Spec.ranked t (imp q kv b g t) n := by
  have hf : forcedW (ix2 t n) = Spec.forced t n := by
    pointwise [forcedW]
    rw [cur_read]; rfl
  pointwise [rankW]
  rw [hf, imp_read]; rfl

/-- What a stable sort of two carries at an index, for the second: its entry at the place the sort names. -/
theorem sorted_second (s : Shape) (d : Fin s.rank) {α β : Type} (cmp : α × β → α × β → BitVec 1) (x : s.Idx → α)
    (y : s.Idx → β) (j : s.Idx) :
    (Host.sort2 s d.val cmp x y).2 j = y (j.along d (sortedFrom (fun k k' =>
      cmp (x (j.along d k), y (j.along d k)) (x (j.along d k'), y (j.along d k')) == 1#1) (j d))) := by
  unfold Host.sort2
  rw [dif_pos d.isLt]

theorem iota_along (s : Shape) (d : Fin s.rank) (j : s.Idx) (k : Fin (s.size d)) :
    iotaInDim s 32 d (j.along d k) = BitVec.ofNat 32 k.val := by
  simp [iotaInDim, Shape.Idx.along]

/-- The first sixteen places of the sort, by the word each holds. -/
theorem place_read (w : FVec Ideal S4x4x2048x32 .f32) (b g : Fin 4) (t : Fin 2048) (x : Fin 16) :
    (Host.topK S4x4x2048x16 3 (FloatOps.cmpfTotal .gt) w sliceFits_S4x4x2048x32_S4x4x2048x16).2 (ix4 b g t x)
      = BitVec.ofNat 32 (sortedFrom (fun k k' : Fin 32 => decide (w (ix4 b g t k') < w (ix4 b g t k))) (x.castLE (by omega))).val := by
  have hal : ∀ k : Fin 32, Shape.Idx.along (ix4 b g t (x.castLE (by omega) : Fin 32)) (s := S4x4x2048x32) 3 k = ix4 b g t k := by
    intro k
    funext a
    match a with
    | 0 => rfl
    | 1 => rfl
    | 2 => rfl
    | 3 => rfl
  have hc : (fun k k' : Fin 32 => FloatOps.cmpfTotal (F := Ideal) (φ := .f32) .gt (w (ix4 b g t k)) (w (ix4 b g t k')) == 1#1)
      = fun k k' => decide (w (ix4 b g t k') < w (ix4 b g t k)) := by
    funext k k'
    generalize w (ix4 b g t k) = u
    generalize w (ix4 b g t k') = v
    show (BitVec.ofBool (decide (v < u)) == 1#1) = _
    by_cases h : v < u <;> simp [h]
  have e : extractStridedSlice S4x4x2048x16 (fun _ => 0) (Host.sort2 S4x4x2048x32 3 (fun l r => FloatOps.cmpfTotal (F := Ideal) (φ := .f32) .gt l.1 r.1) w (iotaInDim S4x4x2048x32 32 3)).2 sliceFits_S4x4x2048x32_S4x4x2048x16 (ix4 b g t x)
     = (Host.sort2 S4x4x2048x32 3 (fun l r => FloatOps.cmpfTotal (F := Ideal) (φ := .f32) .gt l.1 r.1) w (iotaInDim S4x4x2048x32 32 3)).2 (ix4 b g t (x.castLE (by omega) : Fin 32)) := by
    pointwise []
    rfl
  refine e.trans ?_
  rw [← hc]
  refine (sorted_second S4x4x2048x32 3 _ _ _ _).trans ((iota_along S4x4x2048x32 3 _ _).trans ?_)
  refine congrArg (fun P => BitVec.ofNat 32 (sortedFrom P _).val) ?_
  funext k k'
  exact congrArg₂ (fun u v => FloatOps.cmpfTotal (F := Ideal) (φ := .f32) .gt u v == 1#1) (congrArg w (hal k)) (congrArg w (hal k'))

theorem same_word : ∀ a n : Fin 32, IntOp.cmpi .eq (BitVec.ofNat 32 a.val) (BitVec.ofNat 32 n.val) = 1#1 ↔ a = n := by
  decide

/-- The second result at an index: one for a block with fewer than sixteen ahead of it. -/
theorem choice_read (b g : Fin 4) (t : Fin 2048) (n : Fin 32) :
    choiceW q kv (ix4 b g n t) = Spec.chosen (Spec.ranked t (imp q kv b g t)) n := by
  have hs : selW q kv (ix4 b g t n) = 1#1 ↔
      (Finset.univ.filter fun m => Rank.Ahead (Spec.ranked t (imp q kv b g t)) m n).card < 16 := by
    rw [← Rank.mem_first_iff, ← funext fun m => ranked_read q kv b g t m]
    unfold selW
    generalize rankW q kv = w
    pointwise []
    rw [Routing.fold_ori]
    constructor
    · rintro ⟨x, -, hx⟩
      refine ⟨x.castLE (by omega), x.isLt, ?_⟩
      rw [place_read] at hx
      exact (same_word _ _).mp hx
    · rintro ⟨j, hj, e⟩
      refine ⟨⟨j, hj⟩, Finset.mem_univ _, ?_⟩
      rw [place_read]
      exact (same_word _ _).mpr e
  pointwise [choiceW]
  unfold Spec.chosen
  by_cases h : (Finset.univ.filter fun m => Rank.Ahead (Spec.ranked t (imp q kv b g t)) m n).card < 16
  · rw [hs.mpr h, if_pos h]; rfl
  · rw [if_neg h]
    have : selW q kv (ix4 b g t n) = 0#1 := by
      rcases BitVec.eq_zero_or_eq_one (selW q kv (ix4 b g t n)) with e | e
      · exact e
      · exact absurd (hs.mp e) h
    rw [this]; rfl

/-- The first result at an index, written by sequence, group and head. -/
theorem out_read (b g j : Fin 4) (d : Fin 64) (t : Fin 2048) :
    outW q kv (ix3 ⟨g.val * 4 + j.val, by omega⟩ d ⟨b.val * 2048 + t.val, by omega⟩)
      = ∑ c : Fin 127, kv (ix4 1 g ⟨b.val * 128 + c.val, by omega⟩ d) * prob q kv b g j t c := by
  pointwise [outW]
  refine Finset.sum_congr rfl fun x _ => ?_
  rw [prob_read]

end Cert.Ref

end
-- ==== Proof.Tables.lean ====
module

public import proofs.«01_k».proof.Proof.KerOut
public import proofs.«01_k».proof.Proof.RefRead

/-! The two programs' literal tables hold the same numbers. -/

@[expose] public section

set_option maxRecDepth 16384

noncomputable section

namespace Cert.Tables

open Idealize.ShloMosaic Idealize.ShloMosaic.TcCoe Idealize.SL.Sem

/-- The heads' slopes are the same words. -/
theorem slope_words : ∀ g j : Fin 4,
    Cert.KernelIdeal.lit1 (Cert.KernelIdeal.S16.rowMajor (ix1 (⟨g.val * 4 + j.val, by omega⟩ : Fin 16)))
      = Cert.ReferenceIdeal.lit0 (Cert.ReferenceIdeal.S4x4.rowMajor (ix2 g j)) := by
  decide +kernel

/-- The overlaps' words, the kernel's in bf16 and the reference's in f32, are together zero, one or two. -/
theorem overlap_words : ∀ (n : Fin 32) (c : Fin 127),
    (Cert.KernelIdeal.lit0 (Cert.KernelIdeal.S32x128.rowMajor (ix2 n c.castSucc)) = 0x0000#16
      ∧ Cert.ReferenceIdeal.lit1 (Cert.ReferenceIdeal.S127x32.rowMajor (ix2 c n)) = 0x00000000#32)
    ∨ (Cert.KernelIdeal.lit0 (Cert.KernelIdeal.S32x128.rowMajor (ix2 n c.castSucc)) = 0x3F80#16
      ∧ Cert.ReferenceIdeal.lit1 (Cert.ReferenceIdeal.S127x32.rowMajor (ix2 c n)) = 0x3F800000#32)
    ∨ (Cert.KernelIdeal.lit0 (Cert.KernelIdeal.S32x128.rowMajor (ix2 n c.castSucc)) = 0x4000#16
      ∧ Cert.ReferenceIdeal.lit1 (Cert.ReferenceIdeal.S127x32.rowMajor (ix2 c n)) = 0x40000000#32) := by
  decide +kernel

/-- The overlaps are the same numbers. -/
theorem overlap (n : Fin 32) (c : Fin 127) :
    Ideal.ofBits .bf16 (Cert.KernelIdeal.lit0 (Cert.KernelIdeal.S32x128.rowMajor (ix2 n c.castSucc)))
      = Ideal.ofBits .f32 (Cert.ReferenceIdeal.lit1 (Cert.ReferenceIdeal.S127x32.rowMajor (ix2 c n))) := by
  rcases overlap_words n c with ⟨h, h'⟩ | ⟨h, h'⟩ | ⟨h, h'⟩
  · rw [h, h']; simp [Ideal.ofBits, Ideal.ieee]
  · rw [h, h']; simp [Ideal.ofBits, Ideal.ieee, -EReal.coe_mul]; try norm_num
  · rw [h, h', Consts.two, Consts.two_bf16]

end Cert.Tables

end
-- ==== Proof.Final.lean ====
module

public import proofs.«01_k».proof.Proof.KerBlk
public import proofs.«01_k».proof.Proof.Tables
public import proofs.«01_k».proof.Proof.Gen.KernelIdeal.Value

/-! The kernel's result arrays are the reference's results of the same arguments. -/

@[expose] public section

set_option maxRecDepth 16384

noncomputable section

namespace Cert.Final

open Idealize.ShloMosaic Idealize.ShloMosaic.TcCoe Idealize.SL.Sem
open Cert.KernelIdeal Cert.KernelIdeal.Gen
open Cert.Ker (bOf gOf iOf)

variable (m : (ℓ : Loc nD τ sig) → Buf (Elt Ideal) ℓ) (c : Dev nD) (p : Fin cfg0.N) (s : Fin 512)

/-- The queries a core is given, -/
abbrev q : Vec Ideal S16x64x8192 .bf16 := m ((c : Thread nD τ).loc main_arg0)
/-- and its keys and values. -/
abbrev kv : Vec Ideal S2x4x512x64 .f32 := m ((c : Thread nD τ).loc main_arg1)

/-- The position of a tile's column in its sequence. -/
def pos : Fin 2048 := ⟨(iOf p).val * 512 + s.val, by omega⟩

/-- The slope the kernel reads for a head is the reference's. -/
theorem slope_eq (j : Fin 4) :
    Ker.slope (grid0.coords p) (iblk m c 0 p) j
      = Ideal.ofBits .f32 (Cert.ReferenceIdeal.lit0 (Cert.ReferenceIdeal.S4x4.rowMajor (ix2 (gOf p) j))) := by
  rw [← Tables.slope_words]
  exact Ker.blk0 m c p _

/-- The scores are the reference's. -/
theorem score_eq (j : Fin 4) (r : Fin 128) :
    Ker.score ((grid0.coords p 2).val * 512 + s.val) (Ker.slope (grid0.coords p) (iblk m c 0 p) j) (iblk m c 1 p) (iblk m c 2 p) j s r
      = Ref.score (q m c) (kv m c) (bOf p) (gOf p) j (pos p s) r := by
  rw [slope_eq]
  unfold Ker.score Ref.score
  refine congrArg₂ (fun a b : EReal => a - b) (Finset.sum_congr rfl fun x _ => ?_) rfl
  exact (congrArg₂ (fun a b : EReal => a * b) (Ker.blk2 m c p r x) (Ker.blk1 m c p j x s)).trans (mul_comm _ _)

/-- A column's probabilities as the kernel computes them, with its scores the reference's. -/
theorem prob_eq (j : Fin 4) (r : Fin 128) :
    Ker.prob (grid0.coords p) (iblk m c 1 p) (iblk m c 2 p) (Ker.slope (grid0.coords p) (iblk m c 0 p) j) j s r
      = Column.kprob (Ker.mask (pos p s)) (Ref.score (q m c) (kv m c) (bOf p) (gOf p) j (pos p s)) r := by
  unfold Ker.prob
  rw [funext (score_eq m c p s j)]
  rfl

/-- The probability of a compressed block is the reference's, -/
theorem prob_block (j : Fin 4) (r : Fin 127) :
    Ker.prob (grid0.coords p) (iblk m c 1 p) (iblk m c 2 p) (Ker.slope (grid0.coords p) (iblk m c 0 p) j) j s r.castSucc
      = Ref.prob (q m c) (kv m c) (bOf p) (gOf p) j (pos p s) r := by
  rw [prob_eq, Column.kprob_castSucc _ _ (Ker.mask_last _)]
  simp only [Ker.mask_castSucc]
  rfl

/-- and the padding row's is zero. -/
theorem prob_pad (j : Fin 4) :
    Ker.prob (grid0.coords p) (iblk m c 1 p) (iblk m c 2 p) (Ker.slope (grid0.coords p) (iblk m c 0 p) j) j s (Fin.last 127) = 0 := by
  rw [prob_eq, Column.kprob_last _ _ (Ker.mask_last _)]

/-- The importances are the reference's. -/
theorem imp_eq (n : Fin 32) :
    Ker.imp (F := Ideal) (grid0.coords p) (iblk m c 0 p) (iblk m c 1 p) (iblk m c 2 p) (iblk m c 4 p) (ix2 n s)
      = Ref.imp (q m c) (kv m c) (bOf p) (gOf p) (pos p s) n := by
  rw [Ker.imp_read, Fin.sum_univ_castSucc]
  simp only [prob_block, prob_pad, Finset.sum_const_zero, mul_zero, add_zero]
  unfold Ref.imp
  refine Finset.sum_congr rfl fun r _ => ?_
  rw [mul_comm, ← Tables.overlap]
  exact congrArg _ (Ker.blk4 m c p n r.castSucc)

/-- A head's entry of the first result is the reference's. -/
theorem out_eq (j : Fin 4) (d : Fin 64) :
    Ker.out (grid0.coords p) (iblk m c 0 p) (iblk m c 1 p) (iblk m c 2 p) (iblk m c 3 p) j d s
      = Ref.outW (F := Ideal) (q m c) (kv m c) (ix3 ⟨(gOf p).val * 4 + j.val, by omega⟩ d ⟨(bOf p).val * 2048 + (pos p s).val, by omega⟩) := by
  rw [Ref.out_read, Ker.out, Fin.sum_univ_castSucc]
  simp only [prob_block, prob_pad, mul_zero, add_zero]
  exact Finset.sum_congr rfl fun r _ => congrArg (fun a : EReal => a * Ref.prob (q m c) (kv m c) (bOf p) (gOf p) j (pos p s) r) (Ker.blk3 m c p r.castSucc d)

/-- A block's entry of the second result is the reference's. -/
theorem choice_eq (n : Fin 32) (u v : Fin 1) :
    Ker.choice (F := Ideal) (grid0.coords p) (iblk m c 0 p) (iblk m c 1 p) (iblk m c 2 p) (iblk m c 4 p) (ix4 u v n s)
      = Ref.choiceW (F := Ideal) (q m c) (kv m c) (ix4 (bOf p) (gOf p) n (pos p s)) := by
  rw [Ref.choice_read, Ker.choice_read]
  simp only [imp_eq]
  rfl

/-- The same at any index of the block. -/
theorem choice_at (y : S1x1x32x512.Idx) :
    Ker.choice (F := Ideal) (grid0.coords p) (iblk m c 0 p) (iblk m c 1 p) (iblk m c 2 p) (iblk m c 4 p) y
      = Ref.choiceW (F := Ideal) (q m c) (kv m c) (ix4 (bOf p) (gOf p) (y 2) (pos p (y 3))) := by
  have hy : y = ix4 (y 0) (y 1) (y 2) (y 3) := by
    funext a
    match a with
    | 0 => rfl
    | 1 => rfl
    | 2 => rfl
    | 3 => rfl
  exact (congrArg (Ker.choice (F := Ideal) (grid0.coords p) (iblk m c 0 p) (iblk m c 1 p) (iblk m c 2 p) (iblk m c 4 p)) hy).trans
    (choice_eq m c p (y 3) (y 2) (y 0) (y 1))

/-- The first result array after the run. -/
theorem arr_out : (dats m 0 c).arrAt 5 cfg0.N = Ref.outW (F := Ideal) (q m c) (kv m c) := by
  refine (dats m 0 c).arrAt_eq_of_covers 5 _ (by decide +kernel) fun p _ y => ?_
  blk_simp
  rw [after0_5]
  refine (Ker.after_out m c p y (y 0) (y 1) (y 2) rfl rfl rfl).trans ((out_eq m c p _ _ _).trans ?_)
  unfold pos
  blk_ext [Ker.idx p]

/-- The second result array after the run. -/
theorem arr_choice : (dats m 0 c).arrAt 6 cfg0.N = Ref.choiceW (F := Ideal) (q m c) (kv m c) := by
  refine (dats m 0 c).arrAt_eq_of_covers 6 _ (by decide +kernel) fun p _ y => ?_
  blk_simp
  rw [after0_6, Ker.after_choice]
  refine (choice_at m c p y).trans ?_
  generalize Ref.choiceW (F := Ideal) (q m c) (kv m c) = w
  unfold pos
  blk_ext [Ker.idx p]

end Cert.Final

end
-- ==== Proof.MergeFold.lean ====
/- What the merge of the two branches leaves at each grid point: the products with the weight blocks kept in scratch, gated. -/
module

public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.MergeIdeal.Fold

open Cert.MergeIdeal Cert.MergeIdeal.Gen Idealize.ShloMosaic Idealize.ShloMosaic.TcCoe Idealize.SL.Sem

/-- A whole buffer starts at zero. -/
theorem z2 : (![0, 0] : Fin 2 → Nat) = fun _ => 0 := by decide
theorem z3 : (![0, 0, 0] : Fin 3 → Nat) = fun _ => 0 := by decide

/-- A gated number. -/
def gate (a b : EReal) : EReal := Ideal.div 1 (1 + Ideal.exp (-a)) * b

section runs
variable (c : Dev nD) (i : grid0.Coords) (a2 : Memref sig .tc .vmem S512x1024 .bf16) (h2 : a2.IsWhole) (a3 : Memref sig .tc .vmem S512x1024 .bf16) (h3 : a3.IsWhole) (a4 : Memref sig .tc .vmem S1x1024x1024 .f32) (h4 : a4.IsWhole) (a5 : Memref sig .tc .vmem S1x1024x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1024x1024 .bf16) (h9 : a9.IsWhole) (a10 : Memref sig .tc .vmem S1024x1024 .bf16) (h10 : a10.IsWhole)
  (x0 : Vec Ideal S512x1024 .bf16) (x1 : Vec Ideal S512x1024 .bf16) (x2 : Vec Ideal S1x1024x1024 .f32) (x3 : Vec Ideal S1x1024x1024 .f32) (x4 : Vec Ideal S512x1024 .f32) (x5 : Vec Ideal S512x1024 .f32) (s0 : Vec Ideal S1024x1024 .bf16) (s1 : Vec Ideal S1024x1024 .bf16)

/-- At the first point of a column a scratch takes its cast weight block, -/
theorem scrA0 (hc : cond0_0 i) : sout0_A_0 c i a2 h2 a3 h3 a4 h4 a5 h5 a6 h6 a7 h7 a8 h8 a9 h9 a10 h10 hc x0 x1 x2 x3 x4 x5 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4 x5)]
  unfold kernelRun0_A; dsimp only; sl_unfold_words
  simp only [View.readAt_eq_ld, h2.read_unread, h3.read_unread, h4.read_unread, h5.read_unread, h6.read_unread, h7.read_unread, h8.read_unread, h9.read_unread, h10.read_unread]
  simp only [View.canon_unit_zero (S := S512x1024) z2, View.canon_unit_zero (S := S1024x1024) z2, View.ld_unit_zero (S := S512x1024) z2, View.ld_unit_zero (S := S1024x1024) z2, View.ld_unit_zero (S := S1x1024x1024) z3, View.readCov_unit_zero (S := S1024x1024) _ z2]

/-- At the first point of a column a scratch takes its cast weight block, -/
theorem scrA1 (hc : cond0_0 i) : sout0_A_1 c i a2 h2 a3 h3 a4 h4 a5 h5 a6 h6 a7 h7 a8 h8 a9 h9 a10 h10 hc x0 x1 x2 x3 x4 x5 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4 x5)]
  unfold kernelRun0_A; dsimp only; sl_unfold_words
  simp only [View.readAt_eq_ld, h2.read_unread, h3.read_unread, h4.read_unread, h5.read_unread, h6.read_unread, h7.read_unread, h8.read_unread, h9.read_unread, h10.read_unread]
  simp only [View.canon_unit_zero (S := S512x1024) z2, View.canon_unit_zero (S := S1024x1024) z2, View.ld_unit_zero (S := S512x1024) z2, View.ld_unit_zero (S := S1024x1024) z2, View.ld_unit_zero (S := S1x1024x1024) z3, View.readCov_unit_zero (S := S1024x1024) _ z2]

/-- and the output is formed with them; -/
theorem outA (hc : cond0_0 i) : out0_A_6 c i a2 h2 a3 h3 a4 h4 a5 h5 a6 h6 a7 h7 a8 h8 a9 h9 a10 h10 hc x0 x1 x2 x3 x4 x5 = k0_pay3 (k0_pay1 x2) (k0_pay2 x3) x0 x1 x4 x5 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A; dsimp only; sl_unfold_words
  simp only [View.readAt_eq_ld, h2.read_unread, h3.read_unread, h4.read_unread, h5.read_unread, h6.read_unread, h7.read_unread, h8.read_unread, h9.read_unread, h10.read_unread]
  simp only [View.canon_unit_zero (S := S512x1024) z2, View.canon_unit_zero (S := S1024x1024) z2, View.ld_unit_zero (S := S512x1024) z2, View.ld_unit_zero (S := S1024x1024) z2, View.ld_unit_zero (S := S1x1024x1024) z3, View.readCov_unit_zero (S := S1024x1024) _ z2]

/-- at the others the output is formed with what the scratch holds. -/
theorem outB (hc : ¬cond0_0 i) : out0_B_6 c i a2 h2 a3 h3 a4 h4 a5 h5 a6 h6 a7 h7 a8 h8 a9 h9 a10 h10 hc x0 x1 x2 x3 x4 x5 s0 s1 = k0_pay3 (s0) (s1) x0 x1 x4 x5 := by
  unfold out0_B_6
  rw [View.read_writes_eq_canon _ _ _ (cover0_B_6 c i a2 h2 a3 h3 a4 h4 a5 h5 a6 h6 a7 h7 a8 h8 a9 h9 a10 h10 hc x0 x1 x2 x3 x4 x5 s0 s1)]
  unfold kernelRun0_B; dsimp only; sl_unfold_words
  simp only [View.readAt_eq_ld, h2.read_unread, h3.read_unread, h4.read_unread, h5.read_unread, h6.read_unread, h7.read_unread, h8.read_unread, h9.read_unread, h10.read_unread]
  simp only [View.canon_unit_zero (S := S512x1024) z2, View.canon_unit_zero (S := S1024x1024) z2, View.ld_unit_zero (S := S512x1024) z2, View.ld_unit_zero (S := S1024x1024) z2, View.ld_unit_zero (S := S1x1024x1024) z3, View.readCov_unit_zero (S := S1024x1024) _ z2]

end runs

/-- The windows' index maps. -/
theorem idx : ∀ p : Fin cfg0.N,
    (win0_0.index p 0 = p.val % 16 ∧ win0_0.index p 1 = 0)
    ∧ (win0_1.index p 0 = p.val % 16 ∧ win0_1.index p 1 = 0)
    ∧ (win0_2.index p 0 = 0 ∧ win0_2.index p 1 = 0 ∧ win0_2.index p 2 = p.val / 16)
    ∧ (win0_3.index p 0 = 0 ∧ win0_3.index p 1 = 0 ∧ win0_3.index p 2 = p.val / 16)
    ∧ (win0_4.index p 0 = p.val % 16 ∧ win0_4.index p 1 = 2 + p.val / 16)
    ∧ (win0_5.index p 0 = p.val % 16 ∧ win0_5.index p 1 = 4 + p.val / 16) := by
  decide +kernel

variable (m : (ℓ : Loc nD τ sig) → Buf (Elt Ideal) ℓ) (c : Dev nD) (p : Fin cfg0.N)

/-- The arguments. -/
abbrev ar0 : Vec Ideal S8192x1024 .bf16 := m ((c : Thread nD τ).loc main_arg0)
abbrev ar1 : Vec Ideal S8192x1024 .bf16 := m ((c : Thread nD τ).loc main_arg1)
abbrev ar2 : Vec Ideal S8192x6144 .f32 := m ((c : Thread nD τ).loc main_arg2)
abbrev ar3 : Vec Ideal S2x1024x2048 .f32 := m ((c : Thread nD τ).loc main_arg3)
abbrev ar4 : Vec Ideal S2x1024x2048 .f32 := m ((c : Thread nD τ).loc main_arg4)

theorem hp : p.val < 32 := lt_of_lt_of_eq p.isLt N_0

theorem blk0 (r : Fin 512) (x : Fin 1024) :
    (iblk m c 0 p : Vec Ideal S512x1024 .bf16) (ix2 r x) = ar0 m c (ix2 ⟨p.val % 16 * 512 + r.val, by omega⟩ x) := by
  blk_ext [iblk, V, idx p]

theorem blk1 (r : Fin 512) (x : Fin 1024) :
    (iblk m c 1 p : Vec Ideal S512x1024 .bf16) (ix2 r x) = ar1 m c (ix2 ⟨p.val % 16 * 512 + r.val, by omega⟩ x) := by
  blk_ext [iblk, V, idx p]

theorem blk2 (x : Fin 1024) (s : Fin 1024) :
    (iblk m c 2 p : Vec Ideal S1x1024x1024 .f32) (ix3 0 x s) = ar3 m c (ix3 0 x ⟨p.val / 16 * 1024 + s.val, by have := hp p; omega⟩) := by
  blk_ext [iblk, V, idx p]

theorem blk3 (x : Fin 1024) (s : Fin 1024) :
    (iblk m c 3 p : Vec Ideal S1x1024x1024 .f32) (ix3 0 x s) = ar4 m c (ix3 0 x ⟨p.val / 16 * 1024 + s.val, by have := hp p; omega⟩) := by
  blk_ext [iblk, V, idx p]

theorem blk4 (r : Fin 512) (s : Fin 1024) :
    (iblk m c 4 p : Vec Ideal S512x1024 .f32) (ix2 r s) = ar2 m c (ix2 ⟨p.val % 16 * 512 + r.val, by omega⟩ ⟨2048 + (p.val / 16 * 1024 + s.val), by have := hp p; omega⟩) := by
  blk_ext [iblk, V, idx p]

theorem blk5 (r : Fin 512) (s : Fin 1024) :
    (iblk m c 5 p : Vec Ideal S512x1024 .f32) (ix2 r s) = ar2 m c (ix2 ⟨p.val % 16 * 512 + r.val, by omega⟩ ⟨4096 + (p.val / 16 * 1024 + s.val), by have := hp p; omega⟩) := by
  blk_ext [iblk, V, idx p]

/-- A cast weight block of a point at an entry. -/
theorem wAt0 (x : Fin 1024) (s : Fin 1024) : k0_pay1 (F := Ideal) (iblk m c 2 p) (ix2 x s) = ar3 m c (ix3 0 x ⟨p.val / 16 * 1024 + s.val, by have := hp p; omega⟩) := by
  rw [← blk2 m c p]
  generalize iblk m c 2 p = w
  pointwise [k0_pay1]

/-- A cast weight block of a point at an entry. -/
theorem wAt1 (x : Fin 1024) (s : Fin 1024) : k0_pay2 (F := Ideal) (iblk m c 3 p) (ix2 x s) = ar4 m c (ix3 0 x ⟨p.val / 16 * 1024 + s.val, by have := hp p; omega⟩) := by
  rw [← blk3 m c p]
  generalize iblk m c 3 p = w
  pointwise [k0_pay2]

/-- After every point the scratch holds the cast weight block of the point's column. -/
theorem scr0 : ∀ (n : ℕ) (hn : n < cfg0.N), (outsAt0 m c n hn).2.1 = k0_pay1 (F := Ideal) (iblk m c 2 ⟨n, hn⟩) := by
  intro n
  induction n with
  | zero => intro hn; rw [outsAt0_A m c ⟨0, hn⟩ rfl, scrA0]
  | succ n ih =>
    intro hn
    by_cases h : (n + 1) % 16 = 0
    · rw [outsAt0_A m c ⟨n + 1, hn⟩ h, scrA0]
    · rw [outsAt0_B m c ⟨n + 1, hn⟩ h]
      refine (ih (Nat.lt_of_succ_lt hn)).trans ?_
      funext y
      rw [eq_ix2 y]
      refine (wAt0 m c ⟨n, Nat.lt_of_succ_lt hn⟩ (y 0) (y 1)).trans (Eq.trans ?_ (wAt0 m c ⟨n + 1, hn⟩ (y 0) (y 1)).symm)
      congr 2
      exact Fin.ext (by show n / 16 * 1024 + _ = (n + 1) / 16 * 1024 + _; omega)

/-- After every point the scratch holds the cast weight block of the point's column. -/
theorem scr1 : ∀ (n : ℕ) (hn : n < cfg0.N), (outsAt0 m c n hn).2.2 = k0_pay2 (F := Ideal) (iblk m c 3 ⟨n, hn⟩) := by
  intro n
  induction n with
  | zero => intro hn; rw [outsAt0_A m c ⟨0, hn⟩ rfl, scrA1]
  | succ n ih =>
    intro hn
    by_cases h : (n + 1) % 16 = 0
    · rw [outsAt0_A m c ⟨n + 1, hn⟩ h, scrA1]
    · rw [outsAt0_B m c ⟨n + 1, hn⟩ h]
      refine (ih (Nat.lt_of_succ_lt hn)).trans ?_
      funext y
      rw [eq_ix2 y]
      refine (wAt1 m c ⟨n, Nat.lt_of_succ_lt hn⟩ (y 0) (y 1)).trans (Eq.trans ?_ (wAt1 m c ⟨n + 1, hn⟩ (y 0) (y 1)).symm)
      congr 2
      exact Fin.ext (by show n / 16 * 1024 + _ = (n + 1) / 16 * 1024 + _; omega)

/-- What every point leaves in the output window. -/
theorem out (t : Fin cfg0.N) :
    (outsAt0 m c t.val t.isLt).1 = k0_pay3 (F := Ideal) (k0_pay1 (iblk m c 2 t)) (k0_pay2 (iblk m c 3 t)) (iblk m c 0 t) (iblk m c 1 t) (iblk m c 4 t) (iblk m c 5 t) := by
  by_cases h : t.val % 16 = 0
  · rw [outsAt0_A m c t h, outA]
  · have h0 : t.val - 1 < cfg0.N := by have := t.isLt; omega
    have e0 : k0_pay1 (F := Ideal) (iblk m c 2 ⟨t.val - 1, h0⟩) = k0_pay1 (iblk m c 2 t) := by
      funext y
      rw [eq_ix2 y]
      refine (wAt0 m c ⟨t.val - 1, h0⟩ (y 0) (y 1)).trans (Eq.trans ?_ (wAt0 m c t (y 0) (y 1)).symm)
      congr 2
      exact Fin.ext (by show (t.val - 1) / 16 * 1024 + _ = t.val / 16 * 1024 + _; omega)
    have e1 : k0_pay2 (F := Ideal) (iblk m c 3 ⟨t.val - 1, h0⟩) = k0_pay2 (iblk m c 3 t) := by
      funext y
      rw [eq_ix2 y]
      refine (wAt1 m c ⟨t.val - 1, h0⟩ (y 0) (y 1)).trans (Eq.trans ?_ (wAt1 m c t (y 0) (y 1)).symm)
      congr 2
      exact Fin.ext (by show (t.val - 1) / 16 * 1024 + _ = t.val / 16 * 1024 + _; omega)
    rw [outsAt0_B m c t h, ← e0, ← scr0 m c (t.val - 1) h0, ← e1, ← scr1 m c (t.val - 1) h0, outB]

/-- The result at an entry. -/
theorem result (i : S8192x2048.Idx) :
    (Value.G6 m c : Vec Ideal S8192x2048 .bf16) i = gate (ar2 m c (ix2 (i 0) ⟨2048 + (i 1).val, by have h : (i 1).val < 2048 := (i 1).isLt; omega⟩)) (∑ x : Fin 1024, ar0 m c (ix2 (i 0) x) * ar3 m c (ix3 0 x (i 1)))
      + gate (ar2 m c (ix2 (i 0) ⟨4096 + (i 1).val, by have h : (i 1).val < 2048 := (i 1).isLt; omega⟩)) (∑ x : Fin 1024, ar1 m c (ix2 (i 0) x) * ar4 m c (ix3 0 x (i 1))) := by
  have h0 : (i 0).val < 8192 := (i 0).isLt
  have h1 : (i 1).val < 2048 := (i 1).isLt
  have hlt : Value.pt6Of i < cfg0.N := by
    rw [show cfg0.N = 32 from N_0]; show 1 * ((i 0).val / 512 - 0) + 16 * ((i 1).val / 1024 - 0) < 32; omega
  have hv : Value.pt6Of i = 1 * ((i 0).val / 512 - 0) + 16 * ((i 1).val / 1024 - 0) := rfl
  unfold Value.G6
  rw [dif_pos hlt, ← Value.outsAt0_sweep m c _ hlt, out m c ⟨Value.pt6Of i, hlt⟩,
    show Value.loc6Of i = ix2 ⟨(i 0).val % 512, Nat.mod_lt _ (by decide)⟩ ⟨(i 1).val % 1024, Nat.mod_lt _ (by decide)⟩ from eq_ix2 _]
  have e : ∀ (w v : Vec Ideal S1024x1024 .bf16) (a b : Vec Ideal S512x1024 .bf16) (g h : Vec Ideal S512x1024 .f32) (r : Fin 512) (s : Fin 1024),
      k0_pay3 (F := Ideal) w v a b g h (ix2 r s) = gate (g (ix2 r s)) (∑ x : Fin 1024, a (ix2 r x) * w (ix2 x s)) + gate (h (ix2 r s)) (∑ x : Fin 1024, b (ix2 r x) * v (ix2 x s)) := by
    intro w v a b g h r s
    unfold gate
    pointwise [k0_pay3]
    simp only [zero_sub]
  rw [e]
  simp only [blk0, blk1, blk4, blk5, wAt0, wAt1]
  have e0 : (⟨Value.pt6Of i % 16 * 512 + (i 0).val % 512, by omega⟩ : Fin 8192) = i 0 := Fin.ext (by show Value.pt6Of i % 16 * 512 + (i 0).val % 512 = _; rw [hv]; omega)
  have e1 : (⟨Value.pt6Of i / 16 * 1024 + (i 1).val % 1024, by have := hp ⟨_, hlt⟩; dsimp only at this; omega⟩ : Fin 2048) = i 1 := Fin.ext (by show Value.pt6Of i / 16 * 1024 + (i 1).val % 1024 = _; rw [hv]; omega)
  have e2 : Value.pt6Of i / 16 * 1024 + (i 1).val % 1024 = (i 1).val := congrArg Fin.val e1
  simp only [e0, e2]
  rfl

end Cert.MergeIdeal.Fold

end
-- ==== Proof.MergeTie.lean ====
/- The gated sum of the two branches' projections. -/
module

public import proofs.«01_k».proof.Defs
public import proofs.«01_k».proof.Proof.Gen.Merge.Frame
public import proofs.«01_k».proof.Proof.MergeFold
public import proofs.«01_k».proof.Proof.Gen.MergeReferenceIdeal.Run
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem frame_merge_ri : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- The gated sum of the two branches' projections. -/
theorem algebraic_merge : Cert.algebraic_MergeIdeal_MergeReferenceIdeal := by
  intro m ρ m' ρ' _ hagree
  refine ⟨_, Cert.MergeIdeal.Value.run (F := Ideal) m ρ, ?_⟩
  refine (θ_run Cert.MergeReferenceIdeal.defs _ _).mono (fun _ h c => ⟨?_, (h c).2⟩)
    (Cert.MergeReferenceIdeal.Value.run (F := Ideal) m' ρ')
  rw [(h c).1]
  simp only [hagree c]
  funext i
  refine Eq.trans ?_ (Cert.MergeIdeal.Fold.result m c i).symm
  unfold Cert.MergeIdeal.Fold.gate
  pointwise

end Cert.Proof

end
-- ==== Proof.OutProjFold.lean ====
/- What the output projection leaves at each grid point: the product with the weight block kept in scratch. -/
module

public import proofs.«01_k».proof.Proof.Gen.OutProjIdeal.Value
public import Idealize.ShloMosaic.Lib.Pipeline.ValueKit
public import Idealize.ShloMosaic.Lib.Pointwise

@[expose] public section

set_option maxRecDepth 16384

noncomputable section

namespace Cert.OutProjIdeal.Fold

open Cert.OutProjIdeal Cert.OutProjIdeal.Gen Idealize.ShloMosaic Idealize.ShloMosaic.TcCoe Idealize.SL.Sem

/-- A whole buffer starts at zero. -/
theorem z2 : (![0, 0] : Fin 2 → Nat) = fun _ => 0 := by decide
theorem z3 : (![0, 0, 0] : Fin 3 → Nat) = fun _ => 0 := by decide

section runs
variable (c : Dev nD) (i : grid0.Coords) (a2 : Memref sig .tc .vmem S512x2048 .bf16) (h2 : a2.IsWhole) (a3 : Memref sig .tc .vmem S1x2048x1024 .f32) (h3 : a3.IsWhole) (a4 : Memref sig .tc .vmem S512x1024 .f32) (h4 : a4.IsWhole) (a5 : Memref sig .tc .vmem S512x1024 .f32) (h5 : a5.IsWhole) (a6 : Memref sig .tc .vmem S2048x1024 .bf16) (h6 : a6.IsWhole)
  (x0 : Vec Ideal S512x2048 .bf16) (x1 : Vec Ideal S1x2048x1024 .f32) (x2 : Vec Ideal S512x1024 .f32) (xs : Vec Ideal S2048x1024 .bf16)

/-- At the first point of a column the scratch takes the cast weight block, -/
theorem scrA (hc : cond0_0 i) : sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A; dsimp only; sl_unfold_words
  simp only [View.readAt_eq_ld, h2.read_unread, h3.read_unread, h4.read_unread]
  simp only [View.canon_unit_zero (S := S2048x1024) z2, View.canon_unit_zero (S := S512x1024) z2, View.ld_unit_zero (S := S512x2048) z2,
    View.ld_unit_zero (S := S512x1024) z2, View.ld_unit_zero (S := S2048x1024) z2, View.ld_unit_zero (S := S1x2048x1024) z3, View.readCov_unit_zero (S := S2048x1024) _ z2]

/-- and the output is the product with it; -/
theorem outA (hc : cond0_0 i) : out0_A_3 c i a2 h2 a3 h3 a4 h4 a5 h5 a6 h6 hc x0 x1 x2 = k0_pay2 (k0_pay1 x1) x0 x2 := by
  unfold out0_A_3
  rw [View.read_writes_eq_canon _ _ _ (cover0_A_3 c i a2 h2 a3 h3 a4 h4 a5 h5 a6 h6 hc x0 x1 x2)]
  unfold kernelRun0_A; dsimp only; sl_unfold_words
  simp only [View.readAt_eq_ld, h2.read_unread, h3.read_unread, h4.read_unread]
  simp only [View.canon_unit_zero (S := S2048x1024) z2, View.canon_unit_zero (S := S512x1024) z2, View.ld_unit_zero (S := S512x2048) z2,
    View.ld_unit_zero (S := S512x1024) z2, View.ld_unit_zero (S := S2048x1024) z2, View.ld_unit_zero (S := S1x2048x1024) z3, View.readCov_unit_zero (S := S2048x1024) _ z2]

/-- at the others the output is the product with what the scratch holds. -/
theorem outB (hc : ¬cond0_0 i) : out0_B_3 c i a2 h2 a3 h3 a4 h4 a5 h5 a6 h6 hc x0 x1 x2 xs = k0_pay2 xs x0 x2 := by
  unfold out0_B_3
  rw [View.read_writes_eq_canon _ _ _ (cover0_B_3 c i a2 h2 a3 h3 a4 h4 a5 h5 a6 h6 hc x0 x1 x2 xs)]
  unfold kernelRun0_B; dsimp only; sl_unfold_words
  simp only [View.readAt_eq_ld, h2.read_unread, h4.read_unread, h6.read_unread]
  simp only [View.canon_unit_zero (S := S2048x1024) z2, View.canon_unit_zero (S := S512x1024) z2, View.ld_unit_zero (S := S512x2048) z2,
    View.ld_unit_zero (S := S512x1024) z2, View.ld_unit_zero (S := S2048x1024) z2, View.ld_unit_zero (S := S1x2048x1024) z3, View.readCov_unit_zero (S := S2048x1024) _ z2]

end runs

/-- The windows' index maps. -/
theorem idx : ∀ p : Fin cfg0.N,
    (win0_0.index p 0 = p.val % 16 ∧ win0_0.index p 1 = 0)
    ∧ (win0_1.index p 0 = 0 ∧ win0_1.index p 1 = 0 ∧ win0_1.index p 2 = p.val / 16)
    ∧ (win0_2.index p 0 = p.val % 16 ∧ win0_2.index p 1 = p.val / 16) := by
  decide +kernel

variable (m : (ℓ : Loc nD τ sig) → Buf (Elt Ideal) ℓ) (c : Dev nD) (p : Fin cfg0.N)

/-- The arguments. -/
abbrev ar0 : Vec Ideal S8192x2048 .bf16 := m ((c : Thread nD τ).loc main_arg0)
abbrev ar1 : Vec Ideal S2x2048x2048 .f32 := m ((c : Thread nD τ).loc main_arg1)
abbrev ar2 : Vec Ideal S8192x2048 .f32 := m ((c : Thread nD τ).loc main_arg2)

theorem hp : p.val < 32 := lt_of_lt_of_eq p.isLt N_0

theorem blk0 (r : Fin 512) (x : Fin 2048) :
    (iblk m c 0 p : Vec Ideal S512x2048 .bf16) (ix2 r x)
      = (m ((c : Thread nD τ).loc main_arg0) : Vec Ideal S8192x2048 .bf16) (ix2 ⟨p.val % 16 * 512 + r.val, by omega⟩ x) := by
  blk_ext [iblk, V, idx p]

theorem blk1 (x : Fin 2048) (s : Fin 1024) :
    (iblk m c 1 p : Vec Ideal S1x2048x1024 .f32) (ix3 0 x s)
      = (m ((c : Thread nD τ).loc main_arg1) : Vec Ideal S2x2048x2048 .f32) (ix3 0 x ⟨p.val / 16 * 1024 + s.val, by have := hp p; omega⟩) := by
  blk_ext [iblk, V, idx p]

theorem blk2 (r : Fin 512) (s : Fin 1024) :
    (iblk m c 2 p : Vec Ideal S512x1024 .f32) (ix2 r s)
      = (m ((c : Thread nD τ).loc main_arg2) : Vec Ideal S8192x2048 .f32)
          (ix2 ⟨p.val % 16 * 512 + r.val, by omega⟩ ⟨p.val / 16 * 1024 + s.val, by have := hp p; omega⟩) := by
  blk_ext [iblk, V, idx p]

/-- The cast weight block of a point at an entry. -/
theorem wAt (x : Fin 2048) (s : Fin 1024) :
    k0_pay1 (F := Ideal) (iblk m c 1 p) (ix2 x s)
      = (m ((c : Thread nD τ).loc main_arg1) : Vec Ideal S2x2048x2048 .f32) (ix3 0 x ⟨p.val / 16 * 1024 + s.val, by have := hp p; omega⟩) := by
  rw [← blk1 m c p]
  generalize iblk m c 1 p = w
  pointwise [k0_pay1]

/-- After every point the scratch holds the cast weight block of the point's column. -/
theorem scr : ∀ (n : ℕ) (hn : n < cfg0.N), (outsAt0 m c n hn).2 = k0_pay1 (F := Ideal) (iblk m c 1 ⟨n, hn⟩) := by
  intro n
  induction n with
  | zero => intro hn; rw [outsAt0_A m c ⟨0, hn⟩ rfl]; rw [scrA]
  | succ n ih =>
    intro hn
    by_cases h : (n + 1) % 16 = 0
    · rw [outsAt0_A m c ⟨n + 1, hn⟩ h]; rw [scrA]
    · rw [outsAt0_B m c ⟨n + 1, hn⟩ h]
      refine (ih (Nat.lt_of_succ_lt hn)).trans ?_
      funext y
      rw [eq_ix2 y]
      refine (wAt m c ⟨n, Nat.lt_of_succ_lt hn⟩ (y 0) (y 1)).trans (Eq.trans ?_ (wAt m c ⟨n + 1, hn⟩ (y 0) (y 1)).symm)
      congr 2
      exact Fin.ext (by show n / 16 * 1024 + _ = (n + 1) / 16 * 1024 + _; omega)

/-- What every point leaves in the output window. -/
theorem out (t : Fin cfg0.N) :
    (outsAt0 m c t.val t.isLt).1 = k0_pay2 (F := Ideal) (k0_pay1 (iblk m c 1 t)) (iblk m c 0 t) (iblk m c 2 t) := by
  by_cases h : t.val % 16 = 0
  · rw [outsAt0_A m c t h]; rw [outA]
  · have h0 : t.val - 1 < cfg0.N := by have := t.isLt; omega
    have e : k0_pay1 (F := Ideal) (iblk m c 1 ⟨t.val - 1, h0⟩) = k0_pay1 (iblk m c 1 t) := by
      funext y
      rw [eq_ix2 y]
      refine (wAt m c ⟨t.val - 1, h0⟩ (y 0) (y 1)).trans (Eq.trans ?_ (wAt m c t (y 0) (y 1)).symm)
      congr 2
      exact Fin.ext (by show (t.val - 1) / 16 * 1024 + _ = t.val / 16 * 1024 + _; omega)
    rw [outsAt0_B m c t h, ← e, ← scr m c (t.val - 1) h0]
    rw [outB]

/-- The result at an entry. -/
theorem result (i : S8192x2048.Idx) :
    (Value.G3 m c : Vec Ideal S8192x2048 .f32) i = ar2 m c i + ∑ x : Fin 2048, ar0 m c (ix2 (i 0) x) * ar1 m c (ix3 0 x (i 1)) := by
  have h0 : (i 0).val < 8192 := (i 0).isLt
  have h1 : (i 1).val < 2048 := (i 1).isLt
  have hlt : Value.pt3Of i < cfg0.N := by
    rw [show cfg0.N = 32 from N_0]; show 1 * ((i 0).val / 512 - 0) + 16 * ((i 1).val / 1024 - 0) < 32; omega
  have hv : Value.pt3Of i = 1 * ((i 0).val / 512 - 0) + 16 * ((i 1).val / 1024 - 0) := rfl
  unfold Value.G3
  rw [dif_pos hlt, ← Value.outsAt0_sweep m c _ hlt, out m c ⟨Value.pt3Of i, hlt⟩,
    show Value.loc3Of i = ix2 ⟨(i 0).val % 512, Nat.mod_lt _ (by decide)⟩ ⟨(i 1).val % 1024, Nat.mod_lt _ (by decide)⟩ from eq_ix2 _]
  have e : ∀ (w : Vec Ideal S2048x1024 .bf16) (a : Vec Ideal S512x2048 .bf16) (b : Vec Ideal S512x1024 .f32) (r : Fin 512) (s : Fin 1024),
      k0_pay2 (F := Ideal) w a b (ix2 r s) = b (ix2 r s) + ∑ x : Fin 2048, a (ix2 r x) * w (ix2 x s) := by
    intro w a b r s
    pointwise [k0_pay2]
  rw [e, blk2]
  simp only [blk0, wAt]
  have e0 : (⟨Value.pt3Of i % 16 * 512 + (i 0).val % 512, by omega⟩ : Fin 8192) = i 0 := Fin.ext (by show Value.pt3Of i % 16 * 512 + (i 0).val % 512 = _; rw [hv]; omega)
  have e1 : (⟨Value.pt3Of i / 16 * 1024 + (i 1).val % 1024, by have := hp ⟨_, hlt⟩; dsimp only at this; omega⟩ : Fin 2048) = i 1 := Fin.ext (by show Value.pt3Of i / 16 * 1024 + (i 1).val % 1024 = _; rw [hv]; omega)
  simp only [e0, e1]
  rw [← eq_ix2 i]

end Cert.OutProjIdeal.Fold

end
-- ==== Proof.OutProjTie.lean ====
/- The output projection of the mixer, with its residual. -/
module

public import proofs.«01_k».proof.Defs
public import proofs.«01_k».proof.Proof.Gen.OutProj.Frame
public import proofs.«01_k».proof.Proof.OutProjFold
public import proofs.«01_k».proof.Proof.Gen.OutProjReferenceIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem frame_out_proj_ri : Cert.quiescent_OutProjReferenceIdeal := fun m ρ _ =>
  (θ_run Cert.OutProjReferenceIdeal.defs _ _).mono
    (fun r h => ⟨fun c => (h c).2, sem_eq_zero_of_no_sems (by decide) r.2⟩)
    (Cert.OutProjReferenceIdeal.Value.run (F := Ideal) m ρ)

/-- The output projection of the mixer, with its residual. -/
theorem algebraic_out_proj : Cert.algebraic_OutProjIdeal_OutProjReferenceIdeal := by
  intro m ρ m' ρ' _ hagree
  refine ⟨_, Cert.OutProjIdeal.Value.run (F := Ideal) m ρ, ?_⟩
  refine (θ_run Cert.OutProjReferenceIdeal.defs _ _).mono (fun _ h c => ⟨?_, (h c).2⟩)
    (Cert.OutProjReferenceIdeal.Value.run (F := Ideal) m' ρ')
  rw [(h c).1]
  simp only [hagree c]
  funext i
  refine Eq.trans ?_ (Cert.OutProjIdeal.Fold.result m c i).symm
  pointwise

end Cert.Proof

end
-- ==== Proof.FfnDownFold.lean ====
/- What the down product of the dense feed-forward leaves at each grid point: the product with the weight block kept in scratch. -/
module

public import proofs.«01_k».proof.Proof.Gen.FfnDownIdeal.Value
public import Idealize.ShloMosaic.Lib.Pipeline.ValueKit
public import Idealize.ShloMosaic.Lib.Pointwise

@[expose] public section

set_option maxRecDepth 16384

noncomputable section

namespace Cert.FfnDownIdeal.Fold

open Cert.FfnDownIdeal Cert.FfnDownIdeal.Gen Idealize.ShloMosaic Idealize.ShloMosaic.TcCoe Idealize.SL.Sem

/-- A whole buffer starts at zero. -/
theorem z2 : (![0, 0] : Fin 2 → Nat) = fun _ => 0 := by decide
theorem z3 : (![0, 0, 0] : Fin 3 → Nat) = fun _ => 0 := by decide

section runs
variable (c : Dev nD) (i : grid0.Coords) (a2 : Memref sig .tc .vmem S512x5632 .bf16) (h2 : a2.IsWhole) (a3 : Memref sig .tc .vmem S1x5632x512 .f32) (h3 : a3.IsWhole) (a4 : Memref sig .tc .vmem S512x512 .f32) (h4 : a4.IsWhole) (a5 : Memref sig .tc .vmem S512x512 .f32) (h5 : a5.IsWhole) (a6 : Memref sig .tc .vmem S5632x512 .bf16) (h6 : a6.IsWhole)
  (x0 : Vec Ideal S512x5632 .bf16) (x1 : Vec Ideal S1x5632x512 .f32) (x2 : Vec Ideal S512x512 .f32) (xs : Vec Ideal S5632x512 .bf16)

/-- At the first point of a column the scratch takes the cast weight block, -/
theorem scrA (hc : cond0_0 i) : sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A; dsimp only; sl_unfold_words
  simp only [View.readAt_eq_ld, h2.read_unread, h3.read_unread, h4.read_unread]
  simp only [View.canon_unit_zero (S := S5632x512) z2, View.canon_unit_zero (S := S512x512) z2, View.ld_unit_zero (S := S512x5632) z2,
    View.ld_unit_zero (S := S512x512) z2, View.ld_unit_zero (S := S5632x512) z2, View.ld_unit_zero (S := S1x5632x512) z3, View.readCov_unit_zero (S := S5632x512) _ z2]

/-- and the output is the product with it; -/
theorem outA (hc : cond0_0 i) : out0_A_3 c i a2 h2 a3 h3 a4 h4 a5 h5 a6 h6 hc x0 x1 x2 = k0_pay2 (k0_pay1 x1) x0 x2 := by
  unfold out0_A_3
  rw [View.read_writes_eq_canon _ _ _ (cover0_A_3 c i a2 h2 a3 h3 a4 h4 a5 h5 a6 h6 hc x0 x1 x2)]
  unfold kernelRun0_A; dsimp only; sl_unfold_words
  simp only [View.readAt_eq_ld, h2.read_unread, h3.read_unread, h4.read_unread]
  simp only [View.canon_unit_zero (S := S5632x512) z2, View.canon_unit_zero (S := S512x512) z2, View.ld_unit_zero (S := S512x5632) z2,
    View.ld_unit_zero (S := S512x512) z2, View.ld_unit_zero (S := S5632x512) z2, View.ld_unit_zero (S := S1x5632x512) z3, View.readCov_unit_zero (S := S5632x512) _ z2]

/-- at the others the output is the product with what the scratch holds. -/
theorem outB (hc : ¬cond0_0 i) : out0_B_3 c i a2 h2 a3 h3 a4 h4 a5 h5 a6 h6 hc x0 x1 x2 xs = k0_pay2 xs x0 x2 := by
  unfold out0_B_3
  rw [View.read_writes_eq_canon _ _ _ (cover0_B_3 c i a2 h2 a3 h3 a4 h4 a5 h5 a6 h6 hc x0 x1 x2 xs)]
  unfold kernelRun0_B; dsimp only; sl_unfold_words
  simp only [View.readAt_eq_ld, h2.read_unread, h4.read_unread, h6.read_unread]
  simp only [View.canon_unit_zero (S := S5632x512) z2, View.canon_unit_zero (S := S512x512) z2, View.ld_unit_zero (S := S512x5632) z2,
    View.ld_unit_zero (S := S512x512) z2, View.ld_unit_zero (S := S5632x512) z2, View.ld_unit_zero (S := S1x5632x512) z3, View.readCov_unit_zero (S := S5632x512) _ z2]

end runs

/-- The windows' index maps. -/
theorem idx : ∀ p : Fin cfg0.N,
    (win0_0.index p 0 = p.val % 16 ∧ win0_0.index p 1 = 0)
    ∧ (win0_1.index p 0 = 0 ∧ win0_1.index p 1 = 0 ∧ win0_1.index p 2 = p.val / 16)
    ∧ (win0_2.index p 0 = p.val % 16 ∧ win0_2.index p 1 = p.val / 16) := by
  decide +kernel

variable (m : (ℓ : Loc nD τ sig) → Buf (Elt Ideal) ℓ) (c : Dev nD) (p : Fin cfg0.N)

/-- The arguments. -/
abbrev ar0 : Vec Ideal S8192x5632 .bf16 := m ((c : Thread nD τ).loc main_arg0)
abbrev ar1 : Vec Ideal S1x5632x2048 .f32 := m ((c : Thread nD τ).loc main_arg1)
abbrev ar2 : Vec Ideal S8192x2048 .f32 := m ((c : Thread nD τ).loc main_arg2)

theorem hp : p.val < 64 := lt_of_lt_of_eq p.isLt N_0

theorem blk0 (r : Fin 512) (x : Fin 5632) :
    (iblk m c 0 p : Vec Ideal S512x5632 .bf16) (ix2 r x)
      = (m ((c : Thread nD τ).loc main_arg0) : Vec Ideal S8192x5632 .bf16) (ix2 ⟨p.val % 16 * 512 + r.val, by omega⟩ x) := by
  blk_ext [iblk, V, idx p]

theorem blk1 (x : Fin 5632) (s : Fin 512) :
    (iblk m c 1 p : Vec Ideal S1x5632x512 .f32) (ix3 0 x s)
      = (m ((c : Thread nD τ).loc main_arg1) : Vec Ideal S1x5632x2048 .f32) (ix3 0 x ⟨p.val / 16 * 512 + s.val, by have := hp p; omega⟩) := by
  blk_ext [iblk, V, idx p]

theorem blk2 (r : Fin 512) (s : Fin 512) :
    (iblk m c 2 p : Vec Ideal S512x512 .f32) (ix2 r s)
      = (m ((c : Thread nD τ).loc main_arg2) : Vec Ideal S8192x2048 .f32)
          (ix2 ⟨p.val % 16 * 512 + r.val, by omega⟩ ⟨p.val / 16 * 512 + s.val, by have := hp p; omega⟩) := by
  blk_ext [iblk, V, idx p]

/-- The cast weight block of a point at an entry. -/
theorem wAt (x : Fin 5632) (s : Fin 512) :
    k0_pay1 (F := Ideal) (iblk m c 1 p) (ix2 x s)
      = (m ((c : Thread nD τ).loc main_arg1) : Vec Ideal S1x5632x2048 .f32) (ix3 0 x ⟨p.val / 16 * 512 + s.val, by have := hp p; omega⟩) := by
  rw [← blk1 m c p]
  generalize iblk m c 1 p = w
  pointwise [k0_pay1]

/-- After every point the scratch holds the cast weight block of the point's column. -/
theorem scr : ∀ (n : ℕ) (hn : n < cfg0.N), (outsAt0 m c n hn).2 = k0_pay1 (F := Ideal) (iblk m c 1 ⟨n, hn⟩) := by
  intro n
  induction n with
  | zero => intro hn; rw [outsAt0_A m c ⟨0, hn⟩ rfl]; rw [scrA]
  | succ n ih =>
    intro hn
    by_cases h : (n + 1) % 16 = 0
    · rw [outsAt0_A m c ⟨n + 1, hn⟩ h]; rw [scrA]
    · rw [outsAt0_B m c ⟨n + 1, hn⟩ h]
      refine (ih (Nat.lt_of_succ_lt hn)).trans ?_
      funext y
      rw [eq_ix2 y]
      refine (wAt m c ⟨n, Nat.lt_of_succ_lt hn⟩ (y 0) (y 1)).trans (Eq.trans ?_ (wAt m c ⟨n + 1, hn⟩ (y 0) (y 1)).symm)
      congr 2
      exact Fin.ext (by show n / 16 * 512 + _ = (n + 1) / 16 * 512 + _; omega)

/-- What every point leaves in the output window. -/
theorem out (t : Fin cfg0.N) :
    (outsAt0 m c t.val t.isLt).1 = k0_pay2 (F := Ideal) (k0_pay1 (iblk m c 1 t)) (iblk m c 0 t) (iblk m c 2 t) := by
  by_cases h : t.val % 16 = 0
  · rw [outsAt0_A m c t h]; rw [outA]
  · have h0 : t.val - 1 < cfg0.N := by have := t.isLt; omega
    have e : k0_pay1 (F := Ideal) (iblk m c 1 ⟨t.val - 1, h0⟩) = k0_pay1 (iblk m c 1 t) := by
      funext y
      rw [eq_ix2 y]
      refine (wAt m c ⟨t.val - 1, h0⟩ (y 0) (y 1)).trans (Eq.trans ?_ (wAt m c t (y 0) (y 1)).symm)
      congr 2
      exact Fin.ext (by show (t.val - 1) / 16 * 512 + _ = t.val / 16 * 512 + _; omega)
    rw [outsAt0_B m c t h, ← e, ← scr m c (t.val - 1) h0]
    rw [outB]

/-- The result at an entry. -/
theorem result (i : S8192x2048.Idx) :
    (Value.G3 m c : Vec Ideal S8192x2048 .f32) i = ar2 m c i + ∑ x : Fin 5632, ar0 m c (ix2 (i 0) x) * ar1 m c (ix3 0 x (i 1)) := by
  have h0 : (i 0).val < 8192 := (i 0).isLt
  have h1 : (i 1).val < 2048 := (i 1).isLt
  have hlt : Value.pt3Of i < cfg0.N := by
    rw [show cfg0.N = 64 from N_0]; show 1 * ((i 0).val / 512 - 0) + 16 * ((i 1).val / 512 - 0) < 64; omega
  have hv : Value.pt3Of i = 1 * ((i 0).val / 512 - 0) + 16 * ((i 1).val / 512 - 0) := rfl
  unfold Value.G3
  rw [dif_pos hlt, ← Value.outsAt0_sweep m c _ hlt, out m c ⟨Value.pt3Of i, hlt⟩,
    show Value.loc3Of i = ix2 ⟨(i 0).val % 512, Nat.mod_lt _ (by decide)⟩ ⟨(i 1).val % 512, Nat.mod_lt _ (by decide)⟩ from eq_ix2 _]
  have e : ∀ (w : Vec Ideal S5632x512 .bf16) (a : Vec Ideal S512x5632 .bf16) (b : Vec Ideal S512x512 .f32) (r : Fin 512) (s : Fin 512),
      k0_pay2 (F := Ideal) w a b (ix2 r s) = b (ix2 r s) + ∑ x : Fin 5632, a (ix2 r x) * w (ix2 x s) := by
    intro w a b r s
    pointwise [k0_pay2]
  rw [e, blk2]
  simp only [blk0, wAt]
  have e0 : (⟨Value.pt3Of i % 16 * 512 + (i 0).val % 512, by omega⟩ : Fin 8192) = i 0 := Fin.ext (by show Value.pt3Of i % 16 * 512 + (i 0).val % 512 = _; rw [hv]; omega)
  have e1 : (⟨Value.pt3Of i / 16 * 512 + (i 1).val % 512, by have := hp ⟨_, hlt⟩; dsimp only at this; omega⟩ : Fin 2048) = i 1 := Fin.ext (by show Value.pt3Of i / 16 * 512 + (i 1).val % 512 = _; rw [hv]; omega)
  simp only [e0, e1]
  rw [← eq_ix2 i]

end Cert.FfnDownIdeal.Fold

end
-- ==== Proof.FfnDownTie.lean ====
/- The down projection of the dense feed-forward part, with its residual. -/
module

public import proofs.«01_k».proof.Defs
public import proofs.«01_k».proof.Proof.Gen.FfnDown.Frame
public import proofs.«01_k».proof.Proof.FfnDownFold
public import proofs.«01_k».proof.Proof.Gen.FfnDownReferenceIdeal.Run
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference's sum at an entry. -/
theorem ffn_down_at (a : Vec Ideal Cert.FfnDownReferenceIdeal.S8192x5632 .bf16) (w : Vec Ideal Cert.FfnDownReferenceIdeal.S5632x2048 .f32) (x : Vec Ideal Cert.FfnDownReferenceIdeal.S8192x2048 .f32)
    (i : Cert.FfnDownReferenceIdeal.S8192x2048.Idx) :
    addf (F := Ideal) x (Host.dotGeneral (F := Ideal) (φ₂ := .f32) Cert.FfnDownReferenceIdeal.dot_S8192x5632_S5632x2048_S8192x2048_1_0_0_1_n_n none (extf (F := Ideal) .f32 a Cert.FfnDownReferenceIdeal.Gen.bitsLt_bf16_f32) w) i
      = x i + ∑ k : Fin 5632, a (ix2 (i 0) k) * w (ix2 k (i 1)) := by
  pointwise

/-- The weight without its leading axis. -/
theorem ffn_down_w (w : Vec Ideal Cert.FfnDownReferenceIdeal.S1x5632x2048 .f32) (k : Fin 5632) (j : Fin 2048) :
    shapeCast Cert.FfnDownReferenceIdeal.S5632x2048 w Cert.FfnDownReferenceIdeal.Gen.shapeCasts_S1x5632x2048_S5632x2048 (ix2 k j) = w (ix3 0 k j) := by
  pointwise

/-- The reference's result at an entry. -/
theorem ffn_down_ref (a : Vec Ideal Cert.FfnDownReferenceIdeal.S8192x5632 .bf16) (w : Vec Ideal Cert.FfnDownReferenceIdeal.S1x5632x2048 .f32) (x : Vec Ideal Cert.FfnDownReferenceIdeal.S8192x2048 .f32)
    (i : Cert.FfnDownReferenceIdeal.S8192x2048.Idx) :
    addf (F := Ideal) x (Host.dotGeneral (F := Ideal) (φ₂ := .f32) Cert.FfnDownReferenceIdeal.dot_S8192x5632_S5632x2048_S8192x2048_1_0_0_1_n_n none (extf (F := Ideal) .f32 a Cert.FfnDownReferenceIdeal.Gen.bitsLt_bf16_f32)
        (shapeCast Cert.FfnDownReferenceIdeal.S5632x2048 w Cert.FfnDownReferenceIdeal.Gen.shapeCasts_S1x5632x2048_S5632x2048)) i
      = x i + ∑ k : Fin 5632, a (ix2 (i 0) k) * w (ix3 0 k (i 1)) := by
  refine (ffn_down_at a _ x i).trans ?_
  refine congrArg (x i + ·) (Finset.sum_congr rfl fun k _ => ?_)
  exact congrArg (a (ix2 (i 0) k) * ·) (ffn_down_w w k (i 1))

theorem frame_ffn_down_ri : Cert.quiescent_FfnDownReferenceIdeal := fun m ρ _ =>
  (θ_run Cert.FfnDownReferenceIdeal.defs _ _).mono
    (fun r h => ⟨fun c => (h c).2, sem_eq_zero_of_no_sems (by decide) r.2⟩)
    (Cert.FfnDownReferenceIdeal.Value.run (F := Ideal) m ρ)

/-- The down projection of the dense feed-forward part, with its residual. -/
theorem algebraic_ffn_down : Cert.algebraic_FfnDownIdeal_FfnDownReferenceIdeal := by
  intro m ρ m' ρ' _ hagree
  refine ⟨_, Cert.FfnDownIdeal.Value.run (F := Ideal) m ρ, ?_⟩
  refine (θ_run Cert.FfnDownReferenceIdeal.defs _ _).mono (fun _ h c => ⟨?_, (h c).2⟩)
    (Cert.FfnDownReferenceIdeal.Value.run (F := Ideal) m' ρ')
  rw [(h c).1]
  simp only [hagree c]
  funext i
  refine Eq.trans ?_ (Cert.FfnDownIdeal.Fold.result m c i).symm
  exact ffn_down_ref _ _ _ i

end Cert.Proof

end
-- ==== Proof.SwigluFold.lean ====
/- What the gated up product of the dense feed-forward leaves at each grid point: the products with the weight blocks kept in scratch. -/
module

public import proofs.«01_k».proof.Proof.Gen.SwigluIdeal.Value
public import Idealize.ShloMosaic.Lib.Pipeline.ValueKit
public import Idealize.ShloMosaic.Lib.Pointwise

@[expose] public section

set_option maxRecDepth 16384

noncomputable section

namespace Cert.SwigluIdeal.Fold

open Cert.SwigluIdeal Cert.SwigluIdeal.Gen Idealize.ShloMosaic Idealize.ShloMosaic.TcCoe Idealize.SL.Sem

/-- A whole buffer starts at zero. -/
theorem z2 : (![0, 0] : Fin 2 → Nat) = fun _ => 0 := by decide
theorem z3 : (![0, 0, 0] : Fin 3 → Nat) = fun _ => 0 := by decide

/-- The gated product of two numbers. -/
def act (a b : EReal) : EReal := a * Ideal.div 1 (1 + Ideal.exp (-a)) * b

section runs
variable (c : Dev nD) (i : grid0.Coords) (a2 : Memref sig .tc .vmem S2048x2048 .bf16) (h2 : a2.IsWhole) (a3 : Memref sig .tc .vmem S2048x512 .f32) (h3 : a3.IsWhole) (a4 : Memref sig .tc .vmem S2048x512 .f32) (h4 : a4.IsWhole) (a5 : Memref sig .tc .vmem S2048x512 .bf16) (h5 : a5.IsWhole) (a6 : Memref sig .tc .vmem S2048x512 .bf16) (h6 : a6.IsWhole) (a7 : Memref sig .tc .vmem S2048x512 .bf16) (h7 : a7.IsWhole)
  (x0 : Vec Ideal S2048x2048 .bf16) (x1 : Vec Ideal S2048x512 .f32) (x2 : Vec Ideal S2048x512 .f32) (s0 : Vec Ideal S2048x512 .bf16) (s1 : Vec Ideal S2048x512 .bf16)

/-- At the first point of a column a scratch takes its cast weight block, -/
theorem scrA0 (hc : cond0_0 i) : sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A; dsimp only; sl_unfold_words
  simp only [View.readAt_eq_ld, h2.read_unread, h3.read_unread, h4.read_unread, h5.read_unread, h6.read_unread, h7.read_unread]
  simp only [View.canon_unit_zero (S := S2048x2048) z2, View.canon_unit_zero (S := S2048x512) z2, View.ld_unit_zero (S := S2048x2048) z2, View.ld_unit_zero (S := S2048x512) z2, View.readCov_unit_zero (S := S2048x512) _ z2]

/-- At the first point of a column a scratch takes its cast weight block, -/
theorem scrA1 (hc : cond0_0 i) : sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A; dsimp only; sl_unfold_words
  simp only [View.readAt_eq_ld, h2.read_unread, h3.read_unread, h4.read_unread, h5.read_unread, h6.read_unread, h7.read_unread]
  simp only [View.canon_unit_zero (S := S2048x2048) z2, View.canon_unit_zero (S := S2048x512) z2, View.ld_unit_zero (S := S2048x2048) z2, View.ld_unit_zero (S := S2048x512) z2, View.readCov_unit_zero (S := S2048x512) _ z2]

/-- and the output is formed with them; -/
theorem outA (hc : cond0_0 i) : out0_A_3 c i a2 h2 a3 h3 a4 h4 a5 h5 a6 h6 a7 h7 hc x0 x1 x2 = k0_pay3 (k0_pay1 x1) (k0_pay2 x2) x0 x0 := by
  unfold out0_A_3
  rw [View.read_writes_eq_canon _ _ _ (cover0_A_3 c i a2 h2 a3 h3 a4 h4 a5 h5 a6 h6 a7 h7 hc x0 x1 x2)]
  unfold kernelRun0_A; dsimp only; sl_unfold_words
  simp only [View.readAt_eq_ld, h2.read_unread, h3.read_unread, h4.read_unread, h5.read_unread, h6.read_unread, h7.read_unread]
  simp only [View.canon_unit_zero (S := S2048x2048) z2, View.canon_unit_zero (S := S2048x512) z2, View.ld_unit_zero (S := S2048x2048) z2, View.ld_unit_zero (S := S2048x512) z2, View.readCov_unit_zero (S := S2048x512) _ z2]

/-- at the others the output is formed with what the scratch holds. -/
theorem outB (hc : ¬cond0_0 i) : out0_B_3 c i a2 h2 a3 h3 a4 h4 a5 h5 a6 h6 a7 h7 hc x0 x1 x2 s0 s1 = k0_pay3 (s0) (s1) x0 x0 := by
  unfold out0_B_3
  rw [View.read_writes_eq_canon _ _ _ (cover0_B_3 c i a2 h2 a3 h3 a4 h4 a5 h5 a6 h6 a7 h7 hc x0 x1 x2 s0 s1)]
  unfold kernelRun0_B; dsimp only; sl_unfold_words
  simp only [View.readAt_eq_ld, h2.read_unread, h3.read_unread, h4.read_unread, h5.read_unread, h6.read_unread, h7.read_unread]
  simp only [View.canon_unit_zero (S := S2048x2048) z2, View.canon_unit_zero (S := S2048x512) z2, View.ld_unit_zero (S := S2048x2048) z2, View.ld_unit_zero (S := S2048x512) z2, View.readCov_unit_zero (S := S2048x512) _ z2]

end runs

/-- The windows' index maps. -/
theorem idx : ∀ p : Fin cfg0.N,
    (win0_0.index p 0 = p.val % 4 ∧ win0_0.index p 1 = 0)
    ∧ (win0_1.index p 0 = 0 ∧ win0_1.index p 1 = p.val / 4)
    ∧ (win0_2.index p 0 = 0 ∧ win0_2.index p 1 = p.val / 4) := by
  decide +kernel

variable (m : (ℓ : Loc nD τ sig) → Buf (Elt Ideal) ℓ) (c : Dev nD) (p : Fin cfg0.N)

/-- The arguments. -/
abbrev ar0 : Vec Ideal S8192x2048 .bf16 := m ((c : Thread nD τ).loc main_arg0)
abbrev ar1 : Vec Ideal S2048x5632 .f32 := m ((c : Thread nD τ).loc main_arg1)
abbrev ar2 : Vec Ideal S2048x5632 .f32 := m ((c : Thread nD τ).loc main_arg2)

theorem hp : p.val < 44 := lt_of_lt_of_eq p.isLt N_0

theorem blk0 (r : Fin 2048) (x : Fin 2048) :
    (iblk m c 0 p : Vec Ideal S2048x2048 .bf16) (ix2 r x) = ar0 m c (ix2 ⟨p.val % 4 * 2048 + r.val, by omega⟩ x) := by
  blk_ext [iblk, V, idx p]

theorem blk1 (x : Fin 2048) (s : Fin 512) :
    (iblk m c 1 p : Vec Ideal S2048x512 .f32) (ix2 x s) = ar1 m c (ix2 x ⟨p.val / 4 * 512 + s.val, by have := hp p; omega⟩) := by
  blk_ext [iblk, V, idx p]

theorem blk2 (x : Fin 2048) (s : Fin 512) :
    (iblk m c 2 p : Vec Ideal S2048x512 .f32) (ix2 x s) = ar2 m c (ix2 x ⟨p.val / 4 * 512 + s.val, by have := hp p; omega⟩) := by
  blk_ext [iblk, V, idx p]

/-- A cast weight block of a point at an entry. -/
theorem wAt0 (x : Fin 2048) (s : Fin 512) : k0_pay1 (F := Ideal) (iblk m c 1 p) (ix2 x s) = ar1 m c (ix2 x ⟨p.val / 4 * 512 + s.val, by have := hp p; omega⟩) := by
  rw [← blk1 m c p]
  generalize iblk m c 1 p = w
  pointwise [k0_pay1]

/-- A cast weight block of a point at an entry. -/
theorem wAt1 (x : Fin 2048) (s : Fin 512) : k0_pay2 (F := Ideal) (iblk m c 2 p) (ix2 x s) = ar2 m c (ix2 x ⟨p.val / 4 * 512 + s.val, by have := hp p; omega⟩) := by
  rw [← blk2 m c p]
  generalize iblk m c 2 p = w
  pointwise [k0_pay2]

/-- After every point the scratch holds the cast weight block of the point's column. -/
theorem scr0 : ∀ (n : ℕ) (hn : n < cfg0.N), (outsAt0 m c n hn).2.1 = k0_pay1 (F := Ideal) (iblk m c 1 ⟨n, hn⟩) := by
  intro n
  induction n with
  | zero => intro hn; rw [outsAt0_A m c ⟨0, hn⟩ rfl, scrA0]
  | succ n ih =>
    intro hn
    by_cases h : (n + 1) % 4 = 0
    · rw [outsAt0_A m c ⟨n + 1, hn⟩ h, scrA0]
    · rw [outsAt0_B m c ⟨n + 1, hn⟩ h]
      refine (ih (Nat.lt_of_succ_lt hn)).trans ?_
      funext y
      rw [eq_ix2 y]
      refine (wAt0 m c ⟨n, Nat.lt_of_succ_lt hn⟩ (y 0) (y 1)).trans (Eq.trans ?_ (wAt0 m c ⟨n + 1, hn⟩ (y 0) (y 1)).symm)
      congr 2
      exact Fin.ext (by show n / 4 * 512 + _ = (n + 1) / 4 * 512 + _; omega)

/-- After every point the scratch holds the cast weight block of the point's column. -/
theorem scr1 : ∀ (n : ℕ) (hn : n < cfg0.N), (outsAt0 m c n hn).2.2 = k0_pay2 (F := Ideal) (iblk m c 2 ⟨n, hn⟩) := by
  intro n
  induction n with
  | zero => intro hn; rw [outsAt0_A m c ⟨0, hn⟩ rfl, scrA1]
  | succ n ih =>
    intro hn
    by_cases h : (n + 1) % 4 = 0
    · rw [outsAt0_A m c ⟨n + 1, hn⟩ h, scrA1]
    · rw [outsAt0_B m c ⟨n + 1, hn⟩ h]
      refine (ih (Nat.lt_of_succ_lt hn)).trans ?_
      funext y
      rw [eq_ix2 y]
      refine (wAt1 m c ⟨n, Nat.lt_of_succ_lt hn⟩ (y 0) (y 1)).trans (Eq.trans ?_ (wAt1 m c ⟨n + 1, hn⟩ (y 0) (y 1)).symm)
      congr 2
      exact Fin.ext (by show n / 4 * 512 + _ = (n + 1) / 4 * 512 + _; omega)

/-- What every point leaves in the output window. -/
theorem out (t : Fin cfg0.N) :
    (outsAt0 m c t.val t.isLt).1 = k0_pay3 (F := Ideal) (k0_pay1 (iblk m c 1 t)) (k0_pay2 (iblk m c 2 t)) (iblk m c 0 t) (iblk m c 0 t) := by
  by_cases h : t.val % 4 = 0
  · rw [outsAt0_A m c t h, outA]
  · have h0 : t.val - 1 < cfg0.N := by have := t.isLt; omega
    have e0 : k0_pay1 (F := Ideal) (iblk m c 1 ⟨t.val - 1, h0⟩) = k0_pay1 (iblk m c 1 t) := by
      funext y
      rw [eq_ix2 y]
      refine (wAt0 m c ⟨t.val - 1, h0⟩ (y 0) (y 1)).trans (Eq.trans ?_ (wAt0 m c t (y 0) (y 1)).symm)
      congr 2
      exact Fin.ext (by show (t.val - 1) / 4 * 512 + _ = t.val / 4 * 512 + _; omega)
    have e1 : k0_pay2 (F := Ideal) (iblk m c 2 ⟨t.val - 1, h0⟩) = k0_pay2 (iblk m c 2 t) := by
      funext y
      rw [eq_ix2 y]
      refine (wAt1 m c ⟨t.val - 1, h0⟩ (y 0) (y 1)).trans (Eq.trans ?_ (wAt1 m c t (y 0) (y 1)).symm)
      congr 2
      exact Fin.ext (by show (t.val - 1) / 4 * 512 + _ = t.val / 4 * 512 + _; omega)
    rw [outsAt0_B m c t h, ← e0, ← scr0 m c (t.val - 1) h0, ← e1, ← scr1 m c (t.val - 1) h0, outB]

/-- The result at an entry. -/
theorem result (i : S8192x5632.Idx) :
    (Value.G3 m c : Vec Ideal S8192x5632 .bf16) i = act (∑ x : Fin 2048, ar0 m c (ix2 (i 0) x) * ar1 m c (ix2 x (i 1))) (∑ x : Fin 2048, ar0 m c (ix2 (i 0) x) * ar2 m c (ix2 x (i 1))) := by
  have h0 : (i 0).val < 8192 := (i 0).isLt
  have h1 : (i 1).val < 5632 := (i 1).isLt
  have hlt : Value.pt3Of i < cfg0.N := by
    rw [show cfg0.N = 44 from N_0]; show 1 * ((i 0).val / 2048 - 0) + 4 * ((i 1).val / 512 - 0) < 44; omega
  have hv : Value.pt3Of i = 1 * ((i 0).val / 2048 - 0) + 4 * ((i 1).val / 512 - 0) := rfl
  unfold Value.G3
  rw [dif_pos hlt, ← Value.outsAt0_sweep m c _ hlt, out m c ⟨Value.pt3Of i, hlt⟩,
    show Value.loc3Of i = ix2 ⟨(i 0).val % 2048, Nat.mod_lt _ (by decide)⟩ ⟨(i 1).val % 512, Nat.mod_lt _ (by decide)⟩ from eq_ix2 _]
  have e : ∀ (w v : Vec Ideal S2048x512 .bf16) (a b : Vec Ideal S2048x2048 .bf16) (r : Fin 2048) (s : Fin 512),
      k0_pay3 (F := Ideal) w v a b (ix2 r s) = act (∑ x : Fin 2048, a (ix2 r x) * w (ix2 x s)) (∑ x : Fin 2048, b (ix2 r x) * v (ix2 x s)) := by
    intro w v a b r s
    unfold act
    pointwise [k0_pay3]
    simp only [zero_sub]
  rw [e]
  simp only [blk0, wAt0, wAt1]
  have e0 : (⟨Value.pt3Of i % 4 * 2048 + (i 0).val % 2048, by omega⟩ : Fin 8192) = i 0 := Fin.ext (by show Value.pt3Of i % 4 * 2048 + (i 0).val % 2048 = _; rw [hv]; omega)
  have e1 : (⟨Value.pt3Of i / 4 * 512 + (i 1).val % 512, by have := hp ⟨_, hlt⟩; dsimp only at this; omega⟩ : Fin 5632) = i 1 := Fin.ext (by show Value.pt3Of i / 4 * 512 + (i 1).val % 512 = _; rw [hv]; omega)
  simp only [e0, e1]

end Cert.SwigluIdeal.Fold

end
-- ==== Proof.SwigluTie.lean ====
/- The gated up projection of the dense feed-forward part. -/
module

public import proofs.«01_k».proof.Defs
public import proofs.«01_k».proof.Proof.Gen.Swiglu.Frame
public import proofs.«01_k».proof.Proof.SwigluFold
public import proofs.«01_k».proof.Proof.Gen.SwigluReferenceIdeal.Run
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem frame_swiglu_ri : Cert.quiescent_SwigluReferenceIdeal := fun m ρ _ =>
  (θ_run Cert.SwigluReferenceIdeal.defs _ _).mono
    (fun r h => ⟨fun c => (h c).2, sem_eq_zero_of_no_sems (by decide) r.2⟩)
    (Cert.SwigluReferenceIdeal.Value.run (F := Ideal) m ρ)

/-- The gated up projection of the dense feed-forward part. -/
theorem algebraic_swiglu : Cert.algebraic_SwigluIdeal_SwigluReferenceIdeal := by
  intro m ρ m' ρ' _ hagree
  refine ⟨_, Cert.SwigluIdeal.Value.run (F := Ideal) m ρ, ?_⟩
  refine (θ_run Cert.SwigluReferenceIdeal.defs _ _).mono (fun _ h c => ⟨?_, (h c).2⟩)
    (Cert.SwigluReferenceIdeal.Value.run (F := Ideal) m' ρ')
  rw [(h c).1]
  simp only [hagree c]
  funext i
  refine Eq.trans ?_ (Cert.SwigluIdeal.Fold.result m c i).symm
  unfold Cert.SwigluIdeal.Fold.act
  pointwise

end Cert.Proof

end
-- ==== Proof.lean ====
module

public import proofs.«01_k».proof.Proof.Gen.UpReferenceIdeal.Run
public import proofs.«01_k».proof.Proof.UpFlash
public import proofs.«01_k».proof.Proof.UpIdealFlash
public import proofs.«01_k».proof.Proof.UpFrames
public import proofs.«01_k».proof.Proof.UpTie
public import proofs.«01_k».proof.Proof.Gen.DownReferenceIdeal.Run
public import proofs.«01_k».proof.Proof.DownTie
public import proofs.«01_k».proof.Proof.RestTie
public import proofs.«01_k».proof.Proof.Gen.On_rows_used_down
public import proofs.«01_k».proof.Proof.Gen.Pre_tiles_named_down
public import proofs.«01_k».proof.Proof.Gen.On_rows_used
public import proofs.«01_k».proof.Proof.Gen.Pre_tiles_named
public import proofs.«01_k».proof.Proof.Gen.Swiglu.Frame
public import proofs.«01_k».proof.Proof.Gen.SwigluIdeal.Value
public import proofs.«01_k».proof.Proof.Gen.SwigluReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.OutProj.Frame
public import proofs.«01_k».proof.Proof.Gen.Rest.Frame
public import proofs.«01_k».proof.Proof.Gen.RestIdeal.Value
public import proofs.«01_k».proof.Proof.Gen.RestReferenceIdeal.Run
public import proofs.«01_k».proof.Proof.Gen.OutProjIdeal.Value
public import proofs.«01_k».proof.Proof.Gen.OutProjReferenceIdeal.Run
public import proofs.«01_k».proof.Proof.Gen.Merge.Frame
public import proofs.«01_k».proof.Proof.Gen.MergeIdeal.Value
public import proofs.«01_k».proof.Proof.Gen.MergeReferenceIdeal.Run

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Final
public import proofs.«01_k».proof.Proof.MergeTie
public import proofs.«01_k».proof.Proof.OutProjTie
public import proofs.«01_k».proof.Proof.FfnDownTie
public import proofs.«01_k».proof.Proof.SwigluTie
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The mask's literal is named, and its name denotes minus infinity. -/
theorem preserved : Cert.preserves_Kernel_KernelIdeal :=
  IdealRules.named_const.statement Cert.KernelIdeal.κ "mask" .f32 0xF149F2CA#32 ⊥ rfl

/-- The kernel's two result arrays are the reference's results of the same arguments. -/
theorem algebraic : Cert.algebraic_KernelIdeal_ReferenceIdeal := by
  intro m g m' g' _ agree
  refine ⟨_, _, Cert.KernelIdeal.Value.run_blocks (F := Ideal) m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · rw [Final.arr_out m c]
    refine (Ref.res0 m' c).trans ?_
    rw [(agree c).1, (agree c).2]
  · rw [Final.arr_choice m c]
    refine (Ref.res1 m' c).trans ?_
    rw [(agree c).1, (agree c).2]

theorem claim : Cert.Claim :=
  ⟨Cert.Kernel.Gen.facts, Cert.KernelIdeal.Gen.facts, Cert.ReferenceIdeal.Gen.facts, Cert.Swiglu.Gen.facts, Cert.SwigluIdeal.Gen.facts, Cert.SwigluReferenceIdeal.Gen.facts, Cert.FfnDown.Gen.facts, Cert.FfnDownIdeal.Gen.facts, Cert.FfnDownReferenceIdeal.Gen.facts, Cert.OutProj.Gen.facts, Cert.OutProjIdeal.Gen.facts, Cert.OutProjReferenceIdeal.Gen.facts, Cert.Merge.Gen.facts, Cert.MergeIdeal.Gen.facts, Cert.MergeReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Rest.Gen.facts, Cert.RestIdeal.Gen.facts, Cert.RestReferenceIdeal.Gen.facts, Cert.Pre_tiles_named.Gen.facts, Cert.Pre_tiles_named_down.Gen.facts, Cert.On_rows_used.Gen.facts, Cert.On_rows_used_down.Gen.facts,
    frame_p, frame_pi, frame_ri, (fun m ρ _ => Cert.Swiglu.Gen.frame m ρ), (fun m ρ _ => Cert.SwigluIdeal.Gen.frame m ρ), frame_swiglu_ri, (fun m ρ _ => Cert.FfnDown.Gen.frame m ρ), (fun m ρ _ => Cert.FfnDownIdeal.Gen.frame m ρ), frame_ffn_down_ri, (fun m ρ _ => Cert.OutProj.Gen.frame m ρ), (fun m ρ _ => Cert.OutProjIdeal.Gen.frame m ρ), frame_out_proj_ri, (fun m ρ _ => Cert.Merge.Gen.frame m ρ), (fun m ρ _ => Cert.MergeIdeal.Gen.frame m ρ), frame_merge_ri, frame_up, frame_up_ideal, frame_up_ri, frame_down, frame_down_ideal, frame_down_ri, (fun m ρ _ => Cert.Rest.Gen.frame m ρ), (fun m ρ _ => Cert.RestIdeal.Gen.frame m ρ), frame_rest_ri,
    preserved, algebraic, (trivial : Cert.preserves_Swiglu_SwigluIdeal), algebraic_swiglu, (trivial : Cert.preserves_FfnDown_FfnDownIdeal), algebraic_ffn_down, (trivial : Cert.preserves_OutProj_OutProjIdeal), algebraic_out_proj, (trivial : Cert.preserves_Merge_MergeIdeal), algebraic_merge, (trivial : Cert.preserves_Up_UpIdeal), algebraic_up, (trivial : Cert.preserves_Down_DownIdeal), algebraic_down, (trivial : Cert.preserves_Rest_RestIdeal), algebraic_rest⟩

end Cert.Proof

end
